-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)) (v3 : (c : Dev Cert.KernelIdeal.nD) → Buf (Elt Ideal) ((c.tc : Thread Cert.KernelIdeal.nD Cert.KernelIdeal.τ).loc Cert.KernelIdeal.main_v44_3)) (v4 : (c : Dev Cert.KernelIdeal.nD) → Buf (Elt Ideal) ((c.tc : Thread Cert.KernelIdeal.nD Cert.KernelIdeal.τ).loc Cert.KernelIdeal.main_v44_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_v44_3) = v3 c
          ∧ r.2.mem ((c.tc : Thread Cert.KernelIdeal.nD Cert.KernelIdeal.τ).loc Cert.KernelIdeal.main_v44_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_v84) = v3 c
          ∧ r.2.mem ((c.tc : Thread Cert.ReferenceIdeal.nD Cert.ReferenceIdeal.τ).loc Cert.ReferenceIdeal.main_v85) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v34) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v31) = v0 c
          ∧ r.2.mem ((c.tc : Thread Cert.Reference9Ideal.nD Cert.Reference9Ideal.τ).loc Cert.Reference9Ideal.main_v34) = v1 c
          ∧ r.2.mem ((c.tc : Thread Cert.Reference9Ideal.nD Cert.Reference9Ideal.τ).loc Cert.Reference9Ideal.main_v37) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S8192x12800 : Shape := ⟨2, ![8192, 12800]⟩
abbrev S8192x1024 : Shape := ⟨2, ![8192, 1024]⟩
abbrev S2x16x4096 : Shape := ⟨3, ![2, 16, 4096]⟩
abbrev S_ : Shape := ⟨0, ![]⟩

class Facts : Prop where
  bcast_S_S8192x12800 : S_.BroadcastsInDim S8192x12800 (![] : Fin 0 → Fin S8192x12800.rank)
  bcast_S_S8192x1024 : S_.BroadcastsInDim S8192x1024 (![] : Fin 0 → Fin S8192x1024.rank)
  bcast_S_S2x16x4096 : S_.BroadcastsInDim S2x16x4096 (![] : Fin 0 → Fin S2x16x4096.rank)

variable [Facts]

def fn {F : FTy → Type} [FloatOps F] (main_arg0 : FVec F S8192x12800 .bf16) (main_arg1 : FVec F S8192x1024 .bf16) (main_arg2 : FVec F S2x16x4096 .f32) : IVec S8192x12800 1 × IVec S8192x1024 1 × IVec S2x16x4096 1 :=
  let main_v0 : FVec F S8192x12800 .bf16 := Host.absf main_arg0
  let main_cst : FVec F S_ .bf16 := constant S_ .bf16 0x7F80#16
  let main_v1 : FVec F S8192x12800 .bf16 := broadcastInDim S8192x12800 ![] bcast_S_S8192x12800 main_cst
  let main_v2 : IVec S8192x12800 1 := cmpf .olt main_v0 main_v1
  let main_v3 : FVec F S8192x1024 .bf16 := Host.absf main_arg1
  let main_cst_0 : FVec F S_ .bf16 := constant S_ .bf16 0x7F80#16
  let main_v4 : FVec F S8192x1024 .bf16 := broadcastInDim S8192x1024 ![] bcast_S_S8192x1024 main_cst_0
  let main_v5 : IVec S8192x1024 1 := cmpf .olt main_v3 main_v4
  let main_v6 : FVec F S2x16x4096 .f32 := Host.absf main_arg2
  let main_cst_1 : FVec F S_ .f32 := constant S_ .f32 0x7F800000#32
  let main_v7 : FVec F S2x16x4096 .f32 := broadcastInDim S2x16x4096 ![] bcast_S_S2x16x4096 main_cst_1
  let main_v8 : IVec S2x16x4096 1 := cmpf .olt main_v6 main_v7
  (main_v2, main_v5, main_v8)
-- ==== Kernel.lean ====
abbrev S8192x12800 : Shape := ⟨2, ![8192, 12800]⟩
abbrev S8192x1024 : Shape := ⟨2, ![8192, 1024]⟩
abbrev S2x16x4096 : Shape := ⟨3, ![2, 16, 4096]⟩
abbrev S2x4096x16x64 : Shape := ⟨4, ![2, 4096, 16, 64]⟩
abbrev S2x16x4096x4096 : Shape := ⟨4, ![2, 16, 4096, 4096]⟩
abbrev S_ : Shape := ⟨0, ![]⟩
abbrev S2x16x4096x1 : Shape := ⟨4, ![2, 16, 4096, 1]⟩
abbrev S2x16x1x4096 : Shape := ⟨4, ![2, 16, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x1x4096x4096 : Shape := ⟨4, ![1, 1, 4096, 4096]⟩
abbrev S2x16x64x4096 : Shape := ⟨4, ![2, 16, 64, 4096]⟩
abbrev S2x16x8x1x512 : Shape := ⟨5, ![2, 16, 8, 1, 512]⟩
abbrev S4096x128 : Shape := ⟨2, ![4096, 128]⟩
abbrev S512x128 : Shape := ⟨2, ![512, 128]⟩
abbrev S1x2x8x1x512 : Shape := ⟨5, ![1, 2, 8, 1, 512]⟩
abbrev S1x2x1x1x512 : Shape := ⟨5, ![1, 2, 1, 1, 512]⟩
abbrev S1x2x1x4096 : Shape := ⟨4, ![1, 2, 1, 4096]⟩
abbrev S2x4096x1 : Shape := ⟨3, ![2, 4096, 1]⟩
abbrev S2x4096x128 : Shape := ⟨3, ![2, 4096, 128]⟩
abbrev S1x128 : Shape := ⟨2, ![1, 128]⟩
abbrev S1x1x1x1x512 : Shape := ⟨5, ![1, 1, 1, 1, 512]⟩
abbrev S1x512 : Shape := ⟨2, ![1, 512]⟩
abbrev S128x1 : Shape := ⟨2, ![128, 1]⟩
abbrev S128x512 : Shape := ⟨2, ![128, 512]⟩
abbrev S1x512x128 : Shape := ⟨3, ![1, 512, 128]⟩
abbrev S512x512 : Shape := ⟨2, ![512, 512]⟩
abbrev S512 : Shape := ⟨1, ![512]⟩
abbrev S512x1 : Shape := ⟨2, ![512, 1]⟩
abbrev S1x512x1 : Shape := ⟨3, ![1, 512, 1]⟩
abbrev S1x1x1x512 : Shape := ⟨4, ![1, 1, 1, 512]⟩

abbrev nBuf : Space → Nat
  | .hbm => 59
  | .vmem => 27
  | .smem => 0
  | _ => 0

abbrev bufTy : (tb : Table) → Fin (tcTables nBuf tb) → BufTy
  | .hbm, ⟨0, _⟩ => ⟨S8192x12800, .bf16⟩
  | .hbm, ⟨1, _⟩ => ⟨S8192x1024, .bf16⟩
  | .hbm, ⟨2, _⟩ => ⟨S2x16x4096, .f32⟩
  | .hbm, ⟨3, _⟩ => ⟨S8192x1024, .bf16⟩
  | .hbm, ⟨4, _⟩ => ⟨S8192x1024, .f32⟩
  | .hbm, ⟨5, _⟩ => ⟨S2x4096x16x64, .f32⟩
  | .hbm, ⟨6, _⟩ => ⟨S8192x1024, .bf16⟩
  | .hbm, ⟨7, _⟩ => ⟨S8192x1024, .f32⟩
  | .hbm, ⟨8, _⟩ => ⟨S2x4096x16x64, .f32⟩
  | .hbm, ⟨9, _⟩ => ⟨S8192x1024, .bf16⟩
  | .hbm, ⟨10, _⟩ => ⟨S8192x1024, .f32⟩
  | .hbm, ⟨11, _⟩ => ⟨S2x4096x16x64, .f32⟩
  | .hbm, ⟨12, _⟩ => ⟨S2x16x4096x4096, .f32⟩
  | .hbm, ⟨13, _⟩ => ⟨S_, .f32⟩
  | .hbm, ⟨14, _⟩ => ⟨S2x16x4096x4096, .f32⟩
  | .hbm, ⟨15, _⟩ => ⟨S2x16x4096x4096, .f32⟩
  | .hbm, ⟨16, _⟩ => ⟨S2x16x4096x1, .f32⟩
  | .hbm, ⟨17, _⟩ => ⟨S2x16x4096x4096, .f32⟩
  | .hbm, ⟨18, _⟩ => ⟨S2x16x4096x4096, .f32⟩
  | .hbm, ⟨19, _⟩ => ⟨S2x16x1x4096, .f32⟩
  | .hbm, ⟨20, _⟩ => ⟨S2x16x4096x4096, .f32⟩
  | .hbm, ⟨21, _⟩ => ⟨S2x16x4096x4096, .f32⟩
  | .hbm, ⟨22, _⟩ => ⟨S4096, .i32⟩
  | .hbm, ⟨23, _⟩ => ⟨S4096x1, .i32⟩
  | .hbm, ⟨24, _⟩ => ⟨S4096, .i32⟩
  | .hbm, ⟨25, _⟩ => ⟨S1x4096, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S1x1x4096x4096, .i1⟩
  | .hbm, ⟨30, _⟩ => ⟨S_, .f32⟩
  | .hbm, ⟨31, _⟩ => ⟨S_, .f32⟩
  | .hbm, ⟨32, _⟩ => ⟨S2x16x4096x4096, .i1⟩
  | .hbm, ⟨33, _⟩ => ⟨S2x16x4096x4096, .f32⟩
  | .hbm, ⟨34, _⟩ => ⟨S2x16x4096x4096, .f32⟩
  | .hbm, ⟨35, _⟩ => ⟨S_, .f32⟩
  | .hbm, ⟨36, _⟩ => ⟨S2x16x4096, .f32⟩
  | .hbm, ⟨37, _⟩ => ⟨S2x16x4096x1, .f32⟩
  | .hbm, ⟨38, _⟩ => ⟨S2x16x4096x4096, .f32⟩
  | .hbm, ⟨39, _⟩ => ⟨S2x16x4096x4096, .f32⟩
  | .hbm, ⟨40, _⟩ => ⟨S2x16x4096x4096, .f32⟩
  | .hbm, ⟨41, _⟩ => ⟨S_, .f32⟩
  | .hbm, ⟨42, _⟩ => ⟨S2x16x4096, .f32⟩
  | .hbm, ⟨43, _⟩ => ⟨S2x16x4096x1, .f32⟩
  | .hbm, ⟨44, _⟩ => ⟨S2x16x4096x4096, .f32⟩
  | .hbm, ⟨45, _⟩ => ⟨S2x16x4096x4096, .f32⟩
  | .hbm, ⟨46, _⟩ => ⟨S2x16x64x4096, .f32⟩
  | .hbm, ⟨47, _⟩ => ⟨S2x4096x16x64, .f32⟩
  | .hbm, ⟨48, _⟩ => ⟨S8192x1024, .f32⟩
  | .hbm, ⟨49, _⟩ => ⟨S8192x1024, .bf16⟩
  | .hbm, ⟨50, _⟩ => ⟨S2x16x4096x1, .f32⟩
  | .hbm, ⟨51, _⟩ => ⟨S2x16x4096x1, .f32⟩
  | .hbm, ⟨52, _⟩ => ⟨S2x16x8x1x512, .f32⟩
  | .hbm, ⟨53, _⟩ => ⟨S2x16x8x1x512, .f32⟩
  | .hbm, ⟨54, _⟩ => ⟨S8192x1024, .bf16⟩
  | .hbm, ⟨55, _⟩ => ⟨S8192x1024, .bf16⟩
  | .hbm, ⟨56, _⟩ => ⟨S8192x1024, .bf16⟩
  | .hbm, ⟨57, _⟩ => ⟨S2x16x8x1x512, .f32⟩
  | .hbm, ⟨58, _⟩ => ⟨S2x16x1x4096, .f32⟩
  | .local _ .vmem, ⟨0, _⟩ => ⟨S4096x128, .bf16⟩
  | .local _ .vmem, ⟨1, _⟩ => ⟨S4096x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .bf16⟩
  | .local _ .vmem, ⟨9, _⟩ => ⟨S4096x128, .bf16⟩
  | .local _ .vmem, ⟨10, _⟩ => ⟨S1x2x8x1x512, .f32⟩
  | .local _ .vmem, ⟨11, _⟩ => ⟨S1x2x8x1x512, .f32⟩
  | .local _ .vmem, ⟨12, _⟩ => ⟨S1x2x8x1x512, .f32⟩
  | .local _ .vmem, ⟨13, _⟩ => ⟨S1x2x8x1x512, .f32⟩
  | .local _ .vmem, ⟨14, _⟩ => ⟨S4096x128, .bf16⟩
  | .local _ .vmem, ⟨15, _⟩ => ⟨S4096x128, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S1x2x1x1x512, .f32⟩
  | .local _ .vmem, ⟨21, _⟩ => ⟨S1x2x1x1x512, .f32⟩
  | .local _ .vmem, ⟨22, _⟩ => ⟨S1x2x1x4096, .f32⟩
  | .local _ .vmem, ⟨23, _⟩ => ⟨S1x2x1x4096, .f32⟩
  | .local _ .vmem, ⟨24, _⟩ => ⟨S4096x128, .f32⟩
  | .local _ .vmem, ⟨25, _⟩ => ⟨S2x4096x1, .f32⟩
  | .local _ .vmem, ⟨26, _⟩ => ⟨S2x4096x128, .bf16⟩
  | _, _ => ⟨S8192x12800, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_2 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44_0 : Ref sig .tc := ⟨.hbm, 54, rfl⟩
abbrev main_v44_1 : Ref sig .tc := ⟨.hbm, 55, rfl⟩
abbrev main_v44_2 : Ref sig .tc := ⟨.hbm, 56, rfl⟩
abbrev main_v44_3 : Ref sig .tc := ⟨.hbm, 57, rfl⟩
abbrev main_v44_4 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨3, ![2, 8, 8], ![false, false, false]⟩

def k0_off1 (i : grid0.Coords) : Fin 5 → Nat :=
  let c0_4 : Index := 0#32
  let c0_5 : Index := 0#32
  let arg2 : BitVec 32 := BitVec.ofNat 32 (i 2).val
  let v16 : Index := Scalar.indexCast arg2
  let c0_6 : Index := 0#32
  let c0_7 : Index := 0#32
  ![0, 0, v16.toNat, 0, 0]
def k0_off2 (i : grid0.Coords) : Fin 5 → Nat :=
  let c0_13 : Index := 0#32
  let c1 : Index := 1#32
  let arg2 : BitVec 32 := BitVec.ofNat 32 (i 2).val
  let v85 : Index := Scalar.indexCast arg2
  let c0_14 : Index := 0#32
  let c0_15 : Index := 0#32
  ![0, 1, v85.toNat, 0, 0]
def k0_mult1 (i : grid0.Coords) : BitVec 32 :=
  let arg2 : BitVec 32 := BitVec.ofNat 32 (i 2).val
  let c512_i32 : BitVec 32 := 512#32
  let v158 : BitVec 32 := Scalar.muli arg2 c512_i32
  v158
def k0_off3 (i : grid0.Coords) : Fin 2 → Nat :=
  let arg2 : BitVec 32 := BitVec.ofNat 32 (i 2).val
  let c512_i32 : BitVec 32 := 512#32
  let v158 : BitVec 32 := Scalar.muli arg2 c512_i32
  let v159 : BitVec 32 := v158
  let v160 : Index := Scalar.indexCast v159
  let c0_23 : Index := 0#32
  ![v160.toNat, 0]
def k0_off4 (i : grid0.Coords) : Fin 3 → Nat :=
  let c0_31 : Index := 0#32
  let arg2 : BitVec 32 := BitVec.ofNat 32 (i 2).val
  let c512_i32 : BitVec 32 := 512#32
  let v158 : BitVec 32 := Scalar.muli arg2 c512_i32
  let v159 : BitVec 32 := v158
  let v187 : Index := Scalar.indexCast v159
  let c0_32 : Index := 0#32
  ![0, v187.toNat, 0]
def k0_off5 (i : grid0.Coords) : Fin 3 → Nat :=
  let c0_37 : Index := 0#32
  let arg2 : BitVec 32 := BitVec.ofNat 32 (i 2).val
  let c512_i32 : BitVec 32 := 512#32
  let v158 : BitVec 32 := Scalar.muli arg2 c512_i32
  let v159 : BitVec 32 := v158
  let v202 : Index := Scalar.indexCast v159
  let c0_38 : Index := 0#32
  ![0, v202.toNat, 0]
def k0_off6 (i : grid0.Coords) : Fin 3 → Nat :=
  let c1_49 : Index := 1#32
  let arg2 : BitVec 32 := BitVec.ofNat 32 (i 2).val
  let c512_i32 : BitVec 32 := 512#32
  let v158 : BitVec 32 := Scalar.muli arg2 c512_i32
  let v159 : BitVec 32 := v158
  let v236 : Index := Scalar.indexCast v159
  let c0_50 : Index := 0#32
  ![1, v236.toNat, 0]
def k0_off7 (i : grid0.Coords) : Fin 3 → Nat :=
  let c1_55 : Index := 1#32
  let arg2 : BitVec 32 := BitVec.ofNat 32 (i 2).val
  let c512_i32 : BitVec 32 := 512#32
  let v158 : BitVec 32 := Scalar.muli arg2 c512_i32
  let v159 : BitVec 32 := v158
  let v251 : Index := Scalar.indexCast v159
  let c0_56 : Index := 0#32
  ![1, v251.toNat, 0]
@[reducible] def k0_t1_loop (i : grid0.Coords) : Scf.Loop 32 :=
  let arg2 : BitVec 32 := BitVec.ofNat 32 (i 2).val
  let c1_i32_65 : BitVec 32 := 1#32
  let v276 : BitVec 32 := Scalar.addi arg2 c1_i32_65
  let c8_i32 : BitVec 32 := 8#32
  let v277 : BitVec 32 := Scalar.subi c8_i32 v276
  let c1_i32_66 : BitVec 32 := 1#32
  let v279 : BitVec 32 := Scalar.divsi v277 c1_i32_66
  let v280 : BitVec 32 := Scalar.muli v279 c1_i32_66
  let v281 : BitVec 32 := Scalar.addi v276 v280
  let c1_i32_67 : BitVec 32 := 1#32
  ⟨v276, v281, c1_i32_67⟩
def k0_mult2 (i : grid0.Coords) (k0_t1 : Fin (k0_t1_loop i).trips) : BitVec 32 :=
  let arg2 : BitVec 32 := BitVec.ofNat 32 (i 2).val
  let c1_i32_65 : BitVec 32 := 1#32
  let v276 : BitVec 32 := Scalar.addi arg2 c1_i32_65
  let c1_i32_67 : BitVec 32 := 1#32
  let arg18 : BitVec 32 := Scf.iv v276 c1_i32_67 k0_t1
  let c512_i32_85 : BitVec 32 := 512#32
  let v299 : BitVec 32 := Scalar.muli arg18 c512_i32_85
  v299
def k0_off8 (i : grid0.Coords) (k0_t1 : Fin (k0_t1_loop i).trips) : Fin 2 → Nat :=
  let arg2 : BitVec 32 := BitVec.ofNat 32 (i 2).val
  let c1_i32_65 : BitVec 32 := 1#32
  let v276 : BitVec 32 := Scalar.addi arg2 c1_i32_65
  let c1_i32_67 : BitVec 32 := 1#32
  let arg18 : BitVec 32 := Scf.iv v276 c1_i32_67 k0_t1
  let c512_i32_85 : BitVec 32 := 512#32
  let v299 : BitVec 32 := Scalar.muli arg18 c512_i32_85
  let v300 : BitVec 32 := v299
  let v301 : Index := Scalar.indexCast v300
  let c0_86 : Index := 0#32
  ![v301.toNat, 0]
def k0_off9 (i : grid0.Coords) (k0_t1 : Fin (k0_t1_loop i).trips) : Fin 3 → Nat :=
  let c0_94 : Index := 0#32
  let arg2 : BitVec 32 := BitVec.ofNat 32 (i 2).val
  let c1_i32_65 : BitVec 32 := 1#32
  let v276 : BitVec 32 := Scalar.addi arg2 c1_i32_65
  let c1_i32_67 : BitVec 32 := 1#32
  let arg18 : BitVec 32 := Scf.iv v276 c1_i32_67 k0_t1
  let c512_i32_85 : BitVec 32 := 512#32
  let v299 : BitVec 32 := Scalar.muli arg18 c512_i32_85
  let v300 : BitVec 32 := v299
  let v328 : Index := Scalar.indexCast v300
  let c0_95 : Index := 0#32
  ![0, v328.toNat, 0]
def k0_off10 (i : grid0.Coords) (k0_t1 : Fin (k0_t1_loop i).trips) : Fin 3 → Nat :=
  let c0_99 : Index := 0#32
  let arg2 : BitVec 32 := BitVec.ofNat 32 (i 2).val
  let c1_i32_65 : BitVec 32 := 1#32
  let v276 : BitVec 32 := Scalar.addi arg2 c1_i32_65
  let c1_i32_67 : BitVec 32 := 1#32
  let arg18 : BitVec 32 := Scf.iv v276 c1_i32_67 k0_t1
  let c512_i32_85 : BitVec 32 := 512#32
  let v299 : BitVec 32 := Scalar.muli arg18 c512_i32_85
  let v300 : BitVec 32 := v299
  let v340 : Index := Scalar.indexCast v300
  let c0_100 : Index := 0#32
  ![0, v340.toNat, 0]
def k0_off11 (i : grid0.Coords) (k0_t1 : Fin (k0_t1_loop i).trips) : Fin 3 → Nat :=
  let c1_111 : Index := 1#32
  let arg2 : BitVec 32 := BitVec.ofNat 32 (i 2).val
  let c1_i32_65 : BitVec 32 := 1#32
  let v276 : BitVec 32 := Scalar.addi arg2 c1_i32_65
  let c1_i32_67 : BitVec 32 := 1#32
  let arg18 : BitVec 32 := Scf.iv v276 c1_i32_67 k0_t1
  let c512_i32_85 : BitVec 32 := 512#32
  let v299 : BitVec 32 := Scalar.muli arg18 c512_i32_85
  let v300 : BitVec 32 := v299
  let v374 : Index := Scalar.indexCast v300
  let c0_112 : Index := 0#32
  ![1, v374.toNat, 0]
def k0_off12 (i : grid0.Coords) (k0_t1 : Fin (k0_t1_loop i).trips) : Fin 3 → Nat :=
  let c1_116 : Index := 1#32
  let arg2 : BitVec 32 := BitVec.ofNat 32 (i 2).val
  let c1_i32_65 : BitVec 32 := 1#32
  let v276 : BitVec 32 := Scalar.addi arg2 c1_i32_65
  let c1_i32_67 : BitVec 32 := 1#32
  let arg18 : BitVec 32 := Scf.iv v276 c1_i32_67 k0_t1
  let c512_i32_85 : BitVec 32 := 512#32
  let v299 : BitVec 32 := Scalar.muli arg18 c512_i32_85
  let v300 : BitVec 32 := v299
  let v386 : Index := Scalar.indexCast v300
  let c0_117 : Index := 0#32
  ![1, v386.toNat, 0]
@[reducible] def k0_t2_loop (i : grid0.Coords) : Scf.Loop 32 :=
  let arg2 : BitVec 32 := BitVec.ofNat 32 (i 2).val
  let c1_i32_65 : BitVec 32 := 1#32
  let v276 : BitVec 32 := Scalar.addi arg2 c1_i32_65
  let c8_i32 : BitVec 32 := 8#32
  let v277 : BitVec 32 := Scalar.subi c8_i32 v276
  let c1_i32_66 : BitVec 32 := 1#32
  let v279 : BitVec 32 := Scalar.divsi v277 c1_i32_66
  let v280 : BitVec 32 := Scalar.muli v279 c1_i32_66
  let v281 : BitVec 32 := Scalar.addi v276 v280
  let v278 : BitVec 32 := Scalar.addi v276 v277
  let c1_i32_68 : BitVec 32 := 1#32
  ⟨v281, v278, c1_i32_68⟩
def k0_mult3 (i : grid0.Coords) (k0_t2 : Fin (k0_t2_loop i).trips) : BitVec 32 :=
  let arg2 : BitVec 32 := BitVec.ofNat 32 (i 2).val
  let c1_i32_65 : BitVec 32 := 1#32
  let v276 : BitVec 32 := Scalar.addi arg2 c1_i32_65
  let c8_i32 : BitVec 32 := 8#32
  let v277 : BitVec 32 := Scalar.subi c8_i32 v276
  let c1_i32_66 : BitVec 32 := 1#32
  let v279 : BitVec 32 := Scalar.divsi v277 c1_i32_66
  let v280 : BitVec 32 := Scalar.muli v279 c1_i32_66
  let v281 : BitVec 32 := Scalar.addi v276 v280
  let c1_i32_68 : BitVec 32 := 1#32
  let arg18 : BitVec 32 := Scf.iv v281 c1_i32_68 k0_t2
  let c512_i32_85 : BitVec 32 := 512#32
  let v299 : BitVec 32 := Scalar.muli arg18 c512_i32_85
  v299
def k0_off13 (i : grid0.Coords) (k0_t2 : Fin (k0_t2_loop i).trips) : Fin 2 → Nat :=
  let arg2 : BitVec 32 := BitVec.ofNat 32 (i 2).val
  let c1_i32_65 : BitVec 32 := 1#32
  let v276 : BitVec 32 := Scalar.addi arg2 c1_i32_65
  let c8_i32 : BitVec 32 := 8#32
  let v277 : BitVec 32 := Scalar.subi c8_i32 v276
  let c1_i32_66 : BitVec 32 := 1#32
  let v279 : BitVec 32 := Scalar.divsi v277 c1_i32_66
  let v280 : BitVec 32 := Scalar.muli v279 c1_i32_66
  let v281 : BitVec 32 := Scalar.addi v276 v280
  let c1_i32_68 : BitVec 32 := 1#32
  let arg18 : BitVec 32 := Scf.iv v281 c1_i32_68 k0_t2
  let c512_i32_85 : BitVec 32 := 512#32
  let v299 : BitVec 32 := Scalar.muli arg18 c512_i32_85
  let v300 : BitVec 32 := v299
  let v301 : Index := Scalar.indexCast v300
  let c0_86 : Index := 0#32
  ![v301.toNat, 0]
def k0_off14 (i : grid0.Coords) (k0_t2 : Fin (k0_t2_loop i).trips) : Fin 3 → Nat :=
  let c0_94 : Index := 0#32
  let arg2 : BitVec 32 := BitVec.ofNat 32 (i 2).val
  let c1_i32_65 : BitVec 32 := 1#32
  let v276 : BitVec 32 := Scalar.addi arg2 c1_i32_65
  let c8_i32 : BitVec 32 := 8#32
  let v277 : BitVec 32 := Scalar.subi c8_i32 v276
  let c1_i32_66 : BitVec 32 := 1#32
  let v279 : BitVec 32 := Scalar.divsi v277 c1_i32_66
  let v280 : BitVec 32 := Scalar.muli v279 c1_i32_66
  let v281 : BitVec 32 := Scalar.addi v276 v280
  let c1_i32_68 : BitVec 32 := 1#32
  let arg18 : BitVec 32 := Scf.iv v281 c1_i32_68 k0_t2
  let c512_i32_85 : BitVec 32 := 512#32
  let v299 : BitVec 32 := Scalar.muli arg18 c512_i32_85
  let v300 : BitVec 32 := v299
  let v328 : Index := Scalar.indexCast v300
  let c0_95 : Index := 0#32
  ![0, v328.toNat, 0]
def k0_off15 (i : grid0.Coords) (k0_t2 : Fin (k0_t2_loop i).trips) : Fin 3 → Nat :=
  let c0_99 : Index := 0#32
  let arg2 : BitVec 32 := BitVec.ofNat 32 (i 2).val
  let c1_i32_65 : BitVec 32 := 1#32
  let v276 : BitVec 32 := Scalar.addi arg2 c1_i32_65
  let c8_i32 : BitVec 32 := 8#32
  let v277 : BitVec 32 := Scalar.subi c8_i32 v276
  let c1_i32_66 : BitVec 32 := 1#32
  let v279 : BitVec 32 := Scalar.divsi v277 c1_i32_66
  let v280 : BitVec 32 := Scalar.muli v279 c1_i32_66
  let v281 : BitVec 32 := Scalar.addi v276 v280
  let c1_i32_68 : BitVec 32 := 1#32
  let arg18 : BitVec 32 := Scf.iv v281 c1_i32_68 k0_t2
  let c512_i32_85 : BitVec 32 := 512#32
  let v299 : BitVec 32 := Scalar.muli arg18 c512_i32_85
  let v300 : BitVec 32 := v299
  let v340 : Index := Scalar.indexCast v300
  let c0_100 : Index := 0#32
  ![0, v340.toNat, 0]
def k0_off16 (i : grid0.Coords) (k0_t2 : Fin (k0_t2_loop i).trips) : Fin 3 → Nat :=
  let c1_111 : Index := 1#32
  let arg2 : BitVec 32 := BitVec.ofNat 32 (i 2).val
  let c1_i32_65 : BitVec 32 := 1#32
  let v276 : BitVec 32 := Scalar.addi arg2 c1_i32_65
  let c8_i32 : BitVec 32 := 8#32
  let v277 : BitVec 32 := Scalar.subi c8_i32 v276
  let c1_i32_66 : BitVec 32 := 1#32
  let v279 : BitVec 32 := Scalar.divsi v277 c1_i32_66
  let v280 : BitVec 32 := Scalar.muli v279 c1_i32_66
  let v281 : BitVec 32 := Scalar.addi v276 v280
  let c1_i32_68 : BitVec 32 := 1#32
  let arg18 : BitVec 32 := Scf.iv v281 c1_i32_68 k0_t2
  let c512_i32_85 : BitVec 32 := 512#32
  let v299 : BitVec 32 := Scalar.muli arg18 c512_i32_85
  let v300 : BitVec 32 := v299
  let v374 : Index := Scalar.indexCast v300
  let c0_112 : Index := 0#32
  ![1, v374.toNat, 0]
def k0_off17 (i : grid0.Coords) (k0_t2 : Fin (k0_t2_loop i).trips) : Fin 3 → Nat :=
  let c1_116 : Index := 1#32
  let arg2 : BitVec 32 := BitVec.ofNat 32 (i 2).val
  let c1_i32_65 : BitVec 32 := 1#32
  let v276 : BitVec 32 := Scalar.addi arg2 c1_i32_65
  let c8_i32 : BitVec 32 := 8#32
  let v277 : BitVec 32 := Scalar.subi c8_i32 v276
  let c1_i32_66 : BitVec 32 := 1#32
  let v279 : BitVec 32 := Scalar.divsi v277 c1_i32_66
  let v280 : BitVec 32 := Scalar.muli v279 c1_i32_66
  let v281 : BitVec 32 := Scalar.addi v276 v280
  let c1_i32_68 : BitVec 32 := 1#32
  let arg18 : BitVec 32 := Scf.iv v281 c1_i32_68 k0_t2
  let c512_i32_85 : BitVec 32 := 512#32
  let v299 : BitVec 32 := Scalar.muli arg18 c512_i32_85
  let v300 : BitVec 32 := v299
  let v386 : Index := Scalar.indexCast v300
  let c0_117 : Index := 0#32
  ![1, v386.toNat, 0]
def k0_cond2 (i : grid0.Coords) : BitVec 1 :=
  let arg2 : BitVec 32 := BitVec.ofNat 32 (i 2).val
  let c7_i32 : BitVec 32 := 7#32
  let v296 : BitVec 1 := Scalar.cmpi .eq arg2 c7_i32
  let v297 : BitVec 32 := Scalar.extui v296
  let c0_i32_84 : BitVec 32 := 0#32
  let v298 : BitVec 1 := Scalar.cmpi .ne v297 c0_i32_84
  v298

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c40_i32 : BitVec 32 := 40#32
  let v0 : BitVec 32 := Scalar.addi c40_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c48_i32 : BitVec 32 := 48#32
  let v2 : BitVec 32 := Scalar.addi c48_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c56_i32 : BitVec 32 := 56#32
  let v2 : BitVec 32 := Scalar.addi c56_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_10 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2x8x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x2x8x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x2x1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x2x1x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]
-- ==== KernelIdeal.lean ====
variable {F : FTy → Type} [FloatOps F] [Named F]
def κ : String → Option EReal := fun
  | "mask" => some ⊥
  | _ => none
-- ==== ReferenceIdeal.lean ====
abbrev S8192x12800 : Shape := ⟨2, ![8192, 12800]⟩
abbrev S8192x1024 : Shape := ⟨2, ![8192, 1024]⟩
abbrev S2x16x4096 : Shape := ⟨3, ![2, 16, 4096]⟩
abbrev S2x4096x16x64 : Shape := ⟨4, ![2, 4096, 16, 64]⟩
abbrev S2x16x4096x4096 : Shape := ⟨4, ![2, 16, 4096, 4096]⟩
abbrev S_ : Shape := ⟨0, ![]⟩
abbrev S2x16x4096x1 : Shape := ⟨4, ![2, 16, 4096, 1]⟩
abbrev S2x16x1x4096 : Shape := ⟨4, ![2, 16, 1, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x1x4096x4096 : Shape := ⟨4, ![1, 1, 4096, 4096]⟩
abbrev S2x16x64x4096 : Shape := ⟨4, ![2, 16, 64, 4096]⟩
abbrev S2x16x4096x64 : Shape := ⟨4, ![2, 16, 4096, 64]⟩
abbrev S2x16x8x1x512 : Shape := ⟨5, ![2, 16, 8, 1, 512]⟩

abbrev nBuf : Space → Nat
  | .hbm => 109
  | .vmem => 0
  | .smem => 0
  | _ => 0

abbrev bufTy : (tb : Table) → Fin (tcTables nBuf tb) → BufTy
  | .hbm, ⟨0, _⟩ => ⟨S8192x12800, .bf16⟩
  | .hbm, ⟨1, _⟩ => ⟨S8192x1024, .bf16⟩
  | .hbm, ⟨2, _⟩ => ⟨S2x16x4096, .f32⟩
  | .hbm, ⟨3, _⟩ => ⟨S8192x1024, .bf16⟩
  | .hbm, ⟨4, _⟩ => ⟨S8192x1024, .f32⟩
  | .hbm, ⟨5, _⟩ => ⟨S2x4096x16x64, .f32⟩
  | .hbm, ⟨6, _⟩ => ⟨S8192x1024, .bf16⟩
  | .hbm, ⟨7, _⟩ => ⟨S8192x1024, .f32⟩
  | .hbm, ⟨8, _⟩ => ⟨S2x4096x16x64, .f32⟩
  | .hbm, ⟨9, _⟩ => ⟨S8192x1024, .bf16⟩
  | .hbm, ⟨10, _⟩ => ⟨S8192x1024, .f32⟩
  | .hbm, ⟨11, _⟩ => ⟨S2x4096x16x64, .f32⟩
  | .hbm, ⟨12, _⟩ => ⟨S2x16x4096x4096, .f32⟩
  | .hbm, ⟨13, _⟩ => ⟨S_, .f32⟩
  | .hbm, ⟨14, _⟩ => ⟨S2x16x4096x4096, .f32⟩
  | .hbm, ⟨15, _⟩ => ⟨S2x16x4096x4096, .f32⟩
  | .hbm, ⟨16, _⟩ => ⟨S2x16x4096x1, .f32⟩
  | .hbm, ⟨17, _⟩ => ⟨S2x16x4096x4096, .f32⟩
  | .hbm, ⟨18, _⟩ => ⟨S2x16x4096x4096, .f32⟩
  | .hbm, ⟨19, _⟩ => ⟨S2x16x1x4096, .f32⟩
  | .hbm, ⟨20, _⟩ => ⟨S2x16x4096x4096, .f32⟩
  | .hbm, ⟨21, _⟩ => ⟨S2x16x4096x4096, .f32⟩
  | .hbm, ⟨22, _⟩ => ⟨S4096, .i32⟩
  | .hbm, ⟨23, _⟩ => ⟨S4096x1, .i32⟩
  | .hbm, ⟨24, _⟩ => ⟨S4096, .i32⟩
  | .hbm, ⟨25, _⟩ => ⟨S1x4096, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S1x1x4096x4096, .i1⟩
  | .hbm, ⟨30, _⟩ => ⟨S_, .f32⟩
  | .hbm, ⟨31, _⟩ => ⟨S_, .f32⟩
  | .hbm, ⟨32, _⟩ => ⟨S2x16x4096x4096, .i1⟩
  | .hbm, ⟨33, _⟩ => ⟨S2x16x4096x4096, .f32⟩
  | .hbm, ⟨34, _⟩ => ⟨S2x16x4096x4096, .f32⟩
  | .hbm, ⟨35, _⟩ => ⟨S_, .f32⟩
  | .hbm, ⟨36, _⟩ => ⟨S2x16x4096x4096, .f32⟩
  | .hbm, ⟨37, _⟩ => ⟨S_, .f32⟩
  | .hbm, ⟨38, _⟩ => ⟨S2x16x4096, .f32⟩
  | .hbm, ⟨39, _⟩ => ⟨S2x16x4096x1, .f32⟩
  | .hbm, ⟨40, _⟩ => ⟨S2x16x4096x4096, .f32⟩
  | .hbm, ⟨41, _⟩ => ⟨S2x16x4096x4096, .i1⟩
  | .hbm, ⟨42, _⟩ => ⟨S2x16x4096x4096, .f32⟩
  | .hbm, ⟨43, _⟩ => ⟨S_, .f32⟩
  | .hbm, ⟨44, _⟩ => ⟨S2x16x4096, .f32⟩
  | .hbm, ⟨45, _⟩ => ⟨S2x16x4096x1, .f32⟩
  | .hbm, ⟨46, _⟩ => ⟨S2x16x4096x4096, .f32⟩
  | .hbm, ⟨47, _⟩ => ⟨S2x16x4096x4096, .f32⟩
  | .hbm, ⟨48, _⟩ => ⟨S2x16x4096x4096, .f32⟩
  | .hbm, ⟨49, _⟩ => ⟨S_, .f32⟩
  | .hbm, ⟨50, _⟩ => ⟨S2x16x4096, .f32⟩
  | .hbm, ⟨51, _⟩ => ⟨S2x16x4096x1, .f32⟩
  | .hbm, ⟨52, _⟩ => ⟨S2x16x4096x4096, .f32⟩
  | .hbm, ⟨53, _⟩ => ⟨S2x16x4096x4096, .f32⟩
  | .hbm, ⟨54, _⟩ => ⟨S2x16x4096x1, .f32⟩
  | .hbm, ⟨55, _⟩ => ⟨S_, .f32⟩
  | .hbm, ⟨56, _⟩ => ⟨S2x16x4096x1, .f32⟩
  | .hbm, ⟨57, _⟩ => ⟨S2x16x4096x1, .f32⟩
  | .hbm, ⟨58, _⟩ => ⟨S2x16x64x4096, .f32⟩
  | .hbm, ⟨59, _⟩ => ⟨S2x4096x16x64, .f32⟩
  | .hbm, ⟨60, _⟩ => ⟨S8192x1024, .f32⟩
  | .hbm, ⟨61, _⟩ => ⟨S2x4096x16x64, .f32⟩
  | .hbm, ⟨62, _⟩ => ⟨S2x16x64x4096, .f32⟩
  | .hbm, ⟨63, _⟩ => ⟨S2x16x4096x4096, .f32⟩
  | .hbm, ⟨64, _⟩ => ⟨S2x16x64x4096, .f32⟩
  | .hbm, ⟨65, _⟩ => ⟨S2x4096x16x64, .f32⟩
  | .hbm, ⟨66, _⟩ => ⟨S2x16x4096x4096, .f32⟩
  | .hbm, ⟨67, _⟩ => ⟨S2x16x4096x4096, .f32⟩
  | .hbm, ⟨68, _⟩ => ⟨S2x16x4096x4096, .f32⟩
  | .hbm, ⟨69, _⟩ => ⟨S_, .f32⟩
  | .hbm, ⟨70, _⟩ => ⟨S2x16x4096, .f32⟩
  | .hbm, ⟨71, _⟩ => ⟨S2x16x4096x1, .f32⟩
  | .hbm, ⟨72, _⟩ => ⟨S2x16x4096x1, .f32⟩
  | .hbm, ⟨73, _⟩ => ⟨S2x16x4096x4096, .f32⟩
  | .hbm, ⟨74, _⟩ => ⟨S2x16x4096x4096, .f32⟩
  | .hbm, ⟨75, _⟩ => ⟨S_, .f32⟩
  | .hbm, ⟨76, _⟩ => ⟨S2x16x4096, .f32⟩
  | .hbm, ⟨77, _⟩ => ⟨S2x16x4096x4096, .f32⟩
  | .hbm, ⟨78, _⟩ => ⟨S2x16x4096x4096, .f32⟩
  | .hbm, ⟨79, _⟩ => ⟨S2x16x4096x4096, .f32⟩
  | .hbm, ⟨80, _⟩ => ⟨S_, .f32⟩
  | .hbm, ⟨81, _⟩ => ⟨S2x16x4096x4096, .f32⟩
  | .hbm, ⟨82, _⟩ => ⟨S2x16x4096x4096, .f32⟩
  | .hbm, ⟨83, _⟩ => ⟨S2x16x4096x4096, .f32⟩
  | .hbm, ⟨84, _⟩ => ⟨S_, .f32⟩
  | .hbm, ⟨85, _⟩ => ⟨S2x16x4096, .f32⟩
  | .hbm, ⟨86, _⟩ => ⟨S2x16x1x4096, .f32⟩
  | .hbm, ⟨87, _⟩ => ⟨S_, .f32⟩
  | .hbm, ⟨88, _⟩ => ⟨S2x16x4096, .f32⟩
  | .hbm, ⟨89, _⟩ => ⟨S_, .f32⟩
  | .hbm, ⟨90, _⟩ => ⟨S2x16x4096, .f32⟩
  | .hbm, ⟨91, _⟩ => ⟨S2x16x4096x1, .f32⟩
  | .hbm, ⟨92, _⟩ => ⟨S_, .f32⟩
  | .hbm, ⟨93, _⟩ => ⟨S2x16x4096, .f32⟩
  | .hbm, ⟨94, _⟩ => ⟨S_, .f32⟩
  | .hbm, ⟨95, _⟩ => ⟨S2x16x4096x4096, .f32⟩
  | .hbm, ⟨96, _⟩ => ⟨S2x16x4096x4096, .f32⟩
  | .hbm, ⟨97, _⟩ => ⟨S2x16x4096x64, .f32⟩
  | .hbm, ⟨98, _⟩ => ⟨S2x4096x16x64, .f32⟩
  | .hbm, ⟨99, _⟩ => ⟨S2x16x4096x64, .f32⟩
  | .hbm, ⟨100, _⟩ => ⟨S2x4096x16x64, .f32⟩
  | .hbm, ⟨101, _⟩ => ⟨S8192x1024, .f32⟩
  | .hbm, ⟨102, _⟩ => ⟨S8192x1024, .bf16⟩
  | .hbm, ⟨103, _⟩ => ⟨S8192x1024, .f32⟩
  | .hbm, ⟨104, _⟩ => ⟨S8192x1024, .bf16⟩
  | .hbm, ⟨105, _⟩ => ⟨S8192x1024, .f32⟩
  | .hbm, ⟨106, _⟩ => ⟨S8192x1024, .bf16⟩
  | .hbm, ⟨107, _⟩ => ⟨S2x16x8x1x512, .f32⟩
  | .hbm, ⟨108, _⟩ => ⟨S2x16x1x4096, .f32⟩
  | _, _ => ⟨S8192x12800, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_call0_v0 : Ref sig .tc := ⟨.hbm, 31, rfl⟩
abbrev main_v26_1 : Ref sig .tc := ⟨.hbm, 32, rfl⟩
abbrev main_call0_v2 : Ref sig .tc := ⟨.hbm, 33, rfl⟩
abbrev main_v26_0 : Ref sig .tc := ⟨.hbm, 34, rfl⟩
abbrev main_call0_cst : Ref sig .tc := ⟨.hbm, 35, rfl⟩
abbrev main_v26_2 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_5 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_6 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_call1_cst : Ref sig .tc := ⟨.hbm, 80, rfl⟩
abbrev main_call1_v0 : Ref sig .tc := ⟨.hbm, 81, rfl⟩
abbrev main_v64 : Ref sig .tc := ⟨.hbm, 82, rfl⟩
abbrev main_v65 : Ref sig .tc := ⟨.hbm, 83, rfl⟩
abbrev main_cst_7 : Ref sig .tc := ⟨.hbm, 84, rfl⟩
abbrev main_v66 : Ref sig .tc := ⟨.hbm, 85, rfl⟩
abbrev main_v67 : Ref sig .tc := ⟨.hbm, 86, rfl⟩
abbrev main_cst_8 : Ref sig .tc := ⟨.hbm, 87, rfl⟩
abbrev main_v68 : Ref sig .tc := ⟨.hbm, 88, rfl⟩
abbrev main_cst_9 : Ref sig .tc := ⟨.hbm, 89, rfl⟩
abbrev main_v69 : Ref sig .tc := ⟨.hbm, 90, rfl⟩
abbrev main_v70 : Ref sig .tc := ⟨.hbm, 91, rfl⟩
abbrev main_cst_10 : Ref sig .tc := ⟨.hbm, 92, rfl⟩
abbrev main_v71 : Ref sig .tc := ⟨.hbm, 93, rfl⟩
abbrev main_cst_11 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩

abbrev nD : Nat := 1
abbrev τ : Topo := Topo.v7x

variable {F : FTy → Type} [FloatOps F]
-- ==== Kernel2.lean ====
abbrev S8192x1024 : Shape := ⟨2, ![8192, 1024]⟩
abbrev S1024x8192 : Shape := ⟨2, ![1024, 8192]⟩
abbrev S1024x1024 : Shape := ⟨2, ![1024, 1024]⟩
abbrev S1024x2048 : Shape := ⟨2, ![1024, 2048]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x8192, .bf16⟩
  | .hbm, ⟨3, _⟩ => ⟨S1024x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference2Ideal.lean ====
abbrev S8192x1024 : Shape := ⟨2, ![8192, 1024]⟩
abbrev S_ : Shape := ⟨0, ![]⟩
abbrev S1024x1024 : Shape := ⟨2, ![1024, 1024]⟩
abbrev S2x4096x1024 : Shape := ⟨3, ![2, 4096, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S2x4096x1024, .f32⟩
  | .hbm, ⟨6, _⟩ => ⟨S2x4096x1024, .f32⟩
  | .hbm, ⟨7, _⟩ => ⟨S8192x1024, .f32⟩
  | .hbm, ⟨8, _⟩ => ⟨S2x4096x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S8192x2048 : Shape := ⟨2, ![8192, 2048]⟩
abbrev S8192x1024 : Shape := ⟨2, ![8192, 1024]⟩
abbrev S8192x128 : Shape := ⟨2, ![8192, 128]⟩
abbrev S1024x12800 : Shape := ⟨2, ![1024, 12800]⟩
abbrev S1024x128 : Shape := ⟨2, ![1024, 128]⟩
abbrev S1024x1024 : Shape := ⟨2, ![1024, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x128, .bf16⟩
  | .hbm, ⟨5, _⟩ => ⟨S1024x12800, .bf16⟩
  | .hbm, ⟨6, _⟩ => ⟨S1024x128, .bf16⟩
  | .hbm, ⟨7, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x128, .bf16⟩
  | .local _ .vmem, ⟨11, _⟩ => ⟨S1024x128, .bf16⟩
  | .local _ .vmem, ⟨12, _⟩ => ⟨S1024x128, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 5], ![false, false]⟩

def k0_cond6 (i : grid0.Coords) : BitVec 1 :=
  let arg1 : BitVec 32 := BitVec.ofNat 32 (i 1).val
  let c4_i32_9 : BitVec 32 := 4#32
  let v23 : BitVec 1 := Scalar.cmpi .eq arg1 c4_i32_9
  let v24 : BitVec 32 := Scalar.extui v23
  let c0_i32_10 : BitVec 32 := 0#32
  let v25 : BitVec 1 := Scalar.cmpi .ne v24 c0_i32_10
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg1 c0_i32
  let c2_i32 : BitVec 32 := 2#32
  let v1 : BitVec 1 := Scalar.cmpi .slt arg1 c2_i32
  let v2 : BitVec 1 := Scalar.andi v0 v1
  let c0_i32_0 : BitVec 32 := 0#32
  let v3 : BitVec 32 := Scalar.addi c0_i32_0 arg1
  let c0_i32_1 : BitVec 32 := 0#32
  let v4 : BitVec 32 := Scalar.subi v3 c0_i32_1
  let c0_i32_2 : BitVec 32 := 0#32
  let v5 : BitVec 32 := Scalar.select v2 v4 c0_i32_2
  let c0_i32_3 : BitVec 32 := 0#32
  let v6 : BitVec 32 := Scalar.addi c0_i32_3 v5
  let c2_i32_4 : BitVec 32 := 2#32
  let v7 : BitVec 1 := Scalar.cmpi .sge arg1 c2_i32_4
  let c3_i32 : BitVec 32 := 3#32
  let v8 : BitVec 1 := Scalar.cmpi .slt arg1 c3_i32
  let v9 : BitVec 1 := Scalar.andi v7 v8
  let c2_i32_5 : BitVec 32 := 2#32
  let v10 : BitVec 32 := Scalar.addi c2_i32_5 arg1
  let c2_i32_6 : BitVec 32 := 2#32
  let v11 : BitVec 32 := Scalar.subi v10 c2_i32_6
  let c0_i32_7 : BitVec 32 := 0#32
  let v12 : BitVec 32 := Scalar.select v9 v11 c0_i32_7
  let v13 : BitVec 32 := Scalar.addi v6 v12
  let c3_i32_8 : BitVec 32 := 3#32
  let v14 : BitVec 1 := Scalar.cmpi .sge arg1 c3_i32_8
  let c4_i32 : BitVec 32 := 4#32
  let v15 : BitVec 1 := Scalar.cmpi .slt arg1 c4_i32
  let v16 : BitVec 1 := Scalar.andi v14 v15
  let c3_i32_9 : BitVec 32 := 3#32
  let v17 : BitVec 32 := Scalar.addi c3_i32_9 arg1
  let c3_i32_10 : BitVec 32 := 3#32
  let v18 : BitVec 32 := Scalar.subi v17 c3_i32_10
  let c0_i32_11 : BitVec 32 := 0#32
  let v19 : BitVec 32 := Scalar.select v16 v18 c0_i32_11
  let v20 : BitVec 32 := Scalar.addi v13 v19
  let c4_i32_12 : BitVec 32 := 4#32
  let v21 : BitVec 1 := Scalar.cmpi .sge arg1 c4_i32_12
  let c5_i32 : BitVec 32 := 5#32
  let v22 : BitVec 1 := Scalar.cmpi .slt arg1 c5_i32
  let v23 : BitVec 1 := Scalar.andi v21 v22
  let c4_i32_13 : BitVec 32 := 4#32
  let v24 : BitVec 32 := Scalar.addi c4_i32_13 arg1
  let c4_i32_14 : BitVec 32 := 4#32
  let v25 : BitVec 32 := Scalar.subi v24 c4_i32_14
  let c0_i32_15 : BitVec 32 := 0#32
  let v26 : BitVec 32 := Scalar.select v23 v25 c0_i32_15
  let v27 : BitVec 32 := Scalar.addi v20 v26
  let c0_i32_16 : BitVec 32 := 0#32
  let c0_i32_17 : BitVec 32 := 0#32
  ![c0_i32_16.toNat, v27.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S8192x2048 : Shape := ⟨2, ![8192, 2048]⟩
abbrev S8192x1024 : Shape := ⟨2, ![8192, 1024]⟩
abbrev S8192x128 : Shape := ⟨2, ![8192, 128]⟩
abbrev S1024x12800 : Shape := ⟨2, ![1024, 12800]⟩
abbrev S1024x128 : Shape := ⟨2, ![1024, 128]⟩
abbrev S1024x2048 : Shape := ⟨2, ![1024, 2048]⟩
abbrev S1024x1024 : Shape := ⟨2, ![1024, 1024]⟩
abbrev S_ : Shape := ⟨0, ![]⟩
abbrev S2x4096x1024 : Shape := ⟨3, ![2, 4096, 1024]⟩
abbrev S2x4096x2048 : Shape := ⟨3, ![2, 4096, 2048]⟩
abbrev S2x4096x128 : Shape := ⟨3, ![2, 4096, 128]⟩

abbrev nBuf : Space → Nat
  | .hbm => 43
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S8192x128, .bf16⟩
  | .hbm, ⟨5, _⟩ => ⟨S1024x12800, .bf16⟩
  | .hbm, ⟨6, _⟩ => ⟨S1024x128, .bf16⟩
  | .hbm, ⟨7, _⟩ => ⟨S1024x2048, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S_, .f32⟩
  | .hbm, ⟨12, _⟩ => ⟨S2x4096x1024, .f32⟩
  | .hbm, ⟨13, _⟩ => ⟨S1024x2048, .f32⟩
  | .hbm, ⟨14, _⟩ => ⟨S2x4096x2048, .f32⟩
  | .hbm, ⟨15, _⟩ => ⟨S1024x1024, .f32⟩
  | .hbm, ⟨16, _⟩ => ⟨S2x4096x1024, .f32⟩
  | .hbm, ⟨17, _⟩ => ⟨S1024x1024, .f32⟩
  | .hbm, ⟨18, _⟩ => ⟨S2x4096x1024, .f32⟩
  | .hbm, ⟨19, _⟩ => ⟨S1024x1024, .f32⟩
  | .hbm, ⟨20, _⟩ => ⟨S2x4096x1024, .f32⟩
  | .hbm, ⟨21, _⟩ => ⟨S1024x128, .f32⟩
  | .hbm, ⟨22, _⟩ => ⟨S2x4096x128, .f32⟩
  | .hbm, ⟨23, _⟩ => ⟨S8192x2048, .f32⟩
  | .hbm, ⟨24, _⟩ => ⟨S2x4096x2048, .f32⟩
  | .hbm, ⟨25, _⟩ => ⟨S8192x1024, .f32⟩
  | .hbm, ⟨26, _⟩ => ⟨S2x4096x1024, .f32⟩
  | .hbm, ⟨27, _⟩ => ⟨S8192x1024, .f32⟩
  | .hbm, ⟨28, _⟩ => ⟨S2x4096x1024, .f32⟩
  | .hbm, ⟨29, _⟩ => ⟨S8192x1024, .f32⟩
  | .hbm, ⟨30, _⟩ => ⟨S2x4096x1024, .f32⟩
  | .hbm, ⟨31, _⟩ => ⟨S8192x128, .f32⟩
  | .hbm, ⟨32, _⟩ => ⟨S2x4096x128, .f32⟩
  | .hbm, ⟨33, _⟩ => ⟨S2x4096x1024, .f32⟩
  | .hbm, ⟨34, _⟩ => ⟨S2x4096x1024, .f32⟩
  | .hbm, ⟨35, _⟩ => ⟨S2x4096x1024, .f32⟩
  | .hbm, ⟨36, _⟩ => ⟨S2x4096x1024, .f32⟩
  | .hbm, ⟨37, _⟩ => ⟨S2x4096x1024, .f32⟩
  | .hbm, ⟨38, _⟩ => ⟨S2x4096x1024, .f32⟩
  | .hbm, ⟨39, _⟩ => ⟨S2x4096x1024, .f32⟩
  | .hbm, ⟨40, _⟩ => ⟨S2x4096x1024, .f32⟩
  | .hbm, ⟨41, _⟩ => ⟨S2x4096x1024, .f32⟩
  | .hbm, ⟨42, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Kernel4.lean ====
abbrev S8192x1024 : Shape := ⟨2, ![8192, 1024]⟩
abbrev S1024x12800 : Shape := ⟨2, ![1024, 12800]⟩
abbrev S1024x1024 : Shape := ⟨2, ![1024, 1024]⟩

abbrev nBuf : Space → Nat
  | .hbm => 7
  | .vmem => 15
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S1024x12800, .bf16⟩
  | .hbm, ⟨5, _⟩ => ⟨S8192x1024, .f32⟩
  | .hbm, ⟨6, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def k0_cond6 (i : grid0.Coords) : BitVec 1 :=
  let arg1 : BitVec 32 := BitVec.ofNat 32 (i 1).val
  let c3_i32_9 : BitVec 32 := 3#32
  let v23 : BitVec 1 := Scalar.cmpi .eq arg1 c3_i32_9
  let v24 : BitVec 32 := Scalar.extui v23
  let c0_i32_10 : BitVec 32 := 0#32
  let v25 : BitVec 1 := Scalar.cmpi .ne v24 c0_i32_10
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg1 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg1 c0_i32
  let c1_i32 : BitVec 32 := 1#32
  let v1 : BitVec 1 := Scalar.cmpi .slt arg1 c1_i32
  let v2 : BitVec 1 := Scalar.andi v0 v1
  let c5_i32 : BitVec 32 := 5#32
  let v3 : BitVec 32 := Scalar.addi c5_i32 arg1
  let c0_i32_0 : BitVec 32 := 0#32
  let v4 : BitVec 32 := Scalar.subi v3 c0_i32_0
  let c0_i32_1 : BitVec 32 := 0#32
  let v5 : BitVec 32 := Scalar.select v2 v4 c0_i32_1
  let c0_i32_2 : BitVec 32 := 0#32
  let v6 : BitVec 32 := Scalar.addi c0_i32_2 v5
  let c1_i32_3 : BitVec 32 := 1#32
  let v7 : BitVec 1 := Scalar.cmpi .sge arg1 c1_i32_3
  let c2_i32 : BitVec 32 := 2#32
  let v8 : BitVec 1 := Scalar.cmpi .slt arg1 c2_i32
  let v9 : BitVec 1 := Scalar.andi v7 v8
  let c6_i32 : BitVec 32 := 6#32
  let v10 : BitVec 32 := Scalar.addi c6_i32 arg1
  let c1_i32_4 : BitVec 32 := 1#32
  let v11 : BitVec 32 := Scalar.subi v10 c1_i32_4
  let c0_i32_5 : BitVec 32 := 0#32
  let v12 : BitVec 32 := Scalar.select v9 v11 c0_i32_5
  let v13 : BitVec 32 := Scalar.addi v6 v12
  let c2_i32_6 : BitVec 32 := 2#32
  let v14 : BitVec 1 := Scalar.cmpi .sge arg1 c2_i32_6
  let c3_i32 : BitVec 32 := 3#32
  let v15 : BitVec 1 := Scalar.cmpi .slt arg1 c3_i32
  let v16 : BitVec 1 := Scalar.andi v14 v15
  let c7_i32 : BitVec 32 := 7#32
  let v17 : BitVec 32 := Scalar.addi c7_i32 arg1
  let c2_i32_7 : BitVec 32 := 2#32
  let v18 : BitVec 32 := Scalar.subi v17 c2_i32_7
  let c0_i32_8 : BitVec 32 := 0#32
  let v19 : BitVec 32 := Scalar.select v16 v18 c0_i32_8
  let v20 : BitVec 32 := Scalar.addi v13 v19
  let c3_i32_9 : BitVec 32 := 3#32
  let v21 : BitVec 1 := Scalar.cmpi .sge arg1 c3_i32_9
  let c4_i32 : BitVec 32 := 4#32
  let v22 : BitVec 1 := Scalar.cmpi .slt arg1 c4_i32
  let v23 : BitVec 1 := Scalar.andi v21 v22
  let c8_i32 : BitVec 32 := 8#32
  let v24 : BitVec 32 := Scalar.addi c8_i32 arg1
  let c3_i32_10 : BitVec 32 := 3#32
  let v25 : BitVec 32 := Scalar.subi v24 c3_i32_10
  let c0_i32_11 : BitVec 32 := 0#32
  let v26 : BitVec 32 := Scalar.select v23 v25 c0_i32_11
  let v27 : BitVec 32 := Scalar.addi v20 v26
  let c0_i32_12 : BitVec 32 := 0#32
  let c0_i32_13 : BitVec 32 := 0#32
  ![c0_i32_12.toNat, v27.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference4Ideal.lean ====
abbrev S8192x1024 : Shape := ⟨2, ![8192, 1024]⟩
abbrev S1024x12800 : Shape := ⟨2, ![1024, 12800]⟩
abbrev S1024x1024 : Shape := ⟨2, ![1024, 1024]⟩
abbrev S_ : Shape := ⟨0, ![]⟩
abbrev S2x4096x1024 : Shape := ⟨3, ![2, 4096, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S1024x12800, .bf16⟩
  | .hbm, ⟨5, _⟩ => ⟨S8192x1024, .f32⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S_, .f32⟩
  | .hbm, ⟨11, _⟩ => ⟨S2x4096x1024, .f32⟩
  | .hbm, ⟨12, _⟩ => ⟨S1024x1024, .f32⟩
  | .hbm, ⟨13, _⟩ => ⟨S2x4096x1024, .f32⟩
  | .hbm, ⟨14, _⟩ => ⟨S1024x1024, .f32⟩
  | .hbm, ⟨15, _⟩ => ⟨S2x4096x1024, .f32⟩
  | .hbm, ⟨16, _⟩ => ⟨S1024x1024, .f32⟩
  | .hbm, ⟨17, _⟩ => ⟨S2x4096x1024, .f32⟩
  | .hbm, ⟨18, _⟩ => ⟨S1024x1024, .f32⟩
  | .hbm, ⟨19, _⟩ => ⟨S2x4096x1024, .f32⟩
  | .hbm, ⟨20, _⟩ => ⟨S8192x1024, .f32⟩
  | .hbm, ⟨21, _⟩ => ⟨S2x4096x1024, .f32⟩
  | .hbm, ⟨22, _⟩ => ⟨S8192x1024, .f32⟩
  | .hbm, ⟨23, _⟩ => ⟨S2x4096x1024, .f32⟩
  | .hbm, ⟨24, _⟩ => ⟨S8192x1024, .f32⟩
  | .hbm, ⟨25, _⟩ => ⟨S2x4096x1024, .f32⟩
  | .hbm, ⟨26, _⟩ => ⟨S8192x1024, .f32⟩
  | .hbm, ⟨27, _⟩ => ⟨S2x4096x1024, .f32⟩
  | .hbm, ⟨28, _⟩ => ⟨S2x4096x1024, .f32⟩
  | .hbm, ⟨29, _⟩ => ⟨S2x4096x1024, .f32⟩
  | .hbm, ⟨30, _⟩ => ⟨S2x4096x1024, .f32⟩
  | .hbm, ⟨31, _⟩ => ⟨S2x4096x1024, .f32⟩
  | .hbm, ⟨32, _⟩ => ⟨S2x4096x1024, .f32⟩
  | .hbm, ⟨33, _⟩ => ⟨S2x4096x1024, .f32⟩
  | .hbm, ⟨34, _⟩ => ⟨S2x4096x1024, .f32⟩
  | .hbm, ⟨35, _⟩ => ⟨S8192x1024, .f32⟩
  | .hbm, ⟨36, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Kernel5.lean ====
abbrev S8192x1024 : Shape := ⟨2, ![8192, 1024]⟩
abbrev S8192x2048 : Shape := ⟨2, ![8192, 2048]⟩
abbrev S1024x8192 : Shape := ⟨2, ![1024, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x8192, .bf16⟩
  | .hbm, ⟨3, _⟩ => ⟨S1024x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2x4096x1024 : Shape := ⟨3, ![2, 4096, 1024]⟩
abbrev S2x4096x2048 : Shape := ⟨3, ![2, 4096, 2048]⟩
abbrev S2048x1024 : Shape := ⟨2, ![2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S2x4096x1024, .f32⟩
  | .hbm, ⟨6, _⟩ => ⟨S2x4096x2048, .f32⟩
  | .hbm, ⟨7, _⟩ => ⟨S8192x2048, .f32⟩
  | .hbm, ⟨8, _⟩ => ⟨S2x4096x2048, .f32⟩
  | .hbm, ⟨9, _⟩ => ⟨S2048x1024, .f32⟩
  | .hbm, ⟨10, _⟩ => ⟨S1024x2048, .f32⟩
  | .hbm, ⟨11, _⟩ => ⟨S1024x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S8192x1024 : Shape := ⟨2, ![8192, 1024]⟩
abbrev S8192x3072 : Shape := ⟨2, ![8192, 3072]⟩
abbrev S1024x8192 : Shape := ⟨2, ![1024, 8192]⟩
abbrev S1024x3072 : Shape := ⟨2, ![1024, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S1024x8192, .bf16⟩
  | .hbm, ⟨3, _⟩ => ⟨S1024x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S2x4096x1024 : Shape := ⟨3, ![2, 4096, 1024]⟩
abbrev S2x4096x3072 : Shape := ⟨3, ![2, 4096, 3072]⟩
abbrev S3072x1024 : Shape := ⟨2, ![3072, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S2x4096x1024, .f32⟩
  | .hbm, ⟨6, _⟩ => ⟨S2x4096x3072, .f32⟩
  | .hbm, ⟨7, _⟩ => ⟨S8192x3072, .f32⟩
  | .hbm, ⟨8, _⟩ => ⟨S2x4096x3072, .f32⟩
  | .hbm, ⟨9, _⟩ => ⟨S3072x1024, .f32⟩
  | .hbm, ⟨10, _⟩ => ⟨S1024x3072, .f32⟩
  | .hbm, ⟨11, _⟩ => ⟨S1024x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S3x8192x1024 : Shape := ⟨3, ![3, 8192, 1024]⟩
abbrev S3x1024x8192 : Shape := ⟨3, ![3, 1024, 8192]⟩
abbrev S3x1024x1024 : Shape := ⟨3, ![3, 1024, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S3x8192x1024, .bf16⟩
  | .hbm, ⟨1, _⟩ => ⟨S3x8192x1024, .bf16⟩
  | .hbm, ⟨2, _⟩ => ⟨S3x1024x8192, .bf16⟩
  | .hbm, ⟨3, _⟩ => ⟨S3x1024x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S3x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![3, 1, 1, 8], ![false, false, false, false]⟩

def k0_cond2 (i : grid0.Coords) : BitVec 1 :=
  let arg3 : BitVec 32 := BitVec.ofNat 32 (i 3).val
  let c7_i32 : BitVec 32 := 7#32
  let v13 : BitVec 1 := Scalar.cmpi .eq arg3 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg3.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]
-- ==== Reference7Ideal.lean ====
abbrev S3x8192x1024 : Shape := ⟨3, ![3, 8192, 1024]⟩
abbrev S_ : Shape := ⟨0, ![]⟩
abbrev S3x1024x1024 : Shape := ⟨3, ![3, 1024, 1024]⟩
abbrev S8192x3x1024 : Shape := ⟨3, ![8192, 3, 1024]⟩
abbrev S2x4096x3x1024 : Shape := ⟨4, ![2, 4096, 3, 1024]⟩
abbrev S3x1024x2x4096 : Shape := ⟨4, ![3, 1024, 2, 4096]⟩

abbrev nBuf : Space → Nat
  | .hbm => 16
  | .vmem => 0
  | .smem => 0
  | _ => 0

abbrev bufTy : (tb : Table) → Fin (tcTables nBuf tb) → BufTy
  | .hbm, ⟨0, _⟩ => ⟨S3x8192x1024, .bf16⟩
  | .hbm, ⟨1, _⟩ => ⟨S3x8192x1024, .bf16⟩
  | .hbm, ⟨2, _⟩ => ⟨S_, .f32⟩
  | .hbm, ⟨3, _⟩ => ⟨S3x1024x1024, .f32⟩
  | .hbm, ⟨4, _⟩ => ⟨S3x8192x1024, .f32⟩
  | .hbm, ⟨5, _⟩ => ⟨S8192x3x1024, .f32⟩
  | .hbm, ⟨6, _⟩ => ⟨S2x4096x3x1024, .f32⟩
  | .hbm, ⟨7, _⟩ => ⟨S3x8192x1024, .f32⟩
  | .hbm, ⟨8, _⟩ => ⟨S8192x3x1024, .f32⟩
  | .hbm, ⟨9, _⟩ => ⟨S2x4096x3x1024, .f32⟩
  | .hbm, ⟨10, _⟩ => ⟨S3x1024x2x4096, .f32⟩
  | .hbm, ⟨11, _⟩ => ⟨S2x4096x3x1024, .f32⟩
  | .hbm, ⟨12, _⟩ => ⟨S3x1024x2x4096, .f32⟩
  | .hbm, ⟨13, _⟩ => ⟨S3x1024x1024, .f32⟩
  | .hbm, ⟨14, _⟩ => ⟨S3x1024x1024, .f32⟩
  | .hbm, ⟨15, _⟩ => ⟨S3x1024x1024, .bf16⟩
  | _, _ => ⟨S3x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]
-- ==== Kernel8.lean ====
abbrev S8192x1024 : Shape := ⟨2, ![8192, 1024]⟩
abbrev S1024x8192 : Shape := ⟨2, ![1024, 8192]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x8192, .bf16⟩
  | .hbm, ⟨3, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S_ : Shape := ⟨0, ![]⟩
abbrev S1024x1024 : Shape := ⟨2, ![1024, 1024]⟩
abbrev S2x4096x1024 : Shape := ⟨3, ![2, 4096, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S2x4096x1024, .f32⟩
  | .hbm, ⟨6, _⟩ => ⟨S2x4096x1024, .f32⟩
  | .hbm, ⟨7, _⟩ => ⟨S8192x1024, .f32⟩
  | .hbm, ⟨8, _⟩ => ⟨S2x4096x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel9.lean ====
abbrev S8192x1024 : Shape := ⟨2, ![8192, 1024]⟩
abbrev S8192x12800 : Shape := ⟨2, ![8192, 12800]⟩
abbrev S3x1024 : Shape := ⟨2, ![3, 1024]⟩
abbrev S3x1024x1024 : Shape := ⟨3, ![3, 1024, 1024]⟩
abbrev S1024x1024 : Shape := ⟨2, ![1024, 1024]⟩
abbrev S3x8192x1024 : Shape := ⟨3, ![3, 8192, 1024]⟩
abbrev S3x1024x8192 : Shape := ⟨3, ![3, 1024, 8192]⟩
abbrev S512x1024 : Shape := ⟨2, ![512, 1024]⟩
abbrev S3x512x1024 : Shape := ⟨3, ![3, 512, 1024]⟩
abbrev S3x1024x512 : Shape := ⟨3, ![3, 1024, 512]⟩
abbrev S1024x512 : Shape := ⟨2, ![1024, 512]⟩
abbrev S1x1024x512 : Shape := ⟨3, ![1, 1024, 512]⟩
abbrev S1x1024x1024 : Shape := ⟨3, ![1, 1024, 1024]⟩
abbrev S1x512x1024 : Shape := ⟨3, ![1, 512, 1024]⟩
abbrev S1x1024 : Shape := ⟨2, ![1, 1024]⟩

abbrev nBuf : Space → Nat
  | .hbm => 11
  | .vmem => 23
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x12800, .bf16⟩
  | .hbm, ⟨4, _⟩ => ⟨S3x1024, .f32⟩
  | .hbm, ⟨5, _⟩ => ⟨S3x1024x1024, .bf16⟩
  | .hbm, ⟨6, _⟩ => ⟨S1024x1024, .bf16⟩
  | .hbm, ⟨7, _⟩ => ⟨S8192x1024, .f32⟩
  | .hbm, ⟨8, _⟩ => ⟨S8192x1024, .f32⟩
  | .hbm, ⟨9, _⟩ => ⟨S3x8192x1024, .bf16⟩
  | .hbm, ⟨10, _⟩ => ⟨S3x1024x8192, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S3x1024, .f32⟩
  | .local _ .vmem, ⟨13, _⟩ => ⟨S3x1024x1024, .bf16⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S3x512x1024, .bf16⟩
  | .local _ .vmem, ⟨20, _⟩ => ⟨S3x512x1024, .bf16⟩
  | .local _ .vmem, ⟨21, _⟩ => ⟨S3x1024x512, .bf16⟩
  | .local _ .vmem, ⟨22, _⟩ => ⟨S3x1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_5 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S3x512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S3x1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference9Ideal.lean ====
abbrev S8192x1024 : Shape := ⟨2, ![8192, 1024]⟩
abbrev S8192x12800 : Shape := ⟨2, ![8192, 12800]⟩
abbrev S3x1024 : Shape := ⟨2, ![3, 1024]⟩
abbrev S3x1024x1024 : Shape := ⟨3, ![3, 1024, 1024]⟩
abbrev S1024x1024 : Shape := ⟨2, ![1024, 1024]⟩
abbrev S2x4096x1024 : Shape := ⟨3, ![2, 4096, 1024]⟩
abbrev S2x4096x1x1024 : Shape := ⟨4, ![2, 4096, 1, 1024]⟩
abbrev S2x4096x3x1024 : Shape := ⟨4, ![2, 4096, 3, 1024]⟩
abbrev S8192x3072 : Shape := ⟨2, ![8192, 3072]⟩
abbrev S3x1024x2x4096 : Shape := ⟨4, ![3, 1024, 2, 4096]⟩
abbrev S1x1x3x1024 : Shape := ⟨4, ![1, 1, 3, 1024]⟩
abbrev S_ : Shape := ⟨0, ![]⟩
abbrev S8192x3x1024 : Shape := ⟨3, ![8192, 3, 1024]⟩
abbrev S3x8192x1024 : Shape := ⟨3, ![3, 8192, 1024]⟩
abbrev S3x1024x8192 : Shape := ⟨3, ![3, 1024, 8192]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x12800, .bf16⟩
  | .hbm, ⟨4, _⟩ => ⟨S3x1024, .f32⟩
  | .hbm, ⟨5, _⟩ => ⟨S3x1024x1024, .bf16⟩
  | .hbm, ⟨6, _⟩ => ⟨S1024x1024, .bf16⟩
  | .hbm, ⟨7, _⟩ => ⟨S8192x1024, .f32⟩
  | .hbm, ⟨8, _⟩ => ⟨S8192x1024, .f32⟩
  | .hbm, ⟨9, _⟩ => ⟨S2x4096x1024, .f32⟩
  | .hbm, ⟨10, _⟩ => ⟨S8192x1024, .f32⟩
  | .hbm, ⟨11, _⟩ => ⟨S2x4096x1024, .f32⟩
  | .hbm, ⟨12, _⟩ => ⟨S8192x1024, .f32⟩
  | .hbm, ⟨13, _⟩ => ⟨S2x4096x1024, .f32⟩
  | .hbm, ⟨14, _⟩ => ⟨S2x4096x1x1024, .f32⟩
  | .hbm, ⟨15, _⟩ => ⟨S2x4096x1x1024, .f32⟩
  | .hbm, ⟨16, _⟩ => ⟨S2x4096x1x1024, .f32⟩
  | .hbm, ⟨17, _⟩ => ⟨S2x4096x3x1024, .f32⟩
  | .hbm, ⟨18, _⟩ => ⟨S8192x3072, .bf16⟩
  | .hbm, ⟨19, _⟩ => ⟨S8192x3072, .f32⟩
  | .hbm, ⟨20, _⟩ => ⟨S3x1024x1024, .f32⟩
  | .hbm, ⟨21, _⟩ => ⟨S3x1024x2x4096, .f32⟩
  | .hbm, ⟨22, _⟩ => ⟨S2x4096x3x1024, .f32⟩
  | .hbm, ⟨23, _⟩ => ⟨S2x4096x3x1024, .f32⟩
  | .hbm, ⟨24, _⟩ => ⟨S1x1x3x1024, .f32⟩
  | .hbm, ⟨25, _⟩ => ⟨S2x4096x3x1024, .f32⟩
  | .hbm, ⟨26, _⟩ => ⟨S2x4096x3x1024, .f32⟩
  | .hbm, ⟨27, _⟩ => ⟨S2x4096x3x1024, .f32⟩
  | .hbm, ⟨28, _⟩ => ⟨S2x4096x3x1024, .f32⟩
  | .hbm, ⟨29, _⟩ => ⟨S_, .f32⟩
  | .hbm, ⟨30, _⟩ => ⟨S2x4096x3x1024, .f32⟩
  | .hbm, ⟨31, _⟩ => ⟨S2x4096x3x1024, .f32⟩
  | .hbm, ⟨32, _⟩ => ⟨S_, .f32⟩
  | .hbm, ⟨33, _⟩ => ⟨S2x4096x3x1024, .f32⟩
  | .hbm, ⟨34, _⟩ => ⟨S2x4096x3x1024, .f32⟩
  | .hbm, ⟨35, _⟩ => ⟨S2x4096x3x1024, .f32⟩
  | .hbm, ⟨36, _⟩ => ⟨S_, .f32⟩
  | .hbm, ⟨37, _⟩ => ⟨S2x4096x1024, .f32⟩
  | .hbm, ⟨38, _⟩ => ⟨S2x4096x1024, .f32⟩
  | .hbm, ⟨39, _⟩ => ⟨S1024x1024, .f32⟩
  | .hbm, ⟨40, _⟩ => ⟨S2x4096x1024, .f32⟩
  | .hbm, ⟨41, _⟩ => ⟨S2x4096x1024, .f32⟩
  | .hbm, ⟨42, _⟩ => ⟨S8192x1024, .f32⟩
  | .hbm, ⟨43, _⟩ => ⟨S8192x3x1024, .f32⟩
  | .hbm, ⟨44, _⟩ => ⟨S3x8192x1024, .f32⟩
  | .hbm, ⟨45, _⟩ => ⟨S3x8192x1024, .bf16⟩
  | .hbm, ⟨46, _⟩ => ⟨S8192x3x1024, .f32⟩
  | .hbm, ⟨47, _⟩ => ⟨S3x1024x8192, .f32⟩
  | .hbm, ⟨48, _⟩ => ⟨S3x1024x8192, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Proof.Body.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! # The gradient call's body, cut in two

A grid point of the kernel is one block of 512 keys. Its body has three stretches: at the first block of a
sequence it fills the scratch buffers; at every block it adds up the block's gradients (`mainP`); at the last block it
writes the query's gradients out of the scratch buffers (`finP`). The first two stretches are run one after the other, so
that what the second does is stated once, for any contents of the scratch buffers. -/

variable (i : grid0.Coords) (arg3 : Memref sig .tc .vmem S4096x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S1x2x8x1x512 .f32) (harg8 : arg8.IsWhole) (arg9 : Memref sig .tc .vmem S1x2x8x1x512 .f32) (harg9 : arg9.IsWhole) (arg10 : Memref sig .tc .vmem S4096x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x2x1x1x512 .f32) (harg13 : arg13.IsWhole) (arg14 : Memref sig .tc .vmem S1x2x1x4096 .f32) (harg14 : arg14.IsWhole) (arg15 : Memref sig .tc .vmem S4096x128 .f32) (harg15 : arg15.IsWhole) (arg16 : Memref sig .tc .vmem S2x4096x1 .f32) (harg16 : arg16.IsWhole) (arg17 : Memref sig .tc .vmem S2x4096x128 .bf16) (harg17 : arg17.IsWhole)

/-- What the body does at every block of keys, whatever the scratch buffers hold. -/
noncomputable def mainP : Prog (TpuEff nD τ sig (Elt F) Λ₀ .tc) PUnit := do
  let v6 : Vec F S512x128 .bf16 ← Prog.lift (.load arg4 (Rect.unit (s := S512x128) ![0, 0] S512x128.size inb_S512x128_S512x128_0_0).toLoadRect (View.loadsAt_vmem h_S512x128))
  let v7 : Vec F S512x128 .bf16 ← Prog.lift (.load arg5 (Rect.unit (s := S512x128) ![0, 0] S512x128.size inb_S512x128_S512x128_0_0).toLoadRect (View.loadsAt_vmem h_S512x128))
  let v17 : Vec F S1x1x1x1x512 .f32 ← Prog.lift (.load arg8 (Rect.unit (s := S1x2x8x1x512) (k0_off1 i) S1x1x1x1x512.size (k0_off1_inb i)).toLoadRect (View.loadsAt_vmem h_S1x1x1x1x512))
  let arg2 : BitVec 32 := BitVec.ofNat 32 (i 2).val
  have v30 : IVec S128x1 32 := iota .tc S128x1 32 [0] iota_S128x1_d0_w32
  let v2 := k0_pay196
  let v11 := k0_pay199 v6
  let v14 := k0_pay200 v6
  let v15 := k0_pay201 v6
  let v22 := k0_pay203 v17
  let v25 := k0_pay205 v17
  let v28 := k0_pay206 v17
  let v29 := k0_pay207 (F := F)
  let v38 := k0_pay208 (F := F)
  let c65_i32 := 65#32
  let ⟨v84, v87, cst_16⟩ ← k0_part38 i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v15 v22 v25 v28 v29 v30 v38 c65_i32
  let ⟨v97, v135, v139⟩ ← k0_part39 i arg3 harg3 arg4 harg4 arg5 harg5 arg6 harg6 arg7 harg7 arg8 harg8 arg9 harg9 arg10 harg10 arg11 harg11 arg12 harg12 arg13 harg13 arg14 harg14 arg15 harg15 arg16 harg16 arg17 harg17 v87 cst_16
  let ⟨v153, v154, v155, v156, v157, v159, v161, v163, v169, v170, v171, v174, v177, v186⟩ ← k0_part40 i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v2 v15 v97 v135 v139
  let ⟨v201, v215, v217, v219, v223, v226, v229⟩ ← k0_part41 i arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 v11 v84 v154 v155 v156 v157 v159 v161 v163 v170 v171 v174 v177 v186
  let ⟨v250, v264, v266, v271⟩ ← k0_part42 i arg3 harg3 arg4 harg4 arg5 harg5 arg6 harg6 arg7 harg7 arg8 harg8 arg9 harg9 arg10 harg10 arg11 harg11 arg12 harg12 arg13 harg13 arg14 harg14 arg15 harg15 arg16 harg16 arg17 harg17 v7 v14 v153 v154 v155 v157 v159 v169 v215 v217 v219 v223 v226 v229
  let v273 : Vec F S512x128 .f32 ← Prog.lift (.load arg15 (Rect.unit (s := S4096x128) (k0_off3 i) S512x128.size (k0_off3_inb i)).toLoadRect (View.loadsAt_vmem h_S512x128))
  Prog.lift (.store arg15 (Rect.unit (s := S4096x128) (k0_off3 i) S512x128.size (k0_off3_inb i)) (k0_pay247 v271) Finset.univ (View.stores_vmem_bits_univ h_S512x128 rfl) (.inl rfl))
  let v276 : BitVec 32 := Scalar.addi arg2 1#32
  let v277 : BitVec 32 := Scalar.subi 8#32 v276
  let v279 : BitVec 32 := Scalar.divsi v277 1#32
  let v280 : BitVec 32 := Scalar.muli v279 1#32
  let v281 : BitVec 32 := Scalar.addi v276 v280
  let (v282_0, v282_1, v282_2, v282_3) ← Scf.Loop.for (k0_t1_loop i) (k0_t1_ok i) (v266, v264, v201, v250) (k0_t1_body i arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 v11 v14 v84 v153 v276)
  let (v283_0, v283_1, v283_2, v283_3) ← Scf.Loop.for (k0_t2_loop i) (k0_t2_ok i) (v282_0, v282_1, v282_2, v282_3) (k0_t2_body i arg3 harg3 arg4 harg4 arg5 harg5 arg6 harg6 arg7 harg7 arg8 harg8 arg9 harg9 arg10 harg10 arg11 harg11 arg12 harg12 arg13 harg13 arg14 harg14 arg15 harg15 arg16 harg16 arg17 harg17 v2 v7 v11 v14 v84 v153 v281)
  let v287 : Vec F S512x128 .bf16 ← Prog.lift (.load arg11 (Rect.unit (s := S512x128) ![0, 0] S512x128.size inb_S512x128_S512x128_0_0).toLoadRect (View.loadsAt_vmem h_S512x128))
  Prog.lift (.store arg11 (Rect.unit (s := S512x128) ![0, 0] S512x128.size inb_S512x128_S512x128_0_0) (k0_pay258 v283_0) Finset.univ (View.stores_vmem h_S512x128 (harg11.storeExact_slice rfl _ packedbf16_S512x128_S512x128_0_0) (fun _ => rfl)) (.inl rfl))
  let v289 : Vec F S512x128 .bf16 ← Prog.lift (.load arg12 (Rect.unit (s := S512x128) ![0, 0] S512x128.size inb_S512x128_S512x128_0_0).toLoadRect (View.loadsAt_vmem h_S512x128))
  Prog.lift (.store arg12 (Rect.unit (s := S512x128) ![0, 0] S512x128.size inb_S512x128_S512x128_0_0) (k0_pay259 v283_1) Finset.univ (View.stores_vmem h_S512x128 (harg12.storeExact_slice rfl _ packedbf16_S512x128_S512x128_0_0) (fun _ => rfl)) (.inl rfl))
  let v290 : Vec F S1x1x1x1x512 .f32 ← Prog.lift (.load arg13 (Rect.unit (s := S1x2x1x1x512) ![0, 0, 0, 0, 0] S1x1x1x1x512.size inb_S1x2x1x1x512_S1x1x1x1x512_0_0_0_0_0).toLoadRect (View.loadsAt_vmem h_S1x1x1x1x512))
  Prog.lift (.store arg13 (Rect.unit (s := S1x2x1x1x512) ![0, 0, 0, 0, 0] S1x1x1x1x512.size inb_S1x2x1x1x512_S1x1x1x1x512_0_0_0_0_0) (k0_pay260 v283_2) Finset.univ (View.stores_vmem_bits_univ h_S1x1x1x1x512 rfl) (.inl rfl))
  let v293 : Vec F S1x1x1x1x512 .f32 ← Prog.lift (.load arg13 (Rect.unit (s := S1x2x1x1x512) ![0, 1, 0, 0, 0] S1x1x1x1x512.size inb_S1x2x1x1x512_S1x1x1x1x512_0_1_0_0_0).toLoadRect (View.loadsAt_vmem h_S1x1x1x1x512))
  Prog.lift (.store arg13 (Rect.unit (s := S1x2x1x1x512) ![0, 1, 0, 0, 0] S1x1x1x1x512.size inb_S1x2x1x1x512_S1x1x1x1x512_0_1_0_0_0) (k0_pay261 v283_3) Finset.univ (View.stores_vmem_bits_univ h_S1x1x1x1x512 rfl) (.inl rfl))
  pure ⟨⟩

/-- What the body does last at the last block of keys: the query's gradients, out of the scratch buffers. -/
noncomputable def finP : Prog (TpuEff nD τ sig (Elt F) Λ₀ .tc) PUnit := do
  let v327 : FVec F S1x512 .f32 ← k0_part33 i arg3 harg3 arg4 harg4 arg5 harg5 arg6 harg6 arg7 harg7 arg8 harg8 arg9 harg9 arg10 harg10 arg11 harg11 arg12 harg12 arg13 harg13 arg14 harg14 arg15 harg15 arg16 harg16 arg17 harg17
  let v361 : FVec F S512x128 .f32 ← k0_part34 i arg3 harg3 arg4 harg4 arg5 harg5 arg6 harg6 arg7 harg7 arg8 harg8 arg9 harg9 arg10 harg10 arg11 harg11 arg12 harg12 arg13 harg13 arg14 harg14 arg15 harg15 arg16 harg16 arg17 harg17 v327
  let v393 : FVec F S1x1x1x512 .f32 ← k0_part35 i arg3 harg3 arg4 harg4 arg5 harg5 arg6 harg6 arg7 harg7 arg8 harg8 arg9 harg9 arg10 harg10 arg11 harg11 arg12 harg12 arg13 harg13 arg14 harg14 arg15 harg15 arg16 harg16 arg17 harg17 v361
  let v425 : FVec F S128x512 .f32 ← k0_part36 i arg3 harg3 arg4 harg4 arg5 harg5 arg6 harg6 arg7 harg7 arg8 harg8 arg9 harg9 arg10 harg10 arg11 harg11 arg12 harg12 arg13 harg13 arg14 harg14 arg15 harg15 arg16 harg16 arg17 harg17 v393
  let v427 : Vec F S1x1x1x512 .f32 ← Prog.lift (.load arg14 (Rect.unit (s := S1x2x1x4096) ![0, 1, 0, 2560] S1x1x1x512.size inb_S1x2x1x4096_S1x1x1x512_0_1_0_2560).toLoadRect (View.loadsAt_vmem h_S1x1x1x512))
  Prog.lift (.store arg14 (Rect.unit (s := S1x2x1x4096) ![0, 1, 0, 2560] S1x1x1x512.size inb_S1x2x1x4096_S1x1x1x512_0_1_0_2560) (k0_pay1 v425) Finset.univ (View.stores_vmem_bits_univ h_S1x1x1x512 rfl) (.inl rfl))
  let v430 : Vec F S1x512x1 .f32 ← Prog.lift (.load arg16 (Rect.unit (s := S2x4096x1) ![1, 3072, 0] S1x512x1.size inb_S2x4096x1_S1x512x1_1_3072_0).toLoadRect (View.loadsAt_vmem h_S1x512x1))
  let v436 : Vec F S1x1x1x512 .f32 ← Prog.lift (.load arg14 (Rect.unit (s := S1x2x1x4096) ![0, 1, 0, 3072] S1x1x1x512.size inb_S1x2x1x4096_S1x1x1x512_0_1_0_3072).toLoadRect (View.loadsAt_vmem h_S1x1x1x512))
  Prog.lift (.store arg14 (Rect.unit (s := S1x2x1x4096) ![0, 1, 0, 3072] S1x1x1x512.size inb_S1x2x1x4096_S1x1x1x512_0_1_0_3072) (k0_pay2 v430) Finset.univ (View.stores_vmem_bits_univ h_S1x1x1x512 rfl) (.inl rfl))
  let v439 : Vec F S1x512x1 .f32 ← Prog.lift (.load arg16 (Rect.unit (s := S2x4096x1) ![1, 3584, 0] S1x512x1.size inb_S2x4096x1_S1x512x1_1_3584_0).toLoadRect (View.loadsAt_vmem h_S1x512x1))
  let v445 : Vec F S1x1x1x512 .f32 ← Prog.lift (.load arg14 (Rect.unit (s := S1x2x1x4096) ![0, 1, 0, 3584] S1x1x1x512.size inb_S1x2x1x4096_S1x1x1x512_0_1_0_3584).toLoadRect (View.loadsAt_vmem h_S1x1x1x512))
  Prog.lift (.store arg14 (Rect.unit (s := S1x2x1x4096) ![0, 1, 0, 3584] S1x1x1x512.size inb_S1x2x1x4096_S1x1x1x512_0_1_0_3584) (k0_pay3 v439) Finset.univ (View.stores_vmem_bits_univ h_S1x1x1x512 rfl) (.inl rfl))
  pure ⟨⟩

/-- The first condition of the body: the first block of keys of a sequence. -/
abbrev cond0 (i : grid0.Coords) : Prop := Scalar.cmpi .ne (Scalar.extui (Scalar.cmpi .eq (BitVec.ofNat 32 (i 2).val) 0#32)) 0#32 = 1#1

/-- The body between the first and the last block of keys. -/
theorem body_B (h0 : ¬cond0 i) (h1 : ¬k0_cond2 i = 1#1) :
    cc0_fox_bwd_1 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 = mainP i arg3 harg3 arg4 harg4 arg5 harg5 arg6 harg6 arg7 harg7 arg8 harg8 arg9 harg9 arg10 harg10 arg11 harg11 arg12 harg12 arg13 harg13 arg14 harg14 arg15 harg15 arg16 harg16 arg17 harg17 := by
  rw [cc0_fox_bwd_1_eq_skeleton]; unfold cc0_fox_bwd_1_skel mainP
  rw [k0_part43_eq_skeleton]; unfold k0_part43_skel
  rw [k0_part37_eq_skeleton]; unfold k0_part37_skel
  simp only [dif_neg h0, dif_neg h1, bind_assoc, pure_bind]

/-- The body at the last block of keys. -/
theorem body_C (h0 : ¬cond0 i) (h1 : k0_cond2 i = 1#1) :
    cc0_fox_bwd_1 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 = (do mainP i arg3 harg3 arg4 harg4 arg5 harg5 arg6 harg6 arg7 harg7 arg8 harg8 arg9 harg9 arg10 harg10 arg11 harg11 arg12 harg12 arg13 harg13 arg14 harg14 arg15 harg15 arg16 harg16 arg17 harg17; finP i arg3 harg3 arg4 harg4 arg5 harg5 arg6 harg6 arg7 harg7 arg8 harg8 arg9 harg9 arg10 harg10 arg11 harg11 arg12 harg12 arg13 harg13 arg14 harg14 arg15 harg15 arg16 harg16 arg17 harg17) := by
  rw [cc0_fox_bwd_1_eq_skeleton]; unfold cc0_fox_bwd_1_skel mainP finP
  rw [k0_part43_eq_skeleton]; unfold k0_part43_skel
  rw [k0_part37_eq_skeleton]; unfold k0_part37_skel
  simp only [dif_neg h0, dif_pos h1, bind_assoc, pure_bind]

end Cert.KernelIdeal.Fox

end
-- ==== Proof.Runs.lean ====
module

public import proofs.«01_k».proof.Proof.Body

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (c : Dev nD) (i : grid0.Coords) (arg3 : Memref sig .tc .vmem S4096x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S1x2x8x1x512 .f32) (harg8 : arg8.IsWhole) (arg9 : Memref sig .tc .vmem S1x2x8x1x512 .f32) (harg9 : arg9.IsWhole) (arg10 : Memref sig .tc .vmem S4096x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x2x1x1x512 .f32) (harg13 : arg13.IsWhole) (arg14 : Memref sig .tc .vmem S1x2x1x4096 .f32) (harg14 : arg14.IsWhole) (arg15 : Memref sig .tc .vmem S4096x128 .f32) (harg15 : arg15.IsWhole) (arg16 : Memref sig .tc .vmem S2x4096x1 .f32) (harg16 : arg16.IsWhole) (arg17 : Memref sig .tc .vmem S2x4096x128 .bf16) (harg17 : arg17.IsWhole)

set_option maxHeartbeats 4000000 in
/-- The block of keys run on any scratch contents: what it stores into the three blocks of the key side (as pieces), what it leaves in
the two running sums. -/
@[irreducible] noncomputable def mainRun (x3 : Vec F S4096x128 .bf16) (x4 : Vec F S512x128 .bf16) (x5 : Vec F S512x128 .bf16) (x6 : Vec F S4096x128 .bf16) (x7 : Vec F S4096x128 .bf16) (x8 : Vec F S1x2x8x1x512 .f32) (x17 : Vec F S2x4096x128 .bf16) (x15 : Vec F S4096x128 .f32) (x16 : Vec F S2x4096x1 .f32) :
    Σ' (L11 : List (View.Piece (Elt F) S512x128 .bf16)), Σ' (L12 : List (View.Piece (Elt F) S512x128 .bf16)), Σ' (L13 : List (View.Piece (Elt F) S1x2x1x1x512 .f32)), Σ' (C15 : BufTy.Contents (Elt F) arg15.view.ty), { C16 : BufTy.Contents (Elt F) arg16.view.ty //
      ∀ (E : Set ℕ) (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg17 fullShare x17 ∗ (∃ d, owns (c : Thread nD τ) arg11 fullShare d) ∗ (∃ d, owns (c : Thread nD τ) arg12 fullShare d) ∗ (∃ d, owns (c : Thread nD τ) arg13 fullShare d) ∗ owns (c : Thread nD τ) arg15 fullShare x15 ∗ owns (c : Thread nD τ) arg16 fullShare x16
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg17 fullShare x17 ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (arg15.view.loc (c : Thread nD τ) ↦[arg15.view.set]{fullShare} C15) ∗ (arg16.view.loc (c : Thread nD τ) ↦[arg16.view.set]{fullShare} C16)) -∗ K ⟨⟩))
          ⊢ wp frame (wpE (defs₀ (F := F)) Variants.none c none) E (mainP i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, fun E K => ?run⟩
  case run =>
    unfold mainP
    simp only [k0_part38_eq_skeleton, k0_part39_eq_skeleton, k0_part40_eq_skeleton, k0_part41_eq_skeleton, k0_part42_eq_skeleton]
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f17, %hf17, H17⟩, ⟨%d11, %f11, -, H11⟩, ⟨%d12, %f12, -, H12⟩, ⟨%d13, %f13, -, H13⟩, ⟨%f15, %hf15, H15⟩, ⟨%f16, %hf16, H16⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg17.eq_unread hf17; obtain rfl := harg15.eq_unread hf15; obtain rfl := harg16.eq_unread hf16
    sl_exec
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H17]
    · iexists _; isplitr; · ipureintro; exact harg17.read_unread _
      iexact H17
    isplitl [H11]; · iexists _; iexact H11
    isplitl [H12]; · iexists _; iexact H12
    isplitl [H13]; · iexists _; iexact H13
    isplitl [H15]; · iexact H15
    iexact H16

set_option maxHeartbeats 4000000 in
/-- The last stretch run on any scratch contents: what it stores into the query side's blocks. -/
@[irreducible] noncomputable def finRun (x15 : Vec F S4096x128 .f32) (x16 : Vec F S2x4096x1 .f32) :
    Σ' (L10 : List (View.Piece (Elt F) S4096x128 .bf16)), { L14 : List (View.Piece (Elt F) S1x2x1x4096 .f32) //
      ∀ (E : Set ℕ) (K : PUnit → sProp 𝕄),
        iprop(owns (c : Thread nD τ) arg15 fullShare x15 ∗ owns (c : Thread nD τ) arg16 fullShare x16 ∗ (∃ d, owns (c : Thread nD τ) arg10 fullShare d) ∗ (∃ d, owns (c : Thread nD τ) arg14 fullShare d)
            ∗ (iprop(owns (c : Thread nD τ) arg15 fullShare x15 ∗ owns (c : Thread nD τ) arg16 fullShare x16 ∗ (∃ f, arg10.view.loc (c : Thread nD τ) ↦[arg10.view.set]{fullShare} arg10.view.writes (Elt F) f L10) ∗ (∃ f, arg14.view.loc (c : Thread nD τ) ↦[arg14.view.set]{fullShare} arg14.view.writes (Elt F) f L14)) -∗ K ⟨⟩))
          ⊢ wp frame (wpE (defs₀ (F := F)) Variants.none c none) E (finP i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, fun E K => ?run⟩
  case run =>
    unfold finP
    simp only [k0_part33_eq_skeleton, k0_part34_eq_skeleton, k0_part35_eq_skeleton, k0_part36_eq_skeleton]
    unfold owns
    iintro ⟨⟨%f15, %hf15, H15⟩, ⟨%f16, %hf16, H16⟩, ⟨%d10, %f10, -, H10⟩, ⟨%d14, %f14, -, H14⟩, Hk⟩
    obtain rfl := harg15.eq_unread hf15; obtain rfl := harg16.eq_unread hf16
    sl_exec
    sl_step
    iapply Hk
    isplitl [H15]
    · iexists _; isplitr; · ipureintro; exact harg15.read_unread _
      iexact H15
    isplitl [H16]
    · iexists _; isplitr; · ipureintro; exact harg16.read_unread _
      iexact H16
    isplitl [H10]; · iexists _; iexact H10
    iexists _; iexact H14

end Cert.KernelIdeal.Fox

end
-- ==== Proof.RunInit.lean ====
module

public import proofs.«01_k».proof.Proof.Body

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (c : Dev nD) (i : grid0.Coords) (arg3 : Memref sig .tc .vmem S4096x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S1x2x8x1x512 .f32) (harg8 : arg8.IsWhole) (arg9 : Memref sig .tc .vmem S1x2x8x1x512 .f32) (harg9 : arg9.IsWhole) (arg10 : Memref sig .tc .vmem S4096x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x2x1x1x512 .f32) (harg13 : arg13.IsWhole) (arg14 : Memref sig .tc .vmem S1x2x1x4096 .f32) (harg14 : arg14.IsWhole) (arg15 : Memref sig .tc .vmem S4096x128 .f32) (harg15 : arg15.IsWhole) (arg16 : Memref sig .tc .vmem S2x4096x1 .f32) (harg16 : arg16.IsWhole) (arg17 : Memref sig .tc .vmem S2x4096x128 .bf16) (harg17 : arg17.IsWhole)

set_option maxHeartbeats 4000000 in
/-- The first stretch, at the first block of keys of a sequence: what it stores into the scratch buffers. The body goes on as at any
other block (`mainP`). -/
@[irreducible] noncomputable def initRun (h0 : cond0 i) (h1 : ¬k0_cond2 i = 1#1) (x3 : Vec F S4096x128 .bf16) (x8 : Vec F S1x2x8x1x512 .f32) (x9 : Vec F S1x2x8x1x512 .f32) :
    Σ' (L15 : List (View.Piece (Elt F) S4096x128 .f32)), Σ' (L16 : List (View.Piece (Elt F) S2x4096x1 .f32)), { L17 : List (View.Piece (Elt F) S2x4096x128 .bf16) //
      ∀ (E : Set ℕ) (K : PUnit → sProp 𝕄),
        iprop(owns (c : Thread nD τ) arg3 fullShare x3 ∗ owns (c : Thread nD τ) arg8 fullShare x8 ∗ owns (c : Thread nD τ) arg9 fullShare x9 ∗ (∃ d, owns (c : Thread nD τ) arg15 fullShare d) ∗ (∃ d, owns (c : Thread nD τ) arg16 fullShare d) ∗ (∃ d, owns (c : Thread nD τ) arg17 fullShare d)
            ∗ (iprop(owns (c : Thread nD τ) arg3 fullShare x3 ∗ owns (c : Thread nD τ) arg8 fullShare x8 ∗ owns (c : Thread nD τ) arg9 fullShare x9 ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17)) -∗ wp frame (wpE (defs₀ (F := F)) Variants.none c none) E (mainP i arg3 harg3 arg4 harg4 arg5 harg5 arg6 harg6 arg7 harg7 arg8 harg8 arg9 harg9 arg10 harg10 arg11 harg11 arg12 harg12 arg13 harg13 arg14 harg14 arg15 harg15 arg16 harg16 arg17 harg17) K))
          ⊢ wp frame (wpE (defs₀ (F := F)) Variants.none c none) E (cc0_fox_bwd_1 i arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    rw [cc0_fox_bwd_1_eq_skeleton]; unfold cc0_fox_bwd_1_skel
    rw [k0_part43_eq_skeleton]; unfold k0_part43_skel
    rw [k0_part37_eq_skeleton]; unfold k0_part37_skel
    simp only [dif_pos (show Scalar.cmpi .ne (Scalar.extui (Scalar.cmpi .eq (BitVec.ofNat 32 (i 2).val) 0#32)) 0#32 = 1#1 from h0), dif_neg h1, bind_assoc, pure_bind]
    unfold mainP
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f3, %hf3, H3⟩, ⟨%f8, %hf8, H8⟩, ⟨%f9, %hf9, H9⟩, ⟨%d15, %f15, -, H15⟩, ⟨%d16, %f16, -, H16⟩, ⟨%d17, %f17, -, H17⟩, Hk⟩
    obtain rfl := harg3.eq_unread hf3; obtain rfl := harg8.eq_unread hf8; obtain rfl := harg9.eq_unread hf9
    sl_exec
    iapply Hk
    isplitl [H3]
    · iexists _; isplitr; · ipureintro; exact harg3.read_unread _
      iexact H3
    isplitl [H8]
    · iexists _; isplitr; · ipureintro; exact harg8.read_unread _
      iexact H8
    isplitl [H9]
    · iexists _; isplitr; · ipureintro; exact harg9.read_unread _
      iexact H9
    isplitl [H15]; · iexists _; iexact H15
    isplitl [H16]; · iexists _; iexact H16
    iexists _; iexact H17

end Cert.KernelIdeal.Fox

end
-- ==== Proof.FoxFrame.lean ====
module

public import proofs.«01_k».proof.Proof.Gen.KernelIdeal.Frame
public import proofs.«01_k».proof.Proof.Runs
public import proofs.«01_k».proof.Proof.RunInit
public import Idealize.ShloMosaic.Lib.Claim

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The points of the grid -/

/-- The first condition holds at the points ≡ 0 (mod 8). -/
theorem hcond0 : ∀ t : Fin cfg0.N, cond0 (grid0.coords t) ↔ t.val % 8 = 0 :=
  (fun t => by
    have ht : t.val < 128 := Nat.lt_of_lt_of_eq t.isLt N_0
    have e2 : (grid0.coords t 2).val = t.val / 1 % 8 := Pipeline.Grid.coords_val t 2 (by decide) rfl
    simp only [cond0, e2]
    word_cmp
   : ∀ t : Fin grid0.N, cond0 (grid0.coords t) ↔ t.val % 8 = 0)
/-- The last condition holds at the points ≡ 7 (mod 8). -/
theorem hcond1 : ∀ t : Fin cfg0.N, k0_cond2 (grid0.coords t) = 1#1 ↔ t.val % 8 = 7 :=
  (fun t => by
    have ht : t.val < 128 := Nat.lt_of_lt_of_eq t.isLt N_0
    have e2 : (grid0.coords t 2).val = t.val / 1 % 8 := Pipeline.Grid.coords_val t 2 (by decide) rfl
    simp only [k0_cond2, e2]
    word_cmp
   : ∀ t : Fin grid0.N, k0_cond2 (grid0.coords t) = 1#1 ↔ t.val % 8 = 7)

/-- The query side's results are left alone until the last block of keys. -/
theorem idle7 : ∀ t : Fin cfg0.N, ¬t.val % 8 = 7 → cfg0.idle 7 (grid0.coords t) = true ∧ cfg0.idle 11 (grid0.coords t) = true := by decide +kernel
theorem noFlush7 : ∀ t : Fin cfg0.N, ¬t.val % 8 = 7 → (cfg0.win 7).flush t = false ∧ (cfg0.win 11).flush t = false := fun t h =>
  ⟨Bool.eq_false_iff.mpr fun hf => h ((flush0_7 t).mp hf), Bool.eq_false_iff.mpr fun hf => h ((flush0_11 t).mp hf)⟩
theorem live7 : ∀ t : Fin cfg0.N, t.val % 8 = 7 → cfg0.idle 7 (grid0.coords t) = false ∧ cfg0.idle 11 (grid0.coords t) = false := by decide +kernel

abbrev ms0_0 (t : Fin cfg0.N) : Memref sig .tc .vmem S4096x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S4096x128 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x8x1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2x8x1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4096x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2x1x1x512 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x2x1x4096 .f32 := win0_11.stage (cfg0.slots t 11)
abbrev hs0_11 (t : Fin cfg0.N) : (ms0_11 t).IsWhole := hstage0_11 ((cfg0.slots t 11).cast nbuf0_11)
abbrev sc0 : Memref sig .tc .vmem S4096x128 .f32 := Memref.whole cc0_scratch0
abbrev hsc0 : sc0.IsWhole := Memref.isWhole_whole _
abbrev sc1 : Memref sig .tc .vmem S2x4096x1 .f32 := Memref.whole cc0_scratch1
abbrev hsc1 : sc1.IsWhole := Memref.isWhole_whole _
abbrev sc2 : Memref sig .tc .vmem S2x4096x128 .bf16 := Memref.whole cc0_scratch2
abbrev hsc2 : sc2.IsWhole := Memref.isWhole_whole _

/-- The scratch buffers' contents: the two running sums of the query side, and the scaled queries with their biases. -/
abbrev St (F : FTy → Type) : Type := Vec F S4096x128 .f32 × Vec F S2x4096x1 .f32 × Vec F S2x4096x128 .bf16

/-- The first stretch at point `t`. -/
abbrev initAt (c : Dev nD) (t : Fin cfg0.N) (h : t.val % 8 = 0) :=
  initRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) sc0 hsc0 sc1 hsc1 sc2 hsc2 ((hcond0 t).mpr h) (fun h1 => by have := (hcond1 t).mp h1; omega) (iblk m c 0 t) (iblk m c 5 t) (iblk m c 6 t)
/-- The second stretch at point `t`, on scratch contents `s`. -/
abbrev mainAt (c : Dev nD) (t : Fin cfg0.N) (s : St F) :=
  mainRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) sc0 hsc0 sc1 hsc1 sc2 hsc2 (iblk m c 0 t) (iblk m c 1 t) (iblk m c 2 t) (iblk m c 3 t) (iblk m c 4 t) (iblk m c 5 t) s.2.2 s.1 s.2.1
/-- The last stretch at point `t`, on scratch contents `s`. -/
abbrev finAt (c : Dev nD) (t : Fin cfg0.N) (s : St F) := finRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) sc0 hsc0 sc1 hsc1 sc2 hsc2 s.1 s.2.1

/-! ## What the stretches leave -/

/-- The three scratch buffers after the first stretch. -/
def init0 (c : Dev nD) (t : Fin cfg0.N) (h : t.val % 8 = 0) : Vec F S4096x128 .f32 := sc0.view.read (Elt F) (sc0.view.writes (Elt F) sc0.view.junk (initAt m c t h).1)
def init1 (c : Dev nD) (t : Fin cfg0.N) (h : t.val % 8 = 0) : Vec F S2x4096x1 .f32 := sc1.view.read (Elt F) (sc1.view.writes (Elt F) sc1.view.junk (initAt m c t h).2.1)
def init2 (c : Dev nD) (t : Fin cfg0.N) (h : t.val % 8 = 0) : Vec F S2x4096x128 .bf16 := sc2.view.read (Elt F) (sc2.view.writes (Elt F) sc2.view.junk (initAt m c t h).2.2.1)
def stInit (c : Dev nD) (t : Fin cfg0.N) (h : t.val % 8 = 0) : St F := (init0 m c t h, init1 m c t h, init2 m c t h)
/-- The scratch buffers after the second stretch. -/
def stMain (c : Dev nD) (t : Fin cfg0.N) (s : St F) : St F :=
  (sc0.view.read (Elt F) (mainAt m c t s).2.2.2.1, sc1.view.read (Elt F) (mainAt m c t s).2.2.2.2.1, s.2.2)
/-- The key's gradient, -/
def out8 (c : Dev nD) (t : Fin cfg0.N) (s : St F) : Vec F S512x128 .bf16 := (ms0_8 t).view.read (Elt F) ((ms0_8 t).view.writes (Elt F) (ms0_8 t).view.junk (mainAt m c t s).1)
/-- the value's, -/
def out9 (c : Dev nD) (t : Fin cfg0.N) (s : St F) : Vec F S512x128 .bf16 := (ms0_9 t).view.read (Elt F) ((ms0_9 t).view.writes (Elt F) (ms0_9 t).view.junk (mainAt m c t s).2.1)
/-- and the bias's on the key side. -/
def out10 (c : Dev nD) (t : Fin cfg0.N) (s : St F) : Vec F S1x2x1x1x512 .f32 := (ms0_10 t).view.read (Elt F) ((ms0_10 t).view.writes (Elt F) (ms0_10 t).view.junk (mainAt m c t s).2.2.1)
/-- The query's gradient, -/
def out7 (c : Dev nD) (t : Fin cfg0.N) (s : St F) : Vec F S4096x128 .bf16 := (ms0_7 t).view.read (Elt F) ((ms0_7 t).view.writes (Elt F) (ms0_7 t).view.junk (finAt c t s).1)
/-- and the bias's on the query side. -/
def out11 (c : Dev nD) (t : Fin cfg0.N) (s : St F) : Vec F S1x2x1x4096 .f32 := (ms0_11 t).view.read (Elt F) ((ms0_11 t).view.writes (Elt F) (ms0_11 t).view.junk (finAt c t s).2.1)

section
variable (c : Dev nD) (i : grid0.Coords) (arg3 : Memref sig .tc .vmem S4096x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S1x2x8x1x512 .f32) (harg8 : arg8.IsWhole) (arg9 : Memref sig .tc .vmem S1x2x8x1x512 .f32) (harg9 : arg9.IsWhole) (arg10 : Memref sig .tc .vmem S4096x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x2x1x1x512 .f32) (harg13 : arg13.IsWhole) (arg14 : Memref sig .tc .vmem S1x2x1x4096 .f32) (harg14 : arg14.IsWhole) (arg15 : Memref sig .tc .vmem S4096x128 .f32) (harg15 : arg15.IsWhole) (arg16 : Memref sig .tc .vmem S2x4096x1 .f32) (harg16 : arg16.IsWhole) (arg17 : Memref sig .tc .vmem S2x4096x128 .bf16) (harg17 : arg17.IsWhole) (hc0 : cond0 i) (hc1 : ¬k0_cond2 i = 1#1) (x3 : Vec F S4096x128 .bf16) (x8 : Vec F S1x2x8x1x512 .f32) (x9 : Vec F S1x2x8x1x512 .f32)
theorem icover15  (y : S4096x128.Idx) : ∃ pc ∈ (initRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x3 x8 x9).1, y ∈ pc.1.set :=
  View.cover_of_tiledL (initRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x3 x8 x9).1 S4096x128.size (by sl_kernel_rfl) y
theorem icover16  (y : S2x4096x1.Idx) : ∃ pc ∈ (initRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x3 x8 x9).2.1, y ∈ pc.1.set :=
  View.cover_of_tiledL (initRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x3 x8 x9).2.1 S2x4096x1.size (by sl_kernel_rfl) y
theorem icover17  (y : S2x4096x128.Idx) : ∃ pc ∈ (initRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x3 x8 x9).2.2.1, y ∈ pc.1.set :=
  View.cover_of_tiledL (initRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x3 x8 x9).2.2.1 S1x512x128.size (by sl_kernel_rfl) y
end
section
variable (c : Dev nD) (i : grid0.Coords) (arg3 : Memref sig .tc .vmem S4096x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S1x2x8x1x512 .f32) (harg8 : arg8.IsWhole) (arg9 : Memref sig .tc .vmem S1x2x8x1x512 .f32) (harg9 : arg9.IsWhole) (arg10 : Memref sig .tc .vmem S4096x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x2x1x1x512 .f32) (harg13 : arg13.IsWhole) (arg14 : Memref sig .tc .vmem S1x2x1x4096 .f32) (harg14 : arg14.IsWhole) (arg15 : Memref sig .tc .vmem S4096x128 .f32) (harg15 : arg15.IsWhole) (arg16 : Memref sig .tc .vmem S2x4096x1 .f32) (harg16 : arg16.IsWhole) (arg17 : Memref sig .tc .vmem S2x4096x128 .bf16) (harg17 : arg17.IsWhole) (x3 : Vec F S4096x128 .bf16) (x4 : Vec F S512x128 .bf16) (x5 : Vec F S512x128 .bf16) (x6 : Vec F S4096x128 .bf16) (x7 : Vec F S4096x128 .bf16) (x8 : Vec F S1x2x8x1x512 .f32) (x17 : Vec F S2x4096x128 .bf16) (x15 : Vec F S4096x128 .f32) (x16 : Vec F S2x4096x1 .f32)
theorem mcover11  (y : S512x128.Idx) : ∃ pc ∈ (mainRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x17 x15 x16).1, y ∈ pc.1.set :=
  View.cover_of_tiledL (mainRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x17 x15 x16).1 S512x128.size (by sl_kernel_rfl) y
theorem mcover12  (y : S512x128.Idx) : ∃ pc ∈ (mainRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x17 x15 x16).2.1, y ∈ pc.1.set :=
  View.cover_of_tiledL (mainRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x17 x15 x16).2.1 S512x128.size (by sl_kernel_rfl) y
theorem mcover13  (y : S1x2x1x1x512.Idx) : ∃ pc ∈ (mainRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x17 x15 x16).2.2.1, y ∈ pc.1.set :=
  View.cover_of_tiledL (mainRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x17 x15 x16).2.2.1 S1x1x1x1x512.size (by sl_kernel_rfl) y
theorem fcover10  (y : S4096x128.Idx) : ∃ pc ∈ (finRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 x15 x16).1, y ∈ pc.1.set :=
  View.cover_of_tiledL (finRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 x15 x16).1 S4096x128.size (by sl_kernel_rfl) y
theorem fcover14  (y : S1x2x1x4096.Idx) : ∃ pc ∈ (finRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 x15 x16).2.1, y ∈ pc.1.set :=
  View.cover_of_tiledL (finRun (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 x15 x16).2.1 S1x1x1x512.size (by sl_kernel_rfl) y
end

/-! ## The scratch buffers, point by point -/

/-- What the scratch buffers hold when the second stretch starts at position `n`, given what they held before the point. -/
def stPre (c : Dev nD) (t : Fin cfg0.N) (s : St F) : St F := if h : t.val % 8 = 0 then stInit m c t h else s

/-- What they hold after position `n`. -/
def stAt (c : Dev nD) : (n : ℕ) → n < cfg0.N → St F
  | 0, hn => stMain m c ⟨0, hn⟩ (stInit m c ⟨0, hn⟩ (Nat.zero_mod _))
  | n + 1, hn => stMain m c ⟨n + 1, hn⟩ (stPre m c ⟨n + 1, hn⟩ (stAt c n (Nat.lt_of_succ_lt hn)))

/-- What they hold when the second stretch starts at point `t`. -/
def stIn (c : Dev nD) (t : Fin cfg0.N) : St F :=
  if h : t.val % 8 = 0 then stInit m c t h else stAt m c (t.val - 1) (Nat.lt_of_le_of_lt (Nat.sub_le _ _) t.isLt)

theorem stAt_eq (c : Dev nD) (t : Fin cfg0.N) : stAt m c t.val t.isLt = stMain m c t (stIn m c t) := by
  obtain ⟨n, hn⟩ := t
  cases n with
  | zero => exact rfl
  | succ n => exact rfl

theorem stIn_init (c : Dev nD) (t : Fin cfg0.N) (h : t.val % 8 = 0) : stIn m c t = stInit m c t h := dif_pos h
theorem stIn_next (c : Dev nD) (t : Fin cfg0.N) (h : ¬t.val % 8 = 0) :
    stIn m c t = stAt m c (t.val - 1) (Nat.lt_of_le_of_lt (Nat.sub_le _ _) t.isLt) := dif_neg h

/-- The region invariant's scratch part before the first point: anything. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The region invariant before position `n`: the scratch buffers at what the point before left in them. -/
def PhiS (c : Dev nD) : (n : ℕ) → n ≤ cfg0.N → sProp 𝕄
  | 0, _ => Pipeline.ΦA spec0 c
  | n + 1, hn => iprop(iprop(owns (c : Thread nD τ) sc0 fullShare (stAt m c n hn).1 ∗ owns (c : Thread nD τ) sc1 fullShare (stAt m c n hn).2.1 ∗ owns (c : Thread nD τ) sc2 fullShare (stAt m c n hn).2.2) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) sc0 fullShare (stAt m c n hn).1 ∗ owns (c : Thread nD τ) sc1 fullShare (stAt m c n hn).2.1 ∗ owns (c : Thread nD τ) sc2 fullShare (stAt m c n hn).2.2) ∗ (∃ r, prngReg c r)) := rfl
theorem PhiS_pos (c : Dev nD) (n : ℕ) (h : n ≤ cfg0.N) (hz : n ≠ 0) :
    PhiS m c n h = iprop(iprop(owns (c : Thread nD τ) sc0 fullShare (stAt m c (n - 1) (by omega)).1 ∗ owns (c : Thread nD τ) sc1 fullShare (stAt m c (n - 1) (by omega)).2.1 ∗ owns (c : Thread nD τ) sc2 fullShare (stAt m c (n - 1) (by omega)).2.2) ∗ (∃ r, prngReg c r)) := by
  cases n with
  | zero => exact absurd rfl hz
  | succ n => rfl
/-- Before any point the scratch buffers hold something. -/
theorem PhiS_any (c : Dev nD) (n : ℕ) (h : n ≤ cfg0.N) : PhiS m c n h ⊢ Pipeline.ΦA spec0 c := by
  by_cases hz : n = 0
  · rw [PhiS_zero m c n h hz]
    try exact Idealize.SL.BI.Entails.refl _
  · rw [PhiS_pos m c n h hz, PhiA0_eq]
    iintro ⟨⟨HS0, HS1, HS2⟩, Hg⟩
    isplitr [Hg]
    · isplitl [HS0]; · iexists _; iexact HS0
      isplitl [HS1]; · iexists _; iexact HS1
      iexists _; iexact HS2
    iexact Hg

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 c t (stAt m c t.val t.isLt)
    | ⟨8, _⟩ => out8 m c t (stIn m c t)
    | ⟨9, _⟩ => out9 m c t (stIn m c t)
    | ⟨10, _⟩ => out10 m c t (stIn m c t)
    | ⟨11, _⟩ => out11 c t (stAt m c t.val t.isLt)
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = out7 c t (stAt m c t.val t.isLt) := by dsimp only [dats]
theorem after0_8 (c : Dev nD) (t : Fin cfg0.N) : (dats m 0 c).after 8 t = out8 m c t (stIn m c t) := by dsimp only [dats]
theorem after0_9 (c : Dev nD) (t : Fin cfg0.N) : (dats m 0 c).after 9 t = out9 m c t (stIn m c t) := by dsimp only [dats]
theorem after0_10 (c : Dev nD) (t : Fin cfg0.N) : (dats m 0 c).after 10 t = out10 m c t (stIn m c t) := by dsimp only [dats]
theorem after0_11 (c : Dev nD) (t : Fin cfg0.N) : (dats m 0 c).after 11 t = out11 c t (stAt m c t.val t.isLt) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

/-! ## Each buffer is covered by the stores into it -/

theorem rb_init0 (c : Dev nD) (t : Fin cfg0.N) (h : t.val % 8 = 0) (f : BufTy.Contents (Elt F) sc0.view.ty) :
    sc0.view.read (Elt F) (sc0.view.writes (Elt F) f (initAt m c t h).1) = init0 m c t h := by
  unfold init0
  exact View.read_writes_of_cover _ _ _ _ _ (icover15 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) sc0 hsc0 sc1 hsc1 sc2 hsc2 ((hcond0 t).mpr h) (fun h1 => by have := (hcond1 t).mp h1; omega) (iblk m c 0 t) (iblk m c 5 t) (iblk m c 6 t))
theorem rb_init1 (c : Dev nD) (t : Fin cfg0.N) (h : t.val % 8 = 0) (f : BufTy.Contents (Elt F) sc1.view.ty) :
    sc1.view.read (Elt F) (sc1.view.writes (Elt F) f (initAt m c t h).2.1) = init1 m c t h := by
  unfold init1
  exact View.read_writes_of_cover _ _ _ _ _ (icover16 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) sc0 hsc0 sc1 hsc1 sc2 hsc2 ((hcond0 t).mpr h) (fun h1 => by have := (hcond1 t).mp h1; omega) (iblk m c 0 t) (iblk m c 5 t) (iblk m c 6 t))
theorem rb_init2 (c : Dev nD) (t : Fin cfg0.N) (h : t.val % 8 = 0) (f : BufTy.Contents (Elt F) sc2.view.ty) :
    sc2.view.read (Elt F) (sc2.view.writes (Elt F) f (initAt m c t h).2.2.1) = init2 m c t h := by
  unfold init2
  exact View.read_writes_of_cover _ _ _ _ _ (icover17 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) sc0 hsc0 sc1 hsc1 sc2 hsc2 ((hcond0 t).mpr h) (fun h1 => by have := (hcond1 t).mp h1; omega) (iblk m c 0 t) (iblk m c 5 t) (iblk m c 6 t))
theorem rb_out8 (c : Dev nD) (t : Fin cfg0.N) (s : St F) (f : BufTy.Contents (Elt F) (ms0_8 t).view.ty) :
    (ms0_8 t).view.read (Elt F) ((ms0_8 t).view.writes (Elt F) f (mainAt m c t s).1) = out8 m c t s := by
  unfold out8
  exact View.read_writes_of_cover _ _ _ _ _ (mcover11 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) sc0 hsc0 sc1 hsc1 sc2 hsc2 (iblk m c 0 t) (iblk m c 1 t) (iblk m c 2 t) (iblk m c 3 t) (iblk m c 4 t) (iblk m c 5 t) s.2.2 s.1 s.2.1)
theorem rb_out9 (c : Dev nD) (t : Fin cfg0.N) (s : St F) (f : BufTy.Contents (Elt F) (ms0_9 t).view.ty) :
    (ms0_9 t).view.read (Elt F) ((ms0_9 t).view.writes (Elt F) f (mainAt m c t s).2.1) = out9 m c t s := by
  unfold out9
  exact View.read_writes_of_cover _ _ _ _ _ (mcover12 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) sc0 hsc0 sc1 hsc1 sc2 hsc2 (iblk m c 0 t) (iblk m c 1 t) (iblk m c 2 t) (iblk m c 3 t) (iblk m c 4 t) (iblk m c 5 t) s.2.2 s.1 s.2.1)
theorem rb_out10 (c : Dev nD) (t : Fin cfg0.N) (s : St F) (f : BufTy.Contents (Elt F) (ms0_10 t).view.ty) :
    (ms0_10 t).view.read (Elt F) ((ms0_10 t).view.writes (Elt F) f (mainAt m c t s).2.2.1) = out10 m c t s := by
  unfold out10
  exact View.read_writes_of_cover _ _ _ _ _ (mcover13 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) sc0 hsc0 sc1 hsc1 sc2 hsc2 (iblk m c 0 t) (iblk m c 1 t) (iblk m c 2 t) (iblk m c 3 t) (iblk m c 4 t) (iblk m c 5 t) s.2.2 s.1 s.2.1)
theorem rb_out7 (c : Dev nD) (t : Fin cfg0.N) (s : St F) (f : BufTy.Contents (Elt F) (ms0_7 t).view.ty) :
    (ms0_7 t).view.read (Elt F) ((ms0_7 t).view.writes (Elt F) f (finAt c t s).1) = out7 c t s := by
  unfold out7
  exact View.read_writes_of_cover _ _ _ _ _ (fcover10 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) sc0 hsc0 sc1 hsc1 sc2 hsc2 s.1 s.2.1)
theorem rb_out11 (c : Dev nD) (t : Fin cfg0.N) (s : St F) (f : BufTy.Contents (Elt F) (ms0_11 t).view.ty) :
    (ms0_11 t).view.read (Elt F) ((ms0_11 t).view.writes (Elt F) f (finAt c t s).2.1) = out11 c t s := by
  unfold out11
  exact View.read_writes_of_cover _ _ _ _ _ (fcover14 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) sc0 hsc0 sc1 hsc1 sc2 hsc2 s.1 s.2.1)

/-- A window the body stores into or reads at every point is never idle. -/
theorem live (w : Fin cfg0.W) (hw : w ≠ 7 ∧ w ≠ 11) (t : Fin cfg0.N) : cfg0.idle w (grid0.coords t) = false := by
  revert w; intro w; match w with
  | ⟨0, _⟩ => intro _; rfl
  | ⟨1, _⟩ => intro _; rfl
  | ⟨2, _⟩ => intro _; rfl
  | ⟨3, _⟩ => intro _; rfl
  | ⟨4, _⟩ => intro _; rfl
  | ⟨5, _⟩ => intro _; rfl
  | ⟨6, _⟩ => intro _; rfl
  | ⟨7, _⟩ => intro h; exact absurd rfl h.1
  | ⟨8, _⟩ => intro _; rfl
  | ⟨9, _⟩ => intro _; rfl
  | ⟨10, _⟩ => intro _; rfl
  | ⟨11, _⟩ => intro h; exact absurd rfl h.2

/-- The second stretch on what the pipeline hands the body, the scratch buffers at `s`: to any continuation that takes the outputs and
the scratch buffers at what this stretch leaves. -/
theorem main_triple (c : Dev nD) (t : Fin cfg0.N) (s : St F) (K : PUnit → sProp 𝕄) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ (∃ d, owns (c : Thread nD τ) (ms0_8 t) fullShare (d)) ∗ (∃ d, owns (c : Thread nD τ) (ms0_9 t) fullShare (d)) ∗ (∃ d, owns (c : Thread nD τ) (ms0_10 t) fullShare (d)) ∗ owns (c : Thread nD τ) sc0 fullShare (s).1 ∗ owns (c : Thread nD τ) sc1 fullShare (s).2.1 ∗ owns (c : Thread nD τ) sc2 fullShare (s).2.2 ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_8 t) fullShare (out8 m c t s) ∗ owns (c : Thread nD τ) (ms0_9 t) fullShare (out9 m c t s) ∗ owns (c : Thread nD τ) (ms0_10 t) fullShare (out10 m c t s) ∗ owns (c : Thread nD τ) sc0 fullShare (stMain m c t s).1 ∗ owns (c : Thread nD τ) sc1 fullShare (stMain m c t s).2.1 ∗ owns (c : Thread nD τ) sc2 fullShare (stMain m c t s).2.2) -∗ K ⟨⟩))
      ⊢ wp frame (wpE (defs₀ (F := F)) Variants.none c none) Set.univ (mainP (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) sc0 hsc0 sc1 hsc1 sc2 hsc2) K := by
  iintro ⟨H0, H1, H2, H3, H4, H5, H8, H9, H10, HS0, HS1, HS2, Hk⟩
  iapply ((mainAt m c t s).2.2.2.2.2 Set.univ K)
  isplitl [H0]; · iexact H0
  isplitl [H1]; · iexact H1
  isplitl [H2]; · iexact H2
  isplitl [H3]; · iexact H3
  isplitl [H4]; · iexact H4
  isplitl [H5]; · iexact H5
  isplitl [HS2]; · iexact HS2
  isplitl [H8]; · iexact H8
  isplitl [H9]; · iexact H9
  isplitl [H10]; · iexact H10
  isplitl [HS0]; · iexact HS0
  isplitl [HS1]; · iexact HS1
  iintro ⟨H0, H1, H2, H3, H4, H5, HS2, ⟨%e8, H8⟩, ⟨%e9, H9⟩, ⟨%e10, H10⟩, HS0, HS1⟩
  iapply Hk
  isplitl [H0]; · iexact H0
  isplitl [H1]; · iexact H1
  isplitl [H2]; · iexact H2
  isplitl [H3]; · iexact H3
  isplitl [H4]; · iexact H4
  isplitl [H5]; · iexact H5
  isplitl [H8]
  · unfold owns; iexists _; isplitr
    swap; · iexact H8
    ipureintro; exact rb_out8 m c t s _
  isplitl [H9]
  · unfold owns; iexists _; isplitr
    swap; · iexact H9
    ipureintro; exact rb_out9 m c t s _
  isplitl [H10]
  · unfold owns; iexists _; isplitr
    swap; · iexact H10
    ipureintro; exact rb_out10 m c t s _
  isplitl [HS0]
  · unfold owns; iexists _; isplitr
    swap; · iexact HS0
    ipureintro; rfl
  isplitl [HS1]
  · unfold owns; iexists _; isplitr
    swap; · iexact HS1
    ipureintro; rfl
  iexact HS2

/-- The first stretch, to the second. -/
theorem init_triple (c : Dev nD) (t : Fin cfg0.N) (h : t.val % 8 = 0) (K : PUnit → sProp 𝕄) :
    iprop(owns (c : Thread nD τ) (ms0_0 t) fullShare (iblk m c 0 t) ∗ owns (c : Thread nD τ) (ms0_5 t) fullShare (iblk m c 5 t) ∗ owns (c : Thread nD τ) (ms0_6 t) fullShare (iblk m c 6 t) ∗ (∃ d, owns (c : Thread nD τ) sc0 fullShare d) ∗ (∃ d, owns (c : Thread nD τ) sc1 fullShare d) ∗ (∃ d, owns (c : Thread nD τ) sc2 fullShare d)
        ∗ (iprop(owns (c : Thread nD τ) (ms0_0 t) fullShare (iblk m c 0 t) ∗ owns (c : Thread nD τ) (ms0_5 t) fullShare (iblk m c 5 t) ∗ owns (c : Thread nD τ) (ms0_6 t) fullShare (iblk m c 6 t) ∗ owns (c : Thread nD τ) sc0 fullShare (stInit m c t h).1 ∗ owns (c : Thread nD τ) sc1 fullShare (stInit m c t h).2.1 ∗ owns (c : Thread nD τ) sc2 fullShare (stInit m c t h).2.2) -∗ wp frame (wpE (defs₀ (F := F)) Variants.none c none) Set.univ (mainP (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) sc0 hsc0 sc1 hsc1 sc2 hsc2) K))
      ⊢ wp frame (wpE (defs₀ (F := F)) Variants.none c none) Set.univ (bodyAt0 t) K := by
  iintro ⟨H0, H5, H6, HS0, HS1, HS2, Hk⟩
  iapply ((initAt m c t h).2.2.2 Set.univ K)
  isplitl [H0]; · iexact H0
  isplitl [H5]; · iexact H5
  isplitl [H6]; · iexact H6
  isplitl [HS0]; · iexact HS0
  isplitl [HS1]; · iexact HS1
  isplitl [HS2]; · iexact HS2
  iintro ⟨H0, H5, H6, ⟨%e0, HS0⟩, ⟨%e1, HS1⟩, ⟨%e2, HS2⟩⟩
  iapply Hk
  isplitl [H0]; · iexact H0
  isplitl [H5]; · iexact H5
  isplitl [H6]; · iexact H6
  isplitl [HS0]
  · unfold owns; iexists _; isplitr
    swap; · iexact HS0
    ipureintro; exact rb_init0 m c t h _
  isplitl [HS1]
  · unfold owns; iexists _; isplitr
    swap; · iexact HS1
    ipureintro; exact rb_init1 m c t h _
  unfold owns; iexists _; isplitr
  swap; · iexact HS2
  ipureintro; exact rb_init2 m c t h _

/-- The last stretch. -/
theorem fin_triple (c : Dev nD) (t : Fin cfg0.N) (s : St F) (K : PUnit → sProp 𝕄) :
    iprop(owns (c : Thread nD τ) sc0 fullShare (s).1 ∗ owns (c : Thread nD τ) sc1 fullShare (s).2.1 ∗ owns (c : Thread nD τ) sc2 fullShare (s).2.2 ∗ (∃ d, owns (c : Thread nD τ) (ms0_7 t) fullShare (d)) ∗ (∃ d, owns (c : Thread nD τ) (ms0_11 t) fullShare (d))
        ∗ (iprop(owns (c : Thread nD τ) sc0 fullShare (s).1 ∗ owns (c : Thread nD τ) sc1 fullShare (s).2.1 ∗ owns (c : Thread nD τ) sc2 fullShare (s).2.2 ∗ owns (c : Thread nD τ) (ms0_7 t) fullShare (out7 c t s) ∗ owns (c : Thread nD τ) (ms0_11 t) fullShare (out11 c t s)) -∗ K ⟨⟩))
      ⊢ wp frame (wpE (defs₀ (F := F)) Variants.none c none) Set.univ (finP (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) sc0 hsc0 sc1 hsc1 sc2 hsc2) K := by
  iintro ⟨HS0, HS1, HS2, H7, H11, Hk⟩
  iapply ((finAt c t s).2.2 Set.univ K)
  isplitl [HS0]; · iexact HS0
  isplitl [HS1]; · iexact HS1
  isplitl [H7]; · iexact H7
  isplitl [H11]; · iexact H11
  iintro ⟨HS0, HS1, ⟨%e7, H7⟩, ⟨%e11, H11⟩⟩
  iapply Hk
  isplitl [HS0]; · iexact HS0
  isplitl [HS1]; · iexact HS1
  isplitl [HS2]; · iexact HS2
  isplitl [H7]
  · unfold owns; iexists _; isplitr
    swap; · iexact H7
    ipureintro; exact rb_out7 c t s _
  unfold owns; iexists _; isplitr
  swap; · iexact H11
  ipureintro; exact rb_out11 c t s _

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
      unfold Dat.leavesExact; rw [live 0 (by decide) t], after0_0]
  rw [show (dats m 0 c).leavesExact 1 t = owns (c : Thread nD τ) (ms0_1 t) fullShare ((dats m 0 c).after 1 t) from by
      unfold Dat.leavesExact; rw [live 1 (by decide) t], after0_1]
  rw [show (dats m 0 c).leavesExact 2 t = owns (c : Thread nD τ) (ms0_2 t) fullShare ((dats m 0 c).after 2 t) from by
      unfold Dat.leavesExact; rw [live 2 (by decide) t], after0_2]
  rw [show (dats m 0 c).leavesExact 3 t = owns (c : Thread nD τ) (ms0_3 t) fullShare ((dats m 0 c).after 3 t) from by
      unfold Dat.leavesExact; rw [live 3 (by decide) t], after0_3]
  rw [show (dats m 0 c).leavesExact 4 t = owns (c : Thread nD τ) (ms0_4 t) fullShare ((dats m 0 c).after 4 t) from by
      unfold Dat.leavesExact; rw [live 4 (by decide) t], after0_4]
  rw [show (dats m 0 c).leavesExact 5 t = owns (c : Thread nD τ) (ms0_5 t) fullShare ((dats m 0 c).after 5 t) from by
      unfold Dat.leavesExact; rw [live 5 (by decide) t], after0_5]
  rw [show (dats m 0 c).leavesExact 6 t = owns (c : Thread nD τ) (ms0_6 t) fullShare ((dats m 0 c).after 6 t) from by
      unfold Dat.leavesExact; rw [live 6 (by decide) t], after0_6]
  rw [show (dats m 0 c).leavesExact 8 t = owns (c : Thread nD τ) (ms0_8 t) fullShare ((dats m 0 c).after 8 t) from by
      unfold Dat.leavesExact; rw [live 8 (by decide) t], after0_8]
  rw [show (dats m 0 c).leavesExact 9 t = owns (c : Thread nD τ) (ms0_9 t) fullShare ((dats m 0 c).after 9 t) from by
      unfold Dat.leavesExact; rw [live 9 (by decide) t], after0_9]
  rw [show (dats m 0 c).leavesExact 10 t = owns (c : Thread nD τ) (ms0_10 t) fullShare ((dats m 0 c).after 10 t) from by
      unfold Dat.leavesExact; rw [live 10 (by decide) t], after0_10]
  rw [PhiS_castSucc m c t]
  by_cases h0 : t.val % 8 = 0
  · have h7 : ¬t.val % 8 = 7 := by omega
    rw [Dat.leavesExact_idle (dats m 0 c) 7 t (idle7 t h7).1 (noFlush7 t h7).1, Dat.leavesExact_idle (dats m 0 c) 11 t (idle7 t h7).2 (noFlush7 t h7).2]
    refine (sep_mono_left (PhiS_any m c t.val _)).trans ?_
    rw [PhiA0_eq, stAt_eq, stIn_init m c t h0]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply (init_triple m c t h0 _)
    isplitl [H0]; · iexact H0
    isplitl [H5]; · iexact H5
    isplitl [H6]; · iexact H6
    isplitl [HS0]; · iexact HS0
    isplitl [HS1]; · iexact HS1
    isplitl [HS2]; · iexact HS2
    iintro ⟨H0, H5, H6, HS0, HS1, HS2⟩
    iapply (main_triple m c t (stInit m c t h0) _)
    isplitl [H0]; · iexact H0
    isplitl [H1]; · iexact H1
    isplitl [H2]; · iexact H2
    isplitl [H3]; · iexact H3
    isplitl [H4]; · iexact H4
    isplitl [H5]; · iexact H5
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    iintro ⟨H0, H1, H2, H3, H4, H5, H8, H9, H10, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [H10]; · iexact H10
    iexists _; iexact H11
  by_cases h7 : t.val % 8 = 7
  · rw [show (dats m 0 c).leavesExact 7 t = owns (c : Thread nD τ) (ms0_7 t) fullShare ((dats m 0 c).after 7 t) from by
        unfold Dat.leavesExact; rw [(live7 t h7).1], after0_7]
    rw [show (dats m 0 c).leavesExact 11 t = owns (c : Thread nD τ) (ms0_11 t) fullShare ((dats m 0 c).after 11 t) from by
        unfold Dat.leavesExact; rw [(live7 t h7).2], after0_11]
    rw [PhiS_pos m c _ _ (by omega), stAt_eq, stIn_next m c t h0]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    unfold bodyAt0
    rw [body_C (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) sc0 hsc0 sc1 hsc1 sc2 hsc2 (fun h => h0 ((hcond0 t).mp h)) ((hcond1 t).mpr h7)]
    rw [wp_bind]
    iapply (main_triple m c t (stAt m c (t.val - 1) _) _)
    isplitl [H0]; · iexact H0
    isplitl [H1]; · iexact H1
    isplitl [H2]; · iexact H2
    isplitl [H3]; · iexact H3
    isplitl [H4]; · iexact H4
    isplitl [H5]; · iexact H5
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    iintro ⟨H0, H1, H2, H3, H4, H5, H8, H9, H10, HS0, HS1, HS2⟩
    iapply (fin_triple c t _ _)
    isplitl [HS0]; · iexact HS0
    isplitl [HS1]; · iexact HS1
    isplitl [HS2]; · iexact HS2
    isplitl [H7]; · iexists _; iexact H7
    isplitl [H11]; · iexists _; iexact H11
    iintro ⟨HS0, HS1, HS2, H7, H11⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · rw [Dat.leavesExact_idle (dats m 0 c) 7 t (idle7 t h7).1 (noFlush7 t h7).1, Dat.leavesExact_idle (dats m 0 c) 11 t (idle7 t h7).2 (noFlush7 t h7).2]
    rw [PhiS_pos m c _ _ (by omega), stAt_eq, stIn_next m c t h0]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    unfold bodyAt0
    rw [body_B (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) sc0 hsc0 sc1 hsc1 sc2 hsc2 (fun h => h0 ((hcond0 t).mp h)) (fun h => h7 ((hcond1 t).mp h))]
    iapply (main_triple m c t (stAt m c (t.val - 1) _) _)
    isplitl [H0]; · iexact H0
    isplitl [H1]; · iexact H1
    isplitl [H2]; · iexact H2
    isplitl [H3]; · iexact H3
    isplitl [H4]; · iexact H4
    isplitl [H5]; · iexact H5
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    iintro ⟨H0, H1, H2, H3, H4, H5, H8, H9, H10, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [H10]; · iexact H10
    iexists _; iexact H11

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _
theorem Phi_any (c : Dev nD) (t : Fin (cfg0.N + 1)) : (dats m 0 c).Φ t ⊢ Pipeline.ΦA spec0 c := by
  rw [show (dats m 0 c).Φ t = PhiS m c t.val (Nat.le_of_lt_succ t.isLt) from rfl]
  exact PhiS_any m c _ _
theorem hout (c : Dev nD) : (dats m 0 c).Φ (Fin.last cfg0.N) ⊢ Pipeline.ΦA spec0 c := Phi_any m c _

/-! ## The run and the frame -/

set_option maxHeartbeats 4800000 in
set_option backward.isDefEq.respectTransparency.types false in
/-- The launch: it ends, with the arrays at what the proof data says and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Fox

end
-- ==== Proof.FrameKernel.lean ====
/-
  The frame of the kernel as it is, with the mask as the number it writes. On bits a named constant is its bits, so the
  program with the named mask is the kernel itself, and its run (Proof/FoxFrame.lean) is the kernel's run.
-/
module

public import proofs.«01_k».proof.Defs
public import proofs.«01_k».proof.Proof.Gen.Kernel
public import proofs.«01_k».proof.Proof.FoxFrame

@[expose] public section

noncomputable section

namespace Cert.Proof

open Idealize.ShloMosaic Idealize.ShloMosaic.Tactic Idealize.SL.Sem

/-- On bits a named constant is its bits. -/
instance namedBits : Named Bits where
  named _ _ {φ} b := Scalar.ofBits φ b

attribute [local instance] Cert.Kernel.Gen.facts Cert.KernelIdeal.Gen.facts

/-- The kernel's frame, spelled of the program with the named mask, on bits. -/
def framePost : Prop := ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

theorem framePost_eq : Cert.quiescent_Kernel = framePost := by sl_kernel_rfl

theorem frame_kernel : Cert.quiescent_Kernel :=
  framePost_eq.mpr (fun m ρ _ => Cert.KernelIdeal.Fox.frame (F := Bits) m ρ)

end Cert.Proof

end
-- ==== Proof.Finite.lean ====
/-
  The precondition: under it every argument is an array of real numbers.
-/
module

public import proofs.«01_k».proof.Defs
public import Idealize.ShloMosaic.Lib.Pipeline.Value
public import Idealize.ShloMosaic.Lib.Pointwise

@[expose] public section
noncomputable section
open Idealize.ShloMosaic Idealize.ShloMosaic.TcCoe Idealize.SL.Sem

namespace Cert.FoxPre

instance facts : Cert.Pre_finite.Facts where
  bcast_S_S8192x12800 := by decide
  bcast_S_S8192x1024 := by decide
  bcast_S_S2x16x4096 := by decide

theorem bits_top16 : Ideal.ofBits .bf16 0x7F80#16 = ⊤ := by simp [Ideal.ofBits, Ideal.ieee]
theorem bits_top32 : Ideal.ofBits .f32 0x7F800000#32 = ⊤ := by simp [Ideal.ofBits, Ideal.ieee]

theorem real_of_abs_lt (x : EReal) (h : BitVec.ofBool (decide (max x (-x) < ⊤)) = 1#1) : x = ((x.toReal : ℝ) : EReal) := by
  have h1 : max x (-x) < ⊤ := by
    by_contra hc
    simp [hc] at h
  refine (EReal.coe_toReal ?_ ?_).symm
  · rintro rfl; simp at h1
  · rintro rfl; simp at h1

theorem real0 (x0 : FVec Ideal Cert.Pre_finite.S8192x12800 .bf16) (x1 : FVec Ideal Cert.Pre_finite.S8192x1024 .bf16) (x2 : FVec Ideal Cert.Pre_finite.S2x16x4096 .f32)
    (h : (Cert.Pre_finite.fn x0 x1 x2).1 = fun _ => 1#1) (i) : x0 i = ((EReal.toReal (x0 i) : ℝ) : EReal) := by
  have h := congrFun h i
  unfold Cert.Pre_finite.fn at h
  pointwise at h
  rw [bits_top16] at h
  exact real_of_abs_lt _ h

theorem real1 (x0 : FVec Ideal Cert.Pre_finite.S8192x12800 .bf16) (x1 : FVec Ideal Cert.Pre_finite.S8192x1024 .bf16) (x2 : FVec Ideal Cert.Pre_finite.S2x16x4096 .f32)
    (h : (Cert.Pre_finite.fn x0 x1 x2).2.1 = fun _ => 1#1) (i) : x1 i = ((EReal.toReal (x1 i) : ℝ) : EReal) := by
  have h := congrFun h i
  unfold Cert.Pre_finite.fn at h
  pointwise at h
  rw [bits_top16] at h
  exact real_of_abs_lt _ h

theorem real2 (x0 : FVec Ideal Cert.Pre_finite.S8192x12800 .bf16) (x1 : FVec Ideal Cert.Pre_finite.S8192x1024 .bf16) (x2 : FVec Ideal Cert.Pre_finite.S2x16x4096 .f32)
    (h : (Cert.Pre_finite.fn x0 x1 x2).2.2 = fun _ => 1#1) (i) : x2 i = ((EReal.toReal (x2 i) : ℝ) : EReal) := by
  have h := congrFun h i
  unfold Cert.Pre_finite.fn at h
  pointwise at h
  rw [bits_top32] at h
  exact real_of_abs_lt _ h

end Cert.FoxPre

end
-- ==== Proof.Blocks.lean ====
/-
  Where each window's block lies in its array, and when the windows' blocks are read through the arrays.
-/
module

public import proofs.«01_k».proof.Proof.Gen.KernelIdeal.Frame
public import Idealize.ShloMosaic.Lib.Pipeline.Value
public import Idealize.ShloMosaic.Lib.Pointwise

@[expose] public section

noncomputable section

open Idealize.ShloMosaic Idealize.ShloMosaic.TcCoe Idealize.SL.Sem

namespace Cert.KernelIdeal.Fox

open Cert.KernelIdeal Cert.KernelIdeal.Gen

theorem lt_N (t : Fin cfg0.N) : t.val < 128 := t.isLt.trans_eq (by decide)

theorem index0 : ∀ (t : Fin cfg0.N), win0_0.index t 0 = t.val / 64 ∧ win0_0.index t 1 = 40 + t.val / 8 % 8 := by decide +kernel
theorem index1 : ∀ (t : Fin cfg0.N), win0_1.index t 0 = t.val / 64 * 8 + t.val % 8 ∧ win0_1.index t 1 = 48 + t.val / 8 % 8 := by decide +kernel
theorem index2 : ∀ (t : Fin cfg0.N), win0_2.index t 0 = t.val / 64 * 8 + t.val % 8 ∧ win0_2.index t 1 = 56 + t.val / 8 % 8 := by decide +kernel
theorem index3 : ∀ (t : Fin cfg0.N), win0_3.index t 0 = t.val / 64 ∧ win0_3.index t 1 = t.val / 8 % 8 := by decide +kernel
theorem index4 : ∀ (t : Fin cfg0.N), win0_4.index t 0 = t.val / 64 ∧ win0_4.index t 1 = t.val / 8 % 8 := by decide +kernel
theorem index5 : ∀ (t : Fin cfg0.N), win0_5.index t 0 = t.val / 64 ∧ win0_5.index t 1 = t.val / 8 % 8 ∧ win0_5.index t 2 = 0 ∧ win0_5.index t 3 = 0 ∧ win0_5.index t 4 = 0 := by decide +kernel
theorem index6 : ∀ (t : Fin cfg0.N), win0_6.index t 0 = t.val / 64 ∧ win0_6.index t 1 = t.val / 8 % 8 ∧ win0_6.index t 2 = 0 ∧ win0_6.index t 3 = 0 ∧ win0_6.index t 4 = 0 := by decide +kernel
theorem index7 : ∀ (t : Fin cfg0.N), win0_7.index t 0 = t.val / 64 ∧ win0_7.index t 1 = t.val / 8 % 8 := by decide +kernel
theorem index8 : ∀ (t : Fin cfg0.N), win0_8.index t 0 = t.val / 64 * 8 + t.val % 8 ∧ win0_8.index t 1 = t.val / 8 % 8 := by decide +kernel
theorem index9 : ∀ (t : Fin cfg0.N), win0_9.index t 0 = t.val / 64 * 8 + t.val % 8 ∧ win0_9.index t 1 = t.val / 8 % 8 := by decide +kernel
theorem index10 : ∀ (t : Fin cfg0.N), win0_10.index t 0 = t.val / 64 ∧ win0_10.index t 1 = t.val / 8 % 8 ∧ win0_10.index t 2 = t.val % 8 ∧ win0_10.index t 3 = 0 ∧ win0_10.index t 4 = 0 := by decide +kernel
theorem index11 : ∀ (t : Fin cfg0.N), win0_11.index t 0 = t.val / 64 ∧ win0_11.index t 1 = t.val / 8 % 8 ∧ win0_11.index t 2 = 0 ∧ win0_11.index t 3 = 0 := by decide +kernel

variable (t : Fin cfg0.N)

/-- The array index of the element `(R, l)` of a block of all the tokens of a sequence and the lanes of two heads, from lane `off`. -/
def rowAt (R : Fin 4096) : Fin 8192 := ⟨4096 * (t.val / 64) + R.val, by have := lt_N t; omega⟩
def rowTile (a : Fin 512) : Fin 8192 := ⟨4096 * (t.val / 64) + (512 * (t.val % 8) + a.val), by have := lt_N t; omega⟩
def seqAt : Fin 2 := ⟨t.val / 64, by have := lt_N t; omega⟩
def headAt (h : Fin 2) : Fin 16 := ⟨2 * (t.val / 8 % 8) + h.val, by omega⟩

theorem emb0 (R : Fin 4096) (l : Fin 128) : (win0_0.blk t).view.emb (ix2 R l) =
    ix2 (rowAt t R) (⟨5120 + (128 * (t.val / 8 % 8) + l.val), by omega⟩ : Fin 12800) := by
  have h := index0 t
  funext a
  match a with
  | ⟨0, _⟩ => exact Fin.ext ((win0_0.rect_emb_val t (ix2 R l) 0).trans (by rw [h.1]; show _ * 4096 + R.val = 4096 * _ + R.val; omega))
  | ⟨1, _⟩ => exact Fin.ext ((win0_0.rect_emb_val t (ix2 R l) 1).trans (by rw [h.2]; show _ * 128 + l.val = 5120 + (128 * _ + l.val); omega))

theorem emb1 (a : Fin 512) (l : Fin 128) : (win0_1.blk t).view.emb (ix2 a l) =
    ix2 (rowTile t a) (⟨6144 + (128 * (t.val / 8 % 8) + l.val), by omega⟩ : Fin 12800) := by
  have h := index1 t
  funext k
  match k with
  | ⟨0, _⟩ => exact Fin.ext ((win0_1.rect_emb_val t (ix2 a l) 0).trans (by rw [h.1]; show _ * 512 + a.val = 4096 * _ + (512 * _ + a.val); omega))
  | ⟨1, _⟩ => exact Fin.ext ((win0_1.rect_emb_val t (ix2 a l) 1).trans (by rw [h.2]; show _ * 128 + l.val = 6144 + (128 * _ + l.val); omega))

theorem emb2 (a : Fin 512) (l : Fin 128) : (win0_2.blk t).view.emb (ix2 a l) =
    ix2 (rowTile t a) (⟨7168 + (128 * (t.val / 8 % 8) + l.val), by omega⟩ : Fin 12800) := by
  have h := index2 t
  funext k
  match k with
  | ⟨0, _⟩ => exact Fin.ext ((win0_2.rect_emb_val t (ix2 a l) 0).trans (by rw [h.1]; show _ * 512 + a.val = 4096 * _ + (512 * _ + a.val); omega))
  | ⟨1, _⟩ => exact Fin.ext ((win0_2.rect_emb_val t (ix2 a l) 1).trans (by rw [h.2]; show _ * 128 + l.val = 7168 + (128 * _ + l.val); omega))

/-- The lane of the element `l` of the two heads of a point's block. -/
def laneAt (l : Fin 128) : Fin 1024 := ⟨128 * (t.val / 8 % 8) + l.val, by omega⟩

theorem emb3 (R : Fin 4096) (l : Fin 128) : (win0_3.blk t).view.emb (ix2 R l) = ix2 (rowAt t R) (laneAt t l) := by
  have h := index3 t
  funext a
  match a with
  | ⟨0, _⟩ => exact Fin.ext ((win0_3.rect_emb_val t (ix2 R l) 0).trans (by rw [h.1]; show _ * 4096 + R.val = 4096 * _ + R.val; omega))
  | ⟨1, _⟩ => exact Fin.ext ((win0_3.rect_emb_val t (ix2 R l) 1).trans (by rw [h.2]; show _ * 128 + l.val = 128 * _ + l.val; omega))

theorem emb4 (R : Fin 4096) (l : Fin 128) : (win0_4.blk t).view.emb (ix2 R l) = ix2 (rowAt t R) (laneAt t l) := by
  have h := index4 t
  funext a
  match a with
  | ⟨0, _⟩ => exact Fin.ext ((win0_4.rect_emb_val t (ix2 R l) 0).trans (by rw [h.1]; show _ * 4096 + R.val = 4096 * _ + R.val; omega))
  | ⟨1, _⟩ => exact Fin.ext ((win0_4.rect_emb_val t (ix2 R l) 1).trans (by rw [h.2]; show _ * 128 + l.val = 128 * _ + l.val; omega))

theorem emb5 (h : Fin 2) (u : Fin 8) (r : Fin 512) : (win0_5.blk t).view.emb (ix5 0 h u 0 r) = ix5 (seqAt t) (headAt t h) u 0 r := by
  have e := index5 t
  funext a
  match a with
  | ⟨0, _⟩ => exact Fin.ext ((win0_5.rect_emb_val t (ix5 0 h u 0 r) 0).trans (by rw [e.1]; show _ * 1 + 0 = t.val / 64; omega))
  | ⟨1, _⟩ => exact Fin.ext ((win0_5.rect_emb_val t (ix5 0 h u 0 r) 1).trans (by rw [e.2.1]; show _ * 2 + h.val = 2 * _ + h.val; omega))
  | ⟨2, _⟩ => exact Fin.ext ((win0_5.rect_emb_val t (ix5 0 h u 0 r) 2).trans (by rw [e.2.2.1]; show 0 * 8 + u.val = u.val; omega))
  | ⟨3, _⟩ => exact Fin.ext ((win0_5.rect_emb_val t (ix5 0 h u 0 r) 3).trans (by rw [e.2.2.2.1]; show 0 * 1 + 0 = 0; omega))
  | ⟨4, _⟩ => exact Fin.ext ((win0_5.rect_emb_val t (ix5 0 h u 0 r) 4).trans (by rw [e.2.2.2.2]; show 0 * 512 + r.val = r.val; omega))

theorem emb6 (h : Fin 2) (u : Fin 8) (r : Fin 512) : (win0_6.blk t).view.emb (ix5 0 h u 0 r) = ix5 (seqAt t) (headAt t h) u 0 r := by
  have e := index6 t
  funext a
  match a with
  | ⟨0, _⟩ => exact Fin.ext ((win0_6.rect_emb_val t (ix5 0 h u 0 r) 0).trans (by rw [e.1]; show _ * 1 + 0 = t.val / 64; omega))
  | ⟨1, _⟩ => exact Fin.ext ((win0_6.rect_emb_val t (ix5 0 h u 0 r) 1).trans (by rw [e.2.1]; show _ * 2 + h.val = 2 * _ + h.val; omega))
  | ⟨2, _⟩ => exact Fin.ext ((win0_6.rect_emb_val t (ix5 0 h u 0 r) 2).trans (by rw [e.2.2.1]; show 0 * 8 + u.val = u.val; omega))
  | ⟨3, _⟩ => exact Fin.ext ((win0_6.rect_emb_val t (ix5 0 h u 0 r) 3).trans (by rw [e.2.2.2.1]; show 0 * 1 + 0 = 0; omega))
  | ⟨4, _⟩ => exact Fin.ext ((win0_6.rect_emb_val t (ix5 0 h u 0 r) 4).trans (by rw [e.2.2.2.2]; show 0 * 512 + r.val = r.val; omega))

theorem emb7 (R : Fin 4096) (l : Fin 128) : (win0_7.blk t).view.emb (ix2 R l) = ix2 (rowAt t R) (laneAt t l) := by
  have h := index7 t
  funext a
  match a with
  | ⟨0, _⟩ => exact Fin.ext ((win0_7.rect_emb_val t (ix2 R l) 0).trans (by rw [h.1]; show _ * 4096 + R.val = 4096 * _ + R.val; omega))
  | ⟨1, _⟩ => exact Fin.ext ((win0_7.rect_emb_val t (ix2 R l) 1).trans (by rw [h.2]; show _ * 128 + l.val = 128 * _ + l.val; omega))

theorem emb8 (a : Fin 512) (l : Fin 128) : (win0_8.blk t).view.emb (ix2 a l) = ix2 (rowTile t a) (laneAt t l) := by
  have h := index8 t
  funext k
  match k with
  | ⟨0, _⟩ => exact Fin.ext ((win0_8.rect_emb_val t (ix2 a l) 0).trans (by rw [h.1]; show _ * 512 + a.val = 4096 * _ + (512 * _ + a.val); omega))
  | ⟨1, _⟩ => exact Fin.ext ((win0_8.rect_emb_val t (ix2 a l) 1).trans (by rw [h.2]; show _ * 128 + l.val = 128 * _ + l.val; omega))

theorem emb9 (a : Fin 512) (l : Fin 128) : (win0_9.blk t).view.emb (ix2 a l) = ix2 (rowTile t a) (laneAt t l) := by
  have h := index9 t
  funext k
  match k with
  | ⟨0, _⟩ => exact Fin.ext ((win0_9.rect_emb_val t (ix2 a l) 0).trans (by rw [h.1]; show _ * 512 + a.val = 4096 * _ + (512 * _ + a.val); omega))
  | ⟨1, _⟩ => exact Fin.ext ((win0_9.rect_emb_val t (ix2 a l) 1).trans (by rw [h.2]; show _ * 128 + l.val = 128 * _ + l.val; omega))

theorem emb10 (h : Fin 2) (r : Fin 512) : (win0_10.blk t).view.emb (ix5 0 h 0 0 r) =
    ix5 (seqAt t) (headAt t h) (⟨t.val % 8, by omega⟩ : Fin 8) 0 r := by
  have e := index10 t
  funext a
  match a with
  | ⟨0, _⟩ => exact Fin.ext ((win0_10.rect_emb_val t (ix5 0 h 0 0 r) 0).trans (by rw [e.1]; show _ * 1 + 0 = t.val / 64; omega))
  | ⟨1, _⟩ => exact Fin.ext ((win0_10.rect_emb_val t (ix5 0 h 0 0 r) 1).trans (by rw [e.2.1]; show _ * 2 + h.val = 2 * _ + h.val; omega))
  | ⟨2, _⟩ => exact Fin.ext ((win0_10.rect_emb_val t (ix5 0 h 0 0 r) 2).trans (by rw [e.2.2.1]; show _ * 1 + 0 = t.val % 8; omega))
  | ⟨3, _⟩ => exact Fin.ext ((win0_10.rect_emb_val t (ix5 0 h 0 0 r) 3).trans (by rw [e.2.2.2.1]; show 0 * 1 + 0 = 0; omega))
  | ⟨4, _⟩ => exact Fin.ext ((win0_10.rect_emb_val t (ix5 0 h 0 0 r) 4).trans (by rw [e.2.2.2.2]; show 0 * 512 + r.val = r.val; omega))

theorem emb11 (h : Fin 2) (R : Fin 4096) : (win0_11.blk t).view.emb (ix4 0 h 0 R) = ix4 (seqAt t) (headAt t h) 0 R := by
  have e := index11 t
  funext a
  match a with
  | ⟨0, _⟩ => exact Fin.ext ((win0_11.rect_emb_val t (ix4 0 h 0 R) 0).trans (by rw [e.1]; show _ * 1 + 0 = t.val / 64; omega))
  | ⟨1, _⟩ => exact Fin.ext ((win0_11.rect_emb_val t (ix4 0 h 0 R) 1).trans (by rw [e.2.1]; show _ * 2 + h.val = 2 * _ + h.val; omega))
  | ⟨2, _⟩ => exact Fin.ext ((win0_11.rect_emb_val t (ix4 0 h 0 R) 2).trans (by rw [e.2.2.1]; show 0 * 1 + 0 = 0; omega))
  | ⟨3, _⟩ => exact Fin.ext ((win0_11.rect_emb_val t (ix4 0 h 0 R) 3).trans (by rw [e.2.2.2]; show 0 * 4096 + R.val = R.val; omega))

end Cert.KernelIdeal.Fox

end
-- ==== Proof.HostVal.lean ====
/-
  What the kernel's operands hold that the program computes before the call: the attention's output, the logarithm of
  each row's sum and the gates are the same expressions as the reference's, so they are read as the reference's values.
-/
module

public import proofs.«01_k».proof.Proof.Gen.KernelIdeal.Frame
public import proofs.«01_k».proof.Proof.Gen.ReferenceIdeal.Read
public import Idealize.ShloMosaic.Lib.Pipeline.Value
public import Idealize.ShloMosaic.Lib.StableHlo.ReadAt

@[expose] public section

set_option maxRecDepth 8192

noncomputable section

open Idealize.ShloMosaic Idealize.ShloMosaic.TcCoe Idealize.SL.Sem
open Cert.ReferenceIdeal.Read (val_main_v45 val_main_v33 val_main_v38)

namespace Cert.KernelIdeal.Fox

open Cert.KernelIdeal Cert.KernelIdeal.Gen

variable (m : (ℓ : Loc nD τ sig) → Buf (Elt Ideal) ℓ) (c : Dev nD)

/-- The attention's output, before its rows are joined. -/
abbrev attn : FVec Ideal S2x4096x16x64 .f32 :=
  val_main_v45 (F := Ideal) (m ((c : Thread nD τ).loc main_arg0)) (m ((c : Thread nD τ).loc main_arg2))

/-- Each row's greatest score, and its sum of exponentials. -/
abbrev rowMax : FVec Ideal S2x16x4096x1 .f32 :=
  val_main_v33 (F := Ideal) (m ((c : Thread nD τ).loc main_arg0)) (m ((c : Thread nD τ).loc main_arg2))
abbrev rowSum : FVec Ideal S2x16x4096x1 .f32 :=
  val_main_v38 (F := Ideal) (m ((c : Thread nD τ).loc main_arg0)) (m ((c : Thread nD τ).loc main_arg2))

theorem V_out : @Eq (FVec Ideal S8192x1024 .bf16) (V m c main_v39)
    (truncf .bf16 (shapeCast S8192x1024 (attn m c) Facts₀.shapeCasts_S2x4096x16x64_S8192x1024) bitsLt_bf16_f32) := by
  unfold V
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_reads_simp
  rfl

theorem V_lse : @Eq (FVec Ideal S2x16x8x1x512 .f32) (V m c main_v42)
    (shapeCast S2x16x8x1x512 (addf (rowMax m c) (Host.log (rowSum m c))) Facts₀.shapeCasts_S2x16x4096x1_S2x16x8x1x512) := by
  unfold V
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_reads_simp
  rfl

theorem V_cum : @Eq (FVec Ideal S2x16x8x1x512 .f32) (V m c main_v43)
    (shapeCast S2x16x8x1x512 (m ((c : Thread nD τ).loc main_arg2) : FVec Ideal S2x16x4096 .f32) Facts₀.shapeCasts_S2x16x4096_S2x16x8x1x512) := by
  unfold V
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_reads_simp
  rfl

end Cert.KernelIdeal.Fox

end
-- ==== Proof.FoxMath.lean ====
/-
  The forgetting attention of one batch row, over the reals: scores, row maximum, weights, outputs, and the gradients
  with respect to the queries, the keys, the values and the cumulative log gates. Nothing here names a program.
-/
module

public import Mathlib.Analysis.SpecialFunctions.Log.Basic
public import Mathlib.Data.EReal.Basic
public import Mathlib.Data.EReal.Operations
public import Mathlib.Algebra.BigOperators.Ring.Finset
public import Mathlib.Algebra.BigOperators.Fin
public import Mathlib.Algebra.BigOperators.Field
public import Mathlib.Tactic.FieldSimp
public import Mathlib.Tactic.Ring

@[expose] public section

noncomputable section

namespace Cert.FoxMath

/-- The row of the token `i` of the sequence `b` in an array of all the tokens. -/
def tok (b : Fin 2) (i : Fin 4096) : Fin 8192 := ⟨4096 * b.val + i.val, by omega⟩

/-- The lane of the element `d` of the head `h` in an array of all the heads. -/
def lane (h : Fin 16) (d : Fin 64) : Fin 1024 := ⟨64 * h.val + d.val, by omega⟩

variable (X : Fin 8192 → Fin 12800 → ℝ) (Y : Fin 8192 → Fin 1024 → ℝ) (C : Fin 2 → Fin 16 → Fin 4096 → ℝ)

/-- Queries, keys, values and output gradients by sequence, head, token and element. -/
def qv (b : Fin 2) (h : Fin 16) (i : Fin 4096) (d : Fin 64) : ℝ := X (tok b i) ⟨5120 + (lane h d).val, by have := (lane h d).isLt; omega⟩
def kv (b : Fin 2) (h : Fin 16) (i : Fin 4096) (d : Fin 64) : ℝ := X (tok b i) ⟨6144 + (lane h d).val, by have := (lane h d).isLt; omega⟩
def vv (b : Fin 2) (h : Fin 16) (i : Fin 4096) (d : Fin 64) : ℝ := X (tok b i) ⟨7168 + (lane h d).val, by have := (lane h d).isLt; omega⟩
def gv (b : Fin 2) (h : Fin 16) (i : Fin 4096) (d : Fin 64) : ℝ := Y (tok b i) (lane h d)

/-- The score of query `i` and key `j`. -/
def sc (b : Fin 2) (h : Fin 16) (i j : Fin 4096) : ℝ :=
  (∑ d : Fin 64, qv X b h i d * kv X b h j d) * (1 / 8) + C b h i - C b h j

/-- The score as the attention sees it: nothing after the query. -/
def msc (b : Fin 2) (h : Fin 16) (i j : Fin 4096) : EReal := if j ≤ i then ((sc X C b h i j : ℝ) : EReal) else ⊥

/-- The row's greatest score. -/
def mxE (b : Fin 2) (h : Fin 16) (i : Fin 4096) : EReal := Finset.univ.fold max ⊥ (fun j => msc X C b h i j)
def mx (b : Fin 2) (h : Fin 16) (i : Fin 4096) : ℝ := (mxE X C b h i).toReal

def ex (b : Fin 2) (h : Fin 16) (i j : Fin 4096) : ℝ := if j ≤ i then Real.exp (sc X C b h i j - mx X C b h i) else 0
def den (b : Fin 2) (h : Fin 16) (i : Fin 4096) : ℝ := ∑ j, ex X C b h i j
/-- The attention weight. -/
def pr (b : Fin 2) (h : Fin 16) (i j : Fin 4096) : ℝ := ex X C b h i j / den X C b h i
/-- The attention's output. -/
def ou (b : Fin 2) (h : Fin 16) (i : Fin 4096) (d : Fin 64) : ℝ := ∑ j, vv X b h j d * pr X C b h i j
/-- The logarithm of the row's sum of exponentials. -/
def ls (b : Fin 2) (h : Fin 16) (i : Fin 4096) : ℝ := mx X C b h i + Real.log (den X C b h i)

def dp (b : Fin 2) (h : Fin 16) (i j : Fin 4096) : ℝ := ∑ d : Fin 64, gv Y b h i d * vv X b h j d
/-- The gradient with respect to the score. -/
def ds (b : Fin 2) (h : Fin 16) (i j : Fin 4096) : ℝ :=
  pr X C b h i j * (dp X Y b h i j - ∑ d : Fin 64, gv Y b h i d * ou X C b h i d)

def dq (b : Fin 2) (h : Fin 16) (i : Fin 4096) (d : Fin 64) : ℝ := (∑ j, ds X Y C b h i j * kv X b h j d) * (1 / 8)
def dk (b : Fin 2) (h : Fin 16) (j : Fin 4096) (d : Fin 64) : ℝ := (∑ i, ds X Y C b h i j * qv X b h i d) * (1 / 8)
def dv (b : Fin 2) (h : Fin 16) (j : Fin 4096) (d : Fin 64) : ℝ := ∑ i, gv Y b h i d * pr X C b h i j
def dck (b : Fin 2) (h : Fin 16) (j : Fin 4096) : ℝ := -∑ i, ds X Y C b h i j
def dcq (b : Fin 2) (h : Fin 16) (i : Fin 4096) : ℝ := ∑ j, ds X Y C b h i j

theorem mxE_eq (b : Fin 2) (h : Fin 16) (i : Fin 4096) : mxE X C b h i = ((mx X C b h i : ℝ) : EReal) := by
  have hs : mxE X C b h i = Finset.univ.sup (fun j => msc X C b h i j) := rfl
  have hb : mxE X C b h i ≠ ⊥ := by
    intro h0
    have := Finset.le_sup (f := fun j => msc X C b h i j) (Finset.mem_univ i)
    rw [← hs, h0] at this
    simp [msc] at this
  have ht : mxE X C b h i ≠ ⊤ := by
    rw [hs]
    refine ne_of_lt ((Finset.sup_lt_iff (by exact bot_lt_top)).mpr fun j _ => ?_)
    unfold msc
    split
    · exact EReal.coe_lt_top _
    · exact bot_lt_top
  exact (EReal.coe_toReal ht hb).symm

theorem ex_nonneg (b : Fin 2) (h : Fin 16) (i j : Fin 4096) : 0 ≤ ex X C b h i j := by
  unfold ex; split
  · exact (Real.exp_pos _).le
  · exact le_rfl

theorem den_pos (b : Fin 2) (h : Fin 16) (i : Fin 4096) : 0 < den X C b h i :=
  Finset.sum_pos' (fun j _ => ex_nonneg X C b h i j) ⟨i, Finset.mem_univ i, by unfold ex; rw [if_pos le_rfl]; exact Real.exp_pos _⟩

/-- The weight from the saved logarithm of the sum, as the kernel forms it again. -/
theorem pr_eq (b : Fin 2) (h : Fin 16) (i j : Fin 4096) :
    (if j ≤ i then Real.exp ((∑ d : Fin 64, qv X b h i d * kv X b h j d) * (1 / 8) + (C b h i - ls X C b h i) - C b h j) else 0) = pr X C b h i j := by
  unfold pr ex
  by_cases hji : j ≤ i
  · rw [if_pos hji, if_pos hji]
    have hd := den_pos X C b h i
    rw [show (∑ d : Fin 64, qv X b h i d * kv X b h j d) * (1 / 8) + (C b h i - ls X C b h i) - C b h j
        = (sc X C b h i j - mx X C b h i) - Real.log (den X C b h i) by unfold ls sc; ring, Real.exp_sub, Real.exp_log hd]
  · rw [if_neg hji, if_neg hji, zero_div]

/-- The softmax's backward pass spelt with the sum of exponentials and its square is the gradient with respect to the score. -/
theorem ds_eq (b : Fin 2) (h : Fin 16) (i j : Fin 4096) :
    (dp X Y b h i j / den X C b h i + -(∑ l, dp X Y b h i l * (1 / (den X C b h i * den X C b h i)) * ex X C b h i l)) * ex X C b h i j = ds X Y C b h i j := by
  have hd := (den_pos X C b h i).ne'
  have h1 : ∑ d : Fin 64, gv Y b h i d * ou X C b h i d = (∑ l, dp X Y b h i l * ex X C b h i l) / den X C b h i := by
    unfold ou pr dp
    simp only [Finset.mul_sum, Finset.sum_mul, Finset.sum_div]
    rw [Finset.sum_comm]
    refine Finset.sum_congr rfl fun l _ => Finset.sum_congr rfl fun d _ => ?_
    ring
  have h2 : ∑ l, dp X Y b h i l * (1 / (den X C b h i * den X C b h i)) * ex X C b h i l
      = (∑ l, dp X Y b h i l * ex X C b h i l) / (den X C b h i * den X C b h i) := by
    rw [Finset.sum_div]; refine Finset.sum_congr rfl fun l _ => ?_; ring
  unfold ds pr
  rw [h1, h2]
  field_simp
  ring

theorem ds_after (b : Fin 2) (h : Fin 16) (i j : Fin 4096) (hj : ¬ j ≤ i) : ds X Y C b h i j = 0 := by
  unfold ds pr ex; rw [if_neg hj, zero_div, zero_mul]

end Cert.FoxMath

end
-- ==== Proof.Consts.lean ====
module

public import Idealize.ShloMosaic.Lib.Pointwise

@[expose] public section

noncomputable section

namespace Cert.KernelIdeal.Fox

open Idealize.ShloMosaic

/-- The scale of the scores, `64^(-1/2)`. -/
theorem ofBits_eighth : Ideal.ofBits .f32 0x3E000000#32 = ((1 / 8 : ℝ) : EReal) := by
  simp [Ideal.ofBits, Ideal.ieee, -EReal.coe_mul]; norm_num

end Cert.KernelIdeal.Fox

end
-- ==== Proof.Reals.lean ====
module

public import proofs.«01_k».proof.Proof.FoxFrame
public import Idealize.ShloMosaic.Lib.Pointwise

@[expose] public section

noncomputable section

namespace Cert.KernelIdeal.Fox

open Idealize.ShloMosaic
open Cert.KernelIdeal Cert.KernelIdeal.Gen

/-! # Finite numbers in the extended reals: sums, choices, the two heads of a pair -/

theorem coe_ite (p : Prop) [Decidable p] (a b : ℝ) : (if p then (a : EReal) else (b : EReal)) = ((if p then a else b : ℝ) : EReal) := by
  split <;> rfl
theorem coe_ite_zero (p : Prop) [Decidable p] (a : ℝ) : (if p then (a : EReal) else 0) = ((if p then a else 0 : ℝ) : EReal) := by
  split <;> rfl
theorem coe_zero_ite (p : Prop) [Decidable p] (a : ℝ) : (if p then 0 else (a : EReal)) = ((if p then 0 else a : ℝ) : EReal) := by
  split <;> rfl
theorem sum_coe {ι : Type*} (s : Finset ι) (f : ι → ℝ) : ∑ x ∈ s, (f x : EReal) = ((∑ x ∈ s, f x : ℝ) : EReal) := by
  classical
  induction s using Finset.induction_on with
  | empty => simp
  | insert a s ha ih => rw [Finset.sum_insert ha, Finset.sum_insert ha, ih, EReal.coe_add]
theorem neg_coe (a : ℝ) : (0 : EReal) - (a : EReal) = ((-a : ℝ) : EReal) := by
  rw [← EReal.coe_zero, ← EReal.coe_sub, zero_sub]

/-- The head (of the pair) a lane belongs to. -/
def hd (l : Fin 128) : Fin 2 := if l.val < 64 then 0 else 1

theorem hd_zero (l : Fin 128) : hd l = 0 ↔ l.val < 64 := by unfold hd; split <;> simp_all
theorem hd_one (l : Fin 128) : hd l = 1 ↔ ¬ l.val < 64 := by unfold hd; split <;> simp_all

theorem bit_lt : ∀ l : Fin 128, (IntOp.cmpi .slt (BitVec.ofNat 32 l.val) 64#32 = 1) ↔ hd l = 0 := by decide +kernel
theorem bit_ge : ∀ l : Fin 128, (IntOp.cmpi .sge (BitVec.ofNat 32 l.val) 64#32 = 1) ↔ hd l = 1 := by decide +kernel
theorem bit_not : ∀ l : Fin 128, (IntOp.xori (IntOp.cmpi .slt (BitVec.ofNat 32 l.val) 64#32) 1#1 = 1) ↔ hd l = 1 := by decide +kernel

/-- The mask of the first head's lanes, as a choice. -/
theorem sel_lt {α : Type} (l : Fin 128) (a b : α) :
    Scalar.select (IntOp.cmpi .slt (BitVec.ofNat 32 l.val) 64#32) a b = if hd l = 0 then a else b := by
  simp only [Scalar.select, bit_lt]
theorem sel_ge {α : Type} (l : Fin 128) (a b : α) :
    Scalar.select (IntOp.cmpi .sge (BitVec.ofNat 32 l.val) 64#32) a b = if hd l = 1 then a else b := by
  simp only [Scalar.select, bit_ge]
theorem sel_not {α : Type} (l : Fin 128) (a b : α) :
    Scalar.select (IntOp.xori (IntOp.cmpi .slt (BitVec.ofNat 32 l.val) 64#32) 1#1) a b = if hd l = 1 then a else b := by
  simp only [Scalar.select, bit_not]

theorem toInt_ofNat (n : ℕ) (h : n < 2147483648) : (BitVec.ofNat 32 n).toInt = (n : ℤ) := by
  rw [BitVec.toInt_eq_toNat_of_lt (by rw [BitVec.toNat_ofNat]; omega), BitVec.toNat_ofNat]; omega
theorem sel_eq {α : Type} (l : Fin 128) (n : ℕ) (h : n < 2147483648) (a b : α) :
    Scalar.select (IntOp.cmpi .eq (BitVec.ofNat 32 l.val) (BitVec.ofNat 32 n)) a b = if l.val = n then a else b := by
  have e : (IntOp.cmpi .eq (BitVec.ofNat 32 l.val) (BitVec.ofNat 32 n) = 1) ↔ l.val = n := by
    rw [show (1 : BitVec 1) = 1#1 from rfl, IntOp.cmpi_eq, ← BitVec.toInt_inj, toInt_ofNat l.val (by omega), toInt_ofNat _ h]; omega
  simp only [Scalar.select, e]
theorem sel_range {α : Type} (l : Fin 128) (m n : ℕ) (hm : m < 2147483648) (h : n < 2147483648) (a b : α) :
    Scalar.select (IntOp.andi (IntOp.cmpi .sge (BitVec.ofNat 32 l.val) (BitVec.ofNat 32 m)) (IntOp.cmpi .slt (BitVec.ofNat 32 l.val) (BitVec.ofNat 32 n))) a b
      = if m ≤ l.val ∧ l.val < n then a else b := by
  have e1 : IntOp.cmpi .sge (BitVec.ofNat 32 l.val) (BitVec.ofNat 32 m) = BitVec.ofBool (decide (m ≤ l.val)) := by
    show BitVec.ofBool (decide ((BitVec.ofNat 32 m).toInt ≤ (BitVec.ofNat 32 l.val).toInt)) = _
    rw [toInt_ofNat l.val (by omega), toInt_ofNat _ hm]; simp only [Nat.cast_le]
  have e2 : IntOp.cmpi .slt (BitVec.ofNat 32 l.val) (BitVec.ofNat 32 n) = BitVec.ofBool (decide (l.val < n)) := by
    show BitVec.ofBool (decide ((BitVec.ofNat 32 l.val).toInt < (BitVec.ofNat 32 n).toInt)) = _
    rw [toInt_ofNat l.val (by omega), toInt_ofNat _ h]; simp only [Nat.cast_lt]
  rw [e1, e2]
  by_cases h1 : m ≤ l.val <;> by_cases h2 : l.val < n <;> simp [h1, h2, IntOp.andi, Scalar.select]
theorem sel_row {α : Type} (r c : Fin 512) (a b : α) :
    Scalar.select (IntOp.cmpi .sge (BitVec.ofNat 32 r.val) (BitVec.ofNat 32 c.val)) a b = if c.val ≤ r.val then a else b := by
  have e1 : IntOp.cmpi .sge (BitVec.ofNat 32 r.val) (BitVec.ofNat 32 c.val) = BitVec.ofBool (decide (c.val ≤ r.val)) := by
    show BitVec.ofBool (decide ((BitVec.ofNat 32 c.val).toInt ≤ (BitVec.ofNat 32 r.val).toInt)) = _
    rw [toInt_ofNat c.val (by omega), toInt_ofNat r.val (by omega)]; simp only [Nat.cast_le]
  rw [e1]
  by_cases h1 : c.val ≤ r.val <;> simp [h1, Scalar.select]

theorem exp_mask (P : Prop) [Decidable P] (a : ℝ) :
    Ideal.exp (if P then (a : EReal) else (Named.named (F := Ideal) (φ := .f32) κ "mask" (0xF149F2CA#32))) = ((if P then Real.exp a else 0 : ℝ) : EReal) := by
  split
  · exact rfl
  · exact rfl
theorem coe_one_ite (p : Prop) [Decidable p] (a : ℝ) : (if p then 1 else (a : EReal)) = ((if p then 1 else a : ℝ) : EReal) := by
  split <;> rfl
theorem coe_one_zero (p : Prop) [Decidable p] : (if p then 1 else 0 : EReal) = ((if p then 1 else 0 : ℝ) : EReal) := by
  split <;> rfl

theorem pay196 (l : Fin 128) : k0_pay196 (ix2 (0 : Fin 1) l) = IntOp.cmpi .slt (BitVec.ofNat 32 l.val) 64#32 := by
  unfold k0_pay196
  pointwise

/-! ## Rows of a sequence in blocks of 512 -/

/-- Row `r` of block `n`. -/
def rowOf (n : ℕ) (hn : n < 8) (r : Fin 512) : Fin 4096 := ⟨512 * n + r.val, by omega⟩

/-- The sum over the first `n + 1` blocks is the sum over the first `n` and block `n`. -/
theorem sum_lt_succ (f : Fin 4096 → ℝ) (n : ℕ) (hn : n < 8) :
    (∑ R : Fin 4096, if R.val < 512 * (n + 1) then f R else 0)
      = (∑ R : Fin 4096, if R.val < 512 * n then f R else 0) + ∑ r : Fin 512, f (rowOf n hn r) := by
  have h : (∑ r : Fin 512, f (rowOf n hn r)) = ∑ R : Fin 4096, if 512 * n ≤ R.val ∧ R.val < 512 * (n + 1) then f R else 0 := by
    rw [← Finset.sum_filter]
    refine Finset.sum_bij (fun r _ => rowOf n hn r) ?_ ?_ ?_ ?_
    · intro r _; simp only [Finset.mem_filter, Finset.mem_univ, true_and, rowOf]; omega
    · intro a _ b _ e; simp only [rowOf, Fin.mk.injEq] at e; exact Fin.ext (by omega)
    · intro R hR
      simp only [Finset.mem_filter, Finset.mem_univ, true_and] at hR
      exact ⟨⟨R.val - 512 * n, by omega⟩, Finset.mem_univ _, Fin.ext (by simp only [rowOf]; omega)⟩
    · intro r _; rfl
  rw [h, ← Finset.sum_add_distrib]
  refine Finset.sum_congr rfl fun R _ => ?_
  by_cases h1 : R.val < 512 * n
  · rw [if_pos (by omega), if_pos h1, if_neg (by omega), add_zero]
  · by_cases h2 : R.val < 512 * (n + 1)
    · rw [if_pos h2, if_neg h1, if_pos (by omega), zero_add]
    · rw [if_neg h2, if_neg h1, if_neg (by omega), add_zero]

theorem sum_lt_zero (f : Fin 4096 → ℝ) : (∑ R : Fin 4096, if R.val < 512 * 0 then f R else 0) = 0 :=
  Finset.sum_eq_zero fun R _ => if_neg (by omega)
theorem sum_lt_all (f : Fin 4096 → ℝ) : (∑ R : Fin 4096, if R.val < 512 * 8 then f R else 0) = ∑ R : Fin 4096, f R :=
  Finset.sum_congr rfl fun R _ => if_pos (by omega)

end Cert.KernelIdeal.Fox

end
-- ==== Proof.RefVal.lean ====
/-
  The reference's values, read at an index as real numbers.
-/
module

public import proofs.«01_k».proof.Proof.Gen.ReferenceIdeal.Read
public import proofs.«01_k».proof.Proof.FoxMath
public import proofs.«01_k».proof.Proof.Consts
public import proofs.«01_k».proof.Proof.Reals
public import Idealize.ShloMosaic.Lib.Pointwise

@[expose] public section

noncomputable section

open Idealize.ShloMosaic Idealize.ShloMosaic.TcCoe Idealize.SL.Sem
open Cert.FoxMath

namespace Cert.ReferenceIdeal.Read

open Cert.ReferenceIdeal Cert.ReferenceIdeal.Gen

theorem idx3_eq {n0 n1 n2 : ℕ} (x : (⟨3, ![n0, n1, n2]⟩ : Shape).Idx) (a : Fin n0) (b : Fin n1) (c : Fin n2)
    (h0 : (x 0).val = a.val) (h1 : (x 1).val = b.val) (h2 : (x 2).val = c.val) : x = ix3 a b c := by
  funext k
  match k with
  | ⟨0, _⟩ => exact Fin.ext h0
  | ⟨1, _⟩ => exact Fin.ext h1
  | ⟨2, _⟩ => exact Fin.ext h2

theorem idx4_eq {n0 n1 n2 n3 : ℕ} (x : (⟨4, ![n0, n1, n2, n3]⟩ : Shape).Idx) (a : Fin n0) (b : Fin n1) (c : Fin n2) (d : Fin n3)
    (h0 : (x 0).val = a.val) (h1 : (x 1).val = b.val) (h2 : (x 2).val = c.val) (h3 : (x 3).val = d.val) : x = ix4 a b c d := by
  funext k
  match k with
  | ⟨0, _⟩ => exact Fin.ext h0
  | ⟨1, _⟩ => exact Fin.ext h1
  | ⟨2, _⟩ => exact Fin.ext h2
  | ⟨3, _⟩ => exact Fin.ext h3

theorem bits_bot : Ideal.ofBits .f32 0xFF800000#32 = ⊥ := by simp [Ideal.ofBits, Ideal.ieee]
theorem bits_zero : Ideal.ofBits .f32 0x00000000#32 = 0 := by simp [Ideal.ofBits, Ideal.ieee]
theorem bits_one : Ideal.ofBits .f32 0x3F800000#32 = ((1 : ℝ) : EReal) := by
  simp [Ideal.ofBits, Ideal.ieee, -EReal.coe_mul]; norm_num

/-- A quotient of reals is the real quotient. -/
theorem div_coe (a b : ℝ) (hb : b ≠ 0) : Ideal.div (a : EReal) (b : EReal) = ((a / b : ℝ) : EReal) := by
  rw [Ideal.div_coe hb, ← EReal.coe_mul, mul_one_div]

/-- The arguments are the real arrays `X`, `Y`, `C`. -/
structure ArgsAre (x0 : FVec Ideal S8192x12800 .bf16) (x1 : FVec Ideal S8192x1024 .bf16) (x2 : FVec Ideal S2x16x4096 .f32)
    (X : Fin 8192 → Fin 12800 → ℝ) (Y : Fin 8192 → Fin 1024 → ℝ) (C : Fin 2 → Fin 16 → Fin 4096 → ℝ) : Prop where
  proj : ∀ r l, x0 (ix2 r l) = ((X r l : ℝ) : EReal)
  grad : ∀ r l, x1 (ix2 r l) = ((Y r l : ℝ) : EReal)
  cum : ∀ b h i, x2 (ix3 b h i) = ((C b h i : ℝ) : EReal)

variable {x0 : FVec Ideal S8192x12800 .bf16} {x1 : FVec Ideal S8192x1024 .bf16} {x2 : FVec Ideal S2x16x4096 .f32}
variable {X : Fin 8192 → Fin 12800 → ℝ} {Y : Fin 8192 → Fin 1024 → ℝ} {C : Fin 2 → Fin 16 → Fin 4096 → ℝ}
variable (A : ArgsAre x0 x1 x2 X Y C)

include A

theorem q_at (b : Fin 2) (h : Fin 16) (i : Fin 4096) (d : Fin 64) :
    val_main_v2 (F := Ideal) x0 (ix4 b i h d) = ((qv X b h i d : ℝ) : EReal) := by
  rw [val_main_v2_apply, val_main_v1_apply, val_main_v0_apply]
  refine Eq.trans (congrArg x0 ?_) (A.proj (tok b i) _)
  funext a
  match a with
  | ⟨0, _⟩ => exact Fin.ext (by show (((b.val * 4096 + i.val) * 16 + h.val) * 64 + d.val) / 1024 = 4096 * b.val + i.val; omega)
  | ⟨1, _⟩ => exact Fin.ext (by show 5120 + (((b.val * 4096 + i.val) * 16 + h.val) * 64 + d.val) % 1024 = 5120 + (64 * h.val + d.val); omega)

theorem k_at (b : Fin 2) (h : Fin 16) (i : Fin 4096) (d : Fin 64) :
    val_main_v5 (F := Ideal) x0 (ix4 b i h d) = ((kv X b h i d : ℝ) : EReal) := by
  rw [val_main_v5_apply, val_main_v4_apply, val_main_v3_apply]
  refine Eq.trans (congrArg x0 ?_) (A.proj (tok b i) _)
  funext a
  match a with
  | ⟨0, _⟩ => exact Fin.ext (by show (((b.val * 4096 + i.val) * 16 + h.val) * 64 + d.val) / 1024 = 4096 * b.val + i.val; omega)
  | ⟨1, _⟩ => exact Fin.ext (by show 6144 + (((b.val * 4096 + i.val) * 16 + h.val) * 64 + d.val) % 1024 = 6144 + (64 * h.val + d.val); omega)

theorem v_at (b : Fin 2) (h : Fin 16) (i : Fin 4096) (d : Fin 64) :
    val_main_v8 (F := Ideal) x0 (ix4 b i h d) = ((vv X b h i d : ℝ) : EReal) := by
  rw [val_main_v8_apply, val_main_v7_apply, val_main_v6_apply]
  refine Eq.trans (congrArg x0 ?_) (A.proj (tok b i) _)
  funext a
  match a with
  | ⟨0, _⟩ => exact Fin.ext (by show (((b.val * 4096 + i.val) * 16 + h.val) * 64 + d.val) / 1024 = 4096 * b.val + i.val; omega)
  | ⟨1, _⟩ => exact Fin.ext (by show 7168 + (((b.val * 4096 + i.val) * 16 + h.val) * 64 + d.val) % 1024 = 7168 + (64 * h.val + d.val); omega)

theorem s_at (b : Fin 2) (h : Fin 16) (i j : Fin 4096) :
    val_main_v17 (F := Ideal) x0 x2 (ix4 b h i j) = ((sc X C b h i j : ℝ) : EReal) := by
  rw [val_main_v17_apply, val_main_v14_apply, val_main_v11_apply, val_main_v9_apply, val_main_v13_apply, val_main_v12_apply,
    val_main_v16_apply, val_main_v15_apply, val_main_v10_apply]
  have e1 : ∀ k, lidx_main_v9 (ix4 b h i j) k = ix4 b i h k := fun k => idx4_eq _ _ _ _ _ rfl rfl rfl rfl
  have e2 : ∀ k, ridx_main_v9 (ix4 b h i j) k = ix4 b j h k := fun k => idx4_eq _ _ _ _ _ rfl rfl rfl rfl
  have e3 : idx_main_v12 (idx_main_v13 (ix4 b h i j)) = ix3 b h i := idx3_eq _ _ _ _ rfl rfl rfl
  have e4 : idx_main_v15 (idx_main_v16 (ix4 b h i j)) = ix3 b h j := idx3_eq _ _ _ _ rfl rfl rfl
  simp only [e1, e2, q_at A, k_at A]
  rw [e3, e4, A.cum, A.cum]
  simp only [← EReal.coe_mul, KernelIdeal.Fox.sum_coe]
  change (_ * Ideal.ofBits .f32 0x3E000000#32 + _) - _ = _
  rw [KernelIdeal.Fox.ofBits_eighth, ← EReal.coe_mul, ← EReal.coe_add, ← EReal.coe_sub]
  rfl

omit A in
theorem causal_at (b : Fin 2) (h : Fin 16) (i j : Fin 4096) :
    val_main_v26_1 (F := Ideal) (ix4 b h i j) = if j ≤ i then 1 else 0 := by
  rw [val_main_v26_1_apply, val_main_v25_apply, val_main_v24_apply, val_main_v22_apply, val_main_v23_apply, val_main_v19_apply,
    val_main_v21_apply, val_main_v18_apply, val_main_v20_apply]
  change IntOp.cmpi .sge (BitVec.ofNat 32 i.val) (BitVec.ofNat 32 j.val) = _
  have hi := i.isLt
  have hj := j.isLt
  have h1 := KernelIdeal.Fox.toInt_ofNat i.val (by omega)
  have h2 := KernelIdeal.Fox.toInt_ofNat j.val (by omega)
  by_cases hji : j ≤ i
  · rw [if_pos hji]
    have : (j.val : ℤ) ≤ i.val := by exact_mod_cast hji
    simp [IntOp.cmpi, BitVec.sle, h1, h2, this]
  · rw [if_neg hji]
    have : ¬ (j.val : ℤ) ≤ i.val := by exact_mod_cast hji
    simp [IntOp.cmpi, BitVec.sle, h1, h2, this]

theorem msc_at (b : Fin 2) (h : Fin 16) (i j : Fin 4096) :
    val_main_v26_0 (F := Ideal) x0 x2 (ix4 b h i j) = msc X C b h i j := by
  rw [val_main_v26_0_apply, causal_at, s_at A, val_main_call0_v2_apply, val_main_call0_v0_apply]
  unfold msc
  by_cases hji : j ≤ i
  · rw [if_pos hji, if_pos hji]; rfl
  · rw [if_neg hji, if_neg hji]; exact bits_bot

theorem mx_at (b : Fin 2) (h : Fin 16) (i : Fin 4096) :
    val_main_v27 (F := Ideal) x0 x2 (ix3 b h i) = ((mx X C b h i : ℝ) : EReal) := by
  unfold val_main_v27
  pointwise
  simp only [msc_at A]
  rw [← mxE_eq]
  exact congrArg (fun z => Finset.fold max z (fun x => msc X C b h i x) Finset.univ) bits_bot

theorem ex_at (b : Fin 2) (h : Fin 16) (i j : Fin 4096) :
    val_main_v36 (F := Ideal) x0 x2 (ix4 b h i j) = ((ex X C b h i j : ℝ) : EReal) := by
  rw [val_main_v36_apply, val_main_v35_apply, msc_at A, val_main_v34_apply, val_main_v33_apply,
    show idx_main_v33 (idx_main_v34 (ix4 b h i j)) = ix3 b h i from idx3_eq _ _ _ _ rfl rfl rfl, mx_at A]
  change Ideal.exp (msc X C b h i j - _) = _
  unfold msc ex
  by_cases hji : j ≤ i
  · rw [if_pos hji, if_pos hji, ← EReal.coe_sub, Ideal.exp_coe]
  · rw [if_neg hji, if_neg hji, EReal.bot_sub, Ideal.exp_bot, EReal.coe_zero]

theorem den_at (b : Fin 2) (h : Fin 16) (i : Fin 4096) :
    val_main_v37 (F := Ideal) x0 x2 (ix3 b h i) = ((den X C b h i : ℝ) : EReal) := by
  rw [val_main_v37_apply]
  have e : ∀ k, idx_main_v37 (ix3 b h i) k = ix4 b h i k := fun k => idx4_eq _ _ _ _ _ rfl rfl rfl rfl
  simp only [e, ex_at A, KernelIdeal.Fox.sum_coe]
  change Ideal.ofBits .f32 0x00000000#32 + _ = _
  rw [bits_zero, zero_add]; rfl

theorem rowMax_at (b : Fin 2) (h : Fin 16) (i : Fin 4096) :
    val_main_v33 (F := Ideal) x0 x2 (ix4 b h i 0) = ((mx X C b h i : ℝ) : EReal) := by
  rw [val_main_v33_apply, show idx_main_v33 (ix4 b h i 0) = ix3 b h i from idx3_eq _ _ _ _ rfl rfl rfl, mx_at A]

theorem rowSum_at (b : Fin 2) (h : Fin 16) (i : Fin 4096) :
    val_main_v38 (F := Ideal) x0 x2 (ix4 b h i 0) = ((den X C b h i : ℝ) : EReal) := by
  rw [val_main_v38_apply, show idx_main_v38 (ix4 b h i 0) = ix3 b h i from idx3_eq _ _ _ _ rfl rfl rfl, den_at A]

theorem pr_at (b : Fin 2) (h : Fin 16) (i j : Fin 4096) :
    val_main_v40 (F := Ideal) x0 x2 (ix4 b h i j) = ((pr X C b h i j : ℝ) : EReal) := by
  rw [val_main_v40_apply, ex_at A, val_main_v39_apply,
    show idx_main_v39 (ix4 b h i j) = ix4 b h i 0 from idx4_eq _ _ _ _ _ rfl rfl rfl rfl, rowSum_at A]
  exact div_coe _ _ (den_pos X C b h i).ne'

theorem out_at (b : Fin 2) (h : Fin 16) (i : Fin 4096) (d : Fin 64) :
    val_main_v45 (F := Ideal) x0 x2 (ix4 b i h d) = ((ou X C b h i d : ℝ) : EReal) := by
  rw [val_main_v45_apply, show idx_main_v45 (ix4 b i h d) = ix4 b h d i from idx4_eq _ _ _ _ _ rfl rfl rfl rfl, val_main_v44_apply]
  have e1 : ∀ k, lidx_main_v44 (ix4 b h d i) k = ix4 b k h d := fun k => idx4_eq _ _ _ _ _ rfl rfl rfl rfl
  have e2 : ∀ k, ridx_main_v44 (ix4 b h d i) k = ix4 b h i k := fun k => idx4_eq _ _ _ _ _ rfl rfl rfl rfl
  simp only [e1, e2, v_at A, pr_at A, ← EReal.coe_mul, KernelIdeal.Fox.sum_coe]
  rfl

theorem g_at (b : Fin 2) (h : Fin 16) (i : Fin 4096) (d : Fin 64) :
    val_main_v48 (F := Ideal) x1 (ix4 b h d i) = ((gv Y b h i d : ℝ) : EReal) := by
  rw [val_main_v48_apply, val_main_v47_apply, val_main_v46_apply]
  refine Eq.trans (congrArg x1 ?_) (A.grad (tok b i) (lane h d))
  funext a
  match a with
  | ⟨0, _⟩ => exact Fin.ext (by show (((b.val * 4096 + i.val) * 16 + h.val) * 64 + d.val) / 1024 = 4096 * b.val + i.val; omega)
  | ⟨1, _⟩ => exact Fin.ext (by show (((b.val * 4096 + i.val) * 16 + h.val) * 64 + d.val) % 1024 = 64 * h.val + d.val; omega)

theorem dp_at (b : Fin 2) (h : Fin 16) (i j : Fin 4096) :
    val_main_v49 (F := Ideal) x0 x1 (ix4 b h i j) = ((dp X Y b h i j : ℝ) : EReal) := by
  rw [val_main_v49_apply]
  have e1 : ∀ k, lidx_main_v49 (ix4 b h i j) k = ix4 b h k i := fun k => idx4_eq _ _ _ _ _ rfl rfl rfl rfl
  have e2 : ∀ k, ridx_main_v49 (ix4 b h i j) k = ix4 b j h k := fun k => idx4_eq _ _ _ _ _ rfl rfl rfl rfl
  simp only [e1, e2, v_at A, g_at A, ← EReal.coe_mul, KernelIdeal.Fox.sum_coe]
  rfl

theorem dv_at (b : Fin 2) (h : Fin 16) (j : Fin 4096) (d : Fin 64) :
    val_main_v51 (F := Ideal) x0 x1 x2 (ix4 b j h d) = ((dv X Y C b h j d : ℝ) : EReal) := by
  rw [val_main_v51_apply, show idx_main_v51 (ix4 b j h d) = ix4 b h d j from idx4_eq _ _ _ _ _ rfl rfl rfl rfl, val_main_v50_apply]
  have e1 : ∀ k, lidx_main_v50 (ix4 b h d j) k = ix4 b h d k := fun k => idx4_eq _ _ _ _ _ rfl rfl rfl rfl
  have e2 : ∀ k, ridx_main_v50 (ix4 b h d j) k = ix4 b h k j := fun k => idx4_eq _ _ _ _ _ rfl rfl rfl rfl
  simp only [e1, e2, g_at A, pr_at A, ← EReal.coe_mul, KernelIdeal.Fox.sum_coe]
  rfl

theorem inv_at (b : Fin 2) (h : Fin 16) (i : Fin 4096) :
    val_main_v43 (F := Ideal) x0 x2 (ix4 b h i 0) = ((1 / (den X C b h i * den X C b h i) : ℝ) : EReal) := by
  have hd := (den_pos X C b h i).ne'
  rw [val_main_v43_apply, val_main_v42_apply, val_main_v41_apply, rowSum_at A]
  change Ideal.div (Ideal.ofBits .f32 0x3F800000#32) (_ * _) = _
  rw [bits_one, ← EReal.coe_mul, div_coe _ _ (mul_ne_zero hd hd)]

theorem corr_at (b : Fin 2) (h : Fin 16) (i : Fin 4096) :
    val_main_v55 (F := Ideal) x0 x1 x2 (ix3 b h i) =
      ((∑ l, dp X Y b h i l * (1 / (den X C b h i * den X C b h i)) * ex X C b h i l : ℝ) : EReal) := by
  rw [val_main_v55_apply]
  have e : ∀ k, idx_main_v55 (ix3 b h i) k = ix4 b h i k := fun k => idx4_eq _ _ _ _ _ rfl rfl rfl rfl
  have e2 : ∀ k, idx_main_v52 (ix4 b h i k) = ix4 b h i 0 := fun k => idx4_eq _ _ _ _ _ rfl rfl rfl rfl
  have t : ∀ k, val_main_v54 (F := Ideal) x0 x1 x2 (ix4 b h i k) =
      ((dp X Y b h i k * (1 / (den X C b h i * den X C b h i)) * ex X C b h i k : ℝ) : EReal) := fun k => by
    rw [val_main_v54_apply, val_main_v53_apply, ex_at A, dp_at A, val_main_v52_apply, e2, inv_at A, EReal.coe_mul, EReal.coe_mul]
    rfl
  simp only [e, t, KernelIdeal.Fox.sum_coe]
  change Ideal.ofBits .f32 0x00000000#32 + _ = _
  rw [bits_zero, zero_add]

theorem ds_at (b : Fin 2) (h : Fin 16) (i j : Fin 4096) :
    val_main_v64 (F := Ideal) x0 x1 x2 (ix4 b h i j) = ((ds X Y C b h i j : ℝ) : EReal) := by
  have hd := (den_pos X C b h i).ne'
  rw [val_main_v64_apply, causal_at]
  by_cases hji : j ≤ i
  · rw [if_pos hji]
    change val_main_v63 (F := Ideal) x0 x1 x2 (ix4 b h i j) = _
    have e1 : idx_main_v61 (ix4 b h i j) = ix3 b h i := idx3_eq _ _ _ _ rfl rfl rfl
    have e2 : ∀ k, idx_main_v60 (ix3 b h i) k = ix4 b h i 0 := fun k => idx4_eq _ _ _ _ _ rfl rfl rfl
      (congrArg Fin.val (Subsingleton.elim k (0 : Fin 1)))
    have e3 : idx_main_v56 (ix4 b h i 0) = ix3 b h i := idx3_eq _ _ _ _
      (by show (((b.val * 16 + h.val) * 4096 + i.val) * 1 + 0) / 65536 = b.val; omega)
      (by show (((b.val * 16 + h.val) * 4096 + i.val) * 1 + 0) / 4096 % 16 = h.val; omega)
      (by show (((b.val * 16 + h.val) * 4096 + i.val) * 1 + 0) % 4096 = i.val; omega)
    rw [val_main_v63_apply, val_main_v62_apply, val_main_v59_apply, dp_at A, val_main_v58_apply,
      show idx_main_v58 (ix4 b h i j) = ix4 b h i 0 from idx4_eq _ _ _ _ _ rfl rfl rfl rfl, rowSum_at A, ex_at A,
      val_main_v61_apply, e1, val_main_v60_apply]
    simp only [e2, val_main_v57_apply, val_main_v56_apply, e3, corr_at A, Finset.sum_const, Finset.card_univ, Fintype.card_fin, one_smul]
    change (Ideal.div _ _ + (Ideal.ofBits .f32 0x00000000#32 + -_)) * _ = _
    rw [bits_zero, zero_add, div_coe _ _ hd, ← EReal.coe_neg, ← EReal.coe_add, ← EReal.coe_mul, ds_eq]
  · rw [if_neg hji, ds_after X Y C b h i j hji, val_main_call1_v0_apply]
    exact bits_zero

theorem dsc_at (b : Fin 2) (h : Fin 16) (i j : Fin 4096) :
    val_main_v73 (F := Ideal) x0 x1 x2 (ix4 b h i j) = ((ds X Y C b h i j * (1 / 8) : ℝ) : EReal) := by
  rw [val_main_v73_apply, ds_at A, val_main_v72_apply]
  change _ * Ideal.ofBits .f32 0x3E000000#32 = _
  rw [KernelIdeal.Fox.ofBits_eighth, ← EReal.coe_mul]

/-- The gradients, as the reference leaves them. -/
theorem dq_at (b : Fin 2) (h : Fin 16) (i : Fin 4096) (d : Fin 64) :
    val_main_v79 (F := Ideal) x0 x1 x2 (ix2 (tok b i) (lane h d)) = ((dq X Y C b h i d : ℝ) : EReal) := by
  rw [val_main_v79_apply, val_main_v78_apply]
  have e0 : idx_main_v78 (ix2 (tok b i) (lane h d)) = ix4 b i h d := idx4_eq _ _ _ _ _
    (by show ((4096 * b.val + i.val) * 1024 + (64 * h.val + d.val)) / 4194304 = b.val; omega)
    (by show ((4096 * b.val + i.val) * 1024 + (64 * h.val + d.val)) / 1024 % 4096 = i.val; omega)
    (by show ((4096 * b.val + i.val) * 1024 + (64 * h.val + d.val)) / 64 % 16 = h.val; omega)
    (by show ((4096 * b.val + i.val) * 1024 + (64 * h.val + d.val)) % 64 = d.val; omega)
  rw [e0, val_main_v77_apply, show idx_main_v77 (ix4 b i h d) = ix4 b h i d from idx4_eq _ _ _ _ _ rfl rfl rfl rfl, val_main_v76_apply]
  have e1 : ∀ k, lidx_main_v76 (ix4 b h i d) k = ix4 b h i k := fun k => idx4_eq _ _ _ _ _ rfl rfl rfl rfl
  have e2 : ∀ k, ridx_main_v76 (ix4 b h i d) k = ix4 b k h d := fun k => idx4_eq _ _ _ _ _ rfl rfl rfl rfl
  simp only [e1, e2, dsc_at A, k_at A, ← EReal.coe_mul, KernelIdeal.Fox.sum_coe]
  refine congrArg ((↑) : ℝ → EReal) ?_
  unfold dq
  rw [Finset.sum_mul]
  exact Finset.sum_congr rfl fun k _ => by ring

theorem dk_at (b : Fin 2) (h : Fin 16) (j : Fin 4096) (d : Fin 64) :
    val_main_v81 (F := Ideal) x0 x1 x2 (ix2 (tok b j) (lane h d)) = ((dk X Y C b h j d : ℝ) : EReal) := by
  rw [val_main_v81_apply, val_main_v80_apply]
  have e0 : idx_main_v80 (ix2 (tok b j) (lane h d)) = ix4 b j h d := idx4_eq _ _ _ _ _
    (by show ((4096 * b.val + j.val) * 1024 + (64 * h.val + d.val)) / 4194304 = b.val; omega)
    (by show ((4096 * b.val + j.val) * 1024 + (64 * h.val + d.val)) / 1024 % 4096 = j.val; omega)
    (by show ((4096 * b.val + j.val) * 1024 + (64 * h.val + d.val)) / 64 % 16 = h.val; omega)
    (by show ((4096 * b.val + j.val) * 1024 + (64 * h.val + d.val)) % 64 = d.val; omega)
  rw [e0, val_main_v75_apply, show idx_main_v75 (ix4 b j h d) = ix4 b h j d from idx4_eq _ _ _ _ _ rfl rfl rfl rfl, val_main_v74_apply]
  have e1 : ∀ k, lidx_main_v74 (ix4 b h j d) k = ix4 b h k j := fun k => idx4_eq _ _ _ _ _ rfl rfl rfl rfl
  have e2 : ∀ k, ridx_main_v74 (ix4 b h j d) k = ix4 b k h d := fun k => idx4_eq _ _ _ _ _ rfl rfl rfl rfl
  simp only [e1, e2, dsc_at A, q_at A, ← EReal.coe_mul, KernelIdeal.Fox.sum_coe]
  refine congrArg ((↑) : ℝ → EReal) ?_
  unfold dk
  rw [Finset.sum_mul]
  exact Finset.sum_congr rfl fun k _ => by ring

theorem dvt_at (b : Fin 2) (h : Fin 16) (j : Fin 4096) (d : Fin 64) :
    val_main_v83 (F := Ideal) x0 x1 x2 (ix2 (tok b j) (lane h d)) = ((dv X Y C b h j d : ℝ) : EReal) := by
  rw [val_main_v83_apply, val_main_v82_apply]
  have e0 : idx_main_v82 (ix2 (tok b j) (lane h d)) = ix4 b j h d := idx4_eq _ _ _ _ _
    (by show ((4096 * b.val + j.val) * 1024 + (64 * h.val + d.val)) / 4194304 = b.val; omega)
    (by show ((4096 * b.val + j.val) * 1024 + (64 * h.val + d.val)) / 1024 % 4096 = j.val; omega)
    (by show ((4096 * b.val + j.val) * 1024 + (64 * h.val + d.val)) / 64 % 16 = h.val; omega)
    (by show ((4096 * b.val + j.val) * 1024 + (64 * h.val + d.val)) % 64 = d.val; omega)
  rw [e0, dv_at A]
  rfl

theorem dck_at (b : Fin 2) (h : Fin 16) (u : Fin 8) (r : Fin 512) :
    val_main_v84 (F := Ideal) x0 x1 x2 (ix5 b h u 0 r) = ((dck X Y C b h ⟨512 * u.val + r.val, by omega⟩ : ℝ) : EReal) := by
  generalize hj : (⟨512 * u.val + r.val, by omega⟩ : Fin 4096) = j
  have hv : j.val = 512 * u.val + r.val := (congrArg Fin.val hj).symm
  rw [val_main_v84_apply]
  have e0 : idx_main_v84 (ix5 b h u 0 r) = ix3 b h j := idx3_eq _ _ _ _
    (by show ((((b.val * 16 + h.val) * 8 + u.val) * 1 + 0) * 512 + r.val) / 65536 = b.val; omega)
    (by show ((((b.val * 16 + h.val) * 8 + u.val) * 1 + 0) * 512 + r.val) / 4096 % 16 = h.val; omega)
    (by show ((((b.val * 16 + h.val) * 8 + u.val) * 1 + 0) * 512 + r.val) % 4096 = j.val; omega)
  have e2 : ∀ k, idx_main_v68 (ix3 b h j) k = ix4 b h 0 j := fun k => idx4_eq _ _ _ _ _ rfl rfl
      (congrArg Fin.val (Subsingleton.elim k (0 : Fin 1))) rfl
  have e3 : idx_main_v67 (ix4 b h 0 j) = ix3 b h j := idx3_eq _ _ _ _
      (by show (((b.val * 16 + h.val) * 1 + 0) * 4096 + j.val) / 65536 = b.val; omega)
      (by show (((b.val * 16 + h.val) * 1 + 0) * 4096 + j.val) / 4096 % 16 = h.val; omega)
      (by show (((b.val * 16 + h.val) * 1 + 0) * 4096 + j.val) % 4096 = j.val; omega)
  have e4 : ∀ k, idx_main_v66 (ix3 b h j) k = ix4 b h k j := fun k => idx4_eq _ _ _ _ _ rfl rfl rfl rfl
  have t : ∀ k, val_main_v65 (F := Ideal) x0 x1 x2 (ix4 b h k j) = ((-ds X Y C b h k j : ℝ) : EReal) := fun k => by
    rw [val_main_v65_apply, ds_at A, EReal.coe_neg]
    rfl
  rw [e0, val_main_v68_apply]
  simp only [e2, val_main_v67_apply, e3, val_main_v66_apply, e4, t, KernelIdeal.Fox.sum_coe, Finset.sum_const, Finset.card_univ, Fintype.card_fin, one_smul]
  change Ideal.ofBits .f32 0x00000000#32 + (Ideal.ofBits .f32 0x00000000#32 + _) = _
  rw [bits_zero, zero_add, zero_add, Finset.sum_neg_distrib]
  rfl

theorem dcq_at (b : Fin 2) (h : Fin 16) (i : Fin 4096) :
    val_main_v85 (F := Ideal) x0 x1 x2 (ix4 b h 0 i) = ((dcq X Y C b h i : ℝ) : EReal) := by
  rw [val_main_v85_apply]
  have e0 : idx_main_v85 (ix4 b h 0 i) = ix3 b h i := idx3_eq _ _ _ _
    (by show (((b.val * 16 + h.val) * 1 + 0) * 4096 + i.val) / 65536 = b.val; omega)
    (by show (((b.val * 16 + h.val) * 1 + 0) * 4096 + i.val) / 4096 % 16 = h.val; omega)
    (by show (((b.val * 16 + h.val) * 1 + 0) * 4096 + i.val) % 4096 = i.val; omega)
  have e2 : ∀ k, idx_main_v71 (ix3 b h i) k = ix4 b h i 0 := fun k => idx4_eq _ _ _ _ _ rfl rfl rfl
      (congrArg Fin.val (Subsingleton.elim k (0 : Fin 1)))
  have e3 : idx_main_v70 (ix4 b h i 0) = ix3 b h i := idx3_eq _ _ _ _
      (by show (((b.val * 16 + h.val) * 4096 + i.val) * 1 + 0) / 65536 = b.val; omega)
      (by show (((b.val * 16 + h.val) * 4096 + i.val) * 1 + 0) / 4096 % 16 = h.val; omega)
      (by show (((b.val * 16 + h.val) * 4096 + i.val) * 1 + 0) % 4096 = i.val; omega)
  have e4 : ∀ k, idx_main_v69 (ix3 b h i) k = ix4 b h i k := fun k => idx4_eq _ _ _ _ _ rfl rfl rfl rfl
  rw [e0, val_main_v71_apply]
  simp only [e2, val_main_v70_apply, e3, val_main_v69_apply, e4, ds_at A, KernelIdeal.Fox.sum_coe, Finset.sum_const, Finset.card_univ, Fintype.card_fin, one_smul]
  change Ideal.ofBits .f32 0x00000000#32 + (Ideal.ofBits .f32 0x00000000#32 + _) = _
  rw [bits_zero, zero_add, zero_add]
  rfl

end Cert.ReferenceIdeal.Read

end
-- ==== Proof.Trip.lean ====
module

public import proofs.«01_k».proof.Proof.Reals

@[expose] public section

set_option maxRecDepth 16384

noncomputable section

namespace Cert.KernelIdeal.Fox

open Idealize.ShloMosaic Idealize.ShloMosaic.TcCoe Idealize.ShloMosaic.Tactic
open Idealize.SL.Sem
open Cert.KernelIdeal Cert.KernelIdeal.Gen

/-! # One unmasked block of queries: the sums it adds, over real numbers -/

/-- Over the lanes of head `h`, the product of two rows. -/
def hdot (h : Fin 2) (x y : Fin 128 → ℝ) : ℝ := ∑ l, if hd l = h then x l * y l else 0

/-- The score's gradient, where `p` is the weight. -/
def dsOf (p : ℝ) (g v o : Fin 128 → ℝ) (h : Fin 2) : ℝ := p * (hdot h g v - hdot h g o)

theorem off8_0 : ∀ (i : grid0.Coords) (k : Fin (k0_t1_loop i).trips), k0_off8 i k 0 = 512 * ((i 2).val + 1 + k.val) := by decide +kernel
theorem off8_1 : ∀ (i : grid0.Coords) (k : Fin (k0_t1_loop i).trips), k0_off8 i k 1 = 0 := by decide +kernel
theorem off9_0 : ∀ (i : grid0.Coords) (k : Fin (k0_t1_loop i).trips), k0_off9 i k 0 = 0 := by decide +kernel
theorem off9_1 : ∀ (i : grid0.Coords) (k : Fin (k0_t1_loop i).trips), k0_off9 i k 1 = 512 * ((i 2).val + 1 + k.val) := by decide +kernel
theorem off9_2 : ∀ (i : grid0.Coords) (k : Fin (k0_t1_loop i).trips), k0_off9 i k 2 = 0 := by decide +kernel
theorem off10_0 : ∀ (i : grid0.Coords) (k : Fin (k0_t1_loop i).trips), k0_off10 i k 0 = 0 := by decide +kernel
theorem off10_1 : ∀ (i : grid0.Coords) (k : Fin (k0_t1_loop i).trips), k0_off10 i k 1 = 512 * ((i 2).val + 1 + k.val) := by decide +kernel
theorem off10_2 : ∀ (i : grid0.Coords) (k : Fin (k0_t1_loop i).trips), k0_off10 i k 2 = 0 := by decide +kernel
theorem off11_0 : ∀ (i : grid0.Coords) (k : Fin (k0_t1_loop i).trips), k0_off11 i k 0 = 1 := by decide +kernel
theorem off11_1 : ∀ (i : grid0.Coords) (k : Fin (k0_t1_loop i).trips), k0_off11 i k 1 = 512 * ((i 2).val + 1 + k.val) := by decide +kernel
theorem off11_2 : ∀ (i : grid0.Coords) (k : Fin (k0_t1_loop i).trips), k0_off11 i k 2 = 0 := by decide +kernel
theorem off12_0 : ∀ (i : grid0.Coords) (k : Fin (k0_t1_loop i).trips), k0_off12 i k 0 = 1 := by decide +kernel
theorem off12_1 : ∀ (i : grid0.Coords) (k : Fin (k0_t1_loop i).trips), k0_off12 i k 1 = 512 * ((i 2).val + 1 + k.val) := by decide +kernel
theorem off12_2 : ∀ (i : grid0.Coords) (k : Fin (k0_t1_loop i).trips), k0_off12 i k 2 = 0 := by decide +kernel
theorem t1_trips : ∀ (i : grid0.Coords), (i 2).val + 1 + (k0_t1_loop i).trips = 8 := by decide +kernel
theorem t2_trips : ∀ (i : grid0.Coords), (k0_t2_loop i).trips = 0 := by decide +kernel
theorem t1_lt (i : grid0.Coords) (k : Fin (k0_t1_loop i).trips) : (i 2).val + 1 + k.val < 8 := by
  have := t1_trips i; have := k.isLt; omega

section Trip
variable (𝒱 : Variants) (c : Dev nD) (bd : Option 𝒱.V) (i : grid0.Coords) (arg3 : Memref sig .tc .vmem S4096x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S1x2x8x1x512 .f32) (harg8 : arg8.IsWhole) (arg9 : Memref sig .tc .vmem S1x2x8x1x512 .f32) (harg9 : arg9.IsWhole) (arg10 : Memref sig .tc .vmem S4096x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x2x1x1x512 .f32) (harg13 : arg13.IsWhole) (arg14 : Memref sig .tc .vmem S1x2x1x4096 .f32) (harg14 : arg14.IsWhole) (arg15 : Memref sig .tc .vmem S4096x128 .f32) (harg15 : arg15.IsWhole) (arg16 : Memref sig .tc .vmem S2x4096x1 .f32) (harg16 : arg16.IsWhole) (arg17 : Memref sig .tc .vmem S2x4096x128 .bf16) (harg17 : arg17.IsWhole) (v7 : Vec Ideal S512x128 .bf16) (v6 : Vec Ideal S512x128 .bf16) (v84 : FVec Ideal S512x128 .bf16) (v153 : FVec Ideal S512x128 .bf16) (v276 : BitVec 32) (x3 : Vec Ideal S4096x128 .bf16) (x6 : Vec Ideal S4096x128 .bf16) (x7 : Vec Ideal S4096x128 .bf16) (x17 : Vec Ideal S2x4096x128 .bf16)
  (q g o : Fin 4096 → Fin 128 → ℝ) (kk v : Fin 512 → Fin 128 → ℝ) (qa : Fin 2 → Fin 4096 → Fin 128 → ℝ) (ka : Fin 2 → Fin 512 → Fin 128 → ℝ)

/-- What the loop reads is finite, with these values. -/
structure Reads : Prop where
  q : ∀ R l, x3 (ix2 R l) = ((q R l : ℝ) : EReal)
  g : ∀ R l, x6 (ix2 R l) = ((g R l : ℝ) : EReal)
  o : ∀ R l, x7 (ix2 R l) = ((o R l : ℝ) : EReal)
  k : ∀ c l, v6 (ix2 c l) = ((kk c l : ℝ) : EReal)
  v : ∀ c l, v7 (ix2 c l) = ((v c l : ℝ) : EReal)
  qa : ∀ h R l, x17 (ix3 h R l) = ((qa h R l : ℝ) : EReal)
  ka0 : ∀ c l, v84 (ix2 c l) = ((ka 0 c l : ℝ) : EReal)
  ka1 : ∀ c l, v153 (ix2 c l) = ((ka 1 c l : ℝ) : EReal)

/-- The weight of key `c` for query row `R`. -/
def wt (h : Fin 2) (R : Fin 4096) (c : Fin 512) : ℝ := Real.exp (∑ l, qa h R l * ka h c l)

variable (H : Reads v7 v6 v84 v153 x3 x6 x7 x17 q g o kk v qa ka) (k : Fin (k0_t1_loop i).trips)
  (acc : FVec Ideal S512x128 .f32 × FVec Ideal S512x128 .f32 × FVec Ideal S1x512 .f32 × FVec Ideal S1x512 .f32)
  (f15 : BufTy.Contents (Elt Ideal) arg15.view.ty) (f16 : BufTy.Contents (Elt Ideal) arg16.view.ty)

theorem hd_cases (l : Fin 128) : hd l = 0 ∨ hd l = 1 := by unfold hd; split <;> simp
theorem one_ne : ¬ ((1 : Fin 2) = 0) := by decide
theorem zero_ne : ¬ ((0 : Fin 2) = 1) := by decide

include H in
set_option maxHeartbeats 4000000 in
theorem trip_dk (c' : Fin 512) (l : Fin 128) (d : ℝ) (hd' : acc.1 (ix2 c' l) = ((d : ℝ) : EReal)) :
    ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay196 v7 (k0_pay199 v6) (k0_pay200 v6) v84 v153 v276 (harg3.unread x3) (harg6.unread x6) (harg7.unread x7) (harg17.unread x17) k).1 acc f15 f16).1 (ix2 c' l)
      = ((d + ∑ r : Fin 512, dsOf (wt qa ka (hd l) (rowOf _ (t1_lt i k) r) c') (g (rowOf _ (t1_lt i k) r)) (v c') (o (rowOf _ (t1_lt i k) r)) (hd l) * q (rowOf _ (t1_lt i k) r) l : ℝ) : EReal) := by
  unfold trip_k0_t1
  dsimp only
  sl_unfold_run_names
  simp only [View.readAt_eq_ld, Memref.IsWhole.read_unread]
  unfold_payloads
  pointwise
  simp only [H.q, H.g, H.o, H.k, H.v, H.qa, H.ka0, H.ka1, hd', off8_0, off8_1, off9_0, off9_1, off9_2, off10_0, off10_1, off10_2, off11_0, off11_1, off11_2, off12_0, off12_1, off12_2, pay196, sel_lt, sel_ge, sel_not, zero_add, Fin.eta, Fin.mk_zero, Fin.mk_one, Fin.zero_eta,
    ← EReal.coe_mul, ← EReal.coe_sub, ← EReal.coe_add, Ideal.exp_coe, coe_ite_zero, coe_ite, coe_zero_ite, sum_coe, EReal.coe_eq_coe_iff]
  rcases hd_cases l with e | e <;> simp only [e, one_ne, zero_ne, if_true, if_false, Finset.sum_const_zero, add_zero, dsOf, wt, hdot, rowOf]

include H in
set_option maxHeartbeats 4000000 in
theorem trip_dv (c' : Fin 512) (l : Fin 128) (d : ℝ) (hd' : acc.2.1 (ix2 c' l) = ((d : ℝ) : EReal)) :
    ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay196 v7 (k0_pay199 v6) (k0_pay200 v6) v84 v153 v276 (harg3.unread x3) (harg6.unread x6) (harg7.unread x7) (harg17.unread x17) k).1 acc f15 f16).2.1 (ix2 c' l)
      = ((d + ∑ r : Fin 512, wt qa ka (hd l) (rowOf _ (t1_lt i k) r) c' * g (rowOf _ (t1_lt i k) r) l : ℝ) : EReal) := by
  unfold trip_k0_t1
  dsimp only
  sl_unfold_run_names
  simp only [View.readAt_eq_ld, Memref.IsWhole.read_unread]
  unfold_payloads
  pointwise
  simp only [H.q, H.g, H.o, H.k, H.v, H.qa, H.ka0, H.ka1, hd', off8_0, off8_1, off9_0, off9_1, off9_2, off10_0, off10_1, off10_2, off11_0, off11_1, off11_2, off12_0, off12_1, off12_2, pay196, sel_lt, sel_ge, sel_not, zero_add, Fin.eta, Fin.mk_zero, Fin.mk_one, Fin.zero_eta,
    ← EReal.coe_mul, ← EReal.coe_sub, ← EReal.coe_add, Ideal.exp_coe, coe_ite_zero, coe_ite, coe_zero_ite, sum_coe, EReal.coe_eq_coe_iff]
  rcases hd_cases l with e | e <;> simp only [e, one_ne, zero_ne, if_true, if_false, Finset.sum_const_zero, add_zero, dsOf, wt, hdot, rowOf]

include H in
set_option maxHeartbeats 4000000 in
theorem trip_dc0 (c' : Fin 512) (d : ℝ) (hd' : acc.2.2.1 (ix2 0 c') = ((d : ℝ) : EReal)) :
    ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay196 v7 (k0_pay199 v6) (k0_pay200 v6) v84 v153 v276 (harg3.unread x3) (harg6.unread x6) (harg7.unread x7) (harg17.unread x17) k).1 acc f15 f16).2.2.1 (ix2 0 c')
      = ((d - ∑ r : Fin 512, dsOf (wt qa ka 0 (rowOf _ (t1_lt i k) r) c') (g (rowOf _ (t1_lt i k) r)) (v c') (o (rowOf _ (t1_lt i k) r)) 0 : ℝ) : EReal) := by
  unfold trip_k0_t1
  dsimp only
  sl_unfold_run_names
  simp only [View.readAt_eq_ld, Memref.IsWhole.read_unread]
  unfold_payloads
  pointwise
  simp only [H.q, H.g, H.o, H.k, H.v, H.qa, H.ka0, H.ka1, hd', off8_0, off8_1, off9_0, off9_1, off9_2, off10_0, off10_1, off10_2, off11_0, off11_1, off11_2, off12_0, off12_1, off12_2, pay196, sel_lt, sel_ge, sel_not, zero_add, Fin.eta, Fin.mk_zero, Fin.mk_one, Fin.zero_eta,
    ← EReal.coe_mul, ← EReal.coe_sub, ← EReal.coe_add, Ideal.exp_coe, coe_ite_zero, coe_ite, coe_zero_ite, sum_coe, EReal.coe_eq_coe_iff]
  simp only [dsOf, wt, hdot, rowOf]

include H in
set_option maxHeartbeats 4000000 in
theorem trip_dc1 (c' : Fin 512) (d : ℝ) (hd' : acc.2.2.2 (ix2 0 c') = ((d : ℝ) : EReal)) :
    ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay196 v7 (k0_pay199 v6) (k0_pay200 v6) v84 v153 v276 (harg3.unread x3) (harg6.unread x6) (harg7.unread x7) (harg17.unread x17) k).1 acc f15 f16).2.2.2 (ix2 0 c')
      = ((d - ∑ r : Fin 512, dsOf (wt qa ka 1 (rowOf _ (t1_lt i k) r) c') (g (rowOf _ (t1_lt i k) r)) (v c') (o (rowOf _ (t1_lt i k) r)) 1 : ℝ) : EReal) := by
  unfold trip_k0_t1
  dsimp only
  sl_unfold_run_names
  simp only [View.readAt_eq_ld, Memref.IsWhole.read_unread]
  unfold_payloads
  pointwise
  simp only [H.q, H.g, H.o, H.k, H.v, H.qa, H.ka0, H.ka1, hd', off8_0, off8_1, off9_0, off9_1, off9_2, off10_0, off10_1, off10_2, off11_0, off11_1, off11_2, off12_0, off12_1, off12_2, pay196, sel_lt, sel_ge, sel_not, zero_add, Fin.eta, Fin.mk_zero, Fin.mk_one, Fin.zero_eta,
    ← EReal.coe_mul, ← EReal.coe_sub, ← EReal.coe_add, Ideal.exp_coe, coe_ite_zero, coe_ite, coe_zero_ite, sum_coe, EReal.coe_eq_coe_iff]
  simp only [dsOf, wt, hdot, rowOf]

include H in
set_option maxHeartbeats 4000000 in
theorem trip_dq (R : Fin 4096) (l : Fin 128) (d : ℝ) (hd' : arg15.view.read (Elt Ideal) f15 (ix2 R l) = ((d : ℝ) : EReal)) :
    arg15.view.read (Elt Ideal) (arg15.view.writes (Elt Ideal) f15 ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay196 v7 (k0_pay199 v6) (k0_pay200 v6) v84 v153 v276 (harg3.unread x3) (harg6.unread x6) (harg7.unread x7) (harg17.unread x17) k).2.1 acc f15 f16)) (ix2 R l)
      = ((d + if 512 * ((i 2).val + 1 + k.val) ≤ R.val ∧ R.val < 512 * ((i 2).val + 1 + k.val + 1) then
          ∑ c' : Fin 512, dsOf (wt qa ka (hd l) R c') (g R) (v c') (o R) (hd l) * kk c' l else 0 : ℝ) : EReal) := by
  unfold trip_k0_t1
  dsimp only
  by_cases hR : 512 * ((i 2).val + 1 + k.val) ≤ R.val ∧ R.val < 512 * ((i 2).val + 1 + k.val + 1)
  · rw [if_pos hR]
    obtain ⟨r, rfl⟩ : ∃ r, R = rowOf _ (t1_lt i k) r := ⟨⟨R.val - 512 * ((i 2).val + 1 + k.val), by omega⟩, Fin.ext (by simp only [rowOf]; omega)⟩
    refine (View.read_writes_cons_hit_of_coords _ _ _ _ _ (ix2 r l) _ (fun a => match a with
      | ⟨0, _⟩ => show (512 * ((i 2).val + 1 + k.val) + r.val : ℕ) = k0_off8 i k 0 + 1 * r.val by rw [off8_0]; omega
      | ⟨1, _⟩ => show (l.val : ℕ) = k0_off8 i k 1 + 1 * l.val by rw [off8_1]; omega)).trans ?_
    simp only [rowOf] at hd'
    sl_unfold_run_names
    simp only [View.readAt_eq_ld, Memref.IsWhole.read_unread]
    unfold_payloads
    pointwise
    simp only [H.q, H.g, H.o, H.k, H.v, H.qa, H.ka0, H.ka1, hd', off8_0, off8_1, off9_0, off9_1, off9_2, off10_0, off10_1, off10_2, off11_0, off11_1, off11_2, off12_0, off12_1, off12_2, pay196, sel_lt, sel_ge, sel_not, zero_add, Fin.eta, Fin.mk_zero, Fin.mk_one, Fin.zero_eta,
    ← EReal.coe_mul, ← EReal.coe_sub, ← EReal.coe_add, Ideal.exp_coe, coe_ite_zero, coe_ite, coe_zero_ite, sum_coe, EReal.coe_eq_coe_iff]
    rcases hd_cases l with e | e <;> simp only [e, one_ne, zero_ne, if_true, if_false, Finset.sum_const_zero, add_zero, zero_add, dsOf, wt, hdot, rowOf]
  · rw [if_neg hR, add_zero, View.read_writes_cons_miss_of_axis _ _ _ _ _ 0 (512 * ((i 2).val + 1 + k.val)) 512 (off8_0 i k) rfl rfl (by
      show R.val < _ ∨ _ ≤ R.val; omega)]
    exact hd'

include H in
set_option maxHeartbeats 4000000 in
theorem trip_dr (h : Fin 2) (R : Fin 4096) (d : ℝ) (hd' : arg16.view.read (Elt Ideal) f16 (ix3 h R 0) = ((d : ℝ) : EReal)) :
    arg16.view.read (Elt Ideal) (arg16.view.writes (Elt Ideal) f16 ((trip_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay196 v7 (k0_pay199 v6) (k0_pay200 v6) v84 v153 v276 (harg3.unread x3) (harg6.unread x6) (harg7.unread x7) (harg17.unread x17) k).2.2.1 acc f15 f16)) (ix3 h R 0)
      = ((d + if 512 * ((i 2).val + 1 + k.val) ≤ R.val ∧ R.val < 512 * ((i 2).val + 1 + k.val + 1) then
          ∑ c' : Fin 512, dsOf (wt qa ka h R c') (g R) (v c') (o R) h else 0 : ℝ) : EReal) := by
  unfold trip_k0_t1
  dsimp only
  by_cases hR : 512 * ((i 2).val + 1 + k.val) ≤ R.val ∧ R.val < 512 * ((i 2).val + 1 + k.val + 1)
  · rw [if_pos hR]
    obtain ⟨r, rfl⟩ : ∃ r, R = rowOf _ (t1_lt i k) r := ⟨⟨R.val - 512 * ((i 2).val + 1 + k.val), by omega⟩, Fin.ext (by simp only [rowOf]; omega)⟩
    simp only [rowOf] at hd'
    rcases (by decide : ∀ h : Fin 2, h = 1 ∨ h = 0) h with rfl | rfl
    · refine (View.read_writes_cons_hit_of_coords _ _ _ _ _ (ix3 0 r 0) _ (fun a => match a with
        | ⟨0, _⟩ => show (1 : ℕ) = k0_off12 i k 0 + 1 * 0 by rw [off12_0]
        | ⟨1, _⟩ => show (512 * ((i 2).val + 1 + k.val) + r.val : ℕ) = k0_off12 i k 1 + 1 * r.val by rw [off12_1]; omega
        | ⟨2, _⟩ => show (0 : ℕ) = k0_off12 i k 2 + 1 * 0 by rw [off12_2])).trans ?_
      sl_unfold_run_names
      simp only [View.readAt_eq_ld, Memref.IsWhole.read_unread]
      unfold_payloads
      pointwise
      simp only [H.q, H.g, H.o, H.k, H.v, H.qa, H.ka0, H.ka1, hd', off8_0, off8_1, off9_0, off9_1, off9_2, off10_0, off10_1, off10_2, off11_0, off11_1, off11_2, off12_0, off12_1, off12_2, pay196, sel_lt, sel_ge, sel_not, zero_add, Fin.eta, Fin.mk_zero, Fin.mk_one, Fin.zero_eta,
    ← EReal.coe_mul, ← EReal.coe_sub, ← EReal.coe_add, Ideal.exp_coe, coe_ite_zero, coe_ite, coe_zero_ite, sum_coe, EReal.coe_eq_coe_iff]
      simp only [dsOf, wt, hdot, rowOf]
    · rw [View.read_writes_cons_miss_of_axis _ _ _ _ _ 0 1 1 (off12_0 i k) rfl rfl (Or.inl Nat.zero_lt_one)]
      refine (View.read_writes_cons_hit_of_coords _ _ _ _ _ (ix3 0 r 0) _ (fun a => match a with
        | ⟨0, _⟩ => show (0 : ℕ) = k0_off10 i k 0 + 1 * 0 by rw [off10_0]
        | ⟨1, _⟩ => show (512 * ((i 2).val + 1 + k.val) + r.val : ℕ) = k0_off10 i k 1 + 1 * r.val by rw [off10_1]; omega
        | ⟨2, _⟩ => show (0 : ℕ) = k0_off10 i k 2 + 1 * 0 by rw [off10_2])).trans ?_
      sl_unfold_run_names
      simp only [View.readAt_eq_ld, Memref.IsWhole.read_unread]
      unfold_payloads
      pointwise
      simp only [H.q, H.g, H.o, H.k, H.v, H.qa, H.ka0, H.ka1, hd', off8_0, off8_1, off9_0, off9_1, off9_2, off10_0, off10_1, off10_2, off11_0, off11_1, off11_2, off12_0, off12_1, off12_2, pay196, sel_lt, sel_ge, sel_not, zero_add, Fin.eta, Fin.mk_zero, Fin.mk_one, Fin.zero_eta,
    ← EReal.coe_mul, ← EReal.coe_sub, ← EReal.coe_add, Ideal.exp_coe, coe_ite_zero, coe_ite, coe_zero_ite, sum_coe, EReal.coe_eq_coe_iff]
      simp only [dsOf, wt, hdot, rowOf]
  · rw [if_neg hR, add_zero]
    rw [View.read_writes_cons_miss_of_axis _ _ _ _ _ 1 (512 * ((i 2).val + 1 + k.val)) 512 (off12_1 i k) rfl rfl (by
      show R.val < _ ∨ _ ≤ R.val; omega)]
    rw [View.read_writes_cons_miss_of_axis _ _ _ _ _ 1 (512 * ((i 2).val + 1 + k.val)) 512 (off10_1 i k) rfl rfl (by
      show R.val < _ ∨ _ ≤ R.val; omega)]
    exact hd'

end Trip

end Cert.KernelIdeal.Fox

end
-- ==== Proof.Loop.lean ====
module

public import proofs.«01_k».proof.Proof.Trip

@[expose] public section

set_option maxRecDepth 16384

noncomputable section

namespace Cert.KernelIdeal.Fox

open Idealize.ShloMosaic Idealize.ShloMosaic.TcCoe Idealize.ShloMosaic.Tactic
open Idealize.SL.Sem
open Cert.KernelIdeal Cert.KernelIdeal.Gen

/-! # The loop over the later blocks of queries -/

section Loop
variable (𝒱 : Variants) (c : Dev nD) (bd : Option 𝒱.V) (i : grid0.Coords) (arg3 : Memref sig .tc .vmem S4096x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S1x2x8x1x512 .f32) (harg8 : arg8.IsWhole) (arg9 : Memref sig .tc .vmem S1x2x8x1x512 .f32) (harg9 : arg9.IsWhole) (arg10 : Memref sig .tc .vmem S4096x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x2x1x1x512 .f32) (harg13 : arg13.IsWhole) (arg14 : Memref sig .tc .vmem S1x2x1x4096 .f32) (harg14 : arg14.IsWhole) (arg15 : Memref sig .tc .vmem S4096x128 .f32) (harg15 : arg15.IsWhole) (arg16 : Memref sig .tc .vmem S2x4096x1 .f32) (harg16 : arg16.IsWhole) (arg17 : Memref sig .tc .vmem S2x4096x128 .bf16) (harg17 : arg17.IsWhole) (v7 : Vec Ideal S512x128 .bf16) (v6 : Vec Ideal S512x128 .bf16) (v84 : FVec Ideal S512x128 .bf16) (v153 : FVec Ideal S512x128 .bf16) (v276 : BitVec 32) (x3 : Vec Ideal S4096x128 .bf16) (x6 : Vec Ideal S4096x128 .bf16) (x7 : Vec Ideal S4096x128 .bf16) (x17 : Vec Ideal S2x4096x128 .bf16)
  {q g o : Fin 4096 → Fin 128 → ℝ} {kk v : Fin 512 → Fin 128 → ℝ} {qa : Fin 2 → Fin 4096 → Fin 128 → ℝ} {ka : Fin 2 → Fin 512 → Fin 128 → ℝ}
  (H : Reads v7 v6 v84 v153 x3 x6 x7 x17 q g o kk v qa ka)
  (init : FVec Ideal S512x128 .f32 × FVec Ideal S512x128 .f32 × FVec Ideal S1x512 .f32 × FVec Ideal S1x512 .f32)
  (f15 : BufTy.Contents (Elt Ideal) arg15.view.ty) (f16 : BufTy.Contents (Elt Ideal) arg16.view.ty)
  (p : Fin 2 → Fin 4096 → Fin 512 → ℝ) (D : Fin 4096 → Fin 128 → ℝ) (E : Fin 2 → Fin 4096 → ℝ)

/-- The four carried sums once the rows before `N` are in. -/
structure Carry (q g o : Fin 4096 → Fin 128 → ℝ) (v : Fin 512 → Fin 128 → ℝ) (p : Fin 2 → Fin 4096 → Fin 512 → ℝ) (N : ℕ)
    (acc : FVec Ideal S512x128 .f32 × FVec Ideal S512x128 .f32 × FVec Ideal S1x512 .f32 × FVec Ideal S1x512 .f32) : Prop where
  dk : ∀ c l, acc.1 (ix2 c l) = ((∑ R : Fin 4096, (if R.val < 512 * N then dsOf (p (hd l) R c) (g R) (v c) (o R) (hd l) * q R l else 0) : ℝ) : EReal)
  dv : ∀ c l, acc.2.1 (ix2 c l) = ((∑ R : Fin 4096, (if R.val < 512 * N then p (hd l) R c * g R l else 0) : ℝ) : EReal)
  dc0 : ∀ c, acc.2.2.1 (ix2 0 c) = ((-∑ R : Fin 4096, (if R.val < 512 * N then dsOf (p 0 R c) (g R) (v c) (o R) 0 else 0) : ℝ) : EReal)
  dc1 : ∀ c, acc.2.2.2 (ix2 0 c) = ((-∑ R : Fin 4096, (if R.val < 512 * N then dsOf (p 1 R c) (g R) (v c) (o R) 1 else 0) : ℝ) : EReal)

/-- One block more in a running sum over rows from block `j` on. -/
theorem rows_more (A N : ℕ) (hA : A ≤ N) (R : ℕ) (d x : ℝ) :
    (d + if 512 * A ≤ R ∧ R < 512 * N then x else 0) + (if 512 * N ≤ R ∧ R < 512 * (N + 1) then x else 0)
      = d + if 512 * A ≤ R ∧ R < 512 * (N + 1) then x else 0 := by
  by_cases h1 : 512 * A ≤ R ∧ R < 512 * N
  · rw [if_pos h1, if_neg (by omega), if_pos (by omega), add_zero]
  · by_cases h2 : 512 * N ≤ R ∧ R < 512 * (N + 1)
    · rw [if_neg h1, if_pos h2, if_pos (by omega), add_zero]
    · rw [if_neg h1, if_neg h2, if_neg (by omega), add_zero]

include H in
theorem loop_inv (hp : ∀ h R c, 512 * ((i 2).val + 1) ≤ R.val → p h R c = wt qa ka h R c)
    (hC : Carry q g o v p ((i 2).val + 1) init)
    (hD : ∀ R l, arg15.view.read (Elt Ideal) f15 (ix2 R l) = ((D R l : ℝ) : EReal))
    (hE : ∀ h R, arg16.view.read (Elt Ideal) f16 (ix3 h R 0) = ((E h R : ℝ) : EReal)) :
    ∀ n, n ≤ (k0_t1_loop i).trips →
      Carry q g o v p ((i 2).val + 1 + n) (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay196 v7 (k0_pay199 v6) (k0_pay200 v6) v84 v153 v276 (harg3.unread x3) (harg6.unread x6) (harg7.unread x7) (harg17.unread x17) f15 f16 init n).1
      ∧ (∀ R l, arg15.view.read (Elt Ideal) (arg15.view.writes (Elt Ideal) f15 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay196 v7 (k0_pay199 v6) (k0_pay200 v6) v84 v153 v276 (harg3.unread x3) (harg6.unread x6) (harg7.unread x7) (harg17.unread x17) f15 f16 init n).2.1) (ix2 R l)
          = ((D R l + (if 512 * ((i 2).val + 1) ≤ R.val ∧ R.val < 512 * ((i 2).val + 1 + n) then
              ∑ c, dsOf (p (hd l) R c) (g R) (v c) (o R) (hd l) * kk c l else 0) : ℝ) : EReal))
      ∧ (∀ h R, arg16.view.read (Elt Ideal) (arg16.view.writes (Elt Ideal) f16 (st_k0_t1 (F := Ideal) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay196 v7 (k0_pay199 v6) (k0_pay200 v6) v84 v153 v276 (harg3.unread x3) (harg6.unread x6) (harg7.unread x7) (harg17.unread x17) f15 f16 init n).2.2) (ix3 h R 0)
          = ((E h R + (if 512 * ((i 2).val + 1) ≤ R.val ∧ R.val < 512 * ((i 2).val + 1 + n) then
              ∑ c, dsOf (p h R c) (g R) (v c) (o R) h else 0) : ℝ) : EReal)) := by
  intro n
  induction n with
  | zero =>
    intro _
    refine ⟨hC, fun R l => ?_, fun h R => ?_⟩
    · rw [if_neg (by omega), add_zero]; exact hD R l
    · rw [if_neg (by omega), add_zero]; exact hE h R
  | succ n ih =>
    intro hn
    obtain ⟨hC', hD', hE'⟩ := ih (Nat.le_of_succ_le hn)
    rw [st_k0_t1_succ (F := Ideal) (k := ⟨n, hn⟩)]
    have hrow : ∀ r, 512 * ((i 2).val + 1) ≤ (rowOf _ (t1_lt i ⟨n, hn⟩) r).val := fun r => by simp only [rowOf]; omega
    refine ⟨⟨fun c' l => ?_, fun c' l => ?_, fun c' => ?_, fun c' => ?_⟩, fun R l => ?_, fun h R => ?_⟩
    · refine (trip_dk (H := H) (hd' := hC'.dk c' l) ..).trans ?_
      rw [EReal.coe_eq_coe_iff, ← Nat.add_assoc, sum_lt_succ _ _ (t1_lt i ⟨n, hn⟩)]
      simp only [hp _ _ _ (hrow _)]
    · refine (trip_dv (H := H) (hd' := hC'.dv c' l) ..).trans ?_
      rw [EReal.coe_eq_coe_iff, ← Nat.add_assoc, sum_lt_succ _ _ (t1_lt i ⟨n, hn⟩)]
      simp only [hp _ _ _ (hrow _)]
    · refine (trip_dc0 (H := H) (hd' := hC'.dc0 c') ..).trans ?_
      rw [EReal.coe_eq_coe_iff, ← Nat.add_assoc, sum_lt_succ _ _ (t1_lt i ⟨n, hn⟩)]
      simp only [hp _ _ _ (hrow _)]; ring
    · refine (trip_dc1 (H := H) (hd' := hC'.dc1 c') ..).trans ?_
      rw [EReal.coe_eq_coe_iff, ← Nat.add_assoc, sum_lt_succ _ _ (t1_lt i ⟨n, hn⟩)]
      simp only [hp _ _ _ (hrow _)]; ring
    · rw [View.writes_append]
      refine (trip_dq (H := H) (hd' := hD' R l) ..).trans ?_
      rw [EReal.coe_eq_coe_iff]
      refine Eq.trans ?_ (rows_more ((i 2).val + 1) ((i 2).val + 1 + n) (Nat.le_add_right _ n) R.val _ _)
      congr 1
      refine if_ctx_congr Iff.rfl (fun hR => ?_) fun _ => rfl
      have := hR.1
      simp only [hp _ R _ (by simp only at this; omega)]
    · rw [View.writes_append]
      refine (trip_dr (H := H) (hd' := hE' h R) ..).trans ?_
      rw [EReal.coe_eq_coe_iff]
      refine Eq.trans ?_ (rows_more ((i 2).val + 1) ((i 2).val + 1 + n) (Nat.le_add_right _ n) R.val _ _)
      congr 1
      refine if_ctx_congr Iff.rfl (fun hR => ?_) fun _ => rfl
      have := hR.1
      simp only [hp _ R _ (by simp only at this; omega)]

end Loop

end Cert.KernelIdeal.Fox

end
-- ==== Proof.Main.lean ====
module

public import proofs.«01_k».proof.Proof.Loop

@[expose] public section

set_option maxRecDepth 16384

noncomputable section

namespace Cert.KernelIdeal.Fox

open Idealize.ShloMosaic Idealize.ShloMosaic.TcCoe Idealize.ShloMosaic.Tactic
open Idealize.SL.Sem
open Cert.KernelIdeal Cert.KernelIdeal.Gen

/-! # One block of keys: the masked block of queries, then the loop -/

section Main
variable (c : Dev nD) (i : grid0.Coords) (arg3 : Memref sig .tc .vmem S4096x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S1x2x8x1x512 .f32) (harg8 : arg8.IsWhole) (arg9 : Memref sig .tc .vmem S1x2x8x1x512 .f32) (harg9 : arg9.IsWhole) (arg10 : Memref sig .tc .vmem S4096x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x2x1x1x512 .f32) (harg13 : arg13.IsWhole) (arg14 : Memref sig .tc .vmem S1x2x1x4096 .f32) (harg14 : arg14.IsWhole) (arg15 : Memref sig .tc .vmem S4096x128 .f32) (harg15 : arg15.IsWhole) (arg16 : Memref sig .tc .vmem S2x4096x1 .f32) (harg16 : arg16.IsWhole) (arg17 : Memref sig .tc .vmem S2x4096x128 .bf16) (harg17 : arg17.IsWhole)
  (x3 : Vec Ideal S4096x128 .bf16) (x4 : Vec Ideal S512x128 .bf16) (x5 : Vec Ideal S512x128 .bf16) (x6 : Vec Ideal S4096x128 .bf16) (x7 : Vec Ideal S4096x128 .bf16) (x8 : Vec Ideal S1x2x8x1x512 .f32) (x17 : Vec Ideal S2x4096x128 .bf16) (x15 : Vec Ideal S4096x128 .f32) (x16 : Vec Ideal S2x4096x1 .f32)

variable (q g o : Fin 4096 → Fin 128 → ℝ) (kk v : Fin 512 → Fin 128 → ℝ) (qa : Fin 2 → Fin 4096 → Fin 128 → ℝ) (cu : Fin 2 → Fin 8 → Fin 512 → ℝ)
  (D : Fin 4096 → Fin 128 → ℝ) (E : Fin 2 → Fin 4096 → ℝ)

/-- What the block reads is finite, with these values. -/
structure Given : Prop where
  q : ∀ R l, x3 (ix2 R l) = ((q R l : ℝ) : EReal)
  g : ∀ R l, x6 (ix2 R l) = ((g R l : ℝ) : EReal)
  o : ∀ R l, x7 (ix2 R l) = ((o R l : ℝ) : EReal)
  k : ∀ c l, x4 (ix2 c l) = ((kk c l : ℝ) : EReal)
  v : ∀ c l, x5 (ix2 c l) = ((v c l : ℝ) : EReal)
  cu : ∀ h t c, x8 (ix5 0 h t 0 c) = ((cu h t c : ℝ) : EReal)
  qa : ∀ h R l, x17 (ix3 h R l) = ((qa h R l : ℝ) : EReal)
  D : ∀ R l, x15 (ix2 R l) = ((D R l : ℝ) : EReal)
  E : ∀ h R, x16 (ix3 h R 0) = ((E h R : ℝ) : EReal)

/-- The block of keys at a point of the grid. -/
def jOf (i : grid0.Coords) : Fin 8 := ⟨(i 2).val, (i 2).isLt⟩

theorem jlt (i : grid0.Coords) : (i 2).val < 8 := (i 2).isLt

/-- The first of the six lanes that carry a head's bias. -/
def b0 (h : Fin 2) : ℕ := if h = 0 then 64 else 0

/-- The key rows with the bias in the other head's first lanes. -/
def kaOf (kk : Fin 512 → Fin 128 → ℝ) (cu : Fin 2 → Fin 512 → ℝ) (h : Fin 2) (c : Fin 512) (l : Fin 128) : ℝ :=
  if b0 h ≤ l.val ∧ l.val < b0 h + 6 then
    if l.val = b0 h + 5 then 0 else if l.val = b0 h + 4 then 0 else if l.val = b0 h + 3 then -cu h c else 1
  else kk c l

variable {x3 x4 x5 x6 x7 x8 x17 x15 x16 q g o kk v qa cu D E}
variable (H : Given x3 x4 x5 x6 x7 x8 x17 x15 x16 q g o kk v qa cu D E)

theorem off1_0 : ∀ (i : grid0.Coords), k0_off1 i 0 = 0 := by decide +kernel
theorem off1_1 : ∀ (i : grid0.Coords), k0_off1 i 1 = 0 := by decide +kernel
theorem off1_2 : ∀ (i : grid0.Coords), k0_off1 i 2 = (i 2).val := by decide +kernel
theorem off1_3 : ∀ (i : grid0.Coords), k0_off1 i 3 = 0 := by decide +kernel
theorem off1_4 : ∀ (i : grid0.Coords), k0_off1 i 4 = 0 := by decide +kernel
theorem off2_0 : ∀ (i : grid0.Coords), k0_off2 i 0 = 0 := by decide +kernel
theorem off2_1 : ∀ (i : grid0.Coords), k0_off2 i 1 = 1 := by decide +kernel
theorem off2_2 : ∀ (i : grid0.Coords), k0_off2 i 2 = (i 2).val := by decide +kernel
theorem off2_3 : ∀ (i : grid0.Coords), k0_off2 i 3 = 0 := by decide +kernel
theorem off2_4 : ∀ (i : grid0.Coords), k0_off2 i 4 = 0 := by decide +kernel
theorem off3_0 : ∀ (i : grid0.Coords), k0_off3 i 0 = 512 * (i 2).val := by decide +kernel
theorem off3_1 : ∀ (i : grid0.Coords), k0_off3 i 1 = 0 := by decide +kernel
theorem off4_0 : ∀ (i : grid0.Coords), k0_off4 i 0 = 0 := by decide +kernel
theorem off4_1 : ∀ (i : grid0.Coords), k0_off4 i 1 = 512 * (i 2).val := by decide +kernel
theorem off4_2 : ∀ (i : grid0.Coords), k0_off4 i 2 = 0 := by decide +kernel
theorem off5_0 : ∀ (i : grid0.Coords), k0_off5 i 0 = 0 := by decide +kernel
theorem off5_1 : ∀ (i : grid0.Coords), k0_off5 i 1 = 512 * (i 2).val := by decide +kernel
theorem off5_2 : ∀ (i : grid0.Coords), k0_off5 i 2 = 0 := by decide +kernel
theorem off6_0 : ∀ (i : grid0.Coords), k0_off6 i 0 = 1 := by decide +kernel
theorem off6_1 : ∀ (i : grid0.Coords), k0_off6 i 1 = 512 * (i 2).val := by decide +kernel
theorem off6_2 : ∀ (i : grid0.Coords), k0_off6 i 2 = 0 := by decide +kernel
theorem off7_0 : ∀ (i : grid0.Coords), k0_off7 i 0 = 1 := by decide +kernel
theorem off7_1 : ∀ (i : grid0.Coords), k0_off7 i 1 = 512 * (i 2).val := by decide +kernel
theorem off7_2 : ∀ (i : grid0.Coords), k0_off7 i 2 = 0 := by decide +kernel

include H in
set_option maxHeartbeats 4000000 in
theorem ka0_at (c' : Fin 512) (l : Fin 128) : mainRun.sl.r (F := Ideal) c i arg4 harg4 arg8 harg8 x4 x8 (ix2 c' l) = ((kaOf kk (fun h c => cu h (jOf i) c) 0 c' l : ℝ) : EReal) := by
  sl_unfold_run_names
  simp only [View.readAt_eq_ld, Memref.IsWhole.read_unread]
  unfold_payloads
  pointwise
  simp only [H.k, H.cu, off1_0, off1_1, off1_2, off1_3, off1_4, off2_0, off2_1, off2_2, off2_3, off2_4, off3_0, off3_1, off4_0, off4_1, off4_2, off5_0, off5_1, off5_2, off6_0, off6_1, off6_2, off7_0, off7_1, off7_2, sel_eq _ _ (by decide : 69 < 2147483648), sel_eq _ _ (by decide : 68 < 2147483648), sel_eq _ _ (by decide : 67 < 2147483648), sel_eq _ _ (by decide : 66 < 2147483648), sel_eq _ _ (by decide : 65 < 2147483648), sel_eq _ _ (by decide : 64 < 2147483648), sel_range _ 64 70 (by decide) (by decide), zero_add, Fin.eta, Fin.mk_zero, Fin.mk_one, Fin.zero_eta]
  simp only [neg_coe, ← EReal.coe_sub, coe_ite, coe_one_ite, coe_one_zero, EReal.coe_eq_coe_iff, sub_self, kaOf, b0, jOf, if_true]
  split_ifs <;> first | rfl | (exfalso; omega)

include H in
set_option maxHeartbeats 4000000 in
theorem ka1_at (c' : Fin 512) (l : Fin 128) : mainRun.sl.r_4 (F := Ideal) c i arg4 harg4 arg8 harg8 x4 x8 (ix2 c' l) = ((kaOf kk (fun h c => cu h (jOf i) c) 1 c' l : ℝ) : EReal) := by
  sl_unfold_run_names
  simp only [View.readAt_eq_ld, Memref.IsWhole.read_unread]
  unfold_payloads
  pointwise
  simp only [H.k, H.cu, off1_0, off1_1, off1_2, off1_3, off1_4, off2_0, off2_1, off2_2, off2_3, off2_4, off3_0, off3_1, off4_0, off4_1, off4_2, off5_0, off5_1, off5_2, off6_0, off6_1, off6_2, off7_0, off7_1, off7_2, sel_eq _ _ (by decide : 5 < 2147483648), sel_eq _ _ (by decide : 4 < 2147483648), sel_eq _ _ (by decide : 3 < 2147483648), sel_eq _ _ (by decide : 2 < 2147483648), sel_eq _ _ (by decide : 1 < 2147483648), sel_eq _ _ (by decide : 0 < 2147483648), sel_range _ 0 6 (by decide) (by decide), zero_add, Fin.eta, Fin.mk_zero, Fin.mk_one, Fin.zero_eta]
  simp only [neg_coe, ← EReal.coe_sub, coe_ite, coe_one_ite, coe_one_zero, EReal.coe_eq_coe_iff, sub_self, kaOf, b0, jOf, one_ne, if_false]
  split_ifs <;> first | rfl | (exfalso; omega)

/-- The weights against the block of keys `j`: none where the key is later than the row. -/
def pM (j : ℕ) (qa : Fin 2 → Fin 4096 → Fin 128 → ℝ) (ka : Fin 2 → Fin 512 → Fin 128 → ℝ) (h : Fin 2) (R : Fin 4096) (c : Fin 512) : ℝ :=
  if 512 * j + c.val ≤ R.val then wt qa ka h R c else 0

theorem pM_row (j : ℕ) (hj : j < 8) (qa : Fin 2 → Fin 4096 → Fin 128 → ℝ) (ka : Fin 2 → Fin 512 → Fin 128 → ℝ) (h : Fin 2) (r c : Fin 512) :
    pM j qa ka h (rowOf j hj r) c = if c.val ≤ r.val then wt qa ka h (rowOf j hj r) c else 0 := by
  unfold pM
  exact if_ctx_congr (by simp only [rowOf]; omega) (fun _ => rfl) fun _ => rfl
theorem pM_before (j : ℕ) (qa : Fin 2 → Fin 4096 → Fin 128 → ℝ) (ka : Fin 2 → Fin 512 → Fin 128 → ℝ) (h : Fin 2) (R : Fin 4096) (c : Fin 512)
    (hR : R.val < 512 * j) : pM j qa ka h R c = 0 := if_neg (by omega)
theorem pM_after (j : ℕ) (qa : Fin 2 → Fin 4096 → Fin 128 → ℝ) (ka : Fin 2 → Fin 512 → Fin 128 → ℝ) (h : Fin 2) (R : Fin 4096) (c : Fin 512)
    (hR : 512 * (j + 1) ≤ R.val) : pM j qa ka h R c = wt qa ka h R c := if_pos (by omega)
theorem dsOf_zero (g v o : Fin 128 → ℝ) (h : Fin 2) : dsOf 0 g v o h = 0 := zero_mul _

/-- The sum over the rows of the blocks up to `j` is the sum over block `j`, when nothing comes before. -/
theorem sum_first (f : Fin 4096 → ℝ) (j : ℕ) (hj : j < 8) (h0 : ∀ R : Fin 4096, R.val < 512 * j → f R = 0) :
    (∑ R : Fin 4096, if R.val < 512 * (j + 1) then f R else 0) = ∑ r : Fin 512, f (rowOf j hj r) := by
  rw [sum_lt_succ f j hj, Finset.sum_eq_zero (fun R _ => ?_), zero_add]
  split
  · exact h0 R ‹_›
  · rfl

theorem kaOf_raw0 (c : Fin 512) (l : Fin 128) (cu : Fin 2 → Fin 512 → ℝ) : kaOf kk cu 0 c l
    = if 64 ≤ l.val ∧ l.val < 70 then (if l.val = 69 then 0 else if l.val = 68 then 0 else if l.val = 67 then -cu 0 c else if l.val = 66 then 1 else if l.val = 65 then 1 else if l.val = 64 then 1 else 0) else kk c l := by
  simp only [kaOf, b0, if_true]
  split_ifs <;> first | rfl | (exfalso; omega)
theorem kaOf_raw1 (c : Fin 512) (l : Fin 128) (cu : Fin 2 → Fin 512 → ℝ) : kaOf kk cu 1 c l
    = if 0 ≤ l.val ∧ l.val < 6 then (if l.val = 5 then 0 else if l.val = 4 then 0 else if l.val = 3 then -cu 1 c else if l.val = 2 then 1 else if l.val = 1 then 1 else if l.val = 0 then 1 else 0) else kk c l := by
  simp only [kaOf, b0, one_ne, if_false]
  split_ifs <;> first | rfl | (exfalso; omega)

include H in
set_option maxHeartbeats 4000000 in
theorem first_dk (c' : Fin 512) (l : Fin 128) : mainRun.sl.r_19 (F := Ideal) c i arg3 harg3 arg4 harg4 arg5 harg5 arg6 harg6 arg7 harg7 arg8 harg8 arg17 harg17 x3 x4 x5 x6 x7 x8 x17 (ix2 c' l)
    = ((∑ R : Fin 4096, (if R.val < 512 * ((i 2).val + 1) then dsOf (pM (i 2).val qa (kaOf kk fun h c => cu h (jOf i) c) (hd l) R c') (g R) (v c') (o R) (hd l) * q R l else 0) : ℝ) : EReal) := by
  rw [sum_first _ _ (jlt i) (fun R hR => by rw [pM_before _ _ _ _ _ _ hR, dsOf_zero, zero_mul])]
  sl_unfold_run_names
  simp only [View.readAt_eq_ld, Memref.IsWhole.read_unread]
  unfold_payloads
  pointwise
  simp only [H.q, H.g, H.o, H.k, H.v, H.qa, H.cu, H.D, H.E, off1_0, off1_1, off1_2, off1_3, off1_4, off2_0, off2_1, off2_2, off2_3, off2_4, off3_0, off3_1, off4_0, off4_1, off4_2, off5_0, off5_1, off5_2, off6_0, off6_1, off6_2, off7_0, off7_1, off7_2, sel_eq _ _ (by decide : 69 < 2147483648), sel_eq _ _ (by decide : 68 < 2147483648), sel_eq _ _ (by decide : 67 < 2147483648), sel_eq _ _ (by decide : 66 < 2147483648), sel_eq _ _ (by decide : 65 < 2147483648), sel_eq _ _ (by decide : 64 < 2147483648), sel_eq _ _ (by decide : 5 < 2147483648), sel_eq _ _ (by decide : 4 < 2147483648), sel_eq _ _ (by decide : 3 < 2147483648), sel_eq _ _ (by decide : 2 < 2147483648), sel_eq _ _ (by decide : 1 < 2147483648), sel_eq _ _ (by decide : 0 < 2147483648), sel_range _ 64 70 (by decide) (by decide), sel_range _ 0 6 (by decide) (by decide), sel_lt, sel_ge, sel_not, sel_row, zero_add, Fin.eta, Fin.mk_zero, Fin.mk_one, Fin.zero_eta,
    neg_coe, ← EReal.coe_sub, ← EReal.coe_mul, ← EReal.coe_add, exp_mask, coe_ite_zero, coe_ite, coe_zero_ite, coe_one_ite, coe_one_zero, sub_self, sum_coe, EReal.coe_eq_coe_iff]
  rcases hd_cases l with e | e <;> simp only [e, one_ne, zero_ne, if_true, if_false, Finset.sum_const_zero, add_zero, zero_add, pM_row] <;> simp only [dsOf, wt, hdot, rowOf, kaOf_raw0, kaOf_raw1, jOf]

include H in
set_option maxHeartbeats 4000000 in
theorem first_dv (c' : Fin 512) (l : Fin 128) : mainRun.sl.r_18 (F := Ideal) c i arg4 harg4 arg6 harg6 arg8 harg8 arg17 harg17 x4 x6 x8 x17 (ix2 c' l)
    = ((∑ R : Fin 4096, (if R.val < 512 * ((i 2).val + 1) then pM (i 2).val qa (kaOf kk fun h c => cu h (jOf i) c) (hd l) R c' * g R l else 0) : ℝ) : EReal) := by
  rw [sum_first _ _ (jlt i) (fun R hR => by rw [pM_before _ _ _ _ _ _ hR, zero_mul])]
  sl_unfold_run_names
  simp only [View.readAt_eq_ld, Memref.IsWhole.read_unread]
  unfold_payloads
  pointwise
  simp only [H.q, H.g, H.o, H.k, H.v, H.qa, H.cu, H.D, H.E, off1_0, off1_1, off1_2, off1_3, off1_4, off2_0, off2_1, off2_2, off2_3, off2_4, off3_0, off3_1, off4_0, off4_1, off4_2, off5_0, off5_1, off5_2, off6_0, off6_1, off6_2, off7_0, off7_1, off7_2, sel_eq _ _ (by decide : 69 < 2147483648), sel_eq _ _ (by decide : 68 < 2147483648), sel_eq _ _ (by decide : 67 < 2147483648), sel_eq _ _ (by decide : 66 < 2147483648), sel_eq _ _ (by decide : 65 < 2147483648), sel_eq _ _ (by decide : 64 < 2147483648), sel_eq _ _ (by decide : 5 < 2147483648), sel_eq _ _ (by decide : 4 < 2147483648), sel_eq _ _ (by decide : 3 < 2147483648), sel_eq _ _ (by decide : 2 < 2147483648), sel_eq _ _ (by decide : 1 < 2147483648), sel_eq _ _ (by decide : 0 < 2147483648), sel_range _ 64 70 (by decide) (by decide), sel_range _ 0 6 (by decide) (by decide), sel_lt, sel_ge, sel_not, sel_row, zero_add, Fin.eta, Fin.mk_zero, Fin.mk_one, Fin.zero_eta,
    neg_coe, ← EReal.coe_sub, ← EReal.coe_mul, ← EReal.coe_add, exp_mask, coe_ite_zero, coe_ite, coe_zero_ite, coe_one_ite, coe_one_zero, sub_self, sum_coe, EReal.coe_eq_coe_iff]
  rcases hd_cases l with e | e <;> simp only [e, one_ne, zero_ne, if_true, if_false, Finset.sum_const_zero, add_zero, zero_add, pM_row] <;> simp only [dsOf, wt, hdot, rowOf, kaOf_raw0, kaOf_raw1, jOf]

include H in
set_option maxHeartbeats 4000000 in
theorem first_dc0 (c' : Fin 512) : mainRun.sl.r_11 (F := Ideal) c i arg4 harg4 arg5 harg5 arg6 harg6 arg7 harg7 arg8 harg8 arg17 harg17 x4 x5 x6 x7 x8 x17 (ix2 0 c')
    = ((-∑ R : Fin 4096, (if R.val < 512 * ((i 2).val + 1) then dsOf (pM (i 2).val qa (kaOf kk fun h c => cu h (jOf i) c) 0 R c') (g R) (v c') (o R) 0 else 0) : ℝ) : EReal) := by
  rw [sum_first _ _ (jlt i) (fun R hR => by rw [pM_before _ _ _ _ _ _ hR, dsOf_zero])]
  sl_unfold_run_names
  simp only [View.readAt_eq_ld, Memref.IsWhole.read_unread]
  unfold_payloads
  pointwise
  simp only [H.q, H.g, H.o, H.k, H.v, H.qa, H.cu, H.D, H.E, off1_0, off1_1, off1_2, off1_3, off1_4, off2_0, off2_1, off2_2, off2_3, off2_4, off3_0, off3_1, off4_0, off4_1, off4_2, off5_0, off5_1, off5_2, off6_0, off6_1, off6_2, off7_0, off7_1, off7_2, sel_eq _ _ (by decide : 69 < 2147483648), sel_eq _ _ (by decide : 68 < 2147483648), sel_eq _ _ (by decide : 67 < 2147483648), sel_eq _ _ (by decide : 66 < 2147483648), sel_eq _ _ (by decide : 65 < 2147483648), sel_eq _ _ (by decide : 64 < 2147483648), sel_eq _ _ (by decide : 5 < 2147483648), sel_eq _ _ (by decide : 4 < 2147483648), sel_eq _ _ (by decide : 3 < 2147483648), sel_eq _ _ (by decide : 2 < 2147483648), sel_eq _ _ (by decide : 1 < 2147483648), sel_eq _ _ (by decide : 0 < 2147483648), sel_range _ 64 70 (by decide) (by decide), sel_range _ 0 6 (by decide) (by decide), sel_lt, sel_ge, sel_not, sel_row, zero_add, Fin.eta, Fin.mk_zero, Fin.mk_one, Fin.zero_eta,
    neg_coe, ← EReal.coe_sub, ← EReal.coe_mul, ← EReal.coe_add, exp_mask, coe_ite_zero, coe_ite, coe_zero_ite, coe_one_ite, coe_one_zero, sub_self, sum_coe, EReal.coe_eq_coe_iff]
  simp only [pM_row]
  simp only [dsOf, wt, hdot, rowOf, kaOf_raw0, kaOf_raw1, jOf]

include H in
set_option maxHeartbeats 4000000 in
theorem first_dc1 (c' : Fin 512) : mainRun.sl.r_17 (F := Ideal) c i arg4 harg4 arg5 harg5 arg6 harg6 arg7 harg7 arg8 harg8 arg17 harg17 x4 x5 x6 x7 x8 x17 (ix2 0 c')
    = ((-∑ R : Fin 4096, (if R.val < 512 * ((i 2).val + 1) then dsOf (pM (i 2).val qa (kaOf kk fun h c => cu h (jOf i) c) 1 R c') (g R) (v c') (o R) 1 else 0) : ℝ) : EReal) := by
  rw [sum_first _ _ (jlt i) (fun R hR => by rw [pM_before _ _ _ _ _ _ hR, dsOf_zero])]
  sl_unfold_run_names
  simp only [View.readAt_eq_ld, Memref.IsWhole.read_unread]
  unfold_payloads
  pointwise
  simp only [H.q, H.g, H.o, H.k, H.v, H.qa, H.cu, H.D, H.E, off1_0, off1_1, off1_2, off1_3, off1_4, off2_0, off2_1, off2_2, off2_3, off2_4, off3_0, off3_1, off4_0, off4_1, off4_2, off5_0, off5_1, off5_2, off6_0, off6_1, off6_2, off7_0, off7_1, off7_2, sel_eq _ _ (by decide : 69 < 2147483648), sel_eq _ _ (by decide : 68 < 2147483648), sel_eq _ _ (by decide : 67 < 2147483648), sel_eq _ _ (by decide : 66 < 2147483648), sel_eq _ _ (by decide : 65 < 2147483648), sel_eq _ _ (by decide : 64 < 2147483648), sel_eq _ _ (by decide : 5 < 2147483648), sel_eq _ _ (by decide : 4 < 2147483648), sel_eq _ _ (by decide : 3 < 2147483648), sel_eq _ _ (by decide : 2 < 2147483648), sel_eq _ _ (by decide : 1 < 2147483648), sel_eq _ _ (by decide : 0 < 2147483648), sel_range _ 64 70 (by decide) (by decide), sel_range _ 0 6 (by decide) (by decide), sel_lt, sel_ge, sel_not, sel_row, zero_add, Fin.eta, Fin.mk_zero, Fin.mk_one, Fin.zero_eta,
    neg_coe, ← EReal.coe_sub, ← EReal.coe_mul, ← EReal.coe_add, exp_mask, coe_ite_zero, coe_ite, coe_zero_ite, coe_one_ite, coe_one_zero, sub_self, sum_coe, EReal.coe_eq_coe_iff]
  simp only [pM_row]
  simp only [dsOf, wt, hdot, rowOf, kaOf_raw0, kaOf_raw1, jOf]

end Main

end Cert.KernelIdeal.Fox

end
-- ==== Proof.MainForm.lean ====
module

public import proofs.«01_k».proof.Proof.Main

@[expose] public section

set_option maxRecDepth 16384

noncomputable section

namespace Cert.KernelIdeal.Fox

open Idealize.ShloMosaic Idealize.ShloMosaic.TcCoe Idealize.ShloMosaic.Tactic
open Idealize.SL.Sem
open Cert.KernelIdeal Cert.KernelIdeal.Gen

/-! # One block of keys: the masked block of queries, then the loop -/

section Main
variable (c : Dev nD) (i : grid0.Coords) (arg3 : Memref sig .tc .vmem S4096x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S1x2x8x1x512 .f32) (harg8 : arg8.IsWhole) (arg9 : Memref sig .tc .vmem S1x2x8x1x512 .f32) (harg9 : arg9.IsWhole) (arg10 : Memref sig .tc .vmem S4096x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x2x1x1x512 .f32) (harg13 : arg13.IsWhole) (arg14 : Memref sig .tc .vmem S1x2x1x4096 .f32) (harg14 : arg14.IsWhole) (arg15 : Memref sig .tc .vmem S4096x128 .f32) (harg15 : arg15.IsWhole) (arg16 : Memref sig .tc .vmem S2x4096x1 .f32) (harg16 : arg16.IsWhole) (arg17 : Memref sig .tc .vmem S2x4096x128 .bf16) (harg17 : arg17.IsWhole)
  (x3 : Vec Ideal S4096x128 .bf16) (x4 : Vec Ideal S512x128 .bf16) (x5 : Vec Ideal S512x128 .bf16) (x6 : Vec Ideal S4096x128 .bf16) (x7 : Vec Ideal S4096x128 .bf16) (x8 : Vec Ideal S1x2x8x1x512 .f32) (x17 : Vec Ideal S2x4096x128 .bf16) (x15 : Vec Ideal S4096x128 .f32) (x16 : Vec Ideal S2x4096x1 .f32)

variable {q g o : Fin 4096 → Fin 128 → ℝ} {kk v : Fin 512 → Fin 128 → ℝ} {qa : Fin 2 → Fin 4096 → Fin 128 → ℝ} {cu : Fin 2 → Fin 8 → Fin 512 → ℝ}
  {D : Fin 4096 → Fin 128 → ℝ} {E : Fin 2 → Fin 4096 → ℝ}
variable {x3 x4 x5 x6 x7 x8 x17 x15 x16}
variable (H : Given x3 x4 x5 x6 x7 x8 x17 x15 x16 q g o kk v qa cu D E)

theorem t2_trips' (i : grid0.Coords) : Scf.trips
                (Scalar.addi (Scalar.addi (BitVec.ofNat 32 (i 2).val) 1#32)
                  (Scalar.muli (Scalar.divsi (Scalar.subi (8#32) (Scalar.addi (BitVec.ofNat 32 (i 2).val) 1#32)) 1#32)
                    1#32))
                (Scalar.addi (Scalar.addi (BitVec.ofNat 32 (i 2).val) 1#32)
                  (Scalar.subi (8#32) (Scalar.addi (BitVec.ofNat 32 (i 2).val) 1#32)))
                1#32 = 0 := t2_trips i
theorem t1_trips' (i : grid0.Coords) : Scf.trips (Scalar.addi (BitVec.ofNat 32 (i 2).val) 1#32)
                  (Scalar.addi (Scalar.addi (BitVec.ofNat 32 (i 2).val) 1#32)
                    (Scalar.muli (Scalar.divsi (Scalar.subi (8#32) (Scalar.addi (BitVec.ofNat 32 (i 2).val) 1#32)) 1#32)
                      1#32))
                  1#32 = (k0_t1_loop i).trips := by with_unfolding_all rfl

include H in
theorem Given.reads (w4 w5 : Vec Ideal S512x128 .bf16) (v84 v153 : FVec Ideal S512x128 .bf16) (h4 : w4 = x4) (h5 : w5 = x5)
    (h84 : ∀ c l, v84 (ix2 c l) = ((kaOf kk (fun h c => cu h (jOf i) c) 0 c l : ℝ) : EReal))
    (h153 : ∀ c l, v153 (ix2 c l) = ((kaOf kk (fun h c => cu h (jOf i) c) 1 c l : ℝ) : EReal)) :
    Reads w5 w4 v84 v153 x3 x6 x7 x17 q g o kk v qa (kaOf kk fun h c => cu h (jOf i) c) := by
  subst h4 h5
  exact ⟨H.q, H.g, H.o, H.k, H.v, H.qa, h84, h153⟩

theorem readAt_whole {arg : Memref sig .tc .vmem S512x128 .bf16} (harg : arg.IsWhole) (x : Vec Ideal S512x128 .bf16) :
    View.readAt (Elt Ideal) arg.view (Rect.unit ![0, 0] ![512, 128] inb_S512x128_S512x128_0_0).toLoadRect (harg.unread x) = x := by
  funext y
  obtain ⟨a, b, rfl⟩ : ∃ a b, y = ix2 a b := ⟨y 0, y 1, eq_ix2 y⟩
  simp only [View.readAt_eq_ld, Memref.IsWhole.read_unread]
  pointwise

include H in
set_option maxHeartbeats 8000000 in
theorem main_form : ∃ (w4 w5 : Vec Ideal S512x128 .bf16) (v84 v153 : FVec Ideal S512x128 .bf16)
    (init : FVec Ideal S512x128 .f32 × FVec Ideal S512x128 .f32 × FVec Ideal S1x512 .f32 × FVec Ideal S1x512 .f32)
    (f15 : BufTy.Contents (Elt Ideal) arg15.view.ty) (f16 : BufTy.Contents (Elt Ideal) arg16.view.ty),
    Reads w5 w4 v84 v153 x3 x6 x7 x17 q g o kk v qa (kaOf kk fun h c => cu h (jOf i) c)
    ∧ Carry q g o v (pM (i 2).val qa (kaOf kk fun h c => cu h (jOf i) c)) ((i 2).val + 1) init
    ∧ (∀ R l, arg15.view.read (Elt Ideal) f15 (ix2 R l)
        = ((D R l + (if 512 * (i 2).val ≤ R.val ∧ R.val < 512 * ((i 2).val + 1) then ∑ c, dsOf (pM (i 2).val qa (kaOf kk fun h c => cu h (jOf i) c) (hd l) R c) (g R) (v c) (o R) (hd l) * kk c l else 0) : ℝ) : EReal))
    ∧ (∀ h R, arg16.view.read (Elt Ideal) f16 (ix3 h R 0)
        = ((E h R + (if 512 * (i 2).val ≤ R.val ∧ R.val < 512 * ((i 2).val + 1) then ∑ c, dsOf (pM (i 2).val qa (kaOf kk fun h c => cu h (jOf i) c) h R c) (g R) (v c) (o R) h else 0) : ℝ) : EReal))
    ∧ (mainRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x17 x15 x16).1 = [⟨Rect.unit (s := S512x128) ![0, 0] ![512, 128] inb_S512x128_S512x128_0_0, k0_pay258 (st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay196 w5 (k0_pay199 w4) (k0_pay200 w4) v84 v153 (Scalar.addi (BitVec.ofNat 32 (i 2).val) 1#32) (harg3.unread x3) (harg6.unread x6) (harg7.unread x7) (harg17.unread x17) f15 f16 init (k0_t1_loop i).trips).1.1⟩]
    ∧ (mainRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x17 x15 x16).2.1 = [⟨Rect.unit (s := S512x128) ![0, 0] ![512, 128] inb_S512x128_S512x128_0_0, k0_pay259 (st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay196 w5 (k0_pay199 w4) (k0_pay200 w4) v84 v153 (Scalar.addi (BitVec.ofNat 32 (i 2).val) 1#32) (harg3.unread x3) (harg6.unread x6) (harg7.unread x7) (harg17.unread x17) f15 f16 init (k0_t1_loop i).trips).1.2.1⟩]
    ∧ ((mainRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x17 x15 x16).2.2.1 = [⟨Rect.unit (s := S1x2x1x1x512) ![0, 1, 0, 0, 0] S1x1x1x1x512.size inb_S1x2x1x1x512_S1x1x1x1x512_0_1_0_0_0, k0_pay261 (st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay196 w5 (k0_pay199 w4) (k0_pay200 w4) v84 v153 (Scalar.addi (BitVec.ofNat 32 (i 2).val) 1#32) (harg3.unread x3) (harg6.unread x6) (harg7.unread x7) (harg17.unread x17) f15 f16 init (k0_t1_loop i).trips).1.2.2.2⟩, ⟨Rect.unit (s := S1x2x1x1x512) ![0, 0, 0, 0, 0] S1x1x1x1x512.size inb_S1x2x1x1x512_S1x1x1x1x512_0_0_0_0_0, k0_pay260 (st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay196 w5 (k0_pay199 w4) (k0_pay200 w4) v84 v153 (Scalar.addi (BitVec.ofNat 32 (i 2).val) 1#32) (harg3.unread x3) (harg6.unread x6) (harg7.unread x7) (harg17.unread x17) f15 f16 init (k0_t1_loop i).trips).1.2.2.1⟩])
    ∧ (mainRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x17 x15 x16).2.2.2.1 = arg15.view.writes (Elt Ideal) f15 (st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay196 w5 (k0_pay199 w4) (k0_pay200 w4) v84 v153 (Scalar.addi (BitVec.ofNat 32 (i 2).val) 1#32) (harg3.unread x3) (harg6.unread x6) (harg7.unread x7) (harg17.unread x17) f15 f16 init (k0_t1_loop i).trips).2.1
    ∧ (mainRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x17 x15 x16).2.2.2.2.1 = arg16.view.writes (Elt Ideal) f16 (st_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 k0_pay196 w5 (k0_pay199 w4) (k0_pay200 w4) v84 v153 (Scalar.addi (BitVec.ofNat 32 (i 2).val) 1#32) (harg3.unread x3) (harg6.unread x6) (harg7.unread x7) (harg17.unread x17) f15 f16 init (k0_t1_loop i).trips).2.2 := by
  unfold mainRun
  dsimp only
  simp only [t2_trips', t1_trips', st_k0_t2, List.nil_append, View.writes_append]
  refine ⟨_, _, _, _, _, _, _, ?_, ?_, ?_, ?_, rfl, ?_, ?_, ?_, ?_⟩
  rotate_left 4
  · rfl
  · rfl
  · with_reducible rfl
  · with_reducible rfl
  · exact H.reads (i := i) _ _ _ _ (readAt_whole ..) (readAt_whole ..) (fun _ _ => ka0_at (H := H) ..) (fun _ _ => ka1_at (H := H) ..)
  · exact ⟨fun _ _ => first_dk (H := H) .., fun _ _ => first_dv (H := H) .., fun _ => first_dc0 (H := H) .., fun _ => first_dc1 (H := H) ..⟩
  · intro R l
    by_cases hR : 512 * (i 2).val ≤ R.val ∧ R.val < 512 * ((i 2).val + 1)
    · rw [if_pos hR]
      obtain ⟨r, rfl⟩ : ∃ r, R = rowOf _ (jlt i) r := ⟨⟨R.val - 512 * (i 2).val, by omega⟩, Fin.ext (by simp only [rowOf]; omega)⟩
      refine (View.read_writes_cons_hit_of_coords _ _ _ _ _ (ix2 r l) _ (fun a => match a with
        | ⟨0, _⟩ => show (512 * (i 2).val + r.val : ℕ) = k0_off3 i 0 + 1 * r.val by rw [off3_0]; omega
        | ⟨1, _⟩ => show (l.val : ℕ) = k0_off3 i 1 + 1 * l.val by rw [off3_1]; omega)).trans ?_
      sl_unfold_run_names
      simp only [View.readAt_eq_ld, Memref.IsWhole.read_unread]
      unfold_payloads
      pointwise
      simp only [H.q, H.g, H.o, H.k, H.v, H.qa, H.cu, H.D, H.E, off1_0, off1_1, off1_2, off1_3, off1_4, off2_0, off2_1, off2_2, off2_3, off2_4, off3_0, off3_1, off4_0, off4_1, off4_2, off5_0, off5_1, off5_2, off6_0, off6_1, off6_2, off7_0, off7_1, off7_2, sel_eq _ _ (by decide : 69 < 2147483648), sel_eq _ _ (by decide : 68 < 2147483648), sel_eq _ _ (by decide : 67 < 2147483648), sel_eq _ _ (by decide : 66 < 2147483648), sel_eq _ _ (by decide : 65 < 2147483648), sel_eq _ _ (by decide : 64 < 2147483648), sel_eq _ _ (by decide : 5 < 2147483648), sel_eq _ _ (by decide : 4 < 2147483648), sel_eq _ _ (by decide : 3 < 2147483648), sel_eq _ _ (by decide : 2 < 2147483648), sel_eq _ _ (by decide : 1 < 2147483648), sel_eq _ _ (by decide : 0 < 2147483648), sel_range _ 64 70 (by decide) (by decide), sel_range _ 0 6 (by decide) (by decide), sel_lt, sel_ge, sel_not, sel_row, zero_add, Fin.eta, Fin.mk_zero, Fin.mk_one, Fin.zero_eta,
        neg_coe, ← EReal.coe_sub, ← EReal.coe_mul, ← EReal.coe_add, exp_mask, coe_ite_zero, coe_ite, coe_zero_ite, coe_one_ite, coe_one_zero, sub_self, sum_coe, EReal.coe_eq_coe_iff]
      rcases hd_cases l with e | e <;> simp only [e, one_ne, zero_ne, if_true, if_false, Finset.sum_const_zero, add_zero, zero_add, pM_row] <;> simp only [dsOf, wt, hdot, rowOf, kaOf_raw0, kaOf_raw1, jOf]
    · rw [if_neg hR, add_zero, View.read_writes_cons_miss_of_axis _ _ _ _ _ 0 (512 * (i 2).val) 512 (off3_0 i) rfl rfl (by
        show R.val < _ ∨ _ ≤ R.val; omega)]
      refine (congrFun (harg15.read_unread x15) _).trans (H.D R l)
  · intro h R
    by_cases hR : 512 * (i 2).val ≤ R.val ∧ R.val < 512 * ((i 2).val + 1)
    · rw [if_pos hR]
      obtain ⟨r, rfl⟩ : ∃ r, R = rowOf _ (jlt i) r := ⟨⟨R.val - 512 * (i 2).val, by omega⟩, Fin.ext (by simp only [rowOf]; omega)⟩
      rcases (by decide : ∀ h : Fin 2, h = 1 ∨ h = 0) h with rfl | rfl
      · refine (View.read_writes_cons_hit_of_coords _ _ _ _ _ (ix3 0 r 0) _ (fun a => match a with
          | ⟨0, _⟩ => show (1 : ℕ) = k0_off7 i 0 + 1 * 0 by rw [off7_0]
          | ⟨1, _⟩ => show (512 * (i 2).val + r.val : ℕ) = k0_off7 i 1 + 1 * r.val by rw [off7_1]; omega
          | ⟨2, _⟩ => show (0 : ℕ) = k0_off7 i 2 + 1 * 0 by rw [off7_2])).trans ?_
        sl_unfold_run_names
        simp only [View.readAt_eq_ld, Memref.IsWhole.read_unread]
        unfold_payloads
        pointwise
        simp only [H.q, H.g, H.o, H.k, H.v, H.qa, H.cu, H.D, H.E, off1_0, off1_1, off1_2, off1_3, off1_4, off2_0, off2_1, off2_2, off2_3, off2_4, off3_0, off3_1, off4_0, off4_1, off4_2, off5_0, off5_1, off5_2, off6_0, off6_1, off6_2, off7_0, off7_1, off7_2, sel_eq _ _ (by decide : 69 < 2147483648), sel_eq _ _ (by decide : 68 < 2147483648), sel_eq _ _ (by decide : 67 < 2147483648), sel_eq _ _ (by decide : 66 < 2147483648), sel_eq _ _ (by decide : 65 < 2147483648), sel_eq _ _ (by decide : 64 < 2147483648), sel_eq _ _ (by decide : 5 < 2147483648), sel_eq _ _ (by decide : 4 < 2147483648), sel_eq _ _ (by decide : 3 < 2147483648), sel_eq _ _ (by decide : 2 < 2147483648), sel_eq _ _ (by decide : 1 < 2147483648), sel_eq _ _ (by decide : 0 < 2147483648), sel_range _ 64 70 (by decide) (by decide), sel_range _ 0 6 (by decide) (by decide), sel_lt, sel_ge, sel_not, sel_row, zero_add, Fin.eta, Fin.mk_zero, Fin.mk_one, Fin.zero_eta,
          neg_coe, ← EReal.coe_sub, ← EReal.coe_mul, ← EReal.coe_add, exp_mask, coe_ite_zero, coe_ite, coe_zero_ite, coe_one_ite, coe_one_zero, sub_self, sum_coe, EReal.coe_eq_coe_iff]
        simp only [pM_row]
        simp only [dsOf, wt, hdot, rowOf, kaOf_raw0, kaOf_raw1, jOf]
      · rw [View.read_writes_cons_miss_of_axis _ _ _ _ _ 0 1 1 (off7_0 i) rfl rfl (Or.inl Nat.zero_lt_one)]
        refine (View.read_writes_cons_hit_of_coords _ _ _ _ _ (ix3 0 r 0) _ (fun a => match a with
          | ⟨0, _⟩ => show (0 : ℕ) = k0_off5 i 0 + 1 * 0 by rw [off5_0]
          | ⟨1, _⟩ => show (512 * (i 2).val + r.val : ℕ) = k0_off5 i 1 + 1 * r.val by rw [off5_1]; omega
          | ⟨2, _⟩ => show (0 : ℕ) = k0_off5 i 2 + 1 * 0 by rw [off5_2])).trans ?_
        sl_unfold_run_names
        simp only [View.readAt_eq_ld, Memref.IsWhole.read_unread]
        unfold_payloads
        pointwise
        simp only [H.q, H.g, H.o, H.k, H.v, H.qa, H.cu, H.D, H.E, off1_0, off1_1, off1_2, off1_3, off1_4, off2_0, off2_1, off2_2, off2_3, off2_4, off3_0, off3_1, off4_0, off4_1, off4_2, off5_0, off5_1, off5_2, off6_0, off6_1, off6_2, off7_0, off7_1, off7_2, sel_eq _ _ (by decide : 69 < 2147483648), sel_eq _ _ (by decide : 68 < 2147483648), sel_eq _ _ (by decide : 67 < 2147483648), sel_eq _ _ (by decide : 66 < 2147483648), sel_eq _ _ (by decide : 65 < 2147483648), sel_eq _ _ (by decide : 64 < 2147483648), sel_eq _ _ (by decide : 5 < 2147483648), sel_eq _ _ (by decide : 4 < 2147483648), sel_eq _ _ (by decide : 3 < 2147483648), sel_eq _ _ (by decide : 2 < 2147483648), sel_eq _ _ (by decide : 1 < 2147483648), sel_eq _ _ (by decide : 0 < 2147483648), sel_range _ 64 70 (by decide) (by decide), sel_range _ 0 6 (by decide) (by decide), sel_lt, sel_ge, sel_not, sel_row, zero_add, Fin.eta, Fin.mk_zero, Fin.mk_one, Fin.zero_eta,
          neg_coe, ← EReal.coe_sub, ← EReal.coe_mul, ← EReal.coe_add, exp_mask, coe_ite_zero, coe_ite, coe_zero_ite, coe_one_ite, coe_one_zero, sub_self, sum_coe, EReal.coe_eq_coe_iff]
        simp only [pM_row]
        simp only [dsOf, wt, hdot, rowOf, kaOf_raw0, kaOf_raw1, jOf]
    · rw [if_neg hR, add_zero]
      rw [View.read_writes_cons_miss_of_axis _ _ _ _ _ 1 (512 * (i 2).val) 512 (off7_1 i) rfl rfl (by
        show R.val < _ ∨ _ ≤ R.val; omega)]
      rw [View.read_writes_cons_miss_of_axis _ _ _ _ _ 1 (512 * (i 2).val) 512 (off5_1 i) rfl rfl (by
        show R.val < _ ∨ _ ≤ R.val; omega)]
      exact (congrFun (harg16.read_unread x16) _).trans (H.E h R)

end Main

end Cert.KernelIdeal.Fox

end
-- ==== Proof.MainVal.lean ====
module

public import proofs.«01_k».proof.Proof.MainForm
public import proofs.«01_k».proof.Proof.Loop
public import proofs.«01_k».proof.Proof.Consts

@[expose] public section

set_option maxRecDepth 16384

noncomputable section

namespace Cert.KernelIdeal.Fox

open Idealize.ShloMosaic Idealize.ShloMosaic.TcCoe Idealize.ShloMosaic.Tactic
open Idealize.SL.Sem
open Cert.KernelIdeal Cert.KernelIdeal.Gen

/-! # What one block of keys stores and what it adds -/

section Main
variable (c : Dev nD) (i : grid0.Coords) (arg3 : Memref sig .tc .vmem S4096x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S1x2x8x1x512 .f32) (harg8 : arg8.IsWhole) (arg9 : Memref sig .tc .vmem S1x2x8x1x512 .f32) (harg9 : arg9.IsWhole) (arg10 : Memref sig .tc .vmem S4096x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x2x1x1x512 .f32) (harg13 : arg13.IsWhole) (arg14 : Memref sig .tc .vmem S1x2x1x4096 .f32) (harg14 : arg14.IsWhole) (arg15 : Memref sig .tc .vmem S4096x128 .f32) (harg15 : arg15.IsWhole) (arg16 : Memref sig .tc .vmem S2x4096x1 .f32) (harg16 : arg16.IsWhole) (arg17 : Memref sig .tc .vmem S2x4096x128 .bf16) (harg17 : arg17.IsWhole)
  (x3 : Vec Ideal S4096x128 .bf16) (x4 : Vec Ideal S512x128 .bf16) (x5 : Vec Ideal S512x128 .bf16) (x6 : Vec Ideal S4096x128 .bf16) (x7 : Vec Ideal S4096x128 .bf16) (x8 : Vec Ideal S1x2x8x1x512 .f32) (x17 : Vec Ideal S2x4096x128 .bf16) (x15 : Vec Ideal S4096x128 .f32) (x16 : Vec Ideal S2x4096x1 .f32)

variable {q g o : Fin 4096 → Fin 128 → ℝ} {kk v : Fin 512 → Fin 128 → ℝ} {qa : Fin 2 → Fin 4096 → Fin 128 → ℝ} {cu : Fin 2 → Fin 8 → Fin 512 → ℝ}
  {D : Fin 4096 → Fin 128 → ℝ} {E : Fin 2 → Fin 4096 → ℝ}
variable {x3 x4 x5 x6 x7 x8 x17 x15 x16}
variable (H : Given x3 x4 x5 x6 x7 x8 x17 x15 x16 q g o kk v qa cu D E)

theorem pay258_at (x : FVec Ideal S512x128 .f32) (a : Fin 512) (l : Fin 128) (d : ℝ) (hx : x (ix2 a l) = ((d : ℝ) : EReal)) :
    k0_pay258 x (ix2 a l) = ((d * (1 / 8) : ℝ) : EReal) := by
  unfold_payloads
  pointwise
  rw [hx, ofBits_eighth, ← EReal.coe_mul]
theorem pay259_at (x : FVec Ideal S512x128 .f32) (a : Fin 512) (l : Fin 128) : k0_pay259 x (ix2 a l) = x (ix2 a l) := by
  unfold_payloads
  pointwise
theorem pay260_at (x : FVec Ideal S1x512 .f32) (a : Fin 512) : k0_pay260 x (ix5 0 0 0 0 a) = x (ix2 0 a) := by
  unfold_payloads
  pointwise
theorem pay261_at (x : FVec Ideal S1x512 .f32) (a : Fin 512) : k0_pay261 x (ix5 0 0 0 0 a) = x (ix2 0 a) := by
  unfold_payloads
  pointwise

include H in
set_option maxHeartbeats 4000000 in
/-- The stores of one block of keys, over real numbers. -/
theorem main_val :
    (∀ (M : Memref sig .tc .vmem S512x128 .bf16) f a l, M.view.read (Elt Ideal) (M.view.writes (Elt Ideal) f (mainRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x17 x15 x16).1) (ix2 a l)
      = (((∑ R, dsOf (pM (i 2).val qa (kaOf kk fun h c => cu h (jOf i) c) (hd l) R a) (g R) (v a) (o R) (hd l) * q R l) * (1 / 8) : ℝ) : EReal))
    ∧ (∀ (M : Memref sig .tc .vmem S512x128 .bf16) f a l, M.view.read (Elt Ideal) (M.view.writes (Elt Ideal) f (mainRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x17 x15 x16).2.1) (ix2 a l)
      = ((∑ R, pM (i 2).val qa (kaOf kk fun h c => cu h (jOf i) c) (hd l) R a * g R l : ℝ) : EReal))
    ∧ (∀ (M : Memref sig .tc .vmem S1x2x1x1x512 .f32) f h a, M.view.read (Elt Ideal) (M.view.writes (Elt Ideal) f (mainRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x17 x15 x16).2.2.1) (ix5 0 h 0 0 a)
      = ((-∑ R, dsOf (pM (i 2).val qa (kaOf kk fun h c => cu h (jOf i) c) h R a) (g R) (v a) (o R) h : ℝ) : EReal))
    ∧ (∀ R l, arg15.view.read (Elt Ideal) (mainRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x17 x15 x16).2.2.2.1 (ix2 R l)
      = ((D R l + ∑ a, dsOf (pM (i 2).val qa (kaOf kk fun h c => cu h (jOf i) c) (hd l) R a) (g R) (v a) (o R) (hd l) * kk a l : ℝ) : EReal))
    ∧ (∀ h R, arg16.view.read (Elt Ideal) (mainRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 x7 x8 x17 x15 x16).2.2.2.2.1 (ix3 h R 0)
      = ((E h R + ∑ a, dsOf (pM (i 2).val qa (kaOf kk fun h c => cu h (jOf i) c) h R a) (g R) (v a) (o R) h : ℝ) : EReal)) := by
  obtain ⟨w4, w5, v84, v153, init, f15, f16, hR, hC, hD, hE, e11, e12, e13, e15, e16⟩ := main_form (H := H) c i arg3 harg3 arg4 harg4 arg5 harg5 arg6 harg6 arg7 harg7 arg8 harg8 arg9 harg9 arg10 harg10 arg11 harg11 arg12 harg12 arg13 harg13 arg14 harg14 arg15 harg15 arg16 harg16 arg17 harg17
  obtain ⟨C, hD', hE'⟩ := loop_inv Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 w5 w4 v84 v153 (Scalar.addi (BitVec.ofNat 32 (i 2).val) 1#32) x3 x6 x7 x17 hR init f15 f16
    (pM (i 2).val qa (kaOf kk fun h c => cu h (jOf i) c)) _ _ (fun h R a hR => pM_after _ _ _ h R a hR) hC hD hE (k0_t1_loop i).trips le_rfl
  have hT := t1_trips i
  generalize (k0_t1_loop i).trips = T at C hD' hE' hT e11 e12 e13 e15 e16
  rw [hT] at C hD' hE'
  refine ⟨fun M f a l => (congrArg (fun L => M.view.read (Elt Ideal) (M.view.writes (Elt Ideal) f L) (ix2 a l)) e11).trans ?_,
    fun M f a l => (congrArg (fun L => M.view.read (Elt Ideal) (M.view.writes (Elt Ideal) f L) (ix2 a l)) e12).trans ?_,
    fun M f h a => (congrArg (fun L => M.view.read (Elt Ideal) (M.view.writes (Elt Ideal) f L) (ix5 0 h 0 0 a)) e13).trans ?_,
    fun R l => (congrArg (fun L => arg15.view.read (Elt Ideal) L (ix2 R l)) e15).trans ?_,
    fun h R => (congrArg (fun L => arg16.view.read (Elt Ideal) L (ix3 h R 0)) e16).trans ?_⟩
  · refine (View.read_writes_cons_hit_of_coords _ _ _ _ _ (ix2 a l) _ (fun y => match y with
        | ⟨0, _⟩ => show (a.val : ℕ) = 0 + 1 * a.val by omega
        | ⟨1, _⟩ => show (l.val : ℕ) = 0 + 1 * l.val by omega)).trans ?_
    rw [← sum_lt_all]
    exact pay258_at _ _ _ _ (C.dk a l)
  · refine (View.read_writes_cons_hit_of_coords _ _ _ _ _ (ix2 a l) _ (fun y => match y with
        | ⟨0, _⟩ => show (a.val : ℕ) = 0 + 1 * a.val by omega
        | ⟨1, _⟩ => show (l.val : ℕ) = 0 + 1 * l.val by omega)).trans ?_
    rw [← sum_lt_all]
    exact (pay259_at _ _ _).trans (C.dv a l)
  · rcases (by decide : ∀ h : Fin 2, h = 1 ∨ h = 0) h with rfl | rfl
    · refine (View.read_writes_cons_hit_of_coords _ _ _ _ _ (ix5 0 0 0 0 a) _ (fun y => match y with
        | ⟨0, _⟩ => show (0 : ℕ) = 0 + 1 * 0 by omega
        | ⟨1, _⟩ => show (1 : ℕ) = 1 + 1 * 0 by omega
        | ⟨2, _⟩ => show (0 : ℕ) = 0 + 1 * 0 by omega
        | ⟨3, _⟩ => show (0 : ℕ) = 0 + 1 * 0 by omega
        | ⟨4, _⟩ => show (a.val : ℕ) = 0 + 1 * a.val by omega)).trans ?_
      rw [← sum_lt_all]
      exact (pay261_at _ _).trans (C.dc1 a)
    · rw [View.read_writes_cons_miss_of_axis _ _ _ _ _ 1 1 1 rfl rfl rfl (Or.inl Nat.zero_lt_one)]
      refine (View.read_writes_cons_hit_of_coords _ _ _ _ _ (ix5 0 0 0 0 a) _ (fun y => match y with
        | ⟨0, _⟩ => show (0 : ℕ) = 0 + 1 * 0 by omega
        | ⟨1, _⟩ => show (0 : ℕ) = 0 + 1 * 0 by omega
        | ⟨2, _⟩ => show (0 : ℕ) = 0 + 1 * 0 by omega
        | ⟨3, _⟩ => show (0 : ℕ) = 0 + 1 * 0 by omega
        | ⟨4, _⟩ => show (a.val : ℕ) = 0 + 1 * a.val by omega)).trans ?_
      rw [← sum_lt_all]
      exact (pay260_at _ _).trans (C.dc0 a)
  · refine (hD' R l).trans ?_
    rw [EReal.coe_eq_coe_iff]
    by_cases h1 : R.val < 512 * (i 2).val
    · rw [if_neg (by omega), if_neg (by omega), add_zero]
      simp only [pM_before _ _ _ _ _ _ h1, dsOf_zero, zero_mul, Finset.sum_const_zero, add_zero]
    · by_cases h2 : R.val < 512 * ((i 2).val + 1)
      · rw [if_pos ⟨by omega, h2⟩, if_neg (by omega), add_zero]
      · rw [if_neg (by omega), if_pos ⟨by omega, by omega⟩, add_zero]
  · refine (hE' h R).trans ?_
    rw [EReal.coe_eq_coe_iff]
    by_cases h1 : R.val < 512 * (i 2).val
    · rw [if_neg (by omega), if_neg (by omega), add_zero]
      simp only [pM_before _ _ _ _ _ _ h1, dsOf_zero, Finset.sum_const_zero, add_zero]
    · by_cases h2 : R.val < 512 * ((i 2).val + 1)
      · rw [if_pos ⟨by omega, h2⟩, if_neg (by omega), add_zero]
      · rw [if_neg (by omega), if_pos ⟨by omega, by omega⟩, add_zero]

end Main

end Cert.KernelIdeal.Fox

end
-- ==== Proof.InitFin.lean ====
module

public import proofs.«01_k».proof.Proof.MainVal

@[expose] public section

set_option maxRecDepth 16384

noncomputable section

namespace Cert.KernelIdeal.Fox

open Idealize.ShloMosaic Idealize.ShloMosaic.TcCoe Idealize.ShloMosaic.Tactic
open Idealize.SL.Sem
open Cert.KernelIdeal Cert.KernelIdeal.Gen

/-! # What the first and the last stretch store -/

section InitFin
variable (c : Dev nD) (i : grid0.Coords) (arg3 : Memref sig .tc .vmem S4096x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S1x2x8x1x512 .f32) (harg8 : arg8.IsWhole) (arg9 : Memref sig .tc .vmem S1x2x8x1x512 .f32) (harg9 : arg9.IsWhole) (arg10 : Memref sig .tc .vmem S4096x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S1x2x1x1x512 .f32) (harg13 : arg13.IsWhole) (arg14 : Memref sig .tc .vmem S1x2x1x4096 .f32) (harg14 : arg14.IsWhole) (arg15 : Memref sig .tc .vmem S4096x128 .f32) (harg15 : arg15.IsWhole) (arg16 : Memref sig .tc .vmem S2x4096x1 .f32) (harg16 : arg16.IsWhole) (arg17 : Memref sig .tc .vmem S2x4096x128 .bf16) (harg17 : arg17.IsWhole)

variable {x15 : Vec Ideal S4096x128 .f32} {x16 : Vec Ideal S2x4096x1 .f32} {D : Fin 4096 → Fin 128 → ℝ} {E : Fin 2 → Fin 4096 → ℝ}

/-- The query's gradient is the sum over the keys, scaled. -/
theorem fin_dq (hD : ∀ R l, x15 (ix2 R l) = ((D R l : ℝ) : EReal)) (M : Memref sig .tc .vmem S4096x128 .bf16) (f) (R : Fin 4096) (l : Fin 128) :
    M.view.read (Elt Ideal) (M.view.writes (Elt Ideal) f (finRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 x15 x16).1) (ix2 R l) = ((D R l * (1 / 8) : ℝ) : EReal) := by
  unfold finRun; dsimp only
  refine (View.read_writes_cons_hit_of_coords _ _ _ _ _ (ix2 R l) _ (fun y => match y with
        | ⟨0, _⟩ => show (R.val : ℕ) = 0 + 1 * R.val by omega
        | ⟨1, _⟩ => show (l.val : ℕ) = 0 + 1 * l.val by omega)).trans ?_
  simp only [View.readAt_eq_ld, Memref.IsWhole.read_unread]
  unfold_payloads
  pointwise
  simp only [hD, zero_add, Fin.eta, ofBits_eighth, ← EReal.coe_mul]

/-- The bias's gradient on the query side is the sum over the keys. -/
theorem fin_dr (hE : ∀ h R, x16 (ix3 h R 0) = ((E h R : ℝ) : EReal)) (M : Memref sig .tc .vmem S1x2x1x4096 .f32) (f) (h : Fin 2) (R : Fin 4096) :
    M.view.read (Elt Ideal) (M.view.writes (Elt Ideal) f (finRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 x15 x16).2.1) (ix4 0 h 0 R) = ((E h R : ℝ) : EReal) := by
  refine View.read_writes_apply_of_pieces (v := M.view) (f := f) (fun y : S1x2x1x4096.Idx => ((E ⟨(y 1).val, (y 1).isLt⟩ ⟨(y 3).val, (y 3).isLt⟩ : ℝ) : EReal)) _ ?_ _ ?_
  · unfold finRun; dsimp only
    sl_unfold_run_names
    simp only [View.readAt_eq_ld, Memref.IsWhole.read_unread, List.forall_mem_cons]
    unfold_payloads
    refine ⟨?_, ?_, ?_, ?_, ?_, ?_, ?_, ?_, ?_, ?_, ?_, ?_, ?_, ?_, ?_, ?_, fun _ h => absurd h List.not_mem_nil⟩ <;>
    · intro x
      obtain ⟨r, rfl⟩ : ∃ r : Fin 512, x = ix4 (0 : Fin 1) (0 : Fin 1) (0 : Fin 1) r := ⟨x 3, by funext a; match a with | ⟨0, _⟩ => exact Subsingleton.elim (α := Fin 1) _ _ | ⟨1, _⟩ => exact Subsingleton.elim (α := Fin 1) _ _ | ⟨2, _⟩ => exact Subsingleton.elim (α := Fin 1) _ _ | ⟨3, _⟩ => rfl⟩
      pointwise
      simp only [hE]
      refine congrArg _ (congrArg₂ E (Fin.ext ?_) (Fin.ext ?_)) <;> rw [Rect.emb_apply]
      · rfl
      · first | rfl | (show (_ + r.val : ℕ) = _ + 1 * r.val; rw [Nat.one_mul]; rfl) | (show (r.val : ℕ) = 0 + 1 * r.val; omega)
  · exact fcover14 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 x15 x16 _

/-- A head's scaled queries, the six bias lanes in place. -/
def qaOf (q : Fin 4096 → Fin 128 → ℝ) (a : Fin 2 → Fin 4096 → ℝ) (h : Fin 2) (R : Fin 4096) (l : Fin 128) : ℝ :=
  if b0 h ≤ l.val ∧ l.val < b0 h + 6 then (if l.val = b0 h then a h R else if l.val = b0 h + 1 then 0 else if l.val = b0 h + 2 then 0 else 1)
  else if hd l = h then q R l * (1 / 8) else 0

theorem qa_piece {G : Fin 2 → Fin 4096 → Fin 128 → ℝ} (h : Fin 2) (t : Fin 8) (inb) (w : Vec Ideal ⟨3, ![1, 512, 128]⟩ .bf16)
    (hw : ∀ (r : Fin 512) (l : Fin 128), w (ix3 0 r l) = ((G h (rowOf t.val t.isLt r) l : ℝ) : EReal)) (x : (⟨3, ![1, 512, 128]⟩ : Shape).Idx) :
    w x = (fun y : S2x4096x128.Idx => ((G ⟨(y 0).val, (y 0).isLt⟩ ⟨(y 1).val, (y 1).isLt⟩ ⟨(y 2).val, (y 2).isLt⟩ : ℝ) : EReal))
      ((Rect.unit (s := S2x4096x128) ![h.val, 512 * t.val, 0] ![1, 512, 128] inb).emb x) := by
  obtain ⟨r, l, rfl⟩ : ∃ (r : Fin 512) (l : Fin 128), x = ix3 (0 : Fin 1) r l := ⟨x 1, x 2, by
    funext a; match a with | ⟨0, _⟩ => exact Subsingleton.elim (α := Fin 1) _ _ | ⟨1, _⟩ => rfl | ⟨2, _⟩ => rfl⟩
  refine (hw r l).trans (congrArg (fun z : ℝ => (z : EReal)) ?_)
  refine congr (congr (congrArg G (Fin.ext ?_)) (Fin.ext ?_)) (Fin.ext ?_)
  · show h.val = h.val + 1 * 0; omega
  · show 512 * t.val + r.val = 512 * t.val + 1 * r.val; omega
  · show l.val = 0 + 1 * l.val; omega

variable (h0 : cond0 i) (h1 : ¬k0_cond2 i = 1#1) {x3 : Vec Ideal S4096x128 .bf16} {x8 x9 : Vec Ideal S1x2x8x1x512 .f32}
  {q : Fin 4096 → Fin 128 → ℝ} {cu le : Fin 2 → Fin 4096 → ℝ}

set_option maxHeartbeats 8000000 in
/-- The scaled queries with the biases, as stored. -/
theorem init_qa (hq : ∀ R l, x3 (ix2 R l) = ((q R l : ℝ) : EReal)) (hc : ∀ h (t : Fin 8) r, x8 (ix5 0 h t 0 r) = ((cu h (rowOf t.val t.isLt r) : ℝ) : EReal))
    (hl : ∀ h (t : Fin 8) r, x9 (ix5 0 h t 0 r) = ((le h (rowOf t.val t.isLt r) : ℝ) : EReal))
    (M : Memref sig .tc .vmem S2x4096x128 .bf16) (f) (h : Fin 2) (R : Fin 4096) (l : Fin 128) :
    M.view.read (Elt Ideal) (M.view.writes (Elt Ideal) f (initRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 h0 h1 x3 x8 x9).2.2.1) (ix3 h R l)
      = ((qaOf q (fun h R => cu h R - le h R) h R l : ℝ) : EReal) := by
  refine View.read_writes_apply_of_pieces (v := M.view) (f := f) (fun y : S2x4096x128.Idx => ((qaOf q (fun h R => cu h R - le h R) ⟨(y 0).val, (y 0).isLt⟩ ⟨(y 1).val, (y 1).isLt⟩ ⟨(y 2).val, (y 2).isLt⟩ : ℝ) : EReal)) _ ?_ _ ?_
  · unfold initRun; dsimp only
    sl_unfold_run_names
    simp only [View.readAt_eq_ld, Memref.IsWhole.read_unread, List.forall_mem_cons]
    unfold_payloads
    refine ⟨qa_piece 1 7 _ _ (fun r l => ?_), qa_piece 0 7 _ _ (fun r l => ?_), qa_piece 1 6 _ _ (fun r l => ?_), qa_piece 0 6 _ _ (fun r l => ?_), qa_piece 1 5 _ _ (fun r l => ?_), qa_piece 0 5 _ _ (fun r l => ?_), qa_piece 1 4 _ _ (fun r l => ?_), qa_piece 0 4 _ _ (fun r l => ?_), qa_piece 1 3 _ _ (fun r l => ?_), qa_piece 0 3 _ _ (fun r l => ?_), qa_piece 1 2 _ _ (fun r l => ?_), qa_piece 0 2 _ _ (fun r l => ?_), qa_piece 1 1 _ _ (fun r l => ?_), qa_piece 0 1 _ _ (fun r l => ?_), qa_piece 1 0 _ _ (fun r l => ?_), qa_piece 0 0 _ _ (fun r l => ?_), fun _ h => absurd h List.not_mem_nil⟩
    all_goals
      pointwise
      simp only [hq, hc, hl, sel_eq _ _ (by decide : 69 < 2147483648), sel_eq _ _ (by decide : 68 < 2147483648), sel_eq _ _ (by decide : 67 < 2147483648), sel_eq _ _ (by decide : 66 < 2147483648), sel_eq _ _ (by decide : 65 < 2147483648), sel_eq _ _ (by decide : 64 < 2147483648), sel_eq _ _ (by decide : 5 < 2147483648), sel_eq _ _ (by decide : 4 < 2147483648), sel_eq _ _ (by decide : 3 < 2147483648), sel_eq _ _ (by decide : 2 < 2147483648), sel_eq _ _ (by decide : 1 < 2147483648), sel_eq _ _ (by decide : 0 < 2147483648), sel_range _ 64 70 (by decide) (by decide), sel_range _ 0 6 (by decide) (by decide), sel_lt, sel_ge, sel_not, zero_add, Fin.eta, Fin.mk_zero, Fin.mk_one, Fin.zero_eta, ofBits_eighth,
        neg_coe, ← EReal.coe_sub, ← EReal.coe_mul, ← EReal.coe_add, coe_ite_zero, coe_ite, coe_zero_ite, coe_one_ite, coe_one_zero, sub_self, EReal.coe_eq_coe_iff]
      simp only [qaOf, b0, one_ne, if_true, if_false]
      split_ifs <;> first | rfl | (exact congrArg (fun z => q z l * (1 / 8)) (Fin.ext (by show (r.val : ℕ) = 512 * 0 + r.val; omega))) | (exfalso; omega)
  · exact icover17 (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 h0 h1 x3 x8 x9 _

theorem init_dq (M : Memref sig .tc .vmem S4096x128 .f32) (f) (R : Fin 4096) (l : Fin 128) :
    M.view.read (Elt Ideal) (M.view.writes (Elt Ideal) f (initRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 h0 h1 x3 x8 x9).1) (ix2 R l) = ((0 : ℝ) : EReal) := by
  unfold initRun; dsimp only
  refine (View.read_writes_cons_hit_of_coords _ _ _ _ _ (ix2 R l) _ (fun y => match y with
        | ⟨0, _⟩ => show (R.val : ℕ) = 0 + 1 * R.val by omega
        | ⟨1, _⟩ => show (l.val : ℕ) = 0 + 1 * l.val by omega)).trans ?_
  unfold_payloads
  pointwise
  rfl

theorem init_dr (M : Memref sig .tc .vmem S2x4096x1 .f32) (f) (h : Fin 2) (R : Fin 4096) :
    M.view.read (Elt Ideal) (M.view.writes (Elt Ideal) f (initRun (F := Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 h0 h1 x3 x8 x9).2.1) (ix3 h R 0) = ((0 : ℝ) : EReal) := by
  unfold initRun; dsimp only
  refine (View.read_writes_cons_hit_of_coords _ _ _ _ _ (ix3 h R 0) _ (fun y => match y with
        | ⟨0, _⟩ => show (h.val : ℕ) = 0 + 1 * h.val by omega
        | ⟨1, _⟩ => show (R.val : ℕ) = 0 + 1 * R.val by omega
        | ⟨2, _⟩ => show (0 : ℕ) = 0 + 1 * 0 by omega)).trans ?_
  unfold_payloads
  pointwise
  rfl

end InitFin

end Cert.KernelIdeal.Fox

end
-- ==== Proof.Score.lean ====
module

public import proofs.«01_k».proof.Proof.InitFin

@[expose] public section

set_option maxRecDepth 16384

noncomputable section

namespace Cert.KernelIdeal.Fox

open Idealize.ShloMosaic
open Cert.KernelIdeal Cert.KernelIdeal.Gen

/-! # The weights of the whole sequence -/

/-- The six bias lanes of a product of rows add the query's bias and take off the key's. -/
theorem score_sum (q : Fin 4096 → Fin 128 → ℝ) (a : Fin 2 → Fin 4096 → ℝ) (kk : Fin 512 → Fin 128 → ℝ) (cu : Fin 2 → Fin 512 → ℝ)
    (h : Fin 2) (R : Fin 4096) (c : Fin 512) :
    ∑ l, qaOf q a h R l * kaOf kk cu h c l = hdot h (q R) (kk c) * (1 / 8) + a h R - cu h c := by
  have hb : b0 h + 3 < 128 := by rcases (by decide : ∀ h : Fin 2, h = 1 ∨ h = 0) h with rfl | rfl <;> decide
  have e : ∀ l : Fin 128, qaOf q a h R l * kaOf kk cu h c l
      = (if hd l = h then q R l * kk c l else 0) * (1 / 8) + (if l = ⟨b0 h, by omega⟩ then a h R else 0) - (if l = ⟨b0 h + 3, hb⟩ then cu h c else 0) := by
    intro l
    have hd0 : b0 h ≤ l.val → l.val < b0 h + 6 → ¬hd l = h := by
      rcases (by decide : ∀ h : Fin 2, h = 1 ∨ h = 0) h with rfl | rfl
      · intro h1 h2 h3; rw [hd_one] at h3; simp only [b0, one_ne, if_false] at h1 h2; omega
      · intro h1 h2 h3; rw [hd_zero] at h3; simp only [b0, if_true] at h1 h2; omega
    by_cases hl : b0 h ≤ l.val ∧ l.val < b0 h + 6
    · have hd1 := hd0 hl.1 hl.2
      simp only [qaOf, kaOf, hl, and_self, if_true, hd1, if_false, Fin.ext_iff]
      split_ifs <;> first | (exfalso; omega) | ring
    · simp only [qaOf, kaOf, hl, if_false, Fin.ext_iff]
      split_ifs <;> first | (exfalso; omega) | ring
  simp only [e, Finset.sum_sub_distrib, Finset.sum_add_distrib, ← Finset.sum_mul, Finset.sum_ite_eq', Finset.mem_univ, if_true, hdot]

/-- The weight of key `J` for query row `R`: none where the key is later. -/
def wgt (q K : Fin 4096 → Fin 128 → ℝ) (cu le : Fin 2 → Fin 4096 → ℝ) (h : Fin 2) (R J : Fin 4096) : ℝ :=
  if J.val ≤ R.val then Real.exp (hdot h (q R) (K J) * (1 / 8) + (cu h R - le h R) - cu h J) else 0

theorem pM_eq (q K : Fin 4096 → Fin 128 → ℝ) (cu le : Fin 2 → Fin 4096 → ℝ) (j : ℕ) (hj : j < 8) (h : Fin 2) (R : Fin 4096) (c : Fin 512) :
    pM j (qaOf q fun h R => cu h R - le h R) (kaOf (fun c l => K (rowOf j hj c) l) fun h c => cu h (rowOf j hj c)) h R c
      = wgt q K cu le h R (rowOf j hj c) := by
  unfold pM wgt wt
  rw [score_sum]
  rfl

/-- The gradient of the score of key `J` for query row `R`. -/
def dS (q K g V o : Fin 4096 → Fin 128 → ℝ) (cu le : Fin 2 → Fin 4096 → ℝ) (h : Fin 2) (R J : Fin 4096) : ℝ :=
  dsOf (wgt q K cu le h R J) (g R) (V J) (o R) h

end Cert.KernelIdeal.Fox

end
-- ==== Proof.State.lean ====
module

public import proofs.«01_k».proof.Proof.Score

@[expose] public section

set_option maxRecDepth 16384

noncomputable section

namespace Cert.KernelIdeal.Fox

open Idealize.ShloMosaic Idealize.ShloMosaic.TcCoe Idealize.ShloMosaic.Tactic
open Idealize.ShloMosaic.Pipeline (Dat Cfg Window)
open Cert.KernelIdeal Cert.KernelIdeal.Gen

/-! # The blocks of keys of one sequence, one after the other -/

section State
variable (m : (ℓ : Loc nD τ sig) → Buf (Elt Ideal) ℓ) (c : Dev nD)

theorem coord2 (t : Fin cfg0.N) : (grid0.coords t 2).val = t.val % 8 := by
  have e2 : (grid0.coords t 2).val = t.val / 1 % 8 := Pipeline.Grid.coords_val t 2 (by decide) rfl
  rw [e2, Nat.div_one]

theorem mod_lt (t : Fin cfg0.N) : t.val % 8 < 8 := Nat.mod_lt _ (by decide)

/-- What the blocks read at the points of pass `n` hold, over real numbers. -/
structure PassIn (n : ℕ) (q g o K V : Fin 4096 → Fin 128 → ℝ) (cu le : Fin 2 → Fin 4096 → ℝ) : Prop where
  q : ∀ t : Fin cfg0.N, t.val / 8 = n → ∀ R l, (iblk m c 0 t : Vec Ideal S4096x128 .bf16) (ix2 R l) = ((q R l : ℝ) : EReal)
  k : ∀ t : Fin cfg0.N, t.val / 8 = n → ∀ a l, (iblk m c 1 t : Vec Ideal S512x128 .bf16) (ix2 a l) = ((K (rowOf (t.val % 8) (mod_lt t) a) l : ℝ) : EReal)
  v : ∀ t : Fin cfg0.N, t.val / 8 = n → ∀ a l, (iblk m c 2 t : Vec Ideal S512x128 .bf16) (ix2 a l) = ((V (rowOf (t.val % 8) (mod_lt t) a) l : ℝ) : EReal)
  g : ∀ t : Fin cfg0.N, t.val / 8 = n → ∀ R l, (iblk m c 3 t : Vec Ideal S4096x128 .bf16) (ix2 R l) = ((g R l : ℝ) : EReal)
  o : ∀ t : Fin cfg0.N, t.val / 8 = n → ∀ R l, (iblk m c 4 t : Vec Ideal S4096x128 .bf16) (ix2 R l) = ((o R l : ℝ) : EReal)
  cu : ∀ t : Fin cfg0.N, t.val / 8 = n → ∀ h (u : Fin 8) r, (iblk m c 5 t : Vec Ideal S1x2x8x1x512 .f32) (ix5 0 h u 0 r) = ((cu h (rowOf u.val u.isLt r) : ℝ) : EReal)
  le : ∀ t : Fin cfg0.N, t.val / 8 = n → ∀ h (u : Fin 8) r, (iblk m c 6 t : Vec Ideal S1x2x8x1x512 .f32) (ix5 0 h u 0 r) = ((le h (rowOf u.val u.isLt r) : ℝ) : EReal)

variable {m c} {n : ℕ} {q g o K V : Fin 4096 → Fin 128 → ℝ} {cu le : Fin 2 → Fin 4096 → ℝ} (P : PassIn m c n q g o K V cu le)

/-- What the scratch buffers hold once the blocks of keys before `N` are in. -/
structure Holds (q g o K V : Fin 4096 → Fin 128 → ℝ) (cu le : Fin 2 → Fin 4096 → ℝ) (N : ℕ) (s : St Ideal) : Prop where
  D : ∀ R l, s.1 (ix2 R l) = ((∑ J : Fin 4096, (if J.val < 512 * N then dS q K g V o cu le (hd l) R J * K J l else 0) : ℝ) : EReal)
  E : ∀ h R, s.2.1 (ix3 h R 0) = ((∑ J : Fin 4096, (if J.val < 512 * N then dS q K g V o cu le h R J else 0) : ℝ) : EReal)
  qa : ∀ h R l, s.2.2 (ix3 h R l) = ((qaOf q (fun h R => cu h R - le h R) h R l : ℝ) : EReal)

include P in
theorem given_at (t : Fin cfg0.N) (ht : t.val / 8 = n) (s : St Ideal) (hs : Holds q g o K V cu le (t.val % 8) s) :
    Given (iblk m c 0 t) (iblk m c 1 t) (iblk m c 2 t) (iblk m c 3 t) (iblk m c 4 t) (iblk m c 5 t) s.2.2 s.1 s.2.1 q g o
      (fun a l => K (rowOf (t.val % 8) (mod_lt t) a) l) (fun a l => V (rowOf (t.val % 8) (mod_lt t) a) l)
      (qaOf q fun h R => cu h R - le h R) (fun h u r => cu h (rowOf u.val u.isLt r))
      (fun R l => ∑ J : Fin 4096, if J.val < 512 * (t.val % 8) then dS q K g V o cu le (hd l) R J * K J l else 0)
      (fun h R => ∑ J : Fin 4096, if J.val < 512 * (t.val % 8) then dS q K g V o cu le h R J else 0) :=
  ⟨P.q t ht, P.g t ht, P.o t ht, P.k t ht, P.v t ht, P.cu t ht, hs.qa, hs.D, hs.E⟩

theorem pM_at (t : Fin cfg0.N) (h : Fin 2) (R : Fin 4096) (a : Fin 512) :
    pM (grid0.coords t 2).val (qaOf q fun h R => cu h R - le h R)
        (kaOf (fun a l => K (rowOf (t.val % 8) (mod_lt t) a) l) fun h a => cu h (rowOf (jOf (grid0.coords t)).val (jOf (grid0.coords t)).isLt a)) h R a
      = wgt q K cu le h R (rowOf (t.val % 8) (mod_lt t) a) := by
  have e : ∀ a, rowOf (jOf (grid0.coords t)).val (jOf (grid0.coords t)).isLt a = rowOf (t.val % 8) (mod_lt t) a := fun a =>
    Fin.ext (by show 512 * (grid0.coords t 2).val + a.val = 512 * (t.val % 8) + a.val; rw [coord2])
  simp only [e]
  rw [coord2]
  exact pM_eq q K cu le _ (mod_lt t) h R a

include P in
/-- One point: what it stores, and what the scratch buffers hold after it. -/
theorem point_val (t : Fin cfg0.N) (ht : t.val / 8 = n) (s : St Ideal) (hs : Holds q g o K V cu le (t.val % 8) s) :
    Holds q g o K V cu le (t.val % 8 + 1) (stMain m c t s)
    ∧ (∀ a l, out8 m c t s (ix2 a l) = (((∑ R, dS q K g V o cu le (hd l) R (rowOf (t.val % 8) (mod_lt t) a) * q R l) * (1 / 8) : ℝ) : EReal))
    ∧ (∀ a l, out9 m c t s (ix2 a l) = ((∑ R, wgt q K cu le (hd l) R (rowOf (t.val % 8) (mod_lt t) a) * g R l : ℝ) : EReal))
    ∧ (∀ h a, out10 m c t s (ix5 0 h 0 0 a) = ((-∑ R, dS q K g V o cu le h R (rowOf (t.val % 8) (mod_lt t) a) : ℝ) : EReal)) := by
  obtain ⟨r8, r9, r10, rD, rE⟩ := main_val (H := given_at P t ht s hs) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) sc0 hsc0 sc1 hsc1 sc2 hsc2
  refine ⟨⟨fun R l => (rD R l).trans ?_, fun h R => (rE h R).trans ?_, hs.qa⟩, fun a l => (r8 (ms0_8 t) _ a l).trans ?_,
    fun a l => (r9 (ms0_9 t) _ a l).trans ?_, fun h a => (r10 (ms0_10 t) _ h a).trans ?_⟩
  · rw [EReal.coe_eq_coe_iff, sum_lt_succ _ _ (mod_lt t)]
    simp only [pM_at]; rfl
  · rw [EReal.coe_eq_coe_iff, sum_lt_succ _ _ (mod_lt t)]
    simp only [pM_at]; rfl
  · simp only [pM_at]; rfl
  · simp only [pM_at]
  · simp only [pM_at]; rfl

include P in
theorem init_val (t : Fin cfg0.N) (ht : t.val / 8 = n) (h : t.val % 8 = 0) : Holds q g o K V cu le (t.val % 8) (stInit m c t h) := by
  rw [h]
  refine ⟨fun R l => ?_, fun h' R => ?_, fun h' R l => ?_⟩
  · rw [sum_lt_zero]
    exact init_dq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) sc0 hsc0 sc1 hsc1 sc2 hsc2 _ _ sc0 _ R l
  · rw [sum_lt_zero]
    exact init_dr c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) sc0 hsc0 sc1 hsc1 sc2 hsc2 _ _ sc1 _ h' R
  · exact init_qa c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) sc0 hsc0 sc1 hsc1 sc2 hsc2 _ _ (P.q t ht) (P.cu t ht) (P.le t ht) sc2 _ h' R l

include P in
theorem stIn_val : ∀ (j : ℕ) (t : Fin cfg0.N), t.val / 8 = n → t.val % 8 = j → Holds q g o K V cu le (t.val % 8) (stIn m c t) := by
  intro j
  induction j with
  | zero =>
    intro t ht hj
    rw [stIn_init m c t hj]
    exact init_val P t ht hj
  | succ j ih =>
    intro t ht hj
    have hlt : t.val - 1 < cfg0.N := Nat.lt_of_le_of_lt (Nat.sub_le _ _) t.isLt
    rw [stIn_next m c t (by omega), show stAt m c (t.val - 1) _ = stMain m c ⟨t.val - 1, hlt⟩ (stIn m c ⟨t.val - 1, hlt⟩) from stAt_eq m c ⟨t.val - 1, hlt⟩]
    have h1 := (point_val P ⟨t.val - 1, hlt⟩ (by show (t.val - 1) / 8 = n; omega) _ (ih ⟨t.val - 1, hlt⟩ (by show (t.val - 1) / 8 = n; omega) (by show (t.val - 1) % 8 = j; omega))).1
    have e : (t.val - 1) % 8 + 1 = t.val % 8 := by omega
    rw [← e]
    exact h1

include P in
theorem outs_val (t : Fin cfg0.N) (ht : t.val / 8 = n) :
    (∀ a l, out8 m c t (stIn m c t) (ix2 a l) = (((∑ R, dS q K g V o cu le (hd l) R (rowOf (t.val % 8) (mod_lt t) a) * q R l) * (1 / 8) : ℝ) : EReal))
    ∧ (∀ a l, out9 m c t (stIn m c t) (ix2 a l) = ((∑ R, wgt q K cu le (hd l) R (rowOf (t.val % 8) (mod_lt t) a) * g R l : ℝ) : EReal))
    ∧ (∀ h a, out10 m c t (stIn m c t) (ix5 0 h 0 0 a) = ((-∑ R, dS q K g V o cu le h R (rowOf (t.val % 8) (mod_lt t) a) : ℝ) : EReal)) :=
  (point_val P t ht _ (stIn_val P _ t ht rfl)).2

include P in
theorem outs_last (t : Fin cfg0.N) (ht : t.val / 8 = n) (h7 : t.val % 8 = 7) :
    (∀ R l, out7 c t (stAt m c t.val t.isLt) (ix2 R l) = (((∑ J, dS q K g V o cu le (hd l) R J * K J l) * (1 / 8) : ℝ) : EReal))
    ∧ (∀ h R, out11 c t (stAt m c t.val t.isLt) (ix4 0 h 0 R) = ((∑ J, dS q K g V o cu le h R J : ℝ) : EReal)) := by
  have hs := (point_val P t ht _ (stIn_val P _ t ht rfl)).1
  rw [← stAt_eq, show t.val % 8 + 1 = 8 by omega] at hs
  have hD := hs.D
  have hE := hs.E
  simp only [sum_lt_all] at hD hE
  exact ⟨fun R l => fin_dq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) sc0 hsc0 sc1 hsc1 sc2 hsc2 hD (ms0_7 t) _ R l, fun h R => fin_dr c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) sc0 hsc0 sc1 hsc1 sc2 hsc2 hE (ms0_11 t) _ h R⟩

end State

end Cert.KernelIdeal.Fox

end
-- ==== Proof.Pairs.lean ====
/-
  A pass over a pair of heads computes the gradients of the two heads.
-/
module

public import proofs.«01_k».proof.Proof.FoxMath
public import proofs.«01_k».proof.Proof.Score
public import Mathlib.Logic.Equiv.Fin.Basic
public import Mathlib.Data.Fintype.BigOperators

@[expose] public section

noncomputable section

open Cert.FoxMath

namespace Cert.KernelIdeal.Fox

/-- The head of half `h` of the pair of heads `p`, and the element of a lane of the pair. -/
def hp (p : Fin 8) (h : Fin 2) : Fin 16 := ⟨2 * p.val + h.val, by omega⟩
def el (l : Fin 128) : Fin 64 := ⟨l.val % 64, by omega⟩

theorem lane_val (p : Fin 8) (l : Fin 128) : (lane (hp p (hd l)) (el l)).val = 128 * p.val + l.val := by
  show 64 * (2 * p.val + (hd l).val) + l.val % 64 = _
  by_cases h : l.val < 64
  · rw [(hd_zero l).mpr h]; show 64 * (2 * p.val + 0) + _ = _; omega
  · rw [(hd_one l).mpr h]; show 64 * (2 * p.val + 1) + _ = _; omega

/-- The sum over the lanes of one head. -/
theorem sum_head (F : Fin 2 → Fin 64 → ℝ) (h : Fin 2) : (∑ l : Fin 128, if hd l = h then F (hd l) (el l) else 0) = ∑ d, F h d := by
  have e : ∀ k : Fin 2, ∀ d : Fin 64, hd (finProdFinEquiv (k, d)) = k ∧ el (finProdFinEquiv (k, d)) = d := by
    intro k d
    have hv : (finProdFinEquiv (k, d)).val = d.val + 64 * k.val := rfl
    refine ⟨?_, Fin.ext ?_⟩
    · match k, hv with
      | ⟨0, _⟩, hv => exact (hd_zero _).mpr (by rw [hv]; show d.val + 64 * 0 < 64; omega)
      | ⟨1, _⟩, hv => exact (hd_one _).mpr (by rw [hv]; show ¬ d.val + 64 * 1 < 64; omega)
    · show (finProdFinEquiv (k, d)).val % 64 = d.val
      rw [hv]; omega
  rw [← (finProdFinEquiv (m := 2) (n := 64)).sum_comp, Fintype.sum_prod_type]
  simp only [(e _ _).1, (e _ _).2]
  rw [Finset.sum_eq_single h]
  · simp
  · intro k _ hk; simp [hk]
  · intro hh; exact absurd (Finset.mem_univ h) hh

variable (X : Fin 8192 → Fin 12800 → ℝ) (Y : Fin 8192 → Fin 1024 → ℝ) (C : Fin 2 → Fin 16 → Fin 4096 → ℝ) (b : Fin 2) (p : Fin 8)

theorem hdot_pair (f g : Fin 16 → Fin 64 → ℝ) (h : Fin 2) :
    hdot h (fun l => f (hp p (hd l)) (el l)) (fun l => g (hp p (hd l)) (el l)) = ∑ d, f (hp p h) d * g (hp p h) d :=
  sum_head (fun k d => f (hp p k) d * g (hp p k) d) h

/-- The rows of a pair of heads. -/
def qP (R : Fin 4096) (l : Fin 128) : ℝ := qv X b (hp p (hd l)) R (el l)
def kP (R : Fin 4096) (l : Fin 128) : ℝ := kv X b (hp p (hd l)) R (el l)
def vP (R : Fin 4096) (l : Fin 128) : ℝ := vv X b (hp p (hd l)) R (el l)
def gP (R : Fin 4096) (l : Fin 128) : ℝ := gv Y b (hp p (hd l)) R (el l)
def oP (R : Fin 4096) (l : Fin 128) : ℝ := ou X C b (hp p (hd l)) R (el l)
def cP (h : Fin 2) (R : Fin 4096) : ℝ := C b (hp p h) R
def lP (h : Fin 2) (R : Fin 4096) : ℝ := ls X C b (hp p h) R

theorem wgt_pair (h : Fin 2) (R J : Fin 4096) : wgt (qP X b p) (kP X b p) (cP C b p) (lP X C b p) h R J = pr X C b (hp p h) R J := by
  rw [← pr_eq]
  unfold wgt
  rw [show hdot h (qP X b p R) (kP X b p J) = _ from hdot_pair p (fun k d => qv X b k R d) (fun k d => kv X b k J d) h]
  rfl

theorem dS_pair (h : Fin 2) (R J : Fin 4096) :
    dS (qP X b p) (kP X b p) (gP Y b p) (vP X b p) (oP X C b p) (cP C b p) (lP X C b p) h R J = ds X Y C b (hp p h) R J := by
  unfold dS dsOf
  rw [wgt_pair, show hdot h (gP Y b p R) (vP X b p J) = _ from hdot_pair p (fun k d => gv Y b k R d) (fun k d => vv X b k J d) h,
    show hdot h (gP Y b p R) (oP X C b p R) = _ from hdot_pair p (fun k d => gv Y b k R d) (fun k d => ou X C b k R d) h]
  rfl

theorem dq_pair (R : Fin 4096) (l : Fin 128) :
    (∑ J, dS (qP X b p) (kP X b p) (gP Y b p) (vP X b p) (oP X C b p) (cP C b p) (lP X C b p) (hd l) R J * kP X b p J l) * (1 / 8) = dq X Y C b (hp p (hd l)) R (el l) := by
  simp only [dS_pair]; rfl

theorem dk_pair (J : Fin 4096) (l : Fin 128) :
    (∑ R, dS (qP X b p) (kP X b p) (gP Y b p) (vP X b p) (oP X C b p) (cP C b p) (lP X C b p) (hd l) R J * qP X b p R l) * (1 / 8) = dk X Y C b (hp p (hd l)) J (el l) := by
  simp only [dS_pair]; rfl

theorem dv_pair (J : Fin 4096) (l : Fin 128) :
    (∑ R, wgt (qP X b p) (kP X b p) (cP C b p) (lP X C b p) (hd l) R J * gP Y b p R l) = dv X Y C b (hp p (hd l)) J (el l) := by
  simp only [wgt_pair]
  exact Finset.sum_congr rfl fun R _ => mul_comm _ _

theorem dck_pair (h : Fin 2) (J : Fin 4096) :
    -(∑ R, dS (qP X b p) (kP X b p) (gP Y b p) (vP X b p) (oP X C b p) (cP C b p) (lP X C b p) h R J) = dck X Y C b (hp p h) J := by
  simp only [dS_pair]; rfl

theorem dcq_pair (h : Fin 2) (R : Fin 4096) :
    (∑ J, dS (qP X b p) (kP X b p) (gP Y b p) (vP X b p) (oP X C b p) (cP C b p) (lP X C b p) h R J) = dcq X Y C b (hp p h) R := by
  simp only [dS_pair]; rfl

end Cert.KernelIdeal.Fox

end
-- ==== Proof.Inputs.lean ====
/-
  The input blocks of every grid point as real numbers.
-/
module

public import proofs.«01_k».proof.Proof.Blocks
public import proofs.«01_k».proof.Proof.HostVal
public import proofs.«01_k».proof.Proof.RefVal
public import proofs.«01_k».proof.Proof.State
public import proofs.«01_k».proof.Proof.Pairs

@[expose] public section

noncomputable section

open Idealize.ShloMosaic Idealize.ShloMosaic.TcCoe Idealize.SL.Sem
open Cert.FoxMath
open Cert.ReferenceIdeal.Read (ArgsAre rowMax_at rowSum_at out_at)

namespace Cert.KernelIdeal.Fox

open Cert.KernelIdeal Cert.KernelIdeal.Gen

/-- A point is of the pair `p` of heads of the sequence `b`. -/
theorem seq_of {t : Fin cfg0.N} {b : Fin 2} {p : Fin 8} (h : t.val / 8 = 8 * b.val + p.val) : t.val / 64 = b.val ∧ t.val / 8 % 8 = p.val := by omega

theorem rowAt_eq {t : Fin cfg0.N} {b : Fin 2} {p : Fin 8} (h : t.val / 8 = 8 * b.val + p.val) (R : Fin 4096) : rowAt t R = tok b R :=
  Fin.ext (by show 4096 * (t.val / 64) + R.val = 4096 * b.val + R.val; rw [(seq_of h).1])

theorem rowTile_eq {t : Fin cfg0.N} {b : Fin 2} {p : Fin 8} (h : t.val / 8 = 8 * b.val + p.val) (a : Fin 512) :
    rowTile t a = tok b (rowOf (t.val % 8) (mod_lt t) a) :=
  Fin.ext (by show 4096 * (t.val / 64) + (512 * (t.val % 8) + a.val) = 4096 * b.val + (512 * (t.val % 8) + a.val); rw [(seq_of h).1])

theorem seqAt_eq {t : Fin cfg0.N} {b : Fin 2} {p : Fin 8} (h : t.val / 8 = 8 * b.val + p.val) : seqAt t = b := Fin.ext (seq_of h).1

theorem headAt_eq {t : Fin cfg0.N} {b : Fin 2} {p : Fin 8} (h : t.val / 8 = 8 * b.val + p.val) (k : Fin 2) : headAt t k = hp p k :=
  Fin.ext (by show 2 * (t.val / 8 % 8) + k.val = 2 * p.val + k.val; rw [(seq_of h).2])

theorem laneAt_eq {t : Fin cfg0.N} {b : Fin 2} {p : Fin 8} (h : t.val / 8 = 8 * b.val + p.val) (l : Fin 128) : laneAt t l = lane (hp p (hd l)) (el l) :=
  Fin.ext (by rw [lane_val]; show 128 * (t.val / 8 % 8) + l.val = _; rw [(seq_of h).2])

theorem out_read (x : FVec Ideal S2x4096x16x64 .f32) (hs) (hb) (b : Fin 2) (R : Fin 4096) (h : Fin 16) (d : Fin 64) :
    (truncf .bf16 (shapeCast S8192x1024 x hs) hb : FVec Ideal S8192x1024 .bf16) (ix2 (tok b R) (lane h d)) = x (ix4 b R h d) := by
  show shapeCast S8192x1024 x hs (ix2 (tok b R) (lane h d)) = _
  refine shapeCast_apply _ _ _ (ix4 b R h d) ?_
  rw [Shape.rowMajor_val_two, Shape.rowMajor_val_four]
  show ((b.val * 4096 + R.val) * 16 + h.val) * 64 + d.val = (4096 * b.val + R.val) * 1024 + (64 * h.val + d.val)
  omega

theorem lse_read (x y : FVec Ideal S2x16x4096x1 .f32) (hs) (b : Fin 2) (h : Fin 16) (u : Fin 8) (r : Fin 512) (M D : ℝ) (hD : 0 < D)
    (hx : x (ix4 b h (rowOf u.val u.isLt r) 0) = ((M : ℝ) : EReal)) (hy : y (ix4 b h (rowOf u.val u.isLt r) 0) = ((D : ℝ) : EReal)) :
    (shapeCast S2x16x8x1x512 (addf x (Host.log y)) hs : FVec Ideal S2x16x8x1x512 .f32) (ix5 b h u 0 r) = ((M + Real.log D : ℝ) : EReal) := by
  refine (shapeCast_apply _ _ _ (ix4 b h (rowOf u.val u.isLt r) 0) ?_).trans ?_
  · rw [Shape.rowMajor_val_five, Shape.rowMajor_val_four]
    show ((b.val * 16 + h.val) * 4096 + (512 * u.val + r.val)) * 1 + 0 = (((b.val * 16 + h.val) * 8 + u.val) * 1 + 0) * 512 + r.val
    omega
  · show x _ + Ideal.log (y _) = _
    rw [hx, hy, Ideal.log_coe, if_neg (not_le.mpr hD), ← EReal.coe_add]

theorem cum_read (x : FVec Ideal S2x16x4096 .f32) (hs) (b : Fin 2) (h : Fin 16) (u : Fin 8) (r : Fin 512) :
    (shapeCast S2x16x8x1x512 x hs : FVec Ideal S2x16x8x1x512 .f32) (ix5 b h u 0 r) = x (ix3 b h (rowOf u.val u.isLt r)) := by
  refine shapeCast_apply _ _ _ (ix3 b h (rowOf u.val u.isLt r)) ?_
  rw [Shape.rowMajor_val_five, Shape.rowMajor_val_three]
  show (b.val * 16 + h.val) * 4096 + (512 * u.val + r.val) = (((b.val * 16 + h.val) * 8 + u.val) * 1 + 0) * 512 + r.val
  omega

theorem read4 (c : Dev nD) (v : (b : Ref sig .tc) → Buf (Elt Ideal) ((c : Thread nD τ).loc b)) (t : Fin cfg0.N) (R : Fin 4096) (l : Fin 128) :
    (((cfg0.win 4).blk t).view.read (Elt Ideal) (v (Pipeline.arrRef spec0 4)) : Vec Ideal S4096x128 .bf16) (ix2 R l) = (v main_v39 : FVec Ideal S8192x1024 .bf16) (ix2 (rowAt t R) (laneAt t l)) := by
  rw [← emb4]
  rfl

theorem read6 (c : Dev nD) (v : (b : Ref sig .tc) → Buf (Elt Ideal) ((c : Thread nD τ).loc b)) (t : Fin cfg0.N) (h : Fin 2) (u : Fin 8) (r : Fin 512) :
    (((cfg0.win 6).blk t).view.read (Elt Ideal) (v (Pipeline.arrRef spec0 6)) : Vec Ideal S1x2x8x1x512 .f32) (ix5 0 h u 0 r) = (v main_v42 : FVec Ideal S2x16x8x1x512 .f32) (ix5 (seqAt t) (headAt t h) u 0 r) := by
  rw [← emb6]
  rfl

theorem read5 (c : Dev nD) (v : (b : Ref sig .tc) → Buf (Elt Ideal) ((c : Thread nD τ).loc b)) (t : Fin cfg0.N) (h : Fin 2) (u : Fin 8) (r : Fin 512) :
    (((cfg0.win 5).blk t).view.read (Elt Ideal) (v (Pipeline.arrRef spec0 5)) : Vec Ideal S1x2x8x1x512 .f32) (ix5 0 h u 0 r) = (v main_v43 : FVec Ideal S2x16x8x1x512 .f32) (ix5 (seqAt t) (headAt t h) u 0 r) := by
  rw [← emb5]
  rfl

variable (m : (ℓ : Loc nD τ sig) → Buf (Elt Ideal) ℓ) (c : Dev nD) (t : Fin cfg0.N)

/-- What a block holds, where its elements lie in the array. -/
theorem iblk4 (R : Fin 4096) (l : Fin 128) : (iblk m c 4 t : Vec Ideal S4096x128 .bf16) (ix2 R l) =
    (V m c main_v39 : FVec Ideal S8192x1024 .bf16) (ix2 (rowAt t R) (laneAt t l)) :=
  read4 c (V m c) t R l

theorem iblk5 (h : Fin 2) (u : Fin 8) (r : Fin 512) : (iblk m c 5 t : Vec Ideal S1x2x8x1x512 .f32) (ix5 0 h u 0 r) =
    (V m c main_v43 : FVec Ideal S2x16x8x1x512 .f32) (ix5 (seqAt t) (headAt t h) u 0 r) :=
  read5 c (V m c) t h u r

theorem iblk6 (h : Fin 2) (u : Fin 8) (r : Fin 512) : (iblk m c 6 t : Vec Ideal S1x2x8x1x512 .f32) (ix5 0 h u 0 r) =
    (V m c main_v42 : FVec Ideal S2x16x8x1x512 .f32) (ix5 (seqAt t) (headAt t h) u 0 r) :=
  read6 c (V m c) t h u r

variable {m c}
variable {X : Fin 8192 → Fin 12800 → ℝ} {Y : Fin 8192 → Fin 1024 → ℝ} {C : Fin 2 → Fin 16 → Fin 4096 → ℝ}
variable (A : ArgsAre (m ((c : Thread nD τ).loc main_arg0)) (m ((c : Thread nD τ).loc main_arg1)) (m ((c : Thread nD τ).loc main_arg2)) X Y C)

include A

theorem out_block (b : Fin 2) (R : Fin 4096) (h : Fin 16) (d : Fin 64) :
    (V m c main_v39 : FVec Ideal S8192x1024 .bf16) (ix2 (tok b R) (lane h d)) = ((ou X C b h R d : ℝ) : EReal) :=
  (congrFun (V_out m c) _).trans ((out_read _ _ _ b R h d).trans (out_at A b h R d))

theorem lse_block (b : Fin 2) (h : Fin 16) (u : Fin 8) (r : Fin 512) :
    (V m c main_v42 : FVec Ideal S2x16x8x1x512 .f32) (ix5 b h u 0 r) = ((ls X C b h (rowOf u.val u.isLt r) : ℝ) : EReal) :=
  (congrFun (V_lse m c) _).trans (lse_read _ _ _ b h u r _ _ (den_pos X C b h _) (rowMax_at A b h _) (rowSum_at A b h _))

theorem cum_block (b : Fin 2) (h : Fin 16) (u : Fin 8) (r : Fin 512) :
    (V m c main_v43 : FVec Ideal S2x16x8x1x512 .f32) (ix5 b h u 0 r) = ((C b h (rowOf u.val u.isLt r) : ℝ) : EReal) :=
  (congrFun (V_cum m c) _).trans ((cum_read _ _ b h u r).trans (A.cum b h _))

theorem passIn (b : Fin 2) (p : Fin 8) : PassIn m c (8 * b.val + p.val)
    (qP X b p) (gP Y b p) (oP X C b p) (kP X b p) (vP X b p) (cP C b p) (lP X C b p) where
  q t ht R l := by
    show (V m c main_arg0 : FVec Ideal S8192x12800 .bf16) ((win0_0.blk t).view.emb (ix2 R l)) = _
    rw [V_main_arg0, emb0, rowAt_eq ht]
    refine (A.proj _ _).trans (congrArg (fun z => ((X (tok b R) z : ℝ) : EReal)) (Fin.ext ?_))
    show 5120 + (128 * (t.val / 8 % 8) + l.val) = 5120 + (lane (hp p (hd l)) (el l)).val
    rw [lane_val, (seq_of ht).2]
  k t ht a l := by
    show (V m c main_arg0 : FVec Ideal S8192x12800 .bf16) ((win0_1.blk t).view.emb (ix2 a l)) = _
    rw [V_main_arg0, emb1, rowTile_eq ht]
    refine (A.proj _ _).trans (congrArg (fun z => ((X (tok b _) z : ℝ) : EReal)) (Fin.ext ?_))
    show 6144 + (128 * (t.val / 8 % 8) + l.val) = 6144 + (lane (hp p (hd l)) (el l)).val
    rw [lane_val, (seq_of ht).2]
  v t ht a l := by
    show (V m c main_arg0 : FVec Ideal S8192x12800 .bf16) ((win0_2.blk t).view.emb (ix2 a l)) = _
    rw [V_main_arg0, emb2, rowTile_eq ht]
    refine (A.proj _ _).trans (congrArg (fun z => ((X (tok b _) z : ℝ) : EReal)) (Fin.ext ?_))
    show 7168 + (128 * (t.val / 8 % 8) + l.val) = 7168 + (lane (hp p (hd l)) (el l)).val
    rw [lane_val, (seq_of ht).2]
  g t ht R l := by
    show (V m c main_arg1 : FVec Ideal S8192x1024 .bf16) ((win0_3.blk t).view.emb (ix2 R l)) = _
    rw [V_main_arg1, emb3, rowAt_eq ht, laneAt_eq ht]
    exact A.grad _ _
  o t ht R l := by
    rw [iblk4, rowAt_eq ht, laneAt_eq ht]
    exact out_block A b R _ _
  cu t ht h u r := by
    rw [iblk5, seqAt_eq ht, headAt_eq ht]
    exact cum_block A b _ u r
  le t ht h u r := by
    rw [iblk6, seqAt_eq ht, headAt_eq ht]
    exact lse_block A b _ u r

end Cert.KernelIdeal.Fox

end
-- ==== Proof.Arrays.lean ====
/-
  What the result arrays hold after the run.
-/
module

public import proofs.«01_k».proof.Proof.Inputs

@[expose] public section

noncomputable section

open Idealize.ShloMosaic Idealize.ShloMosaic.TcCoe Idealize.SL.Sem
open Cert.FoxMath
open Cert.ReferenceIdeal.Read (ArgsAre)

namespace Cert.KernelIdeal.Fox

open Cert.KernelIdeal Cert.KernelIdeal.Gen

/-- The pair of heads of a point. -/
def pairAt (t : Fin cfg0.N) : Fin 8 := ⟨t.val / 8 % 8, by omega⟩

theorem pass_eq (t : Fin cfg0.N) : t.val / 8 = 8 * (seqAt t).val + (pairAt t).val := by
  have := lt_N t
  show t.val / 8 = 8 * (t.val / 64) + t.val / 8 % 8
  omega

/-- The point of the sequence `b`, the pair `p` of heads and the block `j` of keys. -/
def pointOf (b : Fin 2) (p j : Fin 8) : Fin cfg0.N := ⟨64 * b.val + 8 * p.val + j.val, (show _ < 128 by omega).trans_eq (by decide)⟩

theorem pointOf_seq (b : Fin 2) (p j : Fin 8) : (pointOf b p j).val / 64 = b.val := by show (64 * b.val + 8 * p.val + j.val) / 64 = _; omega
theorem pointOf_pair (b : Fin 2) (p j : Fin 8) : (pointOf b p j).val / 8 % 8 = p.val := by show (64 * b.val + 8 * p.val + j.val) / 8 % 8 = _; omega
theorem pointOf_block (b : Fin 2) (p j : Fin 8) : (pointOf b p j).val % 8 = j.val := by show (64 * b.val + 8 * p.val + j.val) % 8 = _; omega

/-- Every element of an array of rows lies in a block of all the tokens of a sequence, and in a block of 512 tokens. -/
theorem row_cover (i : S8192x1024.Idx) : ∃ (t : Fin cfg0.N) (R : Fin 4096) (l : Fin 128), t.val % 8 = 7 ∧ ix2 (rowAt t R) (laneAt t l) = i := by
  have h0 : (i 0).val < 8192 := (i 0).isLt
  have h1 : (i 1).val < 1024 := (i 1).isLt
  let b : Fin 2 := ⟨(i 0).val / 4096, by omega⟩
  let p : Fin 8 := ⟨(i 1).val / 128, by omega⟩
  refine ⟨pointOf b p 7, ⟨(i 0).val % 4096, by omega⟩, ⟨(i 1).val % 128, by omega⟩, pointOf_block b p 7, ?_⟩
  funext a
  match a with
  | ⟨0, _⟩ => exact Fin.ext (by
      show 4096 * ((pointOf b p 7).val / 64) + (i 0).val % 4096 = (i 0).val
      rw [pointOf_seq]; show 4096 * ((i 0).val / 4096) + _ = _; omega)
  | ⟨1, _⟩ => exact Fin.ext (by
      show 128 * ((pointOf b p 7).val / 8 % 8) + (i 1).val % 128 = (i 1).val
      rw [pointOf_pair]; show 128 * ((i 1).val / 128) + _ = _; omega)

theorem tile_cover (i : S8192x1024.Idx) : ∃ (t : Fin cfg0.N) (r : Fin 512) (l : Fin 128), ix2 (rowTile t r) (laneAt t l) = i := by
  have h0 : (i 0).val < 8192 := (i 0).isLt
  have h1 : (i 1).val < 1024 := (i 1).isLt
  let b : Fin 2 := ⟨(i 0).val / 4096, by omega⟩
  let p : Fin 8 := ⟨(i 1).val / 128, by omega⟩
  let j : Fin 8 := ⟨(i 0).val % 4096 / 512, by omega⟩
  refine ⟨pointOf b p j, ⟨(i 0).val % 512, by omega⟩, ⟨(i 1).val % 128, by omega⟩, ?_⟩
  funext a
  match a with
  | ⟨0, _⟩ => exact Fin.ext (by
      show 4096 * ((pointOf b p j).val / 64) + (512 * ((pointOf b p j).val % 8) + (i 0).val % 512) = (i 0).val
      rw [pointOf_seq, pointOf_block]; show 4096 * ((i 0).val / 4096) + (512 * ((i 0).val % 4096 / 512) + _) = _; omega)
  | ⟨1, _⟩ => exact Fin.ext (by
      show 128 * ((pointOf b p j).val / 8 % 8) + (i 1).val % 128 = (i 1).val
      rw [pointOf_pair]; show 128 * ((i 1).val / 128) + _ = _; omega)

theorem gate_cover (i : S2x16x8x1x512.Idx) :
    ∃ (t : Fin cfg0.N) (h : Fin 2) (r : Fin 512), ix5 (seqAt t) (headAt t h) (⟨t.val % 8, by omega⟩ : Fin 8) 0 r = i := by
  have h1 : (i 1).val < 16 := (i 1).isLt
  let b : Fin 2 := i 0
  let p : Fin 8 := ⟨(i 1).val / 2, by omega⟩
  let j : Fin 8 := i 2
  refine ⟨pointOf b p j, ⟨(i 1).val % 2, by omega⟩, i 4, ?_⟩
  funext a
  match a with
  | ⟨0, _⟩ => exact Fin.ext (pointOf_seq b p j)
  | ⟨1, _⟩ => exact Fin.ext (by
      show 2 * ((pointOf b p j).val / 8 % 8) + (i 1).val % 2 = (i 1).val
      rw [pointOf_pair]; show 2 * ((i 1).val / 2) + _ = _; omega)
  | ⟨2, _⟩ => exact Fin.ext (pointOf_block b p j)
  | ⟨3, _⟩ => exact Subsingleton.elim (α := Fin 1) _ _
  | ⟨4, _⟩ => rfl

theorem gateq_cover (i : S2x16x1x4096.Idx) :
    ∃ (t : Fin cfg0.N) (h : Fin 2) (R : Fin 4096), t.val % 8 = 7 ∧ ix4 (seqAt t) (headAt t h) 0 R = i := by
  have h1 : (i 1).val < 16 := (i 1).isLt
  let b : Fin 2 := i 0
  let p : Fin 8 := ⟨(i 1).val / 2, by omega⟩
  refine ⟨pointOf b p 7, ⟨(i 1).val % 2, by omega⟩, i 3, pointOf_block b p 7, ?_⟩
  funext a
  match a with
  | ⟨0, _⟩ => exact Fin.ext (pointOf_seq b p 7)
  | ⟨1, _⟩ => exact Fin.ext (by
      show 2 * ((pointOf b p 7).val / 8 % 8) + (i 1).val % 2 = (i 1).val
      rw [pointOf_pair]; show 2 * ((i 1).val / 2) + _ = _; omega)
  | ⟨2, _⟩ => exact Subsingleton.elim (α := Fin 1) _ _
  | ⟨3, _⟩ => rfl

theorem idx4_of (y : S1x2x1x4096.Idx) : y = ix4 0 (y 1) 0 (y 3) := by
  funext a
  match a with
  | ⟨0, _⟩ => exact Subsingleton.elim (α := Fin 1) _ _
  | ⟨1, _⟩ => rfl
  | ⟨2, _⟩ => exact Subsingleton.elim (α := Fin 1) _ _
  | ⟨3, _⟩ => rfl

theorem idx5_of (y : S1x2x1x1x512.Idx) : y = ix5 0 (y 1) 0 0 (y 4) := by
  funext a
  match a with
  | ⟨0, _⟩ => exact Subsingleton.elim (α := Fin 1) _ _
  | ⟨1, _⟩ => rfl
  | ⟨2, _⟩ => exact Subsingleton.elim (α := Fin 1) _ _
  | ⟨3, _⟩ => exact Subsingleton.elim (α := Fin 1) _ _
  | ⟨4, _⟩ => rfl

variable {m : (ℓ : Loc nD τ sig) → Buf (Elt Ideal) ℓ} {c : Dev nD}
variable {X : Fin 8192 → Fin 12800 → ℝ} {Y : Fin 8192 → Fin 1024 → ℝ} {C : Fin 2 → Fin 16 → Fin 4096 → ℝ}
variable (A : ArgsAre (m ((c : Thread nD τ).loc main_arg0)) (m ((c : Thread nD τ).loc main_arg1)) (m ((c : Thread nD τ).loc main_arg2)) X Y C)

/-- A block cut to the array is the array read through it, where they agree. -/
theorem cut7 (t : Fin cfg0.N) (x : Vec Ideal S4096x128 .bf16) (G : FVec Ideal S8192x1024 .bf16)
    (h : ∀ R l, x (ix2 R l) = G (ix2 (rowAt t R) (laneAt t l))) :
    (cfg0.win 7).cut (grid0.coords t) x = ((cfg0.win 7).blk t).view.read (Elt Ideal) G := by
  funext y
  have e : (y : S4096x128.Idx) = ix2 (y 0) (y 1) := eq_ix2 _
  show x (y : S4096x128.Idx) = G ((win0_7.blk t).view.emb y)
  rw [e]
  exact (h _ _).trans (congrArg G (emb7 t _ _).symm)

theorem cut8 (t : Fin cfg0.N) (x : Vec Ideal S512x128 .bf16) (G : FVec Ideal S8192x1024 .bf16)
    (h : ∀ r l, x (ix2 r l) = G (ix2 (rowTile t r) (laneAt t l))) :
    (cfg0.win 8).cut (grid0.coords t) x = ((cfg0.win 8).blk t).view.read (Elt Ideal) G := by
  funext y
  have e : (y : S512x128.Idx) = ix2 (y 0) (y 1) := eq_ix2 _
  show x (y : S512x128.Idx) = G ((win0_8.blk t).view.emb y)
  rw [e]
  exact (h _ _).trans (congrArg G (emb8 t _ _).symm)

theorem cut9 (t : Fin cfg0.N) (x : Vec Ideal S512x128 .bf16) (G : FVec Ideal S8192x1024 .bf16)
    (h : ∀ r l, x (ix2 r l) = G (ix2 (rowTile t r) (laneAt t l))) :
    (cfg0.win 9).cut (grid0.coords t) x = ((cfg0.win 9).blk t).view.read (Elt Ideal) G := by
  funext y
  have e : (y : S512x128.Idx) = ix2 (y 0) (y 1) := eq_ix2 _
  show x (y : S512x128.Idx) = G ((win0_9.blk t).view.emb y)
  rw [e]
  exact (h _ _).trans (congrArg G (emb9 t _ _).symm)

theorem cut10 (t : Fin cfg0.N) (x : Vec Ideal S1x2x1x1x512 .f32) (G : FVec Ideal S2x16x8x1x512 .f32)
    (h : ∀ k r, x (ix5 0 k 0 0 r) = G (ix5 (seqAt t) (headAt t k) (⟨t.val % 8, by omega⟩ : Fin 8) 0 r)) :
    (cfg0.win 10).cut (grid0.coords t) x = ((cfg0.win 10).blk t).view.read (Elt Ideal) G := by
  funext y
  have e := idx5_of y
  show x (y : S1x2x1x1x512.Idx) = G ((win0_10.blk t).view.emb y)
  rw [e]
  exact (h _ _).trans (congrArg G (emb10 t _ _).symm)

theorem cut11 (t : Fin cfg0.N) (x : Vec Ideal S1x2x1x4096 .f32) (G : FVec Ideal S2x16x1x4096 .f32)
    (h : ∀ k R, x (ix4 0 k 0 R) = G (ix4 (seqAt t) (headAt t k) 0 R)) :
    (cfg0.win 11).cut (grid0.coords t) x = ((cfg0.win 11).blk t).view.read (Elt Ideal) G := by
  funext y
  have e := idx4_of y
  show x (y : S1x2x1x4096.Idx) = G ((win0_11.blk t).view.emb y)
  rw [e]
  exact (h _ _).trans (congrArg G (emb11 t _ _).symm)

include A

theorem final7 (G : FVec Ideal S8192x1024 .bf16) (hG : ∀ b h i d, G (ix2 (tok b i) (lane h d)) = ((dq X Y C b h i d : ℝ) : EReal)) :
    (dats m 0 c).arrAt 7 cfg0.N = G :=
  (dats m 0 c).arrAt_eq_of_cover 7 G (fun t hf => by
    show (cfg0.win 7).cut (grid0.coords t) ((dats m 0 c).after 7 t) = _
    rw [after0_7]
    refine cut7 t _ G fun R l => ?_
    rw [rowAt_eq (pass_eq t), laneAt_eq (pass_eq t), hG, ← dq_pair]
    exact (outs_last (passIn A (seqAt t) (pairAt t)) t (pass_eq t) ((flush0_7 t).mp hf)).1 R l) fun i => by
      obtain ⟨t, R, l, h7, rfl⟩ := row_cover i
      refine ⟨t, (flush0_7 t).mpr h7, ?_⟩
      rw [← emb7]
      exact (win0_7.blk t).view.emb_mem_set _

theorem final8 (G : FVec Ideal S8192x1024 .bf16) (hG : ∀ b h i d, G (ix2 (tok b i) (lane h d)) = ((dk X Y C b h i d : ℝ) : EReal)) :
    (dats m 0 c).arrAt 8 cfg0.N = G :=
  (dats m 0 c).arrAt_eq_of_cover 8 G (fun t hf => by
    show (cfg0.win 8).cut (grid0.coords t) ((dats m 0 c).after 8 t) = _
    rw [after0_8]
    refine cut8 t _ G fun r l => ?_
    rw [rowTile_eq (pass_eq t), laneAt_eq (pass_eq t), hG, ← dk_pair]
    exact (outs_val (passIn A (seqAt t) (pairAt t)) t (pass_eq t)).1 r l) fun i => by
      obtain ⟨t, r, l, rfl⟩ := tile_cover i
      refine ⟨t, flush0_8 t, ?_⟩
      rw [← emb8]
      exact (win0_8.blk t).view.emb_mem_set _

theorem final9 (G : FVec Ideal S8192x1024 .bf16) (hG : ∀ b h i d, G (ix2 (tok b i) (lane h d)) = ((dv X Y C b h i d : ℝ) : EReal)) :
    (dats m 0 c).arrAt 9 cfg0.N = G :=
  (dats m 0 c).arrAt_eq_of_cover 9 G (fun t hf => by
    show (cfg0.win 9).cut (grid0.coords t) ((dats m 0 c).after 9 t) = _
    rw [after0_9]
    refine cut9 t _ G fun r l => ?_
    rw [rowTile_eq (pass_eq t), laneAt_eq (pass_eq t), hG, ← dv_pair]
    exact (outs_val (passIn A (seqAt t) (pairAt t)) t (pass_eq t)).2.1 r l) fun i => by
      obtain ⟨t, r, l, rfl⟩ := tile_cover i
      refine ⟨t, flush0_9 t, ?_⟩
      rw [← emb9]
      exact (win0_9.blk t).view.emb_mem_set _

theorem final10 (G : FVec Ideal S2x16x8x1x512 .f32)
    (hG : ∀ b h (u : Fin 8) r, G (ix5 b h u 0 r) = ((dck X Y C b h (rowOf u.val u.isLt r) : ℝ) : EReal)) :
    (dats m 0 c).arrAt 10 cfg0.N = G :=
  (dats m 0 c).arrAt_eq_of_cover 10 G (fun t hf => by
    show (cfg0.win 10).cut (grid0.coords t) ((dats m 0 c).after 10 t) = _
    rw [after0_10]
    refine cut10 t _ G fun k r => ?_
    rw [headAt_eq (pass_eq t), hG, ← dck_pair]
    exact (outs_val (passIn A (seqAt t) (pairAt t)) t (pass_eq t)).2.2 k r) fun i => by
      obtain ⟨t, k, r, rfl⟩ := gate_cover i
      refine ⟨t, flush0_10 t, ?_⟩
      rw [← emb10]
      exact (win0_10.blk t).view.emb_mem_set _

theorem final11 (G : FVec Ideal S2x16x1x4096 .f32) (hG : ∀ b h i, G (ix4 b h 0 i) = ((dcq X Y C b h i : ℝ) : EReal)) :
    (dats m 0 c).arrAt 11 cfg0.N = G :=
  (dats m 0 c).arrAt_eq_of_cover 11 G (fun t hf => by
    show (cfg0.win 11).cut (grid0.coords t) ((dats m 0 c).after 11 t) = _
    rw [after0_11]
    refine cut11 t _ G fun k R => ?_
    rw [headAt_eq (pass_eq t), hG, ← dcq_pair]
    exact (outs_last (passIn A (seqAt t) (pairAt t)) t (pass_eq t) ((flush0_11 t).mp hf)).2 k R) fun i => by
      obtain ⟨t, k, R, h7, rfl⟩ := gateq_cover i
      refine ⟨t, (flush0_11 t).mpr h7, ?_⟩
      rw [← emb11]
      exact (win0_11.blk t).view.emb_mem_set _

end Cert.KernelIdeal.Fox

end
-- ==== Proof.Equation.lean ====
/-
  The equation: the kernel's result arrays are the reference's.
-/
module

public import proofs.«01_k».proof.Proof.Arrays
public import proofs.«01_k».proof.Proof.Gen.ReferenceIdeal.Run
public import proofs.«01_k».proof.Proof.Finite

@[expose] public section

noncomputable section

open Idealize.ShloMosaic Idealize.ShloMosaic.TcCoe Idealize.SL.Sem
open Cert.ReferenceIdeal.Read

namespace Cert.KernelIdeal.Fox

open Cert.KernelIdeal Cert.KernelIdeal.Gen

/-- Finite arguments are arrays of real numbers. -/
theorem args_real (x0 : FVec Ideal S8192x12800 .bf16) (x1 : FVec Ideal S8192x1024 .bf16) (x2 : FVec Ideal S2x16x4096 .f32)
    (h0 : ∀ i, x0 i = ((EReal.toReal (x0 i) : ℝ) : EReal)) (h1 : ∀ i, x1 i = ((EReal.toReal (x1 i) : ℝ) : EReal))
    (h2 : ∀ i, x2 i = ((EReal.toReal (x2 i) : ℝ) : EReal)) :
    ArgsAre x0 x1 x2 (fun r l => EReal.toReal (x0 (ix2 r l))) (fun r l => EReal.toReal (x1 (ix2 r l))) (fun b h i => EReal.toReal (x2 (ix3 b h i))) :=
  ⟨fun _ _ => h0 _, fun _ _ => h1 _, fun _ _ _ => h2 _⟩

/-- The kernel's run, under the precondition: its five result arrays hold the reference's. -/
theorem run_value (m : (ℓ : Loc nD τ sig) → Buf (Elt Ideal) ℓ) (ρ : Dev nD → PrngReg)
    (hfin : ∀ c : Dev nD, ∃ X Y C, ArgsAre (m ((c : Thread nD τ).loc main_arg0)) (m ((c : Thread nD τ).loc main_arg1)) (m ((c : Thread nD τ).loc main_arg2)) X Y C) :
    θ_run defs (onTc (τ := τ) (main (F := Ideal))) ⟨m, fun _ => 0, ρ⟩ (fun r => ∀ c : Dev nD,
      r.2.mem ((c.tc : Thread nD τ).loc main_v44_0) = val_main_v79 (F := Ideal) (m ((c : Thread nD τ).loc main_arg0)) (m ((c : Thread nD τ).loc main_arg1)) (m ((c : Thread nD τ).loc main_arg2))
      ∧ r.2.mem ((c.tc : Thread nD τ).loc main_v44_1) = val_main_v81 (F := Ideal) (m ((c : Thread nD τ).loc main_arg0)) (m ((c : Thread nD τ).loc main_arg1)) (m ((c : Thread nD τ).loc main_arg2))
      ∧ r.2.mem ((c.tc : Thread nD τ).loc main_v44_2) = val_main_v83 (F := Ideal) (m ((c : Thread nD τ).loc main_arg0)) (m ((c : Thread nD τ).loc main_arg1)) (m ((c : Thread nD τ).loc main_arg2))
      ∧ r.2.mem ((c.tc : Thread nD τ).loc main_v44_3) = val_main_v84 (F := Ideal) (m ((c : Thread nD τ).loc main_arg0)) (m ((c : Thread nD τ).loc main_arg1)) (m ((c : Thread nD τ).loc main_arg2))
      ∧ r.2.mem ((c.tc : Thread nD τ).loc main_v44_4) = val_main_v85 (F := Ideal) (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => by
    obtain ⟨X, Y, C, A⟩ := hfin c
    exact ⟨((h c).1 7).trans (final7 A _ (dq_at A)), ((h c).1 8).trans (final8 A _ (dk_at A)), ((h c).1 9).trans (final9 A _ (dvt_at A)),
      ((h c).1 10).trans (final10 A _ (dck_at A)), ((h c).1 11).trans (final11 A _ (dcq_at A)),
      ((h c).1 0).trans (((dats m 0 c).arrAt_in 0 rfl _).trans ((A_eq m c 0).trans (V_main_arg0 m c))),
      ((h c).1 3).trans (((dats m 0 c).arrAt_in 3 rfl _).trans ((A_eq m c 3).trans (V_main_arg1 m c))),
      ((h c).2 main_arg2 (Pipeline.mem_restRefs_of main_arg2 (by decide) (by decide))).trans (V_main_arg2 m c)⟩)
    (run_main m ρ)

/-- The reference's run: its results are those values of its arguments. -/
theorem run_reference (m : (ℓ : Loc Cert.ReferenceIdeal.nD Cert.ReferenceIdeal.τ Cert.ReferenceIdeal.sig) → Buf (Elt Ideal) ℓ)
    (ρ : Dev Cert.ReferenceIdeal.nD → PrngReg)
    (x0 : Dev Cert.ReferenceIdeal.nD → FVec Ideal S8192x12800 .bf16) (x1 : Dev Cert.ReferenceIdeal.nD → FVec Ideal S8192x1024 .bf16) (x2 : Dev Cert.ReferenceIdeal.nD → FVec Ideal S2x16x4096 .f32)
    (h0 : ∀ c : Dev Cert.ReferenceIdeal.nD, m ((c.tc : Thread Cert.ReferenceIdeal.nD Cert.ReferenceIdeal.τ).loc Cert.ReferenceIdeal.main_arg0) = x0 c)
    (h1 : ∀ c : Dev Cert.ReferenceIdeal.nD, m ((c.tc : Thread Cert.ReferenceIdeal.nD Cert.ReferenceIdeal.τ).loc Cert.ReferenceIdeal.main_arg1) = x1 c)
    (h2 : ∀ c : Dev Cert.ReferenceIdeal.nD, m ((c.tc : Thread Cert.ReferenceIdeal.nD Cert.ReferenceIdeal.τ).loc Cert.ReferenceIdeal.main_arg2) = x2 c) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v79) = val_main_v79 (F := Ideal) (x0 c) (x1 c) (x2 c)
      ∧ r.2.mem ((c.tc : Thread Cert.ReferenceIdeal.nD Cert.ReferenceIdeal.τ).loc Cert.ReferenceIdeal.main_v81) = val_main_v81 (F := Ideal) (x0 c) (x1 c) (x2 c)
      ∧ r.2.mem ((c.tc : Thread Cert.ReferenceIdeal.nD Cert.ReferenceIdeal.τ).loc Cert.ReferenceIdeal.main_v83) = val_main_v83 (F := Ideal) (x0 c) (x1 c) (x2 c)
      ∧ r.2.mem ((c.tc : Thread Cert.ReferenceIdeal.nD Cert.ReferenceIdeal.τ).loc Cert.ReferenceIdeal.main_v84) = val_main_v84 (F := Ideal) (x0 c) (x1 c) (x2 c)
      ∧ r.2.mem ((c.tc : Thread Cert.ReferenceIdeal.nD Cert.ReferenceIdeal.τ).loc Cert.ReferenceIdeal.main_v85) = val_main_v85 (F := Ideal) (x0 c) (x1 c) (x2 c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) :=
  (θ_run Cert.ReferenceIdeal.defs _ _).mono (fun r h c => by
    obtain ⟨r0, r1, r2, r3, r4, ra⟩ := h c
    rw [← h0 c, ← h1 c, ← h2 c]
    exact ⟨r0.trans (val_main_v79_eq m c), r1.trans (val_main_v81_eq m c), r2.trans (val_main_v83_eq m c),
      r3.trans (val_main_v84_eq m c), r4.trans (val_main_v85_eq m c), ra⟩)
    (Cert.ReferenceIdeal.Value.run (F := Ideal) m ρ)

end Cert.KernelIdeal.Fox

end
-- ==== Proof.Weight.lean ====
/-
  The projection's weight gradient: what the call's accumulator holds after each block of tokens, and the claim.
-/
module

public import proofs.«01_k».proof.Defs
public import proofs.«01_k».proof.Proof.Gen.Kernel2Ideal.Frame
public import proofs.«01_k».proof.Proof.Gen.Reference2Ideal.Run
public import proofs.«01_k».proof.Proof.Gen.Reference2Ideal.Read
public import Idealize.ShloMosaic.Lib.Pointwise
public import Idealize.ShloMosaic.Adequacy
public import Idealize.ShloMosaic.Init

@[expose] public section

noncomputable section

open Idealize.ShloMosaic Idealize.ShloMosaic.TcCoe Idealize.SL.Sem
open scoped BigOperators

/-- One token's term in the gradient's entry (r, c): the stream's entry r times the projection's gradient at c. -/
def Cert.tokenTerm {A B : ℕ} (h : (⟨2, ![8192, A]⟩ : Shape).Idx → EReal) (g : (⟨2, ![8192, B]⟩ : Shape).Idx → EReal) (r : Fin A) (c : Fin B) (t : ℕ) : EReal :=
  if p : t < 8192 then h (ix2 ⟨t, p⟩ r) * g (ix2 ⟨t, p⟩ c) else 0

/-- A sum over the tokens of one block extends the sum over the tokens before it. -/
theorem Cert.sum_block {M : Type} [AddCommMonoid M] (f : ℕ → M) (n k : ℕ) :
    ∑ t ∈ Finset.range n, f t + ∑ i : Fin k, f (n + i.val) = ∑ t ∈ Finset.range (n + k), f t := by
  rw [Finset.sum_range_add, Finset.sum_range (fun i => f (n + i))]

namespace Cert.Kernel2Ideal.Weight

open Cert.Kernel2Ideal Cert.Kernel2Ideal.Gen

section Body

variable {F : FTy → Type} [FloatOps F]

theorem hz : (![0, 0] : Fin 2 → Nat) = fun _ => 0 := funext fun a => by fin_cases a <;> rfl

/-- At the first block of tokens the accumulator ends as zero and that block's product. -/
theorem sout_A (c : Dev nD) (i : grid0.Coords) (a3 : Memref sig .tc .vmem S1024x2048 .bf16) (h3 : a3.IsWhole) (a4 : Memref sig .tc .vmem S2048x1024 .bf16) (h4 : a4.IsWhole) (a5 : Memref sig .tc .vmem S1024x1024 .bf16) (h5 : a5.IsWhole) (a6 : Memref sig .tc .vmem S1024x1024 .f32) (h6 : a6.IsWhole) (hc0 : cond0_0 i) (hc1 : ¬cond0_1 i)
    (x : Vec F S1024x2048 .bf16) (y : Vec F S2048x1024 .bf16) :
    sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x2048) hz, View.ld_unit_zero (S := S2048x1024) hz]

/-- At a later block it ends as what it held and that block's product. -/
theorem sout_B (c : Dev nD) (i : grid0.Coords) (a3 : Memref sig .tc .vmem S1024x2048 .bf16) (h3 : a3.IsWhole) (a4 : Memref sig .tc .vmem S2048x1024 .bf16) (h4 : a4.IsWhole) (a5 : Memref sig .tc .vmem S1024x1024 .bf16) (h5 : a5.IsWhole) (a6 : Memref sig .tc .vmem S1024x1024 .f32) (h6 : a6.IsWhole) (hc0 : ¬cond0_0 i) (hc1 : ¬cond0_1 i)
    (x : Vec F S1024x2048 .bf16) (y : Vec F S2048x1024 .bf16) (s : Vec F S1024x1024 .f32) :
    sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero hz]
  simp only [View.readAt_eq_ld, h3.read_unread, h4.read_unread, h6.read_unread, View.ld_unit_zero (S := S1024x2048) hz, View.ld_unit_zero (S := S2048x1024) hz, View.ld_unit_zero (S := S1024x1024) hz]

/-- At the last block the result is the accumulator and that block's product, rounded. -/
theorem out_C (c : Dev nD) (i : grid0.Coords) (a3 : Memref sig .tc .vmem S1024x2048 .bf16) (h3 : a3.IsWhole) (a4 : Memref sig .tc .vmem S2048x1024 .bf16) (h4 : a4.IsWhole) (a5 : Memref sig .tc .vmem S1024x1024 .bf16) (h5 : a5.IsWhole) (a6 : Memref sig .tc .vmem S1024x1024 .f32) (h6 : a6.IsWhole) (hc0 : ¬cond0_0 i) (hc1 : cond0_1 i)
    (x : Vec F S1024x2048 .bf16) (y : Vec F S2048x1024 .bf16) (s : Vec F S1024x1024 .f32) :
    out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x2048) hz, View.ld_unit_zero (S := S2048x1024) hz, View.ld_unit_zero (S := S1024x1024) hz]

end Body

/-- The reset stores zero. -/
theorem pay1_apply (r c : Fin 1024) : (k0_pay1 (F := Ideal)) (ix2 r c) = 0 := by
  unfold k0_pay1
  simp only [pointwise]

/-- One block's product, over the extended reals. -/
theorem pay2_apply (s : Vec Ideal S1024x1024 .f32) (x : Vec Ideal S1024x2048 .bf16) (y : Vec Ideal S2048x1024 .bf16) (r c : Fin 1024) :
    k0_pay2 (F := Ideal) s x y (ix2 r c) = s (ix2 r c) + ∑ k : Fin 2048, x (ix2 r k) * y (ix2 k c) := by
  unfold k0_pay2
  simp only [pointwise, zero_add]

theorem pay3_apply (s : Vec Ideal S1024x1024 .f32) (r c : Fin 1024) : k0_pay3 (F := Ideal) s (ix2 r c) = s (ix2 r c) := rfl

variable (m : (ℓ : Loc nD τ sig) → Buf (Elt Ideal) ℓ) (ρ : Dev nD → PrngReg)

/-- The stream and the projection's gradient, as the call finds them. -/
abbrev hs (c : Dev nD) : FVec Ideal S8192x1024 .bf16 := m ((c : Thread nD τ).loc main_arg0)
abbrev gs (c : Dev nD) : FVec Ideal S8192x1024 .bf16 := m ((c : Thread nD τ).loc main_arg1)

/-- The call's first argument is the stream transposed. -/
theorem V_main_v0 (c : Dev nD) (i : Fin 1024) (j : Fin 8192) : V m c main_v0 (ix2 i j) = hs m c (ix2 j i) := by
  show transpose S1024x8192 [1, 0] _ _ (ix2 i j) = _
  exact transpose_apply [1, 0] _ _ (ix2 i j) (ix2 j i) (fun b => match b with
    | ⟨0, _⟩ => rfl
    | ⟨1, _⟩ => rfl)

theorem index_h : ∀ t : Fin cfg0.N, win0_0.index t 0 = 0 ∧ win0_0.index t 1 = t.val := by decide +kernel
theorem index_g : ∀ t : Fin cfg0.N, win0_1.index t 0 = t.val ∧ win0_1.index t 1 = 0 := by decide +kernel

/-- The blocks of a point. -/
abbrev hb (c : Dev nD) (t : Fin cfg0.N) : Vec Ideal S1024x2048 .bf16 := iblk m c 0 t
abbrev gb (c : Dev nD) (t : Fin cfg0.N) : Vec Ideal S2048x1024 .bf16 := iblk m c 1 t

/-- A block of 2048 tokens of the stream. -/
theorem iblk_h (c : Dev nD) (t : Fin cfg0.N) (r : Fin 1024) (k : Fin 2048) (h : 2048 * t.val + k.val < 8192) :
    hb m c t (ix2 r k) = hs m c (ix2 ⟨2048 * t.val + k.val, h⟩ r) := by
  have hi := index_h t
  rw [← V_main_v0 m c r ⟨2048 * t.val + k.val, h⟩]
  unfold hb iblk
  rw [View.read_apply]
  show V m c main_v0 _ = V m c main_v0 _
  congr 1
  funext a
  apply Fin.ext
  match a with
  | ⟨0, _⟩ => show win0_0.index t 0 * 1024 + 1 * r.val = r.val; rw [hi.1]; omega
  | ⟨1, _⟩ => show win0_0.index t 1 * 2048 + 1 * k.val = 2048 * t.val + k.val; rw [hi.2]; omega

/-- The same block of tokens of the projection's gradient. -/
theorem iblk_g (c : Dev nD) (t : Fin cfg0.N) (k : Fin 2048) (q : Fin 1024) (h : 2048 * t.val + k.val < 8192) :
    gb m c t (ix2 k q) = gs m c (ix2 ⟨2048 * t.val + k.val, h⟩ q) := by
  have hi := index_g t
  unfold gb iblk
  rw [View.read_apply]
  show V m c main_arg1 _ = m ((c : Thread nD τ).loc main_arg1) _
  rw [V_main_arg1]
  congr 1
  funext a
  apply Fin.ext
  match a with
  | ⟨0, _⟩ => show win0_1.index t 0 * 2048 + 1 * k.val = 2048 * t.val + k.val; rw [hi.1]; omega
  | ⟨1, _⟩ => show win0_1.index t 1 * 1024 + 1 * q.val = q.val; rw [hi.2]; omega

/-- A point's product is the sum of its tokens' terms. -/
theorem block_sum (c : Dev nD) (t : Fin cfg0.N) (r q : Fin 1024) :
    ∑ k : Fin 2048, hb m c t (ix2 r k) * gb m c t (ix2 k q)
      = ∑ k : Fin 2048, tokenTerm (hs m c) (gs m c) r q (2048 * t.val + k.val) := by
  refine Finset.sum_congr rfl fun k _ => ?_
  have hN : t.val < 4 := lt_of_lt_of_eq t.isLt (show cfg0.N = 4 from N_0)
  have h : 2048 * t.val + k.val < 8192 := by omega
  rw [iblk_h m c t r k h, iblk_g m c t k q h, tokenTerm, dif_pos h]

theorem acc_first (c : Dev nD) (t : Fin cfg0.N) (h0 : t.val % 4 = 0) (h1 : ¬t.val % 4 = 3) :
    (outsAt0 m c t.val t.isLt).2 = k0_pay2 k0_pay1 (hb m c t) (gb m c t) := by
  rw [outsAt0_A m c t h0 h1]
  dsimp only
  exact sout_A ..

theorem acc_later (c : Dev nD) (t : Fin cfg0.N) (h0 : ¬t.val % 4 = 0) (h1 : ¬t.val % 4 = 3) :
    (outsAt0 m c t.val t.isLt).2 = k0_pay2 (outsAt0 m c (t.val - 1) (Nat.lt_of_le_of_lt (Nat.sub_le _ _) t.isLt)).2 (hb m c t) (gb m c t) := by
  rw [outsAt0_B m c t h0 h1]
  dsimp only
  exact sout_B ..

theorem out_last (c : Dev nD) (t : Fin cfg0.N) (h0 : ¬t.val % 4 = 0) (h1 : t.val % 4 = 3) :
    (outsAt0 m c t.val t.isLt).1 = k0_pay3 (k0_pay2 (outsAt0 m c (t.val - 1) (Nat.lt_of_le_of_lt (Nat.sub_le _ _) t.isLt)).2 (hb m c t) (gb m c t)) := by
  rw [outsAt0_C m c t h0 h1]
  dsimp only
  exact out_C ..

/-- After the points 0 to 2 the accumulator holds the sum over the tokens so far. -/
theorem acc_eq (c : Dev nD) (r q : Fin 1024) (n : ℕ) : ∀ (h : n < cfg0.N), n < 3 →
    (outsAt0 m c n h).2 (ix2 r q) = ∑ t ∈ Finset.range (2048 * n + 2048), tokenTerm (hs m c) (gs m c) r q t := by
  induction n with
  | zero =>
    intro h _
    rw [acc_first m c ⟨0, h⟩ (Nat.zero_mod 4) (by rw [Nat.zero_mod]; omega), pay2_apply, pay1_apply, block_sum, ← sum_block _ (2048 * 0) 2048,
      Nat.mul_zero, Finset.sum_range_zero]
  | succ n ih =>
    intro h hn
    rw [acc_later m c ⟨n + 1, h⟩ (by dsimp only; omega) (by dsimp only; omega), pay2_apply, block_sum, ← sum_block _ (2048 * (n + 1)) 2048]
    refine congrArg (· + _) ((ih _ (by omega)).trans ?_)
    rw [show 2048 * n + 2048 = 2048 * (n + 1) by omega]

/-- After the last point the result's block holds the sum over all the tokens. -/
theorem out_eq (c : Dev nD) (t : Fin cfg0.N) (ht : t.val = 3) (r q : Fin 1024) :
    (outsAt0 m c t.val t.isLt).1 (ix2 r q) = ∑ t ∈ Finset.range 8192, tokenTerm (hs m c) (gs m c) r q t := by
  rw [out_last m c t (by omega) (by omega), pay3_apply, pay2_apply, block_sum, acc_eq m c r q _ _ (by omega), ht]
  exact sum_block _ 6144 2048

/-- The weight's gradient. -/
def grad (c : Dev nD) : FVec Ideal S1024x1024 .bf16 := fun i =>
  ∑ t ∈ Finset.range 8192, tokenTerm (hs m c) (gs m c) (i 0) (i 1) t

theorem flushed_eq (c : Dev nD) (t : Fin cfg0.N) (hf : (cfg0.win 2).flush t = true) :
    (dats m 0 c).flushed 2 t = ((cfg0.win 2).blk t).view.read (Elt Ideal) (grad m c) := by
  have hN : t.val < 4 := lt_of_lt_of_eq t.isLt (show cfg0.N = 4 from N_0)
  have h3 : t.val = 3 := by have := (flush0_2 t).mp hf; omega
  obtain rfl : t = t0_3 := Fin.ext h3
  show (cfg0.win 2).cut (grid0.coords t0_3) ((dats m 0 c).after 2 t0_3) = _
  rw [after0_2]
  have hz' : (fun a => win0_2.index t0_3 a * main_v1.ty.shape.size a) = fun _ => 0 := funext fun a => by fin_cases a <;> decide
  refine Eq.trans ?_ (Memref.read_access_unit_zero (Elt Ideal) main_v1 hz' (fun a => by rw [congrFun hz' a]; simp) (grad m c)).symm
  funext i
  exact (congrArg _ (eq_ix2 i)).trans (out_eq m c t0_3 rfl (i 0) (i 1))

theorem final (c : Dev nD) : (dats m 0 c).arrAt 2 cfg0.N = grad m c :=
  (dats m 0 c).arrAt_eq_of_cover 2 (grad m c) (flushed_eq m c) fun i =>
    ⟨t0_3, (flush0_2 t0_3).mpr rfl, by
      show i ∈ ((View.whole main_v1).slice (win0_2.rect t0_3)).set
      rw [View.set_slice_whole, Rect.mem_set_unit]
      intro a
      have h0 : (i 0 : Nat) < 1024 := (i 0).isLt
      have h1 : (i 1 : Nat) < 1024 := (i 1).isLt
      match a with
      | ⟨0, _⟩ =>
        show win0_2.index t0_3 0 * win0_2.size 0 ≤ (i 0 : Nat) ∧ (i 0 : Nat) < win0_2.index t0_3 0 * win0_2.size 0 + win0_2.xsize (grid0.coords t0_3) 0
        rw [show win0_2.index t0_3 0 * win0_2.size 0 = 0 by decide +kernel, show win0_2.xsize (grid0.coords t0_3) 0 = 1024 by decide +kernel]; omega
      | ⟨1, _⟩ =>
        show win0_2.index t0_3 1 * win0_2.size 1 ≤ (i 1 : Nat) ∧ (i 1 : Nat) < win0_2.index t0_3 1 * win0_2.size 1 + win0_2.xsize (grid0.coords t0_3) 1
        rw [show win0_2.index t0_3 1 * win0_2.size 1 = 0 by decide +kernel, show win0_2.xsize (grid0.coords t0_3) 1 = 1024 by decide +kernel]; omega⟩

/-- The kernel's run: its result is the sum over the tokens. -/
theorem run : θ_run defs (onTc (τ := τ) (main (F := Ideal))) ⟨m, fun _ => 0, ρ⟩ (fun r => ∀ c : Dev nD,
      r.2.mem ((c.tc : Thread nD τ).loc main_v1) = grad m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (final m c), h.2 c⟩) (θ_run_and (run_main m ρ) (unchanged m ρ))

end Cert.Kernel2Ideal.Weight

namespace Cert.Reference2Ideal

open Cert.Reference2Ideal.Read

/-- The reference's result is the sum over the two sequences' tokens. -/
theorem value (x0 x1 : FVec Ideal S8192x1024 .bf16) (r q : Fin 1024) :
    val_main_v8 (F := Ideal) x0 x1 (ix2 r q) = ∑ t ∈ Finset.range 8192, tokenTerm x0 x1 r q t := by
  have e : ∀ (b : Fin 2) (s : Fin 4096) (l : Fin 1024) (x : FVec Ideal S8192x1024 .bf16) (p : 4096 * b.val + s.val < 8192),
      x (idx_main_v5 (ix3 b s l)) = x (ix2 ⟨4096 * b.val + s.val, p⟩ l) := fun b s l x p => congrArg x (funext fun a => Fin.ext (match a with
    | ⟨0, _⟩ => show ((b.val * 4096 + s.val) * 1024 + l.val) / 1024 = 4096 * b.val + s.val by omega
    | ⟨1, _⟩ => show ((b.val * 4096 + s.val) * 1024 + l.val) % 1024 = l.val by omega))
  have h : val_main_v8 (F := Ideal) x0 x1 (ix2 r q) = ∑ b : Fin 2, ∑ s : Fin 4096, val_main_v5 (F := Ideal) x1 (ix3 b s q) * val_main_v2 (F := Ideal) x0 (ix3 b s r) := by
    rw [val_main_v8_apply]
    show val_main_v7 (F := Ideal) x0 x1 (ix2 r q) = _
    rw [val_main_v7_apply]
    unfold val_main_v6
    simp only [pointwise, zero_add]
    rfl
  have hb : ∀ b : Fin 2, ∑ s : Fin 4096, val_main_v5 (F := Ideal) x1 (ix3 b s q) * val_main_v2 (F := Ideal) x0 (ix3 b s r)
      = ∑ s : Fin 4096, tokenTerm x0 x1 r q (4096 * b.val + s.val) := fun b => Finset.sum_congr rfl fun s _ => by
    have p : 4096 * b.val + s.val < 8192 := by omega
    rw [val_main_v5_apply, val_main_v2_apply, tokenTerm, dif_pos p, mul_comm]
    exact congrArg₂ (· * ·) (e b s r x0 p) (e b s q x1 p)
  rw [h, Fin.sum_univ_two, hb, hb, ← sum_block _ 4096 4096, ← sum_block _ 0 4096, Finset.sum_range_zero, zero_add]
  rfl

/-- The kernel and the reference end with the same gradient, whatever the arguments. -/
theorem equal_weights : Cert.algebraic_Kernel2Ideal_Reference2Ideal (hKernel2Ideal := Cert.Kernel2Ideal.Gen.facts)
    (hReference2Ideal := Cert.Reference2Ideal.Gen.facts) := fun m g m' g' _ heq =>
  ⟨fun c => Cert.Kernel2Ideal.Weight.grad m c, Cert.Kernel2Ideal.Weight.run m g, (θ_run Cert.Reference2Ideal.defs _ _).mono (fun r h c => by
    obtain ⟨r0, ra⟩ := h c
    refine ⟨(r0.trans (val_main_v8_eq _ _)).trans (funext fun i => (congrArg _ (eq_ix2 i)).trans ((value _ _ (i 0) (i 1)).trans ?_)), ra⟩
    rw [(heq c).1, (heq c).2]
    rfl) (Cert.Reference2Ideal.Value.run (F := Ideal) m' g')⟩

end Cert.Reference2Ideal

end
-- ==== Proof.Columns.lean ====
/-
  What the two calls for the stream's gradient share: a projection's part of the gradient, and how rows and columns are cut.
-/
module

public import Idealize.ShloMosaic.Lib.Pointwise
public import Idealize.ShloMosaic.PureOps.Ideal.Laws

@[expose] public section

noncomputable section

open Idealize.ShloMosaic
open scoped BigOperators

namespace Cert

/-- Row r of the i-th block of 1024 rows. -/
def rowOf (i : Fin 8) (r : Fin 1024) : Fin 8192 := ⟨1024 * i.val + r.val, by omega⟩

/-- Column k of the columns that begin at o. -/
def colOf {A : ℕ} (o : ℕ) (h : o + A ≤ 12800) (k : Fin A) : Fin 12800 := ⟨o + k.val, by omega⟩

theorem row_split (t : Fin 8192) (h : t.val / 1024 < 8) (h' : t.val % 1024 < 1024) : rowOf ⟨t.val / 1024, h⟩ ⟨t.val % 1024, h'⟩ = t :=
  Fin.ext (show 1024 * (t.val / 1024) + t.val % 1024 = t.val by omega)

/-- One projection's part of the stream's gradient at (t, d): its gradient's row t with row d of its weights, which begin at
    column o. -/
def columnSum {A : ℕ} (g : (⟨2, ![8192, A]⟩ : Shape).Idx → EReal) (w : (⟨2, ![1024, 12800]⟩ : Shape).Idx → EReal) (o : ℕ) (h : o + A ≤ 12800)
    (t : Fin 8192) (d : Fin 1024) : EReal :=
  ∑ k : Fin A, g (ix2 t k) * w (ix2 d (colOf o h k))

end Cert

end
-- ==== Proof.Stream1.lean ====
/-
  The stream's gradient from the first two branches' projections and the narrow ones: what the call's accumulator holds after each piece, and the
  claim.
-/
module

public import proofs.«01_k».proof.Defs
public import proofs.«01_k».proof.Proof.Columns
public import proofs.«01_k».proof.Proof.Gen.Kernel3Ideal.Frame
public import proofs.«01_k».proof.Proof.Gen.Reference3Ideal.Run
public import proofs.«01_k».proof.Proof.Gen.Reference3Ideal.Read
public import Idealize.ShloMosaic.Lib.Pointwise
public import Idealize.ShloMosaic.Adequacy
public import Idealize.ShloMosaic.Init

@[expose] public section

noncomputable section

open Idealize.ShloMosaic Idealize.ShloMosaic.TcCoe Idealize.SL.Sem
open scoped BigOperators

namespace Cert.Kernel3Ideal.Stream

open Cert.Kernel3Ideal Cert.Kernel3Ideal.Gen

section Body

variable {F : FTy → Type} [FloatOps F]

theorem hz : (![0, 0] : Fin 2 → Nat) = fun _ => 0 := funext fun a => by fin_cases a <;> rfl

variable (c : Dev nD) (i : grid0.Coords) (a2 : Memref sig .tc .vmem S1024x1024 .bf16) (h2 : a2.IsWhole) (a3 : Memref sig .tc .vmem S1024x1024 .bf16) (h3 : a3.IsWhole)
  (a4 : Memref sig .tc .vmem S1024x1024 .bf16) (h4 : a4.IsWhole) (a5 : Memref sig .tc .vmem S1024x1024 .bf16) (h5 : a5.IsWhole) (a6 : Memref sig .tc .vmem S1024x1024 .bf16) (h6 : a6.IsWhole)
  (a7 : Memref sig .tc .vmem S1024x128 .bf16) (h7 : a7.IsWhole) (a8 : Memref sig .tc .vmem S1024x128 .bf16) (h8 : a8.IsWhole) (a9 : Memref sig .tc .vmem S1024x1024 .f32) (h9 : a9.IsWhole)
  (a10 : Memref sig .tc .vmem S1024x1024 .f32) (h10 : a10.IsWhole) (x0 x1 x2 x3 w : Vec F S1024x1024 .bf16) (x5 x6 : Vec F S1024x128 .bf16) (s : Vec F S1024x1024 .f32)

/-- At the first block of columns the accumulator ends as the narrow projections' product and that block's. -/
theorem sout_A (hc0 : cond0_0 i) (hc1 : cond0_1 i) (hc2 : ¬cond0_2 i) (hc3 : ¬cond0_3 i) (hc4 : ¬cond0_4 i) (hc5 : ¬cond0_5 i) :
    sout0_A_0 c i a2 h2 a3 h3 a4 h4 a5 h5 a6 h6 a7 h7 a8 h8 a9 h9 a10 h10 hc0 hc1 hc2 hc3 hc4 hc5 x0 x1 x2 x3 w x5 x6 = k0_pay2 (k0_pay1 x5 x6) x0 w := by
  unfold sout0_A_0
  rw [View.read_writes_eq_canon _ _ _ (scover0_A_0 c i a2 h2 a3 h3 a4 h4 a5 h5 a6 h6 a7 h7 a8 h8 a9 h9 a10 h10 hc0 hc1 hc2 hc3 hc4 hc5 x0 x1 x2 x3 w x5 x6)]
  unfold kernelRun0_A
  dsimp only
  sl_unfold_words
  rw [View.canon_cons_unit_zero (S := S1024x1024) hz, View.readCov_unit_zero (S := S1024x1024) _ hz]
  simp only [View.readAt_eq_ld, h2.read_unread, h6.read_unread, h7.read_unread, h8.read_unread, View.ld_unit_zero (S := S1024x1024) hz, View.ld_unit_zero (S := S1024x128) hz]

/-- At a later block it ends as what it held and that block's product. -/
theorem sout_B (hc0 : ¬cond0_0 i) (hc1 : cond0_1 i) (hc2 : ¬cond0_2 i) (hc3 : ¬cond0_3 i) (hc4 : ¬cond0_4 i) (hc5 : ¬cond0_5 i) :
    sout0_B_0 c i a2 h2 a3 h3 a4 h4 a5 h5 a6 h6 a7 h7 a8 h8 a9 h9 a10 h10 hc0 hc1 hc2 hc3 hc4 hc5 x0 x1 x2 x3 w x5 x6 s = k0_pay2 s x0 w := by
  unfold sout0_B_0
  rw [View.read_writes_eq_canon _ _ _ (scover0_B_0 c i a2 h2 a3 h3 a4 h4 a5 h5 a6 h6 a7 h7 a8 h8 a9 h9 a10 h10 hc0 hc1 hc2 hc3 hc4 hc5 x0 x1 x2 x3 w x5 x6 s)]
  unfold kernelRun0_B
  dsimp only
  rw [View.canon_unit_zero hz]
  simp only [View.readAt_eq_ld, h2.read_unread, h6.read_unread, h10.read_unread, View.ld_unit_zero (S := S1024x1024) hz]

theorem sout_C (hc0 : ¬cond0_0 i) (hc1 : ¬cond0_1 i) (hc2 : cond0_2 i) (hc3 : ¬cond0_3 i) (hc4 : ¬cond0_4 i) (hc5 : ¬cond0_5 i) :
    sout0_C_0 c i a2 h2 a3 h3 a4 h4 a5 h5 a6 h6 a7 h7 a8 h8 a9 h9 a10 h10 hc0 hc1 hc2 hc3 hc4 hc5 x0 x1 x2 x3 w x5 x6 s = k0_pay2 s x1 w := by
  unfold sout0_C_0
  rw [View.read_writes_eq_canon _ _ _ (scover0_C_0 c i a2 h2 a3 h3 a4 h4 a5 h5 a6 h6 a7 h7 a8 h8 a9 h9 a10 h10 hc0 hc1 hc2 hc3 hc4 hc5 x0 x1 x2 x3 w x5 x6 s)]
  unfold kernelRun0_C
  dsimp only
  rw [View.canon_unit_zero hz]
  simp only [View.readAt_eq_ld, h3.read_unread, h6.read_unread, h10.read_unread, View.ld_unit_zero (S := S1024x1024) hz]
  rfl

theorem sout_D (hc0 : ¬cond0_0 i) (hc1 : ¬cond0_1 i) (hc2 : ¬cond0_2 i) (hc3 : cond0_3 i) (hc4 : ¬cond0_4 i) (hc5 : ¬cond0_5 i) :
    sout0_D_0 c i a2 h2 a3 h3 a4 h4 a5 h5 a6 h6 a7 h7 a8 h8 a9 h9 a10 h10 hc0 hc1 hc2 hc3 hc4 hc5 x0 x1 x2 x3 w x5 x6 s = k0_pay2 s x2 w := by
  unfold sout0_D_0
  rw [View.read_writes_eq_canon _ _ _ (scover0_D_0 c i a2 h2 a3 h3 a4 h4 a5 h5 a6 h6 a7 h7 a8 h8 a9 h9 a10 h10 hc0 hc1 hc2 hc3 hc4 hc5 x0 x1 x2 x3 w x5 x6 s)]
  unfold kernelRun0_D
  dsimp only
  rw [View.canon_unit_zero hz]
  simp only [View.readAt_eq_ld, h4.read_unread, h6.read_unread, h10.read_unread, View.ld_unit_zero (S := S1024x1024) hz]
  rfl

/-- At the last block the result is the accumulator and that block's product. -/
theorem out_E (hc0 : ¬cond0_0 i) (hc1 : ¬cond0_1 i) (hc2 : ¬cond0_2 i) (hc3 : ¬cond0_3 i) (hc4 : cond0_4 i) (hc5 : cond0_5 i) :
    out0_E_7 c i a2 h2 a3 h3 a4 h4 a5 h5 a6 h6 a7 h7 a8 h8 a9 h9 a10 h10 hc0 hc1 hc2 hc3 hc4 hc5 x0 x1 x2 x3 w x5 x6 s = k0_pay2 s x3 w := by
  unfold out0_E_7
  rw [View.read_writes_eq_canon _ _ _ (cover0_E_7 c i a2 h2 a3 h3 a4 h4 a5 h5 a6 h6 a7 h7 a8 h8 a9 h9 a10 h10 hc0 hc1 hc2 hc3 hc4 hc5 x0 x1 x2 x3 w x5 x6 s)]
  unfold kernelRun0_E
  dsimp only
  sl_unfold_words
  rw [View.canon_unit_zero hz, View.readCov_unit_zero (S := S1024x1024) _ hz]
  simp only [View.readAt_eq_ld, h5.read_unread, h6.read_unread, h10.read_unread, View.ld_unit_zero (S := S1024x1024) hz]
  rfl

end Body

/-- One piece's product, over the extended reals. -/
theorem pay2_apply (s : Vec Ideal S1024x1024 .f32) (x y : Vec Ideal S1024x1024 .bf16) (r d : Fin 1024) :
    k0_pay2 (F := Ideal) s x y (ix2 r d) = s (ix2 r d) + ∑ k : Fin 1024, x (ix2 r k) * y (ix2 d k) := by
  unfold k0_pay2
  simp only [pointwise, zero_add]

theorem pay1_apply (x y : Vec Ideal S1024x128 .bf16) (r d : Fin 1024) : k0_pay1 (F := Ideal) x y (ix2 r d) = ∑ k : Fin 128, x (ix2 r k) * y (ix2 d k) := by
  unfold k0_pay1
  simp only [pointwise, zero_add]

variable (m : (ℓ : Loc nD τ sig) → Buf (Elt Ideal) ℓ) (ρ : Dev nD → PrngReg)

/-- The pieces' gradients and the weights. -/
abbrev g0 (c : Dev nD) : FVec Ideal S8192x2048 .bf16 := m ((c : Thread nD τ).loc main_arg0)
abbrev g1 (c : Dev nD) : FVec Ideal S8192x1024 .bf16 := m ((c : Thread nD τ).loc main_arg1)
abbrev g2 (c : Dev nD) : FVec Ideal S8192x1024 .bf16 := m ((c : Thread nD τ).loc main_arg2)
abbrev g3 (c : Dev nD) : FVec Ideal S8192x1024 .bf16 := m ((c : Thread nD τ).loc main_arg3)
abbrev gn (c : Dev nD) : FVec Ideal S8192x128 .bf16 := m ((c : Thread nD τ).loc main_arg4)
abbrev ws (c : Dev nD) : FVec Ideal S1024x12800 .bf16 := m ((c : Thread nD τ).loc main_arg5)
abbrev wn (c : Dev nD) : FVec Ideal S1024x128 .bf16 := m ((c : Thread nD τ).loc main_arg6)

theorem index_0 : ∀ t : Fin cfg0.N, win0_0.index t 0 = t.val / 5 ∧ win0_0.index t 1 = min (t.val % 5) 1 := by decide +kernel
theorem index_1 : ∀ t : Fin cfg0.N, win0_1.index t 0 = t.val / 5 ∧ win0_1.index t 1 = 0 := by decide +kernel
theorem index_2 : ∀ t : Fin cfg0.N, win0_2.index t 0 = t.val / 5 ∧ win0_2.index t 1 = 0 := by decide +kernel
theorem index_3 : ∀ t : Fin cfg0.N, win0_3.index t 0 = t.val / 5 ∧ win0_3.index t 1 = 0 := by decide +kernel
theorem index_4 : ∀ t : Fin cfg0.N, win0_4.index t 0 = 0 ∧ win0_4.index t 1 = t.val % 5 := by decide +kernel
theorem index_5 : ∀ t : Fin cfg0.N, win0_5.index t 0 = t.val / 5 ∧ win0_5.index t 1 = 0 := by decide +kernel
theorem index_6 : ∀ t : Fin cfg0.N, win0_6.index t 0 = 0 ∧ win0_6.index t 1 = 0 := by decide +kernel
theorem index_7 : ∀ t : Fin cfg0.N, win0_7.index t 0 = t.val / 5 ∧ win0_7.index t 1 = 0 := by decide +kernel

/-- The blocks of a point. -/
abbrev b0 (c : Dev nD) (t : Fin cfg0.N) : Vec Ideal S1024x1024 .bf16 := iblk m c 0 t
abbrev b1 (c : Dev nD) (t : Fin cfg0.N) : Vec Ideal S1024x1024 .bf16 := iblk m c 1 t
abbrev b2 (c : Dev nD) (t : Fin cfg0.N) : Vec Ideal S1024x1024 .bf16 := iblk m c 2 t
abbrev b3 (c : Dev nD) (t : Fin cfg0.N) : Vec Ideal S1024x1024 .bf16 := iblk m c 3 t
abbrev wb (c : Dev nD) (t : Fin cfg0.N) : Vec Ideal S1024x1024 .bf16 := X0_4 m c t
abbrev nb (c : Dev nD) (t : Fin cfg0.N) : Vec Ideal S1024x128 .bf16 := iblk m c 5 t
abbrev wnb (c : Dev nD) (t : Fin cfg0.N) : Vec Ideal S1024x128 .bf16 := iblk m c 6 t

theorem b0_eq (c : Dev nD) (t : Fin cfg0.N) (i : Fin 8) (n : ℕ) (hn : n < 2) (ht : t.val = 5 * i.val + n) (r k : Fin 1024) :
    b0 m c t (ix2 r k) = g0 m c (ix2 (rowOf i r) ⟨1024 * n + k.val, by omega⟩) := by
  have hi := index_0 t
  unfold b0 iblk
  rw [View.read_apply]
  show V m c main_arg0 _ = V m c main_arg0 _
  congr 1
  funext a
  apply Fin.ext
  match a with
  | ⟨0, _⟩ => show win0_0.index t 0 * 1024 + 1 * r.val = 1024 * i.val + r.val; rw [hi.1]; omega
  | ⟨1, _⟩ => show win0_0.index t 1 * 1024 + 1 * k.val = 1024 * n + k.val; rw [hi.2]; omega

theorem b1_eq (c : Dev nD) (t : Fin cfg0.N) (i : Fin 8) (ht : t.val / 5 = i.val) (r k : Fin 1024) : b1 m c t (ix2 r k) = g1 m c (ix2 (rowOf i r) k) := by
  have hi := index_1 t
  unfold b1 iblk
  rw [View.read_apply]
  show V m c main_arg1 _ = V m c main_arg1 _
  congr 1
  funext a
  apply Fin.ext
  match a with
  | ⟨0, _⟩ => show win0_1.index t 0 * 1024 + 1 * r.val = 1024 * i.val + r.val; rw [hi.1]; omega
  | ⟨1, _⟩ => show win0_1.index t 1 * 1024 + 1 * k.val = k.val; rw [hi.2]; omega

theorem b2_eq (c : Dev nD) (t : Fin cfg0.N) (i : Fin 8) (ht : t.val / 5 = i.val) (r k : Fin 1024) : b2 m c t (ix2 r k) = g2 m c (ix2 (rowOf i r) k) := by
  have hi := index_2 t
  unfold b2 iblk
  rw [View.read_apply]
  show V m c main_arg2 _ = V m c main_arg2 _
  congr 1
  funext a
  apply Fin.ext
  match a with
  | ⟨0, _⟩ => show win0_2.index t 0 * 1024 + 1 * r.val = 1024 * i.val + r.val; rw [hi.1]; omega
  | ⟨1, _⟩ => show win0_2.index t 1 * 1024 + 1 * k.val = k.val; rw [hi.2]; omega

theorem b3_eq (c : Dev nD) (t : Fin cfg0.N) (i : Fin 8) (ht : t.val / 5 = i.val) (r k : Fin 1024) : b3 m c t (ix2 r k) = g3 m c (ix2 (rowOf i r) k) := by
  have hi := index_3 t
  unfold b3 iblk
  rw [View.read_apply]
  show V m c main_arg3 _ = V m c main_arg3 _
  congr 1
  funext a
  apply Fin.ext
  match a with
  | ⟨0, _⟩ => show win0_3.index t 0 * 1024 + 1 * r.val = 1024 * i.val + r.val; rw [hi.1]; omega
  | ⟨1, _⟩ => show win0_3.index t 1 * 1024 + 1 * k.val = k.val; rw [hi.2]; omega

theorem nb_eq (c : Dev nD) (t : Fin cfg0.N) (i : Fin 8) (ht : t.val / 5 = i.val) (r : Fin 1024) (k : Fin 128) : nb m c t (ix2 r k) = gn m c (ix2 (rowOf i r) k) := by
  have hi := index_5 t
  unfold nb iblk
  rw [View.read_apply]
  show V m c main_arg4 _ = V m c main_arg4 _
  congr 1
  funext a
  apply Fin.ext
  match a with
  | ⟨0, _⟩ => show win0_5.index t 0 * 1024 + 1 * r.val = 1024 * i.val + r.val; rw [hi.1]; omega
  | ⟨1, _⟩ => show win0_5.index t 1 * 128 + 1 * k.val = k.val; rw [hi.2]; omega

theorem wnb_eq (c : Dev nD) (t : Fin cfg0.N) (d : Fin 1024) (k : Fin 128) : wnb m c t (ix2 d k) = wn m c (ix2 d k) := by
  have hi := index_6 t
  unfold wnb iblk
  rw [View.read_apply]
  show V m c main_arg6 _ = V m c main_arg6 _
  congr 1
  funext a
  apply Fin.ext
  match a with
  | ⟨0, _⟩ => show win0_6.index t 0 * 1024 + 1 * d.val = d.val; rw [hi.1]; omega
  | ⟨1, _⟩ => show win0_6.index t 1 * 128 + 1 * k.val = k.val; rw [hi.2]; omega

/-- The weights' columns of a point. -/
theorem wb_eq (c : Dev nD) (t : Fin cfg0.N) (o : ℕ) (ho : 1024 * (t.val % 5) = o) (h : o + 1024 ≤ 12800) (d k : Fin 1024) :
    wb m c t (ix2 d k) = ws m c (ix2 d (colOf o h k)) := by
  have hi := index_4 t
  unfold wb X0_4 Pipeline.Window.fill
  rw [dif_pos (moved0_4 t _)]
  unfold iblk
  rw [View.read_apply]
  show V m c main_arg5 _ = V m c main_arg5 _
  congr 1
  funext a
  apply Fin.ext
  match a with
  | ⟨0, _⟩ => show win0_4.index t 0 * 1024 + 1 * d.val = d.val; rw [hi.1]; omega
  | ⟨1, _⟩ => show win0_4.index t 1 * 1024 + 1 * k.val = o + k.val; rw [hi.2]; omega

/-- The narrow projections' part of the gradient. -/
def narrowSum (g : FVec Ideal S8192x128 .bf16) (w : FVec Ideal S1024x128 .bf16) (t : Fin 8192) (d : Fin 1024) : EReal :=
  ∑ k : Fin 128, g (ix2 t k) * w (ix2 d k)

/-- One half of the widest piece's part. -/
def halfSum (g : FVec Ideal S8192x2048 .bf16) (w : FVec Ideal S1024x12800 .bf16) (n : ℕ) (hn : n < 2) (t : Fin 8192) (d : Fin 1024) : EReal :=
  ∑ k : Fin 1024, g (ix2 t ⟨1024 * n + k.val, by omega⟩) * w (ix2 d ⟨1024 * n + k.val, by omega⟩)

/-- The two halves are the piece. -/
theorem halves (g : FVec Ideal S8192x2048 .bf16) (w : FVec Ideal S1024x12800 .bf16) (t : Fin 8192) (d : Fin 1024) :
    columnSum g w 0 (by decide) t d = halfSum g w 0 (by decide) t d + halfSum g w 1 (by decide) t d := by
  refine (Fin.sum_univ_add (a := 1024) (b := 1024) (fun k => g (ix2 t k) * w (ix2 d (colOf 0 (by decide) k)))).trans (congrArg₂ (· + ·) ?_ ?_) <;>
    refine Finset.sum_congr rfl fun k _ => congrArg₂ (· * ·) (congrArg g (congrArg (ix2 t) (Fin.ext ?_))) (congrArg w (congrArg (ix2 d) (Fin.ext ?_)))
  · show k.val = 1024 * 0 + k.val; omega
  · show 0 + k.val = 1024 * 0 + k.val; omega
  · show 1024 + k.val = 1024 * 1 + k.val; omega
  · show 0 + (1024 + k.val) = 1024 * 1 + k.val; omega

/-- A point's product is its piece's sum over its columns. -/
theorem piece_eq (c : Dev nD) (t : Fin cfg0.N) (o : ℕ) (ho : 1024 * (t.val % 5) = o) (h : o + 1024 ≤ 12800) (i : Fin 8)
    (x : Vec Ideal S1024x1024 .bf16) (g : FVec Ideal S8192x1024 .bf16) (hx : ∀ r k, x (ix2 r k) = g (ix2 (rowOf i r) k)) (r d : Fin 1024) :
    ∑ k : Fin 1024, x (ix2 r k) * wb m c t (ix2 d k) = columnSum g (ws m c) o h (rowOf i r) d :=
  Finset.sum_congr rfl fun k _ => by rw [hx, wb_eq m c t o ho h]

theorem half_eq (c : Dev nD) (t : Fin cfg0.N) (i : Fin 8) (n : ℕ) (hn : n < 2) (ht : t.val = 5 * i.val + n) (r d : Fin 1024) :
    ∑ k : Fin 1024, b0 m c t (ix2 r k) * wb m c t (ix2 d k) = halfSum (g0 m c) (ws m c) n hn (rowOf i r) d :=
  Finset.sum_congr rfl fun k _ => by rw [b0_eq m c t i n hn ht, wb_eq m c t (1024 * n) (by omega) (by omega)]; rfl

theorem narrow_eq (c : Dev nD) (t : Fin cfg0.N) (i : Fin 8) (ht : t.val / 5 = i.val) (r d : Fin 1024) :
    ∑ k : Fin 128, nb m c t (ix2 r k) * wnb m c t (ix2 d k) = narrowSum (gn m c) (wn m c) (rowOf i r) d :=
  Finset.sum_congr rfl fun k _ => by rw [nb_eq m c t i ht, wnb_eq m c t]

theorem acc_0 (c : Dev nD) (t : Fin cfg0.N) (i : Fin 8) (ht : t.val = 5 * i.val) (r d : Fin 1024) :
    (outsAt0 m c t.val t.isLt).2 (ix2 r d) = narrowSum (gn m c) (wn m c) (rowOf i r) d + halfSum (g0 m c) (ws m c) 0 (by decide) (rowOf i r) d := by
  have e : (outsAt0 m c t.val t.isLt).2 = k0_pay2 (k0_pay1 (nb m c t) (wnb m c t)) (b0 m c t) (wb m c t) := by
    rw [outsAt0_A m c t (by omega) (by omega) (by omega) (by omega) (by omega) (by omega)]
    dsimp only
    exact sout_A ..
  rw [e, pay2_apply, pay1_apply, narrow_eq m c t i (by omega), half_eq m c t i 0 (by decide) (by omega)]

theorem acc_1 (c : Dev nD) (t : Fin cfg0.N) (i : Fin 8) (ht : t.val = 5 * i.val + 1) (r d : Fin 1024) :
    (outsAt0 m c t.val t.isLt).2 (ix2 r d) = narrowSum (gn m c) (wn m c) (rowOf i r) d + columnSum (g0 m c) (ws m c) 0 (by decide) (rowOf i r) d := by
  have e : (outsAt0 m c t.val t.isLt).2 = k0_pay2 (outsAt0 m c (t.val - 1) (Nat.lt_of_le_of_lt (Nat.sub_le _ _) t.isLt)).2 (b0 m c t) (wb m c t) := by
    rw [outsAt0_B m c t (by omega) (by omega) (by omega) (by omega) (by omega) (by omega)]
    dsimp only
    exact sout_B ..
  rw [e, pay2_apply, half_eq m c t i 1 (by decide) (by omega), halves, ← add_assoc]
  exact congrArg (· + _) (acc_0 m c ⟨t.val - 1, Nat.lt_of_le_of_lt (Nat.sub_le _ _) t.isLt⟩ i (by dsimp only; omega) r d)

theorem acc_2 (c : Dev nD) (t : Fin cfg0.N) (i : Fin 8) (ht : t.val = 5 * i.val + 2) (r d : Fin 1024) :
    (outsAt0 m c t.val t.isLt).2 (ix2 r d) = narrowSum (gn m c) (wn m c) (rowOf i r) d + columnSum (g0 m c) (ws m c) 0 (by decide) (rowOf i r) d
      + columnSum (g1 m c) (ws m c) 2048 (by decide) (rowOf i r) d := by
  have e : (outsAt0 m c t.val t.isLt).2 = k0_pay2 (outsAt0 m c (t.val - 1) (Nat.lt_of_le_of_lt (Nat.sub_le _ _) t.isLt)).2 (b1 m c t) (wb m c t) := by
    rw [outsAt0_C m c t (by omega) (by omega) (by omega) (by omega) (by omega) (by omega)]
    dsimp only
    exact sout_C ..
  rw [e, pay2_apply, piece_eq m c t 2048 (by omega) (by decide) i _ _ (b1_eq m c t i (by omega))]
  exact congrArg (· + _) (acc_1 m c ⟨t.val - 1, Nat.lt_of_le_of_lt (Nat.sub_le _ _) t.isLt⟩ i (by dsimp only; omega) r d)

theorem acc_3 (c : Dev nD) (t : Fin cfg0.N) (i : Fin 8) (ht : t.val = 5 * i.val + 3) (r d : Fin 1024) :
    (outsAt0 m c t.val t.isLt).2 (ix2 r d) = narrowSum (gn m c) (wn m c) (rowOf i r) d + columnSum (g0 m c) (ws m c) 0 (by decide) (rowOf i r) d
      + columnSum (g1 m c) (ws m c) 2048 (by decide) (rowOf i r) d + columnSum (g2 m c) (ws m c) 3072 (by decide) (rowOf i r) d := by
  have e : (outsAt0 m c t.val t.isLt).2 = k0_pay2 (outsAt0 m c (t.val - 1) (Nat.lt_of_le_of_lt (Nat.sub_le _ _) t.isLt)).2 (b2 m c t) (wb m c t) := by
    rw [outsAt0_D m c t (by omega) (by omega) (by omega) (by omega) (by omega) (by omega)]
    dsimp only
    exact sout_D ..
  rw [e, pay2_apply, piece_eq m c t 3072 (by omega) (by decide) i _ _ (b2_eq m c t i (by omega))]
  exact congrArg (· + _) (acc_2 m c ⟨t.val - 1, Nat.lt_of_le_of_lt (Nat.sub_le _ _) t.isLt⟩ i (by dsimp only; omega) r d)

/-- The stream's gradient. -/
def grad (c : Dev nD) : FVec Ideal S8192x1024 .f32 := fun i =>
  narrowSum (gn m c) (wn m c) (i 0) (i 1) + columnSum (g0 m c) (ws m c) 0 (by decide) (i 0) (i 1)
      + columnSum (g1 m c) (ws m c) 2048 (by decide) (i 0) (i 1) + columnSum (g2 m c) (ws m c) 3072 (by decide) (i 0) (i 1)
      + columnSum (g3 m c) (ws m c) 4096 (by decide) (i 0) (i 1)

/-- After a block's last piece the result's block holds the gradient. -/
theorem out_4 (c : Dev nD) (t : Fin cfg0.N) (i : Fin 8) (ht : t.val = 5 * i.val + 4) (r d : Fin 1024) :
    (outsAt0 m c t.val t.isLt).1 (ix2 r d) = grad m c (ix2 (rowOf i r) d) := by
  have e : (outsAt0 m c t.val t.isLt).1 = k0_pay2 (outsAt0 m c (t.val - 1) (Nat.lt_of_le_of_lt (Nat.sub_le _ _) t.isLt)).2 (b3 m c t) (wb m c t) := by
    rw [outsAt0_E m c t (by omega) (by omega) (by omega) (by omega) (by omega) (by omega)]
    dsimp only
    exact out_E ..
  rw [e, pay2_apply, piece_eq m c t 4096 (by omega) (by decide) i _ _ (b3_eq m c t i (by omega))]
  exact congrArg (· + _) (acc_3 m c ⟨t.val - 1, Nat.lt_of_le_of_lt (Nat.sub_le _ _) t.isLt⟩ i (by dsimp only; omega) r d)

theorem emb7 (t : Fin cfg0.N) (i : Fin 8) (ht : t.val / 5 = i.val) (r d : Fin 1024) :
    (win0_7.blk t).view.emb (ix2 r d : S1024x1024.Idx) = (ix2 (rowOf i r) d : S8192x1024.Idx) := by
  have hi := index_7 t
  funext a
  apply Fin.ext
  match a with
  | ⟨0, _⟩ => show win0_7.index t 0 * 1024 + 1 * r.val = 1024 * i.val + r.val; rw [hi.1]; omega
  | ⟨1, _⟩ => show win0_7.index t 1 * 1024 + 1 * d.val = d.val; rw [hi.2]; omega

/-- Every row and column is written at its block's last piece. -/
theorem cover (j : S8192x1024.Idx) : ∃ (t : Fin cfg0.N) (r d : Fin 1024), t.val % 5 = 4 ∧ (win0_7.blk t).view.emb (ix2 r d : S1024x1024.Idx) = j := by
  have h0 : (j 0).val < 8192 := (j 0).isLt
  have hN : 5 * ((j 0).val / 1024) + 4 < cfg0.N := by rw [show cfg0.N = 40 from N_0]; omega
  exact ⟨⟨5 * ((j 0).val / 1024) + 4, hN⟩, ⟨(j 0).val % 1024, by omega⟩, j 1, by dsimp only; omega,
    (emb7 _ ⟨(j 0).val / 1024, by omega⟩ (by dsimp only; omega) _ _).trans ((congrArg (fun x : Fin 8192 => (ix2 x (j 1) : S8192x1024.Idx)) (row_split (j 0) _ _)).trans (eq_ix2 j).symm)⟩

theorem final (c : Dev nD) : (dats m 0 c).arrAt 7 cfg0.N = grad m c :=
  (dats m 0 c).arrAt_eq_of_cover 7 (grad m c) (fun t hf => by
    have hN : t.val < 40 := lt_of_lt_of_eq t.isLt (show cfg0.N = 40 from N_0)
    have h3 : t.val % 5 = 4 := (flush0_7 t).mp hf
    show (cfg0.win 7).cut (grid0.coords t) ((dats m 0 c).after 7 t) = _
    rw [after0_7]
    funext y
    have e : (y : S1024x1024.Idx) = ix2 (y 0) (y 1) := eq_ix2 _
    show (outsAt0 m c t.val t.isLt).1 (y : S1024x1024.Idx) = grad m c ((win0_7.blk t).view.emb y)
    rw [e]
    exact (out_4 m c t ⟨t.val / 5, by omega⟩ (by dsimp only; omega) _ _).trans (congrArg (grad m c) (emb7 t ⟨t.val / 5, by omega⟩ rfl _ _).symm)) fun j => by
      obtain ⟨t, r, d, h3, rfl⟩ := cover j
      exact ⟨t, (flush0_7 t).mpr h3, (win0_7.blk t).view.emb_mem_set _⟩

/-- The kernel's run: its result is the gradient. -/
theorem run : θ_run defs (onTc (τ := τ) (main (F := Ideal))) ⟨m, fun _ => 0, ρ⟩ (fun r => ∀ c : Dev nD,
      r.2.mem ((c.tc : Thread nD τ).loc main_v0) = grad m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 7).trans (final m c), h.2 c⟩) (θ_run_and (run_main m ρ) (unchanged m ρ))

end Cert.Kernel3Ideal.Stream

namespace Cert.Reference3Ideal

open Cert.Reference3Ideal.Read

theorem row_eq (t : Fin 8192) (d : Fin 1024) (k : Fin 1024) : idx_main_v18 (lidx_main_v30 (idx_main_v34 (ix2 t d)) k) = ix2 t k :=
  funext fun a => Fin.ext (match a with
    | ⟨0, _⟩ => show (((t.val * 1024 + d.val) / 4194304 * 4096 + (t.val * 1024 + d.val) / 1024 % 4096) * 1024 + k.val) / 1024 = t.val by omega
    | ⟨1, _⟩ => show (((t.val * 1024 + d.val) / 4194304 * 4096 + (t.val * 1024 + d.val) / 1024 % 4096) * 1024 + k.val) % 1024 = k.val by omega)

theorem row_wide (t : Fin 8192) (d : Fin 1024) (k : Fin 2048) : idx_main_v16 (lidx_main_v32 (idx_main_v34 (ix2 t d)) k) = ix2 t k :=
  funext fun a => Fin.ext (match a with
    | ⟨0, _⟩ => show (((t.val * 1024 + d.val) / 4194304 * 4096 + (t.val * 1024 + d.val) / 1024 % 4096) * 2048 + k.val) / 2048 = t.val by omega
    | ⟨1, _⟩ => show (((t.val * 1024 + d.val) / 4194304 * 4096 + (t.val * 1024 + d.val) / 1024 % 4096) * 2048 + k.val) % 2048 = k.val by omega)

theorem row_narrow (t : Fin 8192) (d : Fin 1024) (k : Fin 128) : idx_main_v24 (lidx_main_v25 (idx_main_v34 (ix2 t d)) k) = ix2 t k :=
  funext fun a => Fin.ext (match a with
    | ⟨0, _⟩ => show (((t.val * 1024 + d.val) / 4194304 * 4096 + (t.val * 1024 + d.val) / 1024 % 4096) * 128 + k.val) / 128 = t.val by omega
    | ⟨1, _⟩ => show (((t.val * 1024 + d.val) / 4194304 * 4096 + (t.val * 1024 + d.val) / 1024 % 4096) * 128 + k.val) % 128 = k.val by omega)

theorem col_eq {A : ℕ} (o : ℕ) (h : o + A ≤ 12800) (t : Fin 8192) (d : Fin 1024) (k : Fin A) (j : S1024x12800.Idx)
    (h0 : (j 0).val = (t.val * 1024 + d.val) % 1024) (h1 : (j 1).val = o + k.val) : j = ix2 d (colOf o h k) :=
  funext fun a => Fin.ext (match a with
    | ⟨0, _⟩ => h0.trans (by show _ = d.val; omega)
    | ⟨1, _⟩ => h1)

theorem col_narrow (t : Fin 8192) (d : Fin 1024) (k : Fin 128) : ridx_main_v25 (idx_main_v34 (ix2 t d)) k = ix2 d k :=
  funext fun a => Fin.ext (match a with
    | ⟨0, _⟩ => show (t.val * 1024 + d.val) % 1024 = d.val by omega
    | ⟨1, _⟩ => rfl)

/-- The reference's result, piece by piece. -/
theorem value (x0 : FVec Ideal S8192x2048 .bf16) (x1 x2 x3 : FVec Ideal S8192x1024 .bf16) (x4 : FVec Ideal S8192x128 .bf16) (x5 : FVec Ideal S1024x12800 .bf16)
    (x6 : FVec Ideal S1024x128 .bf16) (t : Fin 8192) (d : Fin 1024) :
    val_main_v34 (F := Ideal) x0 x1 x2 x3 x4 x5 x6 (ix2 t d) = Cert.Kernel3Ideal.Stream.narrowSum x4 x6 t d + columnSum x3 x5 4096 (by decide) t d
      + columnSum x2 x5 3072 (by decide) t d + columnSum x1 x5 2048 (by decide) t d + columnSum x0 x5 0 (by decide) t d := by
  rw [val_main_v34_apply, val_main_v33_apply, val_main_v31_apply, val_main_v29_apply, val_main_v27_apply, val_main_v25_apply, val_main_v26_apply, val_main_v28_apply,
    val_main_v30_apply, val_main_v32_apply]
  refine congrArg₂ (· + ·) (congrArg₂ (· + ·) (congrArg₂ (· + ·) (congrArg₂ (· + ·) ?_ ?_) ?_) ?_) ?_ <;> refine Finset.sum_congr rfl fun k _ => ?_
  · rw [val_main_v24_apply, val_main_v13_apply]
    exact congrArg₂ (· * ·) (congrArg x4 (row_narrow t d k)) (congrArg x6 (col_narrow t d k))
  · rw [val_main_v22_apply, val_main_v11_apply, val_main_v3_apply]
    exact congrArg₂ (· * ·) (congrArg x3 (row_eq t d k)) (congrArg x5 (col_eq 4096 _ t d k _ rfl rfl))
  · rw [val_main_v20_apply, val_main_v9_apply, val_main_v2_apply]
    exact congrArg₂ (· * ·) (congrArg x2 (row_eq t d k)) (congrArg x5 (col_eq 3072 _ t d k _ rfl rfl))
  · rw [val_main_v18_apply, val_main_v7_apply, val_main_v1_apply]
    exact congrArg₂ (· * ·) (congrArg x1 (row_eq t d k)) (congrArg x5 (col_eq 2048 _ t d k _ rfl rfl))
  · rw [val_main_v16_apply, val_main_v5_apply, val_main_v0_apply]
    exact congrArg₂ (· * ·) (congrArg x0 (row_wide t d k)) (congrArg x5 (col_eq 0 _ t d k _ rfl (Nat.zero_add _).symm))

/-- The two results are the same sum in two orders. -/
theorem reorder (n a b c d : EReal) : n + d + c + b + a = n + a + b + c + d := by
  rw [add_right_comm n d c, add_right_comm (n + c) d b, add_right_comm (n + c + b) d a, add_right_comm n c b, add_right_comm (n + b) c a, add_right_comm n b a]

/-- The kernel and the reference end with the same gradient, whatever the arguments. -/
theorem equal_streams : Cert.algebraic_Kernel3Ideal_Reference3Ideal (hKernel3Ideal := Cert.Kernel3Ideal.Gen.facts)
    (hReference3Ideal := Cert.Reference3Ideal.Gen.facts) := fun m g m' g' _ heq =>
  ⟨fun c => Cert.Kernel3Ideal.Stream.grad m c, Cert.Kernel3Ideal.Stream.run m g, (θ_run Cert.Reference3Ideal.defs _ _).mono (fun r h c => by
    obtain ⟨r0, ra⟩ := h c
    refine ⟨(r0.trans (val_main_v34_eq _ _ _ _ _ _ _)).trans (funext fun i => (congrArg _ (eq_ix2 i)).trans ((value _ _ _ _ _ _ _ (i 0) (i 1)).trans ?_)), ra⟩
    rw [(heq c).1, (heq c).2.1, (heq c).2.2.1, (heq c).2.2.2.1, (heq c).2.2.2.2.1, (heq c).2.2.2.2.2.1, (heq c).2.2.2.2.2.2]
    exact reorder _ _ _ _ _) (Cert.Reference3Ideal.Value.run (F := Ideal) m' g')⟩

end Cert.Reference3Ideal

end
-- ==== Proof.Stream2.lean ====
/-
  The stream's gradient from the third branch's projections: what the call's accumulator holds after each piece, and the
  claim.
-/
module

public import proofs.«01_k».proof.Defs
public import proofs.«01_k».proof.Proof.Columns
public import proofs.«01_k».proof.Proof.Gen.Kernel4Ideal.Frame
public import proofs.«01_k».proof.Proof.Gen.Reference4Ideal.Run
public import proofs.«01_k».proof.Proof.Gen.Reference4Ideal.Read
public import Idealize.ShloMosaic.Lib.Pointwise
public import Idealize.ShloMosaic.Adequacy
public import Idealize.ShloMosaic.Init

@[expose] public section

noncomputable section

open Idealize.ShloMosaic Idealize.ShloMosaic.TcCoe Idealize.SL.Sem
open scoped BigOperators

namespace Cert.Kernel4Ideal.Stream

open Cert.Kernel4Ideal Cert.Kernel4Ideal.Gen

section Body

variable {F : FTy → Type} [FloatOps F]

theorem hz : (![0, 0] : Fin 2 → Nat) = fun _ => 0 := funext fun a => by fin_cases a <;> rfl

variable (c : Dev nD) (i : grid0.Coords) (a2 : Memref sig .tc .vmem S1024x1024 .bf16) (h2 : a2.IsWhole) (a3 : Memref sig .tc .vmem S1024x1024 .bf16) (h3 : a3.IsWhole)
  (a4 : Memref sig .tc .vmem S1024x1024 .bf16) (h4 : a4.IsWhole) (a5 : Memref sig .tc .vmem S1024x1024 .bf16) (h5 : a5.IsWhole) (a6 : Memref sig .tc .vmem S1024x1024 .bf16) (h6 : a6.IsWhole)
  (a7 : Memref sig .tc .vmem S1024x1024 .f32) (h7 : a7.IsWhole) (a8 : Memref sig .tc .vmem S1024x1024 .f32) (h8 : a8.IsWhole) (a9 : Memref sig .tc .vmem S1024x1024 .f32) (h9 : a9.IsWhole)
  (x0 x1 x2 x3 w : Vec F S1024x1024 .bf16) (x5 s : Vec F S1024x1024 .f32)

/-- At the first piece the accumulator ends as the gradient it starts from and that piece's product. -/
theorem sout_A (hc0 : cond0_0 i) (hc1 : cond0_1 i) (hc2 : ¬cond0_2 i) (hc3 : ¬cond0_3 i) (hc4 : ¬cond0_4 i) (hc5 : ¬cond0_5 i) :
    sout0_A_0 c i a2 h2 a3 h3 a4 h4 a5 h5 a6 h6 a7 h7 a8 h8 a9 h9 hc0 hc1 hc2 hc3 hc4 hc5 x0 x1 x2 x3 w x5 = k0_pay2 (k0_pay1 x5) x0 w := by
  unfold sout0_A_0
  rw [View.read_writes_eq_canon _ _ _ (scover0_A_0 c i a2 h2 a3 h3 a4 h4 a5 h5 a6 h6 a7 h7 a8 h8 a9 h9 hc0 hc1 hc2 hc3 hc4 hc5 x0 x1 x2 x3 w x5)]
  unfold kernelRun0_A
  dsimp only
  sl_unfold_words
  rw [View.canon_cons_unit_zero (S := S1024x1024) hz, View.readCov_unit_zero (S := S1024x1024) _ hz]
  simp only [View.readAt_eq_ld, h2.read_unread, h6.read_unread, h7.read_unread, View.ld_unit_zero (S := S1024x1024) hz]

/-- At a later piece it ends as what it held and that piece's product. -/
theorem sout_B (hc0 : ¬cond0_0 i) (hc1 : ¬cond0_1 i) (hc2 : cond0_2 i) (hc3 : ¬cond0_3 i) (hc4 : ¬cond0_4 i) (hc5 : ¬cond0_5 i) :
    sout0_B_0 c i a2 h2 a3 h3 a4 h4 a5 h5 a6 h6 a7 h7 a8 h8 a9 h9 hc0 hc1 hc2 hc3 hc4 hc5 x0 x1 x2 x3 w x5 s = k0_pay2 s x1 w := by
  unfold sout0_B_0
  rw [View.read_writes_eq_canon _ _ _ (scover0_B_0 c i a2 h2 a3 h3 a4 h4 a5 h5 a6 h6 a7 h7 a8 h8 a9 h9 hc0 hc1 hc2 hc3 hc4 hc5 x0 x1 x2 x3 w x5 s)]
  unfold kernelRun0_B
  dsimp only
  rw [View.canon_unit_zero hz]
  simp only [View.readAt_eq_ld, h3.read_unread, h6.read_unread, h9.read_unread, View.ld_unit_zero (S := S1024x1024) hz]
  rfl

theorem sout_C (hc0 : ¬cond0_0 i) (hc1 : ¬cond0_1 i) (hc2 : ¬cond0_2 i) (hc3 : cond0_3 i) (hc4 : ¬cond0_4 i) (hc5 : ¬cond0_5 i) :
    sout0_C_0 c i a2 h2 a3 h3 a4 h4 a5 h5 a6 h6 a7 h7 a8 h8 a9 h9 hc0 hc1 hc2 hc3 hc4 hc5 x0 x1 x2 x3 w x5 s = k0_pay2 s x2 w := by
  unfold sout0_C_0
  rw [View.read_writes_eq_canon _ _ _ (scover0_C_0 c i a2 h2 a3 h3 a4 h4 a5 h5 a6 h6 a7 h7 a8 h8 a9 h9 hc0 hc1 hc2 hc3 hc4 hc5 x0 x1 x2 x3 w x5 s)]
  unfold kernelRun0_C
  dsimp only
  rw [View.canon_unit_zero hz]
  simp only [View.readAt_eq_ld, h4.read_unread, h6.read_unread, h9.read_unread, View.ld_unit_zero (S := S1024x1024) hz]
  rfl

/-- At the last piece the result is the accumulator and that piece's product. -/
theorem out_D (hc0 : ¬cond0_0 i) (hc1 : ¬cond0_1 i) (hc2 : ¬cond0_2 i) (hc3 : ¬cond0_3 i) (hc4 : cond0_4 i) (hc5 : cond0_5 i) :
    out0_D_6 c i a2 h2 a3 h3 a4 h4 a5 h5 a6 h6 a7 h7 a8 h8 a9 h9 hc0 hc1 hc2 hc3 hc4 hc5 x0 x1 x2 x3 w x5 s = k0_pay2 s x3 w := by
  unfold out0_D_6
  rw [View.read_writes_eq_canon _ _ _ (cover0_D_6 c i a2 h2 a3 h3 a4 h4 a5 h5 a6 h6 a7 h7 a8 h8 a9 h9 hc0 hc1 hc2 hc3 hc4 hc5 x0 x1 x2 x3 w x5 s)]
  unfold kernelRun0_D
  dsimp only
  sl_unfold_words
  rw [View.canon_unit_zero hz, View.readCov_unit_zero (S := S1024x1024) _ hz]
  simp only [View.readAt_eq_ld, h5.read_unread, h6.read_unread, h9.read_unread, View.ld_unit_zero (S := S1024x1024) hz]
  rfl

end Body

/-- One piece's product, over the extended reals. -/
theorem pay2_apply (s : Vec Ideal S1024x1024 .f32) (x y : Vec Ideal S1024x1024 .bf16) (r d : Fin 1024) :
    k0_pay2 (F := Ideal) s x y (ix2 r d) = s (ix2 r d) + ∑ k : Fin 1024, x (ix2 r k) * y (ix2 d k) := by
  unfold k0_pay2
  simp only [pointwise, zero_add]

theorem pay1_apply (s : Vec Ideal S1024x1024 .f32) (r d : Fin 1024) : k0_pay1 (F := Ideal) s (ix2 r d) = s (ix2 r d) := by
  unfold k0_pay1
  simp only [pointwise]

variable (m : (ℓ : Loc nD τ sig) → Buf (Elt Ideal) ℓ) (ρ : Dev nD → PrngReg)

/-- The pieces' gradients, the weights' columns and the gradient the call starts from. -/
abbrev g0 (c : Dev nD) : FVec Ideal S8192x1024 .bf16 := m ((c : Thread nD τ).loc main_arg0)
abbrev g1 (c : Dev nD) : FVec Ideal S8192x1024 .bf16 := m ((c : Thread nD τ).loc main_arg1)
abbrev g2 (c : Dev nD) : FVec Ideal S8192x1024 .bf16 := m ((c : Thread nD τ).loc main_arg2)
abbrev g3 (c : Dev nD) : FVec Ideal S8192x1024 .bf16 := m ((c : Thread nD τ).loc main_arg3)
abbrev ws (c : Dev nD) : FVec Ideal S1024x12800 .bf16 := m ((c : Thread nD τ).loc main_arg4)
abbrev dh (c : Dev nD) : FVec Ideal S8192x1024 .f32 := m ((c : Thread nD τ).loc main_arg5)

theorem index_0 : ∀ t : Fin cfg0.N, win0_0.index t 0 = t.val / 4 ∧ win0_0.index t 1 = 0 := by decide +kernel
theorem index_1 : ∀ t : Fin cfg0.N, win0_1.index t 0 = t.val / 4 ∧ win0_1.index t 1 = 0 := by decide +kernel
theorem index_2 : ∀ t : Fin cfg0.N, win0_2.index t 0 = t.val / 4 ∧ win0_2.index t 1 = 0 := by decide +kernel
theorem index_3 : ∀ t : Fin cfg0.N, win0_3.index t 0 = t.val / 4 ∧ win0_3.index t 1 = 0 := by decide +kernel
theorem index_4 : ∀ t : Fin cfg0.N, win0_4.index t 0 = 0 ∧ win0_4.index t 1 = 5 + t.val % 4 := by decide +kernel
theorem index_5 : ∀ t : Fin cfg0.N, win0_5.index t 0 = t.val / 4 ∧ win0_5.index t 1 = 0 := by decide +kernel
theorem index_6 : ∀ t : Fin cfg0.N, win0_6.index t 0 = t.val / 4 ∧ win0_6.index t 1 = 0 := by decide +kernel

/-- The blocks of a point. -/
abbrev b0 (c : Dev nD) (t : Fin cfg0.N) : Vec Ideal S1024x1024 .bf16 := iblk m c 0 t
abbrev b1 (c : Dev nD) (t : Fin cfg0.N) : Vec Ideal S1024x1024 .bf16 := iblk m c 1 t
abbrev b2 (c : Dev nD) (t : Fin cfg0.N) : Vec Ideal S1024x1024 .bf16 := iblk m c 2 t
abbrev b3 (c : Dev nD) (t : Fin cfg0.N) : Vec Ideal S1024x1024 .bf16 := iblk m c 3 t
abbrev wb (c : Dev nD) (t : Fin cfg0.N) : Vec Ideal S1024x1024 .bf16 := X0_4 m c t
abbrev db (c : Dev nD) (t : Fin cfg0.N) : Vec Ideal S1024x1024 .f32 := iblk m c 5 t

theorem b0_eq (c : Dev nD) (t : Fin cfg0.N) (i : Fin 8) (ht : t.val / 4 = i.val) (r k : Fin 1024) : b0 m c t (ix2 r k) = g0 m c (ix2 (rowOf i r) k) := by
  have hi := index_0 t
  unfold b0 iblk
  rw [View.read_apply]
  show V m c main_arg0 _ = V m c main_arg0 _
  congr 1
  funext a
  apply Fin.ext
  match a with
  | ⟨0, _⟩ => show win0_0.index t 0 * 1024 + 1 * r.val = 1024 * i.val + r.val; rw [hi.1]; omega
  | ⟨1, _⟩ => show win0_0.index t 1 * 1024 + 1 * k.val = k.val; rw [hi.2]; omega

theorem b1_eq (c : Dev nD) (t : Fin cfg0.N) (i : Fin 8) (ht : t.val / 4 = i.val) (r k : Fin 1024) : b1 m c t (ix2 r k) = g1 m c (ix2 (rowOf i r) k) := by
  have hi := index_1 t
  unfold b1 iblk
  rw [View.read_apply]
  show V m c main_arg1 _ = V m c main_arg1 _
  congr 1
  funext a
  apply Fin.ext
  match a with
  | ⟨0, _⟩ => show win0_1.index t 0 * 1024 + 1 * r.val = 1024 * i.val + r.val; rw [hi.1]; omega
  | ⟨1, _⟩ => show win0_1.index t 1 * 1024 + 1 * k.val = k.val; rw [hi.2]; omega

theorem b2_eq (c : Dev nD) (t : Fin cfg0.N) (i : Fin 8) (ht : t.val / 4 = i.val) (r k : Fin 1024) : b2 m c t (ix2 r k) = g2 m c (ix2 (rowOf i r) k) := by
  have hi := index_2 t
  unfold b2 iblk
  rw [View.read_apply]
  show V m c main_arg2 _ = V m c main_arg2 _
  congr 1
  funext a
  apply Fin.ext
  match a with
  | ⟨0, _⟩ => show win0_2.index t 0 * 1024 + 1 * r.val = 1024 * i.val + r.val; rw [hi.1]; omega
  | ⟨1, _⟩ => show win0_2.index t 1 * 1024 + 1 * k.val = k.val; rw [hi.2]; omega

theorem b3_eq (c : Dev nD) (t : Fin cfg0.N) (i : Fin 8) (ht : t.val / 4 = i.val) (r k : Fin 1024) : b3 m c t (ix2 r k) = g3 m c (ix2 (rowOf i r) k) := by
  have hi := index_3 t
  unfold b3 iblk
  rw [View.read_apply]
  show V m c main_arg3 _ = V m c main_arg3 _
  congr 1
  funext a
  apply Fin.ext
  match a with
  | ⟨0, _⟩ => show win0_3.index t 0 * 1024 + 1 * r.val = 1024 * i.val + r.val; rw [hi.1]; omega
  | ⟨1, _⟩ => show win0_3.index t 1 * 1024 + 1 * k.val = k.val; rw [hi.2]; omega

theorem db_eq (c : Dev nD) (t : Fin cfg0.N) (i : Fin 8) (ht : t.val / 4 = i.val) (r k : Fin 1024) : db m c t (ix2 r k) = dh m c (ix2 (rowOf i r) k) := by
  have hi := index_5 t
  unfold db iblk
  rw [View.read_apply]
  show V m c main_arg5 _ = V m c main_arg5 _
  congr 1
  funext a
  apply Fin.ext
  match a with
  | ⟨0, _⟩ => show win0_5.index t 0 * 1024 + 1 * r.val = 1024 * i.val + r.val; rw [hi.1]; omega
  | ⟨1, _⟩ => show win0_5.index t 1 * 1024 + 1 * k.val = k.val; rw [hi.2]; omega

/-- The weights' columns of a point's piece. -/
theorem wb_eq (c : Dev nD) (t : Fin cfg0.N) (o : ℕ) (ho : 1024 * (5 + t.val % 4) = o) (h : o + 1024 ≤ 12800) (d k : Fin 1024) :
    wb m c t (ix2 d k) = ws m c (ix2 d (colOf o h k)) := by
  have hi := index_4 t
  unfold wb X0_4 Pipeline.Window.fill
  rw [dif_pos (moved0_4 t _)]
  unfold iblk
  rw [View.read_apply]
  show V m c main_arg4 _ = V m c main_arg4 _
  congr 1
  funext a
  apply Fin.ext
  match a with
  | ⟨0, _⟩ => show win0_4.index t 0 * 1024 + 1 * d.val = d.val; rw [hi.1]; omega
  | ⟨1, _⟩ => show win0_4.index t 1 * 1024 + 1 * k.val = o + k.val; rw [hi.2]; omega

/-- A point's product is its piece's sum over its columns. -/
theorem piece_eq (c : Dev nD) (t : Fin cfg0.N) (o : ℕ) (ho : 1024 * (5 + t.val % 4) = o) (h : o + 1024 ≤ 12800) (i : Fin 8)
    (x : Vec Ideal S1024x1024 .bf16) (g : FVec Ideal S8192x1024 .bf16) (hx : ∀ r k, x (ix2 r k) = g (ix2 (rowOf i r) k)) (r d : Fin 1024) :
    ∑ k : Fin 1024, x (ix2 r k) * wb m c t (ix2 d k) = columnSum g (ws m c) o h (rowOf i r) d :=
  Finset.sum_congr rfl fun k _ => by rw [hx, wb_eq m c t o ho h]

theorem acc_0 (c : Dev nD) (t : Fin cfg0.N) (i : Fin 8) (ht : t.val = 4 * i.val) (r d : Fin 1024) :
    (outsAt0 m c t.val t.isLt).2 (ix2 r d) = dh m c (ix2 (rowOf i r) d) + columnSum (g0 m c) (ws m c) 5120 (by decide) (rowOf i r) d := by
  have e : (outsAt0 m c t.val t.isLt).2 = k0_pay2 (k0_pay1 (db m c t)) (b0 m c t) (wb m c t) := by
    rw [outsAt0_A m c t (by omega) (by omega) (by omega) (by omega) (by omega) (by omega)]
    dsimp only
    exact sout_A ..
  rw [e, pay2_apply, pay1_apply, db_eq m c t i (by omega), piece_eq m c t 5120 (by omega) (by decide) i _ _ (b0_eq m c t i (by omega))]

theorem acc_1 (c : Dev nD) (t : Fin cfg0.N) (i : Fin 8) (ht : t.val = 4 * i.val + 1) (r d : Fin 1024) :
    (outsAt0 m c t.val t.isLt).2 (ix2 r d) = dh m c (ix2 (rowOf i r) d) + columnSum (g0 m c) (ws m c) 5120 (by decide) (rowOf i r) d
      + columnSum (g1 m c) (ws m c) 6144 (by decide) (rowOf i r) d := by
  have e : (outsAt0 m c t.val t.isLt).2 = k0_pay2 (outsAt0 m c (t.val - 1) (Nat.lt_of_le_of_lt (Nat.sub_le _ _) t.isLt)).2 (b1 m c t) (wb m c t) := by
    rw [outsAt0_B m c t (by omega) (by omega) (by omega) (by omega) (by omega) (by omega)]
    dsimp only
    exact sout_B ..
  rw [e, pay2_apply, piece_eq m c t 6144 (by omega) (by decide) i _ _ (b1_eq m c t i (by omega))]
  exact congrArg (· + _) (acc_0 m c ⟨t.val - 1, Nat.lt_of_le_of_lt (Nat.sub_le _ _) t.isLt⟩ i (by dsimp only; omega) r d)

theorem acc_2 (c : Dev nD) (t : Fin cfg0.N) (i : Fin 8) (ht : t.val = 4 * i.val + 2) (r d : Fin 1024) :
    (outsAt0 m c t.val t.isLt).2 (ix2 r d) = dh m c (ix2 (rowOf i r) d) + columnSum (g0 m c) (ws m c) 5120 (by decide) (rowOf i r) d
      + columnSum (g1 m c) (ws m c) 6144 (by decide) (rowOf i r) d + columnSum (g2 m c) (ws m c) 7168 (by decide) (rowOf i r) d := by
  have e : (outsAt0 m c t.val t.isLt).2 = k0_pay2 (outsAt0 m c (t.val - 1) (Nat.lt_of_le_of_lt (Nat.sub_le _ _) t.isLt)).2 (b2 m c t) (wb m c t) := by
    rw [outsAt0_C m c t (by omega) (by omega) (by omega) (by omega) (by omega) (by omega)]
    dsimp only
    exact sout_C ..
  rw [e, pay2_apply, piece_eq m c t 7168 (by omega) (by decide) i _ _ (b2_eq m c t i (by omega))]
  exact congrArg (· + _) (acc_1 m c ⟨t.val - 1, Nat.lt_of_le_of_lt (Nat.sub_le _ _) t.isLt⟩ i (by dsimp only; omega) r d)

/-- The stream's gradient. -/
def grad (c : Dev nD) : FVec Ideal S8192x1024 .f32 := fun i =>
  dh m c i + columnSum (g0 m c) (ws m c) 5120 (by decide) (i 0) (i 1)
      + columnSum (g1 m c) (ws m c) 6144 (by decide) (i 0) (i 1) + columnSum (g2 m c) (ws m c) 7168 (by decide) (i 0) (i 1)
      + columnSum (g3 m c) (ws m c) 8192 (by decide) (i 0) (i 1)

/-- After a block's last piece the result's block holds the gradient. -/
theorem out_3 (c : Dev nD) (t : Fin cfg0.N) (i : Fin 8) (ht : t.val = 4 * i.val + 3) (r d : Fin 1024) :
    (outsAt0 m c t.val t.isLt).1 (ix2 r d) = grad m c (ix2 (rowOf i r) d) := by
  have e : (outsAt0 m c t.val t.isLt).1 = k0_pay2 (outsAt0 m c (t.val - 1) (Nat.lt_of_le_of_lt (Nat.sub_le _ _) t.isLt)).2 (b3 m c t) (wb m c t) := by
    rw [outsAt0_D m c t (by omega) (by omega) (by omega) (by omega) (by omega) (by omega)]
    dsimp only
    exact out_D ..
  rw [e, pay2_apply, piece_eq m c t 8192 (by omega) (by decide) i _ _ (b3_eq m c t i (by omega))]
  exact congrArg (· + _) (acc_2 m c ⟨t.val - 1, Nat.lt_of_le_of_lt (Nat.sub_le _ _) t.isLt⟩ i (by dsimp only; omega) r d)

theorem emb6 (t : Fin cfg0.N) (i : Fin 8) (ht : t.val / 4 = i.val) (r d : Fin 1024) :
    (win0_6.blk t).view.emb (ix2 r d : S1024x1024.Idx) = (ix2 (rowOf i r) d : S8192x1024.Idx) := by
  have hi := index_6 t
  funext a
  apply Fin.ext
  match a with
  | ⟨0, _⟩ => show win0_6.index t 0 * 1024 + 1 * r.val = 1024 * i.val + r.val; rw [hi.1]; omega
  | ⟨1, _⟩ => show win0_6.index t 1 * 1024 + 1 * d.val = d.val; rw [hi.2]; omega

/-- Every row and column is written at its block's last piece. -/
theorem cover (j : S8192x1024.Idx) : ∃ (t : Fin cfg0.N) (r d : Fin 1024), t.val % 4 = 3 ∧ (win0_6.blk t).view.emb (ix2 r d : S1024x1024.Idx) = j := by
  have h0 : (j 0).val < 8192 := (j 0).isLt
  have hN : 4 * ((j 0).val / 1024) + 3 < cfg0.N := by rw [show cfg0.N = 32 from N_0]; omega
  exact ⟨⟨4 * ((j 0).val / 1024) + 3, hN⟩, ⟨(j 0).val % 1024, by omega⟩, j 1, by dsimp only; omega,
    (emb6 _ ⟨(j 0).val / 1024, by omega⟩ (by dsimp only; omega) _ _).trans ((congrArg (fun x : Fin 8192 => (ix2 x (j 1) : S8192x1024.Idx)) (row_split (j 0) _ _)).trans (eq_ix2 j).symm)⟩

theorem final (c : Dev nD) : (dats m 0 c).arrAt 6 cfg0.N = grad m c :=
  (dats m 0 c).arrAt_eq_of_cover 6 (grad m c) (fun t hf => by
    have hN : t.val < 32 := lt_of_lt_of_eq t.isLt (show cfg0.N = 32 from N_0)
    have h3 : t.val % 4 = 3 := (flush0_6 t).mp hf
    show (cfg0.win 6).cut (grid0.coords t) ((dats m 0 c).after 6 t) = _
    rw [after0_6]
    funext y
    have e : (y : S1024x1024.Idx) = ix2 (y 0) (y 1) := eq_ix2 _
    show (outsAt0 m c t.val t.isLt).1 (y : S1024x1024.Idx) = grad m c ((win0_6.blk t).view.emb y)
    rw [e]
    exact (out_3 m c t ⟨t.val / 4, by omega⟩ (by dsimp only; omega) _ _).trans (congrArg (grad m c) (emb6 t ⟨t.val / 4, by omega⟩ rfl _ _).symm)) fun j => by
      obtain ⟨t, r, d, h3, rfl⟩ := cover j
      exact ⟨t, (flush0_6 t).mpr h3, (win0_6.blk t).view.emb_mem_set _⟩

/-- The kernel's run: its result is the gradient. -/
theorem run : θ_run defs (onTc (τ := τ) (main (F := Ideal))) ⟨m, fun _ => 0, ρ⟩ (fun r => ∀ c : Dev nD,
      r.2.mem ((c.tc : Thread nD τ).loc main_v0) = grad m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 6).trans (final m c), h.2 c⟩) (θ_run_and (run_main m ρ) (unchanged m ρ))

end Cert.Kernel4Ideal.Stream

namespace Cert.Reference4Ideal

open Cert.Reference4Ideal.Read

theorem row_eq (t : Fin 8192) (d k : Fin 1024) : idx_main_v20 (lidx_main_v21 (idx_main_v28 (ix2 t d)) k) = ix2 t k :=
  funext fun a => Fin.ext (match a with
    | ⟨0, _⟩ => show (((t.val * 1024 + d.val) / 4194304 * 4096 + (t.val * 1024 + d.val) / 1024 % 4096) * 1024 + k.val) / 1024 = t.val by omega
    | ⟨1, _⟩ => show (((t.val * 1024 + d.val) / 4194304 * 4096 + (t.val * 1024 + d.val) / 1024 % 4096) * 1024 + k.val) % 1024 = k.val by omega)

theorem col_eq (o : ℕ) (h : o + 1024 ≤ 12800) (t : Fin 8192) (d k : Fin 1024) (j : S1024x12800.Idx)
    (h0 : (j 0).val = (t.val * 1024 + d.val) % 1024) (h1 : (j 1).val = o + k.val) : j = ix2 d (colOf o h k) :=
  funext fun a => Fin.ext (match a with
    | ⟨0, _⟩ => h0.trans (by show _ = d.val; omega)
    | ⟨1, _⟩ => h1)

/-- The reference's result, piece by piece. -/
theorem value (x0 x1 x2 x3 : FVec Ideal S8192x1024 .bf16) (x4 : FVec Ideal S1024x12800 .bf16) (x5 : FVec Ideal S8192x1024 .f32) (t : Fin 8192) (d : Fin 1024) :
    val_main_v29 (F := Ideal) x0 x1 x2 x3 x4 x5 (ix2 t d) = x5 (ix2 t d) + (columnSum x3 x4 8192 (by decide) t d + columnSum x2 x4 7168 (by decide) t d
      + columnSum x1 x4 6144 (by decide) t d + columnSum x0 x4 5120 (by decide) t d) := by
  rw [val_main_v29_apply, val_main_v28_apply, val_main_v27_apply, val_main_v25_apply, val_main_v23_apply, val_main_v21_apply, val_main_v22_apply, val_main_v24_apply, val_main_v26_apply]
  refine congrArg (x5 (ix2 t d) + ·) (congrArg₂ (· + ·) (congrArg₂ (· + ·) (congrArg₂ (· + ·) ?_ ?_) ?_) ?_) <;> refine Finset.sum_congr rfl fun k _ => ?_
  · rw [val_main_v20_apply, val_main_v11_apply, val_main_v3_apply]
    exact congrArg₂ (· * ·) (congrArg x3 (row_eq t d k)) (congrArg x4 (col_eq 8192 _ t d k _ rfl rfl))
  · rw [val_main_v18_apply, val_main_v9_apply, val_main_v2_apply]
    exact congrArg₂ (· * ·) (congrArg x2 (row_eq t d k)) (congrArg x4 (col_eq 7168 _ t d k _ rfl rfl))
  · rw [val_main_v16_apply, val_main_v7_apply, val_main_v1_apply]
    exact congrArg₂ (· * ·) (congrArg x1 (row_eq t d k)) (congrArg x4 (col_eq 6144 _ t d k _ rfl rfl))
  · rw [val_main_v14_apply, val_main_v5_apply, val_main_v0_apply]
    exact congrArg₂ (· * ·) (congrArg x0 (row_eq t d k)) (congrArg x4 (col_eq 5120 _ t d k _ rfl rfl))

/-- The two results are the same sum in two orders. -/
theorem reorder (h a b c d : EReal) : h + (d + c + b + a) = h + a + b + c + d := by
  rw [add_comm (d + c + b) a, add_comm (d + c) b, add_comm d c, ← add_assoc, ← add_assoc, ← add_assoc]

/-- The kernel and the reference end with the same gradient, whatever the arguments. -/
theorem equal_streams : Cert.algebraic_Kernel4Ideal_Reference4Ideal (hKernel4Ideal := Cert.Kernel4Ideal.Gen.facts)
    (hReference4Ideal := Cert.Reference4Ideal.Gen.facts) := fun m g m' g' _ heq =>
  ⟨fun c => Cert.Kernel4Ideal.Stream.grad m c, Cert.Kernel4Ideal.Stream.run m g, (θ_run Cert.Reference4Ideal.defs _ _).mono (fun r h c => by
    obtain ⟨r0, ra⟩ := h c
    refine ⟨(r0.trans (val_main_v29_eq _ _ _ _ _ _)).trans (funext fun i => (congrArg _ (eq_ix2 i)).trans ((value _ _ _ _ _ _ (i 0) (i 1)).trans ?_)), ra⟩
    rw [(heq c).1, (heq c).2.1, (heq c).2.2.1, (heq c).2.2.2.1, (heq c).2.2.2.2.1, (heq c).2.2.2.2.2, ← eq_ix2 i]
    exact reorder _ _ _ _ _) (Cert.Reference4Ideal.Value.run (F := Ideal) m' g')⟩

end Cert.Reference4Ideal

end
-- ==== Proof.Tokens.lean ====
/-
  What the calls for the wider weight gradients share: how columns are cut, and the sum over the two sequences' tokens.
-/
module

public import proofs.«01_k».proof.Proof.Weight

@[expose] public section

noncomputable section

open Idealize.ShloMosaic
open scoped BigOperators

namespace Cert

/-- Column q of the j-th block of 1024 columns. -/
def colAt (N j : ℕ) (h : 1024 * j + 1024 ≤ N) (q : Fin 1024) : Fin N := ⟨1024 * j + q.val, by omega⟩

theorem colAt_split (N : ℕ) (q : Fin N) (h : 1024 * (q.val / 1024) + 1024 ≤ N) (h' : q.val % 1024 < 1024) :
    colAt N (q.val / 1024) h ⟨q.val % 1024, h'⟩ = q :=
  Fin.ext (show 1024 * (q.val / 1024) + q.val % 1024 = q.val by omega)

/-- The sum over the two sequences is the sum over the tokens. -/
theorem sequences_sum {M : Type} [AddCommMonoid M] (f : ℕ → M) :
    ∑ b : Fin 2, ∑ s : Fin 4096, f (4096 * b.val + s.val) = ∑ t ∈ Finset.range 8192, f t := by
  rw [Fin.sum_univ_two, ← sum_block f 4096 4096, ← sum_block f 0 4096, Finset.sum_range_zero, zero_add]
  rfl

end Cert

end
-- ==== Proof.WeightMamba.lean ====
/-
  The weight gradient of the Mamba branch's 2048 columns: two blocks of columns, each a sum over four blocks of tokens.
-/
module

public import proofs.«01_k».proof.Defs
public import proofs.«01_k».proof.Proof.Tokens
public import proofs.«01_k».proof.Proof.Gen.Kernel5Ideal.Frame
public import proofs.«01_k».proof.Proof.Gen.Reference5Ideal.Run
public import proofs.«01_k».proof.Proof.Gen.Reference5Ideal.Read
public import Idealize.ShloMosaic.Lib.Pointwise
public import Idealize.ShloMosaic.Adequacy
public import Idealize.ShloMosaic.Init

@[expose] public section

noncomputable section

open Idealize.ShloMosaic Idealize.ShloMosaic.TcCoe Idealize.SL.Sem
open scoped BigOperators

namespace Cert.Kernel5Ideal.Weight

open Cert.Kernel5Ideal Cert.Kernel5Ideal.Gen

section Body

variable {F : FTy → Type} [FloatOps F]

theorem hz : (![0, 0] : Fin 2 → Nat) = fun _ => 0 := funext fun a => by fin_cases a <;> rfl

variable (c : Dev nD) (i : grid0.Coords) (a3 : Memref sig .tc .vmem S1024x2048 .bf16) (h3 : a3.IsWhole) (a4 : Memref sig .tc .vmem S2048x1024 .bf16) (h4 : a4.IsWhole)
  (a5 : Memref sig .tc .vmem S1024x1024 .bf16) (h5 : a5.IsWhole) (a6 : Memref sig .tc .vmem S1024x1024 .f32) (h6 : a6.IsWhole)
  (x : Vec F S1024x2048 .bf16) (y : Vec F S2048x1024 .bf16) (s : Vec F S1024x1024 .f32)

theorem sout_A (hc0 : cond0_0 i) (hc1 : ¬cond0_1 i) : sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x2048) hz, View.ld_unit_zero (S := S2048x1024) hz]

theorem sout_B (hc0 : ¬cond0_0 i) (hc1 : ¬cond0_1 i) : sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero hz]
  simp only [View.readAt_eq_ld, h3.read_unread, h4.read_unread, h6.read_unread, View.ld_unit_zero (S := S1024x2048) hz, View.ld_unit_zero (S := S2048x1024) hz, View.ld_unit_zero (S := S1024x1024) hz]

theorem out_C (hc0 : ¬cond0_0 i) (hc1 : cond0_1 i) : out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x2048) hz, View.ld_unit_zero (S := S2048x1024) hz, View.ld_unit_zero (S := S1024x1024) hz]

end Body

theorem pay1_apply (r c : Fin 1024) : (k0_pay1 (F := Ideal)) (ix2 r c) = 0 := by
  unfold k0_pay1
  simp only [pointwise]

theorem pay2_apply (s : Vec Ideal S1024x1024 .f32) (x : Vec Ideal S1024x2048 .bf16) (y : Vec Ideal S2048x1024 .bf16) (r c : Fin 1024) :
    k0_pay2 (F := Ideal) s x y (ix2 r c) = s (ix2 r c) + ∑ k : Fin 2048, x (ix2 r k) * y (ix2 k c) := by
  unfold k0_pay2
  simp only [pointwise, zero_add]

theorem pay3_apply (s : Vec Ideal S1024x1024 .f32) (r c : Fin 1024) : k0_pay3 (F := Ideal) s (ix2 r c) = s (ix2 r c) := rfl

variable (m : (ℓ : Loc nD τ sig) → Buf (Elt Ideal) ℓ) (ρ : Dev nD → PrngReg)

/-- The stream and the projection's gradient, as the call finds them. -/
abbrev hs (c : Dev nD) : FVec Ideal S8192x1024 .bf16 := m ((c : Thread nD τ).loc main_arg0)
abbrev gs (c : Dev nD) : FVec Ideal S8192x2048 .bf16 := m ((c : Thread nD τ).loc main_arg1)

theorem V_main_v0 (c : Dev nD) (i : Fin 1024) (j : Fin 8192) : V m c main_v0 (ix2 i j) = hs m c (ix2 j i) := by
  show transpose S1024x8192 [1, 0] _ _ (ix2 i j) = _
  exact transpose_apply [1, 0] _ _ (ix2 i j) (ix2 j i) (fun b => match b with
    | ⟨0, _⟩ => rfl
    | ⟨1, _⟩ => rfl)

theorem index_h : ∀ t : Fin cfg0.N, win0_0.index t 0 = 0 ∧ win0_0.index t 1 = t.val % 4 := by decide +kernel
theorem index_g : ∀ t : Fin cfg0.N, win0_1.index t 0 = t.val % 4 ∧ win0_1.index t 1 = t.val / 4 := by decide +kernel
theorem index_o : ∀ t : Fin cfg0.N, win0_2.index t 0 = 0 ∧ win0_2.index t 1 = t.val / 4 := by decide +kernel

/-- The blocks of a point. -/
abbrev hb (c : Dev nD) (t : Fin cfg0.N) : Vec Ideal S1024x2048 .bf16 := iblk m c 0 t
abbrev gb (c : Dev nD) (t : Fin cfg0.N) : Vec Ideal S2048x1024 .bf16 := iblk m c 1 t

theorem iblk_h (c : Dev nD) (t : Fin cfg0.N) (n : ℕ) (hn : t.val % 4 = n) (r : Fin 1024) (k : Fin 2048) (h : 2048 * n + k.val < 8192) :
    hb m c t (ix2 r k) = hs m c (ix2 ⟨2048 * n + k.val, h⟩ r) := by
  have hi := index_h t
  rw [← V_main_v0 m c r ⟨2048 * n + k.val, h⟩]
  unfold hb iblk
  rw [View.read_apply]
  show V m c main_v0 _ = V m c main_v0 _
  congr 1
  funext a
  apply Fin.ext
  match a with
  | ⟨0, _⟩ => show win0_0.index t 0 * 1024 + 1 * r.val = r.val; rw [hi.1]; omega
  | ⟨1, _⟩ => show win0_0.index t 1 * 2048 + 1 * k.val = 2048 * n + k.val; rw [hi.2]; omega

theorem iblk_g (c : Dev nD) (t : Fin cfg0.N) (n j : ℕ) (hn : t.val % 4 = n) (ht : t.val / 4 = j) (hj : 1024 * j + 1024 ≤ 2048) (k : Fin 2048) (q : Fin 1024)
    (h : 2048 * n + k.val < 8192) : gb m c t (ix2 k q) = gs m c (ix2 ⟨2048 * n + k.val, h⟩ (colAt 2048 j hj q)) := by
  have hi := index_g t
  unfold gb iblk
  rw [View.read_apply]
  show V m c main_arg1 _ = m ((c : Thread nD τ).loc main_arg1) _
  rw [V_main_arg1]
  congr 1
  funext a
  apply Fin.ext
  match a with
  | ⟨0, _⟩ => show win0_1.index t 0 * 2048 + 1 * k.val = 2048 * n + k.val; rw [hi.1]; omega
  | ⟨1, _⟩ => show win0_1.index t 1 * 1024 + 1 * q.val = 1024 * j + q.val; rw [hi.2]; omega

/-- A point's product is the sum of its tokens' terms. -/
theorem block_sum (c : Dev nD) (t : Fin cfg0.N) (n j : ℕ) (hn : n < 4) (ht : t.val = 4 * j + n) (hj : 1024 * j + 1024 ≤ 2048) (r q : Fin 1024) :
    ∑ k : Fin 2048, hb m c t (ix2 r k) * gb m c t (ix2 k q)
      = ∑ k : Fin 2048, tokenTerm (hs m c) (gs m c) r (colAt 2048 j hj q) (2048 * n + k.val) := by
  refine Finset.sum_congr rfl fun k _ => ?_
  have h : 2048 * n + k.val < 8192 := by omega
  rw [iblk_h m c t n (by omega) r k h, iblk_g m c t n j (by omega) (by omega) hj k q h, tokenTerm, dif_pos h]

theorem acc_first (c : Dev nD) (t : Fin cfg0.N) (h0 : t.val % 4 = 0) (h1 : ¬t.val % 4 = 3) :
    (outsAt0 m c t.val t.isLt).2 = k0_pay2 k0_pay1 (hb m c t) (gb m c t) := by
  rw [outsAt0_A m c t h0 h1]
  dsimp only
  exact sout_A ..

theorem acc_later (c : Dev nD) (t : Fin cfg0.N) (h0 : ¬t.val % 4 = 0) (h1 : ¬t.val % 4 = 3) :
    (outsAt0 m c t.val t.isLt).2 = k0_pay2 (outsAt0 m c (t.val - 1) (Nat.lt_of_le_of_lt (Nat.sub_le _ _) t.isLt)).2 (hb m c t) (gb m c t) := by
  rw [outsAt0_B m c t h0 h1]
  dsimp only
  exact sout_B ..

theorem out_last (c : Dev nD) (t : Fin cfg0.N) (h0 : ¬t.val % 4 = 0) (h1 : t.val % 4 = 3) :
    (outsAt0 m c t.val t.isLt).1 = k0_pay3 (k0_pay2 (outsAt0 m c (t.val - 1) (Nat.lt_of_le_of_lt (Nat.sub_le _ _) t.isLt)).2 (hb m c t) (gb m c t)) := by
  rw [outsAt0_C m c t h0 h1]
  dsimp only
  exact out_C ..

/-- After a block's points 0 to 2 the accumulator holds the sum over the tokens so far. -/
theorem acc_eq (c : Dev nD) (r q : Fin 1024) (j : ℕ) (hj : 1024 * j + 1024 ≤ 2048) (n : ℕ) : ∀ t : Fin cfg0.N, t.val = 4 * j + n → n < 3 →
    (outsAt0 m c t.val t.isLt).2 (ix2 r q) = ∑ u ∈ Finset.range (2048 * n + 2048), tokenTerm (hs m c) (gs m c) r (colAt 2048 j hj q) u := by
  induction n with
  | zero =>
    intro t ht _
    rw [acc_first m c t (by omega) (by omega), pay2_apply, pay1_apply, block_sum m c t 0 j (by omega) ht hj, ← sum_block _ (2048 * 0) 2048,
      Nat.mul_zero, Finset.sum_range_zero]
  | succ n ih =>
    intro t ht hn
    rw [acc_later m c t (by omega) (by omega), pay2_apply, block_sum m c t (n + 1) j (by omega) ht hj, ← sum_block _ (2048 * (n + 1)) 2048]
    refine congrArg (· + _) ((ih ⟨t.val - 1, Nat.lt_of_le_of_lt (Nat.sub_le _ _) t.isLt⟩ (by dsimp only; omega) (by omega)).trans ?_)
    rw [show 2048 * n + 2048 = 2048 * (n + 1) by omega]

/-- The weight's gradient. -/
def grad (c : Dev nD) : FVec Ideal S1024x2048 .bf16 := fun i =>
  ∑ t ∈ Finset.range 8192, tokenTerm (hs m c) (gs m c) (i 0) (i 1) t

/-- After a block's last point the result's block holds the sum over all the tokens. -/
theorem out_eq (c : Dev nD) (t : Fin cfg0.N) (j : ℕ) (hj : 1024 * j + 1024 ≤ 2048) (ht : t.val = 4 * j + 3) (r q : Fin 1024) :
    (outsAt0 m c t.val t.isLt).1 (ix2 r q) = grad m c (ix2 r (colAt 2048 j hj q)) := by
  rw [out_last m c t (by omega) (by omega), pay3_apply, pay2_apply, block_sum m c t 3 j (by omega) ht hj,
    acc_eq m c r q j hj 2 ⟨t.val - 1, Nat.lt_of_le_of_lt (Nat.sub_le _ _) t.isLt⟩ (by dsimp only; omega) (by omega)]
  exact sum_block _ 6144 2048

theorem emb2 (t : Fin cfg0.N) (j : ℕ) (hj : 1024 * j + 1024 ≤ 2048) (ht : t.val / 4 = j) (r q : Fin 1024) :
    (win0_2.blk t).view.emb (ix2 r q : S1024x1024.Idx) = (ix2 r (colAt 2048 j hj q) : S1024x2048.Idx) := by
  have hi := index_o t
  funext a
  apply Fin.ext
  match a with
  | ⟨0, _⟩ => show win0_2.index t 0 * 1024 + 1 * r.val = r.val; rw [hi.1]; omega
  | ⟨1, _⟩ => show win0_2.index t 1 * 1024 + 1 * q.val = 1024 * j + q.val; rw [hi.2]; omega

/-- Every column is written at its block's last point. -/
theorem cover (i : S1024x2048.Idx) : ∃ (t : Fin cfg0.N) (r q : Fin 1024), t.val % 4 = 3 ∧ (win0_2.blk t).view.emb (ix2 r q : S1024x1024.Idx) = i := by
  have h1 : (i 1).val < 2048 := (i 1).isLt
  have hN : 4 * ((i 1).val / 1024) + 3 < cfg0.N := by rw [show cfg0.N = 8 from N_0]; omega
  exact ⟨⟨4 * ((i 1).val / 1024) + 3, hN⟩, i 0, ⟨(i 1).val % 1024, by omega⟩, by dsimp only; omega,
    (emb2 _ ((i 1).val / 1024) (by omega) (by dsimp only; omega) _ _).trans
      ((congrArg (fun x : Fin 2048 => (ix2 (i 0) x : S1024x2048.Idx)) (colAt_split 2048 (i 1) _ _)).trans (eq_ix2 i).symm)⟩

/-- The result is the array whose blocks the last points leave. -/
theorem final_of (c : Dev nD) (g : FVec Ideal S1024x2048 .bf16) (hg : ∀ (t : Fin cfg0.N) (j : ℕ) (hj : 1024 * j + 1024 ≤ 2048), t.val = 4 * j + 3 →
    ∀ r q : Fin 1024, (outsAt0 m c t.val t.isLt).1 (ix2 r q) = g (ix2 r (colAt 2048 j hj q))) : (dats m 0 c).arrAt 2 cfg0.N = g :=
  (dats m 0 c).arrAt_eq_of_cover 2 g (fun t hf => by
    have hN : t.val < 8 := lt_of_lt_of_eq t.isLt (show cfg0.N = 8 from N_0)
    have h3 : t.val % 4 = 3 := (flush0_2 t).mp hf
    show (cfg0.win 2).cut (grid0.coords t) ((dats m 0 c).after 2 t) = _
    rw [after0_2]
    funext y
    have e : (y : S1024x1024.Idx) = ix2 (y 0) (y 1) := eq_ix2 _
    show (outsAt0 m c t.val t.isLt).1 (y : S1024x1024.Idx) = g ((win0_2.blk t).view.emb y)
    rw [e]
    exact (hg t (t.val / 4) (by omega) (by omega) _ _).trans (congrArg g (emb2 t (t.val / 4) (by omega) rfl _ _).symm)) fun i => by
      obtain ⟨t, r, q, h3, rfl⟩ := cover i
      exact ⟨t, (flush0_2 t).mpr h3, (win0_2.blk t).view.emb_mem_set _⟩

theorem final (c : Dev nD) : (dats m 0 c).arrAt 2 cfg0.N = grad m c := final_of m c (grad m c) (out_eq m c)

/-- The kernel's run: its result is the sum over the tokens. -/
theorem run : θ_run defs (onTc (τ := τ) (main (F := Ideal))) ⟨m, fun _ => 0, ρ⟩ (fun r => ∀ c : Dev nD,
      r.2.mem ((c.tc : Thread nD τ).loc main_v1) = grad m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (final m c), h.2 c⟩) (θ_run_and (run_main m ρ) (unchanged m ρ))

end Cert.Kernel5Ideal.Weight

namespace Cert.Reference5Ideal

open Cert.Reference5Ideal.Read

/-- The reference's result is the sum over the two sequences' tokens. -/
theorem value (x0 : FVec Ideal S8192x1024 .bf16) (x1 : FVec Ideal S8192x2048 .bf16) (r : Fin 1024) (q : Fin 2048) :
    val_main_v8 (F := Ideal) x0 x1 (ix2 r q) = ∑ t ∈ Finset.range 8192, tokenTerm x0 x1 r q t := by
  have e0 : ∀ (b : Fin 2) (s : Fin 4096) (p : 4096 * b.val + s.val < 8192), idx_main_v2 (ix3 b s r) = ix2 ⟨4096 * b.val + s.val, p⟩ r :=
    fun b s p => funext fun a => Fin.ext (match a with
    | ⟨0, _⟩ => show ((b.val * 4096 + s.val) * 1024 + r.val) / 1024 = 4096 * b.val + s.val by omega
    | ⟨1, _⟩ => show ((b.val * 4096 + s.val) * 1024 + r.val) % 1024 = r.val by omega)
  have e1 : ∀ (b : Fin 2) (s : Fin 4096) (p : 4096 * b.val + s.val < 8192), idx_main_v5 (ix3 b s q) = ix2 ⟨4096 * b.val + s.val, p⟩ q :=
    fun b s p => funext fun a => Fin.ext (match a with
    | ⟨0, _⟩ => show ((b.val * 4096 + s.val) * 2048 + q.val) / 2048 = 4096 * b.val + s.val by omega
    | ⟨1, _⟩ => show ((b.val * 4096 + s.val) * 2048 + q.val) % 2048 = q.val by omega)
  have h : val_main_v8 (F := Ideal) x0 x1 (ix2 r q) = ∑ b : Fin 2, ∑ s : Fin 4096, val_main_v5 (F := Ideal) x1 (ix3 b s q) * val_main_v2 (F := Ideal) x0 (ix3 b s r) := by
    rw [val_main_v8_apply]
    show val_main_v7 (F := Ideal) x0 x1 (ix2 r q) = _
    rw [val_main_v7_apply]
    unfold val_main_v6
    simp only [pointwise, zero_add]
    rfl
  refine (h.trans (Finset.sum_congr rfl fun b _ => Finset.sum_congr rfl fun s _ => ?_)).trans (sequences_sum (tokenTerm x0 x1 r q))
  have p : 4096 * b.val + s.val < 8192 := by omega
  rw [val_main_v5_apply, val_main_v2_apply, tokenTerm, dif_pos p, mul_comm, e0 b s p, e1 b s p]
  rfl

/-- The kernel and the reference end with the same gradient, whatever the arguments. -/
theorem equal_weights : Cert.algebraic_Kernel5Ideal_Reference5Ideal (hKernel5Ideal := Cert.Kernel5Ideal.Gen.facts)
    (hReference5Ideal := Cert.Reference5Ideal.Gen.facts) := fun m g m' g' _ heq =>
  ⟨fun c => Cert.Kernel5Ideal.Weight.grad m c, Cert.Kernel5Ideal.Weight.run m g, (θ_run Cert.Reference5Ideal.defs _ _).mono (fun r h c => by
    obtain ⟨r0, ra⟩ := h c
    refine ⟨(r0.trans (val_main_v8_eq _ _)).trans (funext fun i => (congrArg _ (eq_ix2 i)).trans ((value _ _ (i 0) (i 1)).trans ?_)), ra⟩
    rw [(heq c).1, (heq c).2]
    rfl) (Cert.Reference5Ideal.Value.run (F := Ideal) m' g')⟩

end Cert.Reference5Ideal

end
-- ==== Proof.MergeBody.lean ====
/-
  The merge of the branches on one block of 512 tokens: what the body leaves in its three results' blocks.
-/
module

public import proofs.«01_k».proof.Proof.Gen.Kernel9Ideal.Frame
public import Idealize.ShloMosaic.Lib.Pointwise

@[expose] public section

noncomputable section

open Idealize.ShloMosaic Idealize.ShloMosaic.TcCoe
open scoped BigOperators

namespace Cert.Kernel9Ideal.Merge

open Cert.Kernel9Ideal Cert.Kernel9Ideal.Gen

/-- One half, as the gates' constants spell it. -/
theorem ofBits_half : Ideal.ofBits .f32 0x3F000000#32 = ((1 / 2 : ℝ) : EReal) := by
  simp [Ideal.ofBits, Ideal.ieee, -EReal.coe_mul]; norm_num

theorem real_logistic (r : ℝ) : 1 / 2 * Real.tanh (1 / 2 * r) + 1 / 2 = 1 / (1 + Real.exp (-r)) := by
  have h : Real.exp (-r) = Real.exp (-(1 / 2 * r)) * Real.exp (-(1 / 2 * r)) := by rw [← Real.exp_add]; congr 1; ring
  have hp : 0 < Real.exp (1 / 2 * r) := Real.exp_pos _
  rw [h, Real.tanh_eq_sinh_div_cosh, Real.sinh_eq, Real.cosh_eq, Real.exp_neg]
  generalize Real.exp (1 / 2 * r) = a at hp
  have h1 : a + a⁻¹ ≠ 0 := by positivity
  have h2 : 1 + a⁻¹ * a⁻¹ ≠ 0 := by positivity
  field_simp
  ring

/-- The gate by the hyperbolic tangent of the half is the logistic function, at the infinities too. -/
theorem gate_logistic (x : EReal) : Ideal.ofBits .f32 0x3F000000#32 * Ideal.tanh (Ideal.ofBits .f32 0x3F000000#32 * x)
    + Ideal.ofBits .f32 0x3F000000#32 = Ideal.logistic x := by
  rw [ofBits_half]
  unfold Ideal.logistic
  have hh : (0 : ℝ) < 1 / 2 := by norm_num
  induction x using EReal.rec with
  | bot =>
    rw [EReal.coe_mul_bot_of_pos hh, Ideal.tanh_bot, EReal.neg_bot, Ideal.exp_top, EReal.add_top_of_ne_bot (by decide), Ideal.div, if_neg (by decide), EReal.inv_top, mul_zero]
    rw [show (-1 : EReal) = ((-1 : ℝ) : EReal) from rfl, ← EReal.coe_mul, ← EReal.coe_add]
    norm_num
  | top =>
    rw [EReal.coe_mul_top_of_pos hh, Ideal.tanh_top, EReal.neg_top, Ideal.exp_bot, add_zero, mul_one, ← EReal.coe_add]
    rw [show (1 : EReal) = ((1 : ℝ) : EReal) from rfl, Ideal.div_coe (by norm_num), ← EReal.coe_mul]
    norm_num
  | coe r =>
    have hp : 1 + Real.exp (-r) ≠ 0 := by positivity
    rw [← EReal.coe_mul, Ideal.tanh_coe, ← EReal.coe_mul, ← EReal.coe_add, real_logistic, ← EReal.coe_neg, Ideal.exp_coe,
      show (1 : EReal) = ((1 : ℝ) : EReal) from rfl, ← EReal.coe_add, Ideal.div_coe hp, ← EReal.coe_mul, one_mul]

/-- The i-th of three. -/
def pick {α : Type} (a b c : α) (i : Fin 3) : α := match i with
  | ⟨0, _⟩ => a
  | ⟨1, _⟩ => b
  | ⟨2, _⟩ => c

section Payloads

variable (v : Vec Ideal S512x1024 .bf16) (w : Vec Ideal S1x1024x1024 .bf16) (t q : Fin 512) (e : Fin 1024)

theorem pay4_apply : k0_pay4 (F := Ideal) v w (ix2 t e) = ∑ k : Fin 1024, v (ix2 t k) * w (ix3 0 k e) := by
  unfold k0_pay4
  simp only [pointwise, zero_add]

theorem pay8_apply : k0_pay8 (F := Ideal) v w (ix2 t e) = ∑ k : Fin 1024, v (ix2 t k) * w (ix3 0 k e) := pay4_apply v w t e

theorem pay12_apply : k0_pay12 (F := Ideal) v w (ix2 t e) = ∑ k : Fin 1024, v (ix2 t k) * w (ix3 0 k e) := pay4_apply v w t e

theorem addUnit_apply (u : Vec Ideal S512x1024 .bf16) (a : Fin 1) : shapeCast S1x512x1024 u shapeCasts_S512x1024_S1x512x1024 (ix3 a t e) = u (ix2 t e) := by
  refine (shapeCast_addUnit_apply _ u _ _).trans (congrArg u (funext fun a => ?_))
  match a with
  | ⟨0, _⟩ => rfl
  | ⟨1, _⟩ => rfl

theorem pay5_apply (a : Fin 1) : k0_pay5 (F := Ideal) v w (ix3 a t e) = ∑ k : Fin 1024, v (ix2 t k) * w (ix3 0 k e) :=
  (addUnit_apply t e _ a).trans (pay4_apply v w t e)

theorem pay9_apply (a : Fin 1) : k0_pay9 (F := Ideal) v w (ix3 a t e) = ∑ k : Fin 1024, v (ix2 t k) * w (ix3 0 k e) := pay5_apply v w t e a

theorem pay1_apply (a : Fin 1) : k0_pay1 (F := Ideal) (k0_pay13 v w) (ix3 a t e) = ∑ k : Fin 1024, v (ix2 t k) * w (ix3 0 k e) := pay5_apply v w t e a

theorem pay3_apply (a : Fin 1) : k0_pay3 (F := Ideal) v (ix3 a e t) = v (ix2 t e) := by
  unfold k0_pay3
  refine (shapeCast_addUnit_apply _ _ _ _).trans (transpose_apply _ _ _ _ _ (fun b => ?_))
  match b with
  | ⟨0, _⟩ => rfl
  | ⟨1, _⟩ => rfl

theorem pay7_apply (a : Fin 1) : k0_pay7 (F := Ideal) v (ix3 a e t) = v (ix2 t e) := pay3_apply v t e a

theorem pay11_apply (a : Fin 1) : k0_pay11 (F := Ideal) v (ix3 a e t) = v (ix2 t e) := pay3_apply v t e a

theorem bias_apply (b : Vec Ideal S1x1024 .f32) : broadcastTo S512x1024 b broadcasts_S1x1024_S512x1024 (ix2 t e) = b (ix2 0 e) :=
  broadcastTo_apply _ _ _ _ (fun a => match a with
    | ⟨0, _⟩ => rfl
    | ⟨1, _⟩ => rfl)

theorem pay6_apply (p : Vec Ideal S512x1024 .bf16) (b : Vec Ideal S1x1024 .f32) :
    k0_pay6 (F := Ideal) v w p b (ix2 t e) = Ideal.logistic (p (ix2 t e) + b (ix2 0 e)) * ∑ k : Fin 1024, v (ix2 t k) * w (ix3 0 k e) := by
  rw [← gate_logistic, ← bias_apply t e b, ← pay4_apply]
  unfold k0_pay6
  generalize k0_pay4 (F := Ideal) v w = y
  simp only [pointwise, zero_add]

theorem pay10_apply (u : Vec Ideal S512x1024 .f32) (p : Vec Ideal S512x1024 .bf16) (b : Vec Ideal S1x1024 .f32) :
    k0_pay10 (F := Ideal) u v w p b (ix2 t e)
      = u (ix2 t e) + Ideal.logistic (p (ix2 t e) + b (ix2 0 e)) * ∑ k : Fin 1024, v (ix2 t k) * w (ix3 0 k e) := by
  rw [← gate_logistic, ← bias_apply t e b, ← pay8_apply]
  unfold k0_pay10
  generalize k0_pay8 (F := Ideal) v w = y
  simp only [pointwise, zero_add]

theorem pay2_apply (u y x : Vec Ideal S512x1024 .f32) (p : Vec Ideal S512x1024 .bf16) (b : Vec Ideal S1x1024 .f32) (wo : Vec Ideal S1024x1024 .bf16) :
    k0_pay2 (F := Ideal) u y p b x wo (ix2 t e)
      = x (ix2 t e) + ∑ k : Fin 1024, (u (ix2 t k) + Ideal.logistic (p (ix2 t k) + b (ix2 0 k)) * y (ix2 t k)) * wo (ix2 k e) := by
  simp only [← gate_logistic, ← bias_apply t _ b]
  unfold k0_pay2
  simp only [pointwise, zero_add]

end Payloads

theorem hz : (![0, 0] : Fin 2 → Nat) = fun _ => 0 := funext fun a => by fin_cases a <;> rfl

/-- Where the slices of the stacked arrays lie. -/
theorem slab_idx (N M : ℕ) (j : Fin 3) (inb) (a : Fin 1) (r : Fin N) (q : Fin M) :
    (Rect.unit (s := ⟨3, ![3, N, M]⟩) ![j.val, 0, 0] (⟨3, ![1, N, M]⟩ : Shape).size inb).emb (ix3 a r q) = ix3 j r q := by
  funext b
  apply Fin.ext
  match b with
  | ⟨0, _⟩ => show j.val + 1 * a.val = j.val; omega
  | ⟨1, _⟩ => show 0 + 1 * r.val = r.val; omega
  | ⟨2, _⟩ => show 0 + 1 * q.val = q.val; omega

theorem row_idx (M : ℕ) (j : Fin 3) (inb) (a : Fin 1) (q : Fin M) :
    (Rect.unit (s := ⟨2, ![3, M]⟩) ![j.val, 0] (⟨2, ![1, M]⟩ : Shape).size inb).emb (ix2 a q) = ix2 j q := by
  funext b
  apply Fin.ext
  match b with
  | ⟨0, _⟩ => show j.val + 1 * a.val = j.val; omega
  | ⟨1, _⟩ => show 0 + 1 * q.val = q.val; omega

section Body

variable (c : Dev nD) (i : grid0.Coords)
  (a1 : Memref sig .tc .vmem S512x1024 .bf16) (h1 : a1.IsWhole) (a2 : Memref sig .tc .vmem S512x1024 .bf16) (h2 : a2.IsWhole) (a3 : Memref sig .tc .vmem S512x1024 .bf16) (h3 : a3.IsWhole)
  (a4 : Memref sig .tc .vmem S512x1024 .bf16) (h4 : a4.IsWhole) (a5 : Memref sig .tc .vmem S512x1024 .bf16) (h5 : a5.IsWhole) (a6 : Memref sig .tc .vmem S512x1024 .bf16) (h6 : a6.IsWhole)
  (a7 : Memref sig .tc .vmem S3x1024 .f32) (h7 : a7.IsWhole) (a8 : Memref sig .tc .vmem S3x1024x1024 .bf16) (h8 : a8.IsWhole) (a9 : Memref sig .tc .vmem S1024x1024 .bf16) (h9 : a9.IsWhole)
  (a10 : Memref sig .tc .vmem S512x1024 .f32) (h10 : a10.IsWhole) (a11 : Memref sig .tc .vmem S512x1024 .f32) (h11 : a11.IsWhole) (a12 : Memref sig .tc .vmem S3x512x1024 .bf16) (h12 : a12.IsWhole)
  (a13 : Memref sig .tc .vmem S3x1024x512 .bf16) (h13 : a13.IsWhole)
  (x0 x1 x2 x3 x4 x5 : Vec Ideal S512x1024 .bf16) (x6 : Vec Ideal S3x1024 .f32) (x7 : Vec Ideal S3x1024x1024 .bf16)
  (x8 : Vec Ideal S1024x1024 .bf16) (x9 : Vec Ideal S512x1024 .f32)

/-- A branch's projection on a block. -/
def blockBranch (y : Vec Ideal S512x1024 .bf16) (j : Fin 3) (t : Fin 512) (q : Fin 1024) : EReal :=
  ∑ k : Fin 1024, y (ix2 t k) * x7 (ix3 j k q)

/-- A branch's gate on a block. -/
def blockGate (p : Vec Ideal S512x1024 .bf16) (j : Fin 3) (t : Fin 512) (q : Fin 1024) : EReal :=
  Ideal.logistic (p (ix2 t q) + x6 (ix2 j q))

theorem slab_sum (y : Vec Ideal S512x1024 .bf16) (j : Fin 3) (inb) (t : Fin 512) (q : Fin 1024) :
    ∑ k : Fin 1024, y (ix2 t k) * View.ld x7 (Rect.unit (s := S3x1024x1024) ![j.val, 0, 0] S1x1024x1024.size inb) (ix3 0 k q) = blockBranch x7 y j t q :=
  Finset.sum_congr rfl fun k _ => congrArg (fun z => y (ix2 t k) * x7 z) (slab_idx 1024 1024 j inb 0 k q)

theorem row_gate (p : Vec Ideal S512x1024 .bf16) (j : Fin 3) (inb) (t : Fin 512) (q : Fin 1024) :
    Ideal.logistic (p (ix2 t q) + View.ld x6 (Rect.unit (s := S3x1024) ![j.val, 0] S1x1024.size inb) (ix2 0 q)) = blockGate x6 p j t q :=
  congrArg (fun z => Ideal.logistic (p (ix2 t q) + x6 z)) (row_idx 1024 j inb 0 q)

theorem out_11 (y : S3x512x1024.Idx) : out0_A_11 c i a1 h1 a2 h2 a3 h3 a4 h4 a5 h5 a6 h6 a7 h7 a8 h8 a9 h9 a10 h10 a11 h11 a12 h12 a13 h13 x0 x1 x2 x3 x4 x5 x6 x7 x8 x9 y
    = blockBranch x7 (pick x0 x1 x2 (y 0)) (y 0) (y 1) (y 2) := by
  have hc := cover0_A_11 c i a1 h1 a2 h2 a3 h3 a4 h4 a5 h5 a6 h6 a7 h7 a8 h8 a9 h9 a10 h10 a11 h11 a12 h12 a13 h13 x0 x1 x2 x3 x4 x5 x6 x7 x8 x9
  unfold out0_A_11
  rw [View.read_writes_eq_canon _ _ _ hc]
  refine View.canon_apply_of_pieces (fun y : S3x512x1024.Idx => blockBranch x7 (pick x0 x1 x2 (y 0)) (y 0) (y 1) (y 2)) _ ?_ y (hc y)
  unfold kernelRun0_A
  dsimp only
  sl_unfold_words
  simp only [View.readAt_eq_ld, h1.read_unread, h2.read_unread, h3.read_unread, h8.read_unread, View.ld_unit_zero (S := S512x1024) hz]
  intro p hp
  rcases List.mem_cons.mp hp with rfl | hp
  · intro x
    obtain ⟨a, r, q, rfl⟩ : ∃ (a : Fin 1) (r : Fin 512) (q : Fin 1024), (x : S1x512x1024.Idx) = ix3 a r q := ⟨x 0, x 1, x 2, eq_ix3 _⟩
    exact ((pay1_apply _ _ _ _ _).trans (slab_sum x7 x2 2 inb_S3x1024x1024_S1x1024x1024_2_0_0 r q)).trans
      (congrArg (fun y : S3x512x1024.Idx => blockBranch x7 (pick x0 x1 x2 (y 0)) (y 0) (y 1) (y 2)) (slab_idx 512 1024 2 inb_S3x512x1024_S1x512x1024_2_0_0 a r q)).symm
  rcases List.mem_cons.mp hp with rfl | hp
  · intro x
    obtain ⟨a, r, q, rfl⟩ : ∃ (a : Fin 1) (r : Fin 512) (q : Fin 1024), (x : S1x512x1024.Idx) = ix3 a r q := ⟨x 0, x 1, x 2, eq_ix3 _⟩
    exact ((pay9_apply _ _ _ _ _).trans (slab_sum x7 x1 1 inb_S3x1024x1024_S1x1024x1024_1_0_0 r q)).trans
      (congrArg (fun y : S3x512x1024.Idx => blockBranch x7 (pick x0 x1 x2 (y 0)) (y 0) (y 1) (y 2)) (slab_idx 512 1024 1 inb_S3x512x1024_S1x512x1024_1_0_0 a r q)).symm
  rcases List.mem_cons.mp hp with rfl | hp
  · intro x
    obtain ⟨a, r, q, rfl⟩ : ∃ (a : Fin 1) (r : Fin 512) (q : Fin 1024), (x : S1x512x1024.Idx) = ix3 a r q := ⟨x 0, x 1, x 2, eq_ix3 _⟩
    exact ((pay5_apply _ _ _ _ _).trans (slab_sum x7 x0 0 inb_S3x1024x1024_S1x1024x1024_0_0_0 r q)).trans
      (congrArg (fun y : S3x512x1024.Idx => blockBranch x7 (pick x0 x1 x2 (y 0)) (y 0) (y 1) (y 2)) (slab_idx 512 1024 0 inb_S3x512x1024_S1x512x1024_0_0_0 a r q)).symm
  · exact absurd hp List.not_mem_nil

theorem out_12 (y : S3x1024x512.Idx) : out0_A_12 c i a1 h1 a2 h2 a3 h3 a4 h4 a5 h5 a6 h6 a7 h7 a8 h8 a9 h9 a10 h10 a11 h11 a12 h12 a13 h13 x0 x1 x2 x3 x4 x5 x6 x7 x8 x9 y
    = pick x0 x1 x2 (y 0) (ix2 (y 2) (y 1)) := by
  have hc := cover0_A_12 c i a1 h1 a2 h2 a3 h3 a4 h4 a5 h5 a6 h6 a7 h7 a8 h8 a9 h9 a10 h10 a11 h11 a12 h12 a13 h13 x0 x1 x2 x3 x4 x5 x6 x7 x8 x9
  unfold out0_A_12
  rw [View.read_writes_eq_canon _ _ _ hc]
  refine View.canon_apply_of_pieces (fun y : S3x1024x512.Idx => pick x0 x1 x2 (y 0) (ix2 (y 2) (y 1))) _ ?_ y (hc y)
  unfold kernelRun0_A
  dsimp only
  sl_unfold_words
  simp only [View.readAt_eq_ld, h1.read_unread, h2.read_unread, h3.read_unread, View.ld_unit_zero (S := S512x1024) hz]
  intro p hp
  rcases List.mem_cons.mp hp with rfl | hp
  · intro x
    obtain ⟨a, r, q, rfl⟩ : ∃ (a : Fin 1) (r : Fin 1024) (q : Fin 512), (x : S1x1024x512.Idx) = ix3 a r q := ⟨x 0, x 1, x 2, eq_ix3 _⟩
    exact (pay11_apply x2 q r a).trans (congrArg (fun y : S3x1024x512.Idx => pick x0 x1 x2 (y 0) (ix2 (y 2) (y 1))) (slab_idx 1024 512 2 inb_S3x1024x512_S1x1024x512_2_0_0 a r q)).symm
  rcases List.mem_cons.mp hp with rfl | hp
  · intro x
    obtain ⟨a, r, q, rfl⟩ : ∃ (a : Fin 1) (r : Fin 1024) (q : Fin 512), (x : S1x1024x512.Idx) = ix3 a r q := ⟨x 0, x 1, x 2, eq_ix3 _⟩
    exact (pay7_apply x1 q r a).trans (congrArg (fun y : S3x1024x512.Idx => pick x0 x1 x2 (y 0) (ix2 (y 2) (y 1))) (slab_idx 1024 512 1 inb_S3x1024x512_S1x1024x512_1_0_0 a r q)).symm
  rcases List.mem_cons.mp hp with rfl | hp
  · intro x
    obtain ⟨a, r, q, rfl⟩ : ∃ (a : Fin 1) (r : Fin 1024) (q : Fin 512), (x : S1x1024x512.Idx) = ix3 a r q := ⟨x 0, x 1, x 2, eq_ix3 _⟩
    exact (pay3_apply x0 q r a).trans (congrArg (fun y : S3x1024x512.Idx => pick x0 x1 x2 (y 0) (ix2 (y 2) (y 1))) (slab_idx 1024 512 0 inb_S3x1024x512_S1x1024x512_0_0_0 a r q)).symm
  · exact absurd hp List.not_mem_nil

/-- The gated sum of the three branches on a block. -/
def blockMerged (t : Fin 512) (q : Fin 1024) : EReal :=
  ∑ j : Fin 3, blockGate x6 (pick x3 x4 x5 j) j t q * blockBranch x7 (pick x0 x1 x2 j) j t q

theorem out_10 (t : Fin 512) (e : Fin 1024) : out0_A_10 c i a1 h1 a2 h2 a3 h3 a4 h4 a5 h5 a6 h6 a7 h7 a8 h8 a9 h9 a10 h10 a11 h11 a12 h12 a13 h13 x0 x1 x2 x3 x4 x5 x6 x7 x8 x9 (ix2 t e)
    = x9 (ix2 t e) + ∑ q : Fin 1024, blockMerged x0 x1 x2 x3 x4 x5 x6 x7 t q * x8 (ix2 q e) := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 x0 x1 x2 x3 x4 x5 x6 x7 x8 x9)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread,
    h10.read_unread, View.ld_unit_zero (S := S512x1024) hz, View.ld_unit_zero (S := S1024x1024) hz]
  rw [pay2_apply]
  refine congrArg (_ + ·) (Finset.sum_congr rfl fun q _ => congrArg (· * _) ?_)
  rw [pay10_apply, pay6_apply, pay12_apply]
  unfold blockMerged
  rw [Fin.sum_univ_three]
  exact congrArg₂ (· + ·) (congrArg₂ (· + ·) (congrArg₂ (· * ·) (row_gate x6 x3 0 inb_S3x1024_S1x1024_0_0 t q) (slab_sum x7 x0 0 inb_S3x1024x1024_S1x1024x1024_0_0_0 t q))
    (congrArg₂ (· * ·) (row_gate x6 x4 1 inb_S3x1024_S1x1024_1_0 t q) (slab_sum x7 x1 1 inb_S3x1024x1024_S1x1024x1024_1_0_0 t q))) (congrArg₂ (· * ·) (row_gate x6 x5 2 inb_S3x1024_S1x1024_2_0 t q) (slab_sum x7 x2 2 inb_S3x1024x1024_S1x1024x1024_2_0_0 t q))

end Body

end Cert.Kernel9Ideal.Merge

end
-- ==== Proof.Merge.lean ====
/-
  The merge of the branches: each branch's projection, the gates, their gated sum's projection added to the input, and the branches turned.
-/
module

public import proofs.«01_k».proof.Defs
public import proofs.«01_k».proof.Proof.MergeBody
public import proofs.«01_k».proof.Proof.Gen.Kernel9Ideal.Frame
public import proofs.«01_k».proof.Proof.Gen.Reference9Ideal.Run
public import proofs.«01_k».proof.Proof.Gen.Reference9Ideal.Read
public import Idealize.ShloMosaic.Lib.Pointwise
public import Idealize.ShloMosaic.Adequacy
public import Idealize.ShloMosaic.Init

@[expose] public section

noncomputable section

open Idealize.ShloMosaic Idealize.ShloMosaic.TcCoe Idealize.SL.Sem
open scoped BigOperators

namespace Cert.Merge

open Cert.Kernel9Ideal.Merge (pick)

/-- The column of the projections that holds gate j's channel q. -/
def gateCol (j : Fin 3) (q : Fin 1024) : Fin 12800 := ⟨9216 + 1024 * j.val + q.val, by omega⟩

section

variable (y0 y1 y2 y : FVec Ideal ⟨2, ![8192, 1024]⟩ .bf16) (p : FVec Ideal ⟨2, ![8192, 12800]⟩ .bf16) (gb : FVec Ideal ⟨2, ![3, 1024]⟩ .f32)
  (wp : FVec Ideal ⟨3, ![3, 1024, 1024]⟩ .bf16) (wo : FVec Ideal ⟨2, ![1024, 1024]⟩ .bf16) (x : FVec Ideal ⟨2, ![8192, 1024]⟩ .f32)

/-- A token's projection by branch j's weight. -/
def branchAt (j : Fin 3) (t : Fin 8192) (q : Fin 1024) : EReal := ∑ k : Fin 1024, y (ix2 t k) * wp (ix3 j k q)

/-- A token's gate for branch j. -/
def gateAt (j : Fin 3) (t : Fin 8192) (q : Fin 1024) : EReal := Ideal.logistic (p (ix2 t (gateCol j q)) + gb (ix2 j q))

/-- The gated sum of a token's three branches. -/
def mergedAt (t : Fin 8192) (q : Fin 1024) : EReal := ∑ j : Fin 3, gateAt p gb j t q * branchAt (pick y0 y1 y2 j) wp j t q

/-- The layer's output: the input plus the merged branches' projection. -/
def output : FVec Ideal ⟨2, ![8192, 1024]⟩ .f32 := fun i =>
  x (ix2 (i 0) (i 1)) + ∑ q : Fin 1024, mergedAt y0 y1 y2 p gb wp (i 0) q * wo (ix2 q (i 1))

/-- The three branches' projections. -/
def branches : FVec Ideal ⟨3, ![3, 8192, 1024]⟩ .bf16 := fun i => branchAt (pick y0 y1 y2 (i 0)) wp (i 0) (i 1) (i 2)

/-- The three branches, channels before tokens. -/
def turned : FVec Ideal ⟨3, ![3, 1024, 8192]⟩ .bf16 := fun i => pick y0 y1 y2 (i 0) (ix2 (i 2) (i 1))

end

end Cert.Merge

namespace Cert.Kernel9Ideal.Merge

open Cert.Kernel9Ideal Cert.Kernel9Ideal.Gen Cert.Merge

variable (m : (ℓ : Loc nD τ sig) → Buf (Elt Ideal) ℓ) (ρ : Dev nD → PrngReg)

/-- The call's arguments, as it finds them. -/
abbrev ya (c : Dev nD) : FVec Ideal S8192x1024 .bf16 := m ((c : Thread nD τ).loc main_arg0)
abbrev yb (c : Dev nD) : FVec Ideal S8192x1024 .bf16 := m ((c : Thread nD τ).loc main_arg1)
abbrev yc (c : Dev nD) : FVec Ideal S8192x1024 .bf16 := m ((c : Thread nD τ).loc main_arg2)
abbrev pr (c : Dev nD) : FVec Ideal S8192x12800 .bf16 := m ((c : Thread nD τ).loc main_arg3)
abbrev gb (c : Dev nD) : FVec Ideal S3x1024 .f32 := m ((c : Thread nD τ).loc main_arg4)
abbrev wp (c : Dev nD) : FVec Ideal S3x1024x1024 .bf16 := m ((c : Thread nD τ).loc main_arg5)
abbrev wo (c : Dev nD) : FVec Ideal S1024x1024 .bf16 := m ((c : Thread nD τ).loc main_arg6)
abbrev xs (c : Dev nD) : FVec Ideal S8192x1024 .f32 := m ((c : Thread nD τ).loc main_arg7)

theorem point_lt (t : Fin cfg0.N) : t.val < 16 := lt_of_lt_of_eq t.isLt (show cfg0.N = 16 from N_0)

/-- The token of row r of point t's blocks. -/
def tok (t : Fin cfg0.N) (r : Fin 512) : Fin 8192 := ⟨512 * t.val + r.val, by have := point_lt t; omega⟩

theorem index_0 : ∀ t : Fin cfg0.N, win0_0.index t 0 = t.val ∧ win0_0.index t 1 = 0 := by decide +kernel
theorem index_1 : ∀ t : Fin cfg0.N, win0_1.index t 0 = t.val ∧ win0_1.index t 1 = 0 := by decide +kernel
theorem index_2 : ∀ t : Fin cfg0.N, win0_2.index t 0 = t.val ∧ win0_2.index t 1 = 0 := by decide +kernel
theorem index_3 : ∀ t : Fin cfg0.N, win0_3.index t 0 = t.val ∧ win0_3.index t 1 = 9 := by decide +kernel
theorem index_4 : ∀ t : Fin cfg0.N, win0_4.index t 0 = t.val ∧ win0_4.index t 1 = 10 := by decide +kernel
theorem index_5 : ∀ t : Fin cfg0.N, win0_5.index t 0 = t.val ∧ win0_5.index t 1 = 11 := by decide +kernel
theorem index_6 : ∀ t : Fin cfg0.N, win0_6.index t 0 = 0 ∧ win0_6.index t 1 = 0 := by decide +kernel
theorem index_7 : ∀ t : Fin cfg0.N, win0_7.index t 0 = 0 ∧ win0_7.index t 1 = 0 ∧ win0_7.index t 2 = 0 := by decide +kernel
theorem index_8 : ∀ t : Fin cfg0.N, win0_8.index t 0 = 0 ∧ win0_8.index t 1 = 0 := by decide +kernel
theorem index_9 : ∀ t : Fin cfg0.N, win0_9.index t 0 = t.val ∧ win0_9.index t 1 = 0 := by decide +kernel
theorem index_10 : ∀ t : Fin cfg0.N, win0_10.index t 0 = t.val ∧ win0_10.index t 1 = 0 := by decide +kernel
theorem index_11 : ∀ t : Fin cfg0.N, win0_11.index t 0 = 0 ∧ win0_11.index t 1 = t.val ∧ win0_11.index t 2 = 0 := by decide +kernel
theorem index_12 : ∀ t : Fin cfg0.N, win0_12.index t 0 = 0 ∧ win0_12.index t 1 = 0 ∧ win0_12.index t 2 = t.val := by decide +kernel

theorem iblk_0 (c : Dev nD) (t : Fin cfg0.N) (r : Fin 512) (q : Fin 1024) : (iblk m c 0 t : Vec Ideal S512x1024 .bf16) (ix2 r q) = ya m c (ix2 (tok t r) q) := by
  have hi := index_0 t
  unfold iblk
  rw [View.read_apply]
  show V m c main_arg0 _ = m ((c : Thread nD τ).loc main_arg0) _
  rw [V_main_arg0]
  congr 1
  funext a
  apply Fin.ext
  match a with
  | ⟨0, _⟩ => show win0_0.index t 0 * 512 + 1 * r.val = 512 * t.val + r.val; rw [hi.1]; omega
  | ⟨1, _⟩ => show win0_0.index t 1 * 1024 + 1 * q.val = q.val; rw [hi.2]; omega

theorem iblk_1 (c : Dev nD) (t : Fin cfg0.N) (r : Fin 512) (q : Fin 1024) : (iblk m c 1 t : Vec Ideal S512x1024 .bf16) (ix2 r q) = yb m c (ix2 (tok t r) q) := by
  have hi := index_1 t
  unfold iblk
  rw [View.read_apply]
  show V m c main_arg1 _ = m ((c : Thread nD τ).loc main_arg1) _
  rw [V_main_arg1]
  congr 1
  funext a
  apply Fin.ext
  match a with
  | ⟨0, _⟩ => show win0_1.index t 0 * 512 + 1 * r.val = 512 * t.val + r.val; rw [hi.1]; omega
  | ⟨1, _⟩ => show win0_1.index t 1 * 1024 + 1 * q.val = q.val; rw [hi.2]; omega

theorem iblk_2 (c : Dev nD) (t : Fin cfg0.N) (r : Fin 512) (q : Fin 1024) : (iblk m c 2 t : Vec Ideal S512x1024 .bf16) (ix2 r q) = yc m c (ix2 (tok t r) q) := by
  have hi := index_2 t
  unfold iblk
  rw [View.read_apply]
  show V m c main_arg2 _ = m ((c : Thread nD τ).loc main_arg2) _
  rw [V_main_arg2]
  congr 1
  funext a
  apply Fin.ext
  match a with
  | ⟨0, _⟩ => show win0_2.index t 0 * 512 + 1 * r.val = 512 * t.val + r.val; rw [hi.1]; omega
  | ⟨1, _⟩ => show win0_2.index t 1 * 1024 + 1 * q.val = q.val; rw [hi.2]; omega

theorem iblk_3 (c : Dev nD) (t : Fin cfg0.N) (r : Fin 512) (q : Fin 1024) : (X0_3 m c t : Vec Ideal S512x1024 .bf16) (ix2 r q) = pr m c (ix2 (tok t r) (gateCol 0 q)) := by
  have hi := index_3 t
  unfold X0_3 Pipeline.Window.fill
  rw [dif_pos (moved0_3 t _)]
  unfold iblk
  rw [View.read_apply]
  show V m c main_arg3 _ = m ((c : Thread nD τ).loc main_arg3) _
  rw [V_main_arg3]
  congr 1
  funext a
  apply Fin.ext
  match a with
  | ⟨0, _⟩ => show win0_3.index t 0 * 512 + 1 * r.val = 512 * t.val + r.val; rw [hi.1]; omega
  | ⟨1, _⟩ => show win0_3.index t 1 * 1024 + 1 * q.val = 9216 + 1024 * 0 + q.val; rw [hi.2]; omega

theorem iblk_4 (c : Dev nD) (t : Fin cfg0.N) (r : Fin 512) (q : Fin 1024) : (X0_4 m c t : Vec Ideal S512x1024 .bf16) (ix2 r q) = pr m c (ix2 (tok t r) (gateCol 1 q)) := by
  have hi := index_4 t
  unfold X0_4 Pipeline.Window.fill
  rw [dif_pos (moved0_4 t _)]
  unfold iblk
  rw [View.read_apply]
  show V m c main_arg3 _ = m ((c : Thread nD τ).loc main_arg3) _
  rw [V_main_arg3]
  congr 1
  funext a
  apply Fin.ext
  match a with
  | ⟨0, _⟩ => show win0_4.index t 0 * 512 + 1 * r.val = 512 * t.val + r.val; rw [hi.1]; omega
  | ⟨1, _⟩ => show win0_4.index t 1 * 1024 + 1 * q.val = 9216 + 1024 * 1 + q.val; rw [hi.2]; omega

theorem iblk_5 (c : Dev nD) (t : Fin cfg0.N) (r : Fin 512) (q : Fin 1024) : (X0_5 m c t : Vec Ideal S512x1024 .bf16) (ix2 r q) = pr m c (ix2 (tok t r) (gateCol 2 q)) := by
  have hi := index_5 t
  unfold X0_5 Pipeline.Window.fill
  rw [dif_pos (moved0_5 t _)]
  unfold iblk
  rw [View.read_apply]
  show V m c main_arg3 _ = m ((c : Thread nD τ).loc main_arg3) _
  rw [V_main_arg3]
  congr 1
  funext a
  apply Fin.ext
  match a with
  | ⟨0, _⟩ => show win0_5.index t 0 * 512 + 1 * r.val = 512 * t.val + r.val; rw [hi.1]; omega
  | ⟨1, _⟩ => show win0_5.index t 1 * 1024 + 1 * q.val = 9216 + 1024 * 2 + q.val; rw [hi.2]; omega

theorem iblk_6 (c : Dev nD) (t : Fin cfg0.N) (j : Fin 3) (q : Fin 1024) : (iblk m c 6 t : Vec Ideal S3x1024 .f32) (ix2 j q) = gb m c (ix2 j q) := by
  have hi := index_6 t
  unfold iblk
  rw [View.read_apply]
  show V m c main_arg4 _ = m ((c : Thread nD τ).loc main_arg4) _
  rw [V_main_arg4]
  congr 1
  funext a
  apply Fin.ext
  match a with
  | ⟨0, _⟩ => show win0_6.index t 0 * 3 + 1 * j.val = j.val; rw [hi.1]; omega
  | ⟨1, _⟩ => show win0_6.index t 1 * 1024 + 1 * q.val = q.val; rw [hi.2]; omega

theorem iblk_7 (c : Dev nD) (t : Fin cfg0.N) (j : Fin 3) (k q : Fin 1024) : (iblk m c 7 t : Vec Ideal S3x1024x1024 .bf16) (ix3 j k q) = wp m c (ix3 j k q) := by
  have hi := index_7 t
  unfold iblk
  rw [View.read_apply]
  show V m c main_arg5 _ = m ((c : Thread nD τ).loc main_arg5) _
  rw [V_main_arg5]
  congr 1
  funext a
  apply Fin.ext
  match a with
  | ⟨0, _⟩ => show win0_7.index t 0 * 3 + 1 * j.val = j.val; rw [hi.1]; omega
  | ⟨1, _⟩ => show win0_7.index t 1 * 1024 + 1 * k.val = k.val; rw [hi.2.1]; omega
  | ⟨2, _⟩ => show win0_7.index t 2 * 1024 + 1 * q.val = q.val; rw [hi.2.2]; omega

theorem iblk_8 (c : Dev nD) (t : Fin cfg0.N) (k q : Fin 1024) : (iblk m c 8 t : Vec Ideal S1024x1024 .bf16) (ix2 k q) = wo m c (ix2 k q) := by
  have hi := index_8 t
  unfold iblk
  rw [View.read_apply]
  show V m c main_arg6 _ = m ((c : Thread nD τ).loc main_arg6) _
  rw [V_main_arg6]
  congr 1
  funext a
  apply Fin.ext
  match a with
  | ⟨0, _⟩ => show win0_8.index t 0 * 1024 + 1 * k.val = k.val; rw [hi.1]; omega
  | ⟨1, _⟩ => show win0_8.index t 1 * 1024 + 1 * q.val = q.val; rw [hi.2]; omega

theorem iblk_9 (c : Dev nD) (t : Fin cfg0.N) (r : Fin 512) (q : Fin 1024) : (iblk m c 9 t : Vec Ideal S512x1024 .f32) (ix2 r q) = xs m c (ix2 (tok t r) q) := by
  have hi := index_9 t
  unfold iblk
  rw [View.read_apply]
  show V m c main_arg7 _ = m ((c : Thread nD τ).loc main_arg7) _
  rw [V_main_arg7]
  congr 1
  funext a
  apply Fin.ext
  match a with
  | ⟨0, _⟩ => show win0_9.index t 0 * 512 + 1 * r.val = 512 * t.val + r.val; rw [hi.1]; omega
  | ⟨1, _⟩ => show win0_9.index t 1 * 1024 + 1 * q.val = q.val; rw [hi.2]; omega

/-- Branch j's block, and its gate's. -/
theorem pick_y (c : Dev nD) (t : Fin cfg0.N) (j : Fin 3) (r : Fin 512) (q : Fin 1024) :
    (pick (iblk m c 0 t : Vec Ideal S512x1024 .bf16) (iblk m c 1 t) (iblk m c 2 t) j) (ix2 r q) = pick (ya m c) (yb m c) (yc m c) j (ix2 (tok t r) q) :=
  match j with
  | ⟨0, _⟩ => iblk_0 m c t r q
  | ⟨1, _⟩ => iblk_1 m c t r q
  | ⟨2, _⟩ => iblk_2 m c t r q

theorem pick_p (c : Dev nD) (t : Fin cfg0.N) (j : Fin 3) (r : Fin 512) (q : Fin 1024) :
    (pick (X0_3 m c t : Vec Ideal S512x1024 .bf16) (X0_4 m c t) (X0_5 m c t) j) (ix2 r q) = pr m c (ix2 (tok t r) (gateCol j q)) :=
  match j with
  | ⟨0, _⟩ => iblk_3 m c t r q
  | ⟨1, _⟩ => iblk_4 m c t r q
  | ⟨2, _⟩ => iblk_5 m c t r q

theorem branch_eq (c : Dev nD) (t : Fin cfg0.N) (j : Fin 3) (r : Fin 512) (q : Fin 1024) :
    blockBranch (iblk m c 7 t) (pick (iblk m c 0 t : Vec Ideal S512x1024 .bf16) (iblk m c 1 t) (iblk m c 2 t) j) j r q
      = branchAt (pick (ya m c) (yb m c) (yc m c) j) (wp m c) j (tok t r) q :=
  Finset.sum_congr rfl fun k _ => congrArg₂ (· * ·) (pick_y m c t j r k) (iblk_7 m c t j k q)

theorem gate_eq (c : Dev nD) (t : Fin cfg0.N) (j : Fin 3) (r : Fin 512) (q : Fin 1024) :
    blockGate (iblk m c 6 t) (pick (X0_3 m c t : Vec Ideal S512x1024 .bf16) (X0_4 m c t) (X0_5 m c t) j) j r q = gateAt (pr m c) (gb m c) j (tok t r) q :=
  congrArg Ideal.logistic (congrArg₂ (· + ·) (pick_p m c t j r q) (iblk_6 m c t j q))

/-- The three results. -/
def res0 (c : Dev nD) : FVec Ideal S8192x1024 .f32 := output (ya m c) (yb m c) (yc m c) (pr m c) (gb m c) (wp m c) (wo m c) (xs m c)
def res1 (c : Dev nD) : FVec Ideal S3x8192x1024 .bf16 := branches (ya m c) (yb m c) (yc m c) (wp m c)
def res2 (c : Dev nD) : FVec Ideal S3x1024x8192 .bf16 := turned (ya m c) (yb m c) (yc m c)

theorem out0_eq (c : Dev nD) (t : Fin cfg0.N) (r : Fin 512) (e : Fin 1024) : (outsAt0 m c t).1 (ix2 r e) = res0 m c (ix2 (tok t r) e) := by
  unfold outsAt0
  dsimp only
  rw [out_10]
  exact congrArg₂ (· + ·) (iblk_9 m c t r e) (Finset.sum_congr rfl fun q _ => congrArg₂ (· * ·)
    (Finset.sum_congr rfl fun j _ => congrArg₂ (· * ·) (gate_eq m c t j r q) (branch_eq m c t j r q)) (iblk_8 m c t q e))

theorem out1_eq (c : Dev nD) (t : Fin cfg0.N) (j : Fin 3) (r : Fin 512) (q : Fin 1024) : (outsAt0 m c t).2.1 (ix3 j r q) = res1 m c (ix3 j (tok t r) q) := by
  unfold outsAt0
  dsimp only
  rw [out_11]
  exact branch_eq m c t j r q

theorem out2_eq (c : Dev nD) (t : Fin cfg0.N) (j : Fin 3) (k : Fin 1024) (r : Fin 512) : (outsAt0 m c t).2.2 (ix3 j k r) = res2 m c (ix3 j k (tok t r)) := by
  unfold outsAt0
  dsimp only
  rw [out_12]
  exact pick_y m c t j r k

theorem emb10 (t : Fin cfg0.N) (r : Fin 512) (q : Fin 1024) : (win0_10.blk t).view.emb (ix2 r q : S512x1024.Idx) = (ix2 (tok t r) q : S8192x1024.Idx) := by
  have hi := index_10 t
  funext a
  apply Fin.ext
  match a with
  | ⟨0, _⟩ => show win0_10.index t 0 * 512 + 1 * r.val = 512 * t.val + r.val; rw [hi.1]; omega
  | ⟨1, _⟩ => show win0_10.index t 1 * 1024 + 1 * q.val = q.val; rw [hi.2]; omega

theorem emb11 (t : Fin cfg0.N) (j : Fin 3) (r : Fin 512) (q : Fin 1024) :
    (win0_11.blk t).view.emb (ix3 j r q : S3x512x1024.Idx) = (ix3 j (tok t r) q : S3x8192x1024.Idx) := by
  have hi := index_11 t
  funext a
  apply Fin.ext
  match a with
  | ⟨0, _⟩ => show win0_11.index t 0 * 3 + 1 * j.val = j.val; rw [hi.1]; omega
  | ⟨1, _⟩ => show win0_11.index t 1 * 512 + 1 * r.val = 512 * t.val + r.val; rw [hi.2.1]; omega
  | ⟨2, _⟩ => show win0_11.index t 2 * 1024 + 1 * q.val = q.val; rw [hi.2.2]; omega

theorem emb12 (t : Fin cfg0.N) (j : Fin 3) (k : Fin 1024) (r : Fin 512) :
    (win0_12.blk t).view.emb (ix3 j k r : S3x1024x512.Idx) = (ix3 j k (tok t r) : S3x1024x8192.Idx) := by
  have hi := index_12 t
  funext a
  apply Fin.ext
  match a with
  | ⟨0, _⟩ => show win0_12.index t 0 * 3 + 1 * j.val = j.val; rw [hi.1]; omega
  | ⟨1, _⟩ => show win0_12.index t 1 * 1024 + 1 * k.val = k.val; rw [hi.2.1]; omega
  | ⟨2, _⟩ => show win0_12.index t 2 * 512 + 1 * r.val = 512 * t.val + r.val; rw [hi.2.2]; omega

/-- Every token is a row of some point's block. -/
theorem tok_exists (n : Fin 8192) : ∃ (t : Fin cfg0.N) (r : Fin 512), tok t r = n :=
  ⟨⟨n.val / 512, by rw [show cfg0.N = 16 from N_0]; omega⟩, ⟨n.val % 512, Nat.mod_lt _ (by decide)⟩,
    Fin.ext (show 512 * (n.val / 512) + n.val % 512 = n.val by omega)⟩

theorem cover10 (i : S8192x1024.Idx) : ∃ (t : Fin cfg0.N) (r : Fin 512) (q : Fin 1024), (win0_10.blk t).view.emb (ix2 r q : S512x1024.Idx) = i := by
  obtain ⟨t, r, h⟩ := tok_exists (i 0)
  exact ⟨t, r, i 1, (emb10 t r (i 1)).trans ((congrArg (fun n : Fin 8192 => (ix2 n (i 1) : S8192x1024.Idx)) h).trans (eq_ix2 i).symm)⟩

theorem cover11 (i : S3x8192x1024.Idx) : ∃ (t : Fin cfg0.N) (j : Fin 3) (r : Fin 512) (q : Fin 1024), (win0_11.blk t).view.emb (ix3 j r q : S3x512x1024.Idx) = i := by
  obtain ⟨t, r, h⟩ := tok_exists (i 1)
  exact ⟨t, i 0, r, i 2, (emb11 t (i 0) r (i 2)).trans ((congrArg (fun n : Fin 8192 => (ix3 (i 0) n (i 2) : S3x8192x1024.Idx)) h).trans (eq_ix3 i).symm)⟩

theorem cover12 (i : S3x1024x8192.Idx) : ∃ (t : Fin cfg0.N) (j : Fin 3) (k : Fin 1024) (r : Fin 512), (win0_12.blk t).view.emb (ix3 j k r : S3x1024x512.Idx) = i := by
  obtain ⟨t, r, h⟩ := tok_exists (i 2)
  exact ⟨t, i 0, i 1, r, (emb12 t (i 0) (i 1) r).trans ((congrArg (fun n : Fin 8192 => (ix3 (i 0) (i 1) n : S3x1024x8192.Idx)) h).trans (eq_ix3 i).symm)⟩

theorem final_of0 (c : Dev nD) (g : FVec Ideal S8192x1024 .f32) (hg : ∀ (t : Fin cfg0.N) (r : Fin 512) (q : Fin 1024),
    (outsAt0 m c t).1 (ix2 r q) = g (ix2 (tok t r) q)) : (dats m 0 c).arrAt 10 cfg0.N = g :=
  (dats m 0 c).arrAt_eq_of_cover 10 g (fun t hf => by
    show (cfg0.win 10).cut (grid0.coords t) ((dats m 0 c).after 10 t) = _
    rw [after0_10]
    funext y
    have e : (y : S512x1024.Idx) = ix2 (y 0) (y 1) := eq_ix2 _
    show (outsAt0 m c t).1 (y : S512x1024.Idx) = g ((win0_10.blk t).view.emb y)
    rw [e]
    exact (hg t _ _).trans (congrArg g (emb10 t _ _).symm)) fun i => by
      obtain ⟨t, r, q, rfl⟩ := cover10 i
      exact ⟨t, flush0_10 t, (win0_10.blk t).view.emb_mem_set _⟩

theorem final_of1 (c : Dev nD) (g : FVec Ideal S3x8192x1024 .bf16) (hg : ∀ (t : Fin cfg0.N) (j : Fin 3) (r : Fin 512) (q : Fin 1024),
    (outsAt0 m c t).2.1 (ix3 j r q) = g (ix3 j (tok t r) q)) : (dats m 0 c).arrAt 11 cfg0.N = g :=
  (dats m 0 c).arrAt_eq_of_cover 11 g (fun t hf => by
    show (cfg0.win 11).cut (grid0.coords t) ((dats m 0 c).after 11 t) = _
    rw [after0_11]
    funext y
    have e : (y : S3x512x1024.Idx) = ix3 (y 0) (y 1) (y 2) := eq_ix3 _
    show (outsAt0 m c t).2.1 (y : S3x512x1024.Idx) = g ((win0_11.blk t).view.emb y)
    rw [e]
    exact (hg t _ _ _).trans (congrArg g (emb11 t _ _ _).symm)) fun i => by
      obtain ⟨t, j, r, q, rfl⟩ := cover11 i
      exact ⟨t, flush0_11 t, (win0_11.blk t).view.emb_mem_set _⟩

theorem final_of2 (c : Dev nD) (g : FVec Ideal S3x1024x8192 .bf16) (hg : ∀ (t : Fin cfg0.N) (j : Fin 3) (k : Fin 1024) (r : Fin 512),
    (outsAt0 m c t).2.2 (ix3 j k r) = g (ix3 j k (tok t r))) : (dats m 0 c).arrAt 12 cfg0.N = g :=
  (dats m 0 c).arrAt_eq_of_cover 12 g (fun t hf => by
    show (cfg0.win 12).cut (grid0.coords t) ((dats m 0 c).after 12 t) = _
    rw [after0_12]
    funext y
    have e : (y : S3x1024x512.Idx) = ix3 (y 0) (y 1) (y 2) := eq_ix3 _
    show (outsAt0 m c t).2.2 (y : S3x1024x512.Idx) = g ((win0_12.blk t).view.emb y)
    rw [e]
    exact (hg t _ _ _).trans (congrArg g (emb12 t _ _ _).symm)) fun i => by
      obtain ⟨t, j, k, r, rfl⟩ := cover12 i
      exact ⟨t, flush0_12 t, (win0_12.blk t).view.emb_mem_set _⟩

/-- The kernel's run: the output, the branches' projections and the branches turned. -/
theorem run : θ_run defs (onTc (τ := τ) (main (F := Ideal))) ⟨m, fun _ => 0, ρ⟩ (fun r => ∀ c : Dev nD,
      r.2.mem ((c.tc : Thread nD τ).loc main_v0_0) = res0 m c
      ∧ r.2.mem ((c.tc : Thread nD τ).loc main_v0_1) = res1 m c
      ∧ r.2.mem ((c.tc : Thread nD τ).loc main_v0_2) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h.1 c).1 10).trans (final_of0 m c _ (out0_eq m c)), ((h.1 c).1 11).trans (final_of1 m c _ (out1_eq m c)),
    ((h.1 c).1 12).trans (final_of2 m c _ (out2_eq m c)), h.2 c⟩) (θ_run_and (run_main m ρ) (unchanged m ρ))

end Cert.Kernel9Ideal.Merge

namespace Cert.Reference9Ideal

open Cert.Reference9Ideal.Read Cert.Merge
open Cert.Kernel9Ideal.Merge (pick)

/-- The token of sequence b's position s. -/
def tokOf (b : Fin 2) (s : Fin 4096) : Fin 8192 := ⟨4096 * b.val + s.val, by omega⟩

theorem tokOf_exists (n : Fin 8192) : ∃ (b : Fin 2) (s : Fin 4096), tokOf b s = n :=
  ⟨⟨n.val / 4096, by omega⟩, ⟨n.val % 4096, Nat.mod_lt _ (by decide)⟩, Fin.ext (show 4096 * (n.val / 4096) + n.val % 4096 = n.val by omega)⟩

section

variable (x0 x1 x2 : FVec Ideal S8192x1024 .bf16) (x3 : FVec Ideal S8192x12800 .bf16) (x4 : FVec Ideal S3x1024 .f32) (x5 : FVec Ideal S3x1024x1024 .bf16)
  (x6 : FVec Ideal S1024x1024 .bf16) (x7 : FVec Ideal S8192x1024 .f32) (b : Fin 2) (s : Fin 4096) (j : Fin 3) (k q : Fin 1024)

theorem idx_seq : idx_main_v1 (ix3 b s k) = ix2 (tokOf b s) k := funext fun a => Fin.ext (match a with
    | ⟨0, _⟩ => show ((b.val * 4096 + s.val) * 1024 + k.val) / 1024 = 4096 * b.val + s.val by omega
    | ⟨1, _⟩ => show ((b.val * 4096 + s.val) * 1024 + k.val) % 1024 = k.val by omega)

theorem piece_a : val_main_v6 (F := Ideal) x0 (ix4 b s (0 : Fin 1) k) = x0 (ix2 (tokOf b s) k) := by
  rw [val_main_v6_apply, val_main_v1_apply]
  exact congrArg x0 (idx_seq b s k)

theorem piece_b : val_main_v7 (F := Ideal) x1 (ix4 b s (0 : Fin 1) k) = x1 (ix2 (tokOf b s) k) := piece_a x1 b s k

theorem piece_c : val_main_v8 (F := Ideal) x2 (ix4 b s (0 : Fin 1) k) = x2 (ix2 (tokOf b s) k) := piece_a x2 b s k

/-- The stacked branches. -/
theorem stack_apply : val_main_v9 (F := Ideal) x0 x1 x2 (ix4 b s j k) = pick x0 x1 x2 j (ix2 (tokOf b s) k) := by
  unfold val_main_v9
  refine (concatenate_cons_apply _ _ _ _ _ _ _).trans ((concatenateAt_cons _ _ _ _ _ _ _ _).trans ?_)
  match j with
  | ⟨0, _⟩ =>
    refine (dif_pos (show (0 : ℕ) < 1 from Nat.zero_lt_one)).trans ?_
    refine (congrArg (val_main_v6 (F := Ideal) x0) (funext fun a => ?_)).trans (piece_a x0 b s k)
    match a with
    | ⟨0, _⟩ => rfl
    | ⟨1, _⟩ => rfl
    | ⟨2, _⟩ => rfl
    | ⟨3, _⟩ => rfl
  | ⟨1, _⟩ =>
    refine (dif_neg (show ¬ (1 : ℕ) < 1 from Nat.lt_irrefl 1)).trans ?_
    refine ((concatenateAt_cons _ _ _ _ _ _ _ _).trans (dif_pos (show (1 - 1 : ℕ) < 1 from Nat.zero_lt_one))).trans ?_
    refine (congrArg (val_main_v7 (F := Ideal) x1) (funext fun a => ?_)).trans (piece_b x1 b s k)
    match a with
    | ⟨0, _⟩ => rfl
    | ⟨1, _⟩ => rfl
    | ⟨2, _⟩ => rfl
    | ⟨3, _⟩ => rfl
  | ⟨2, _⟩ =>
    refine (dif_neg (show ¬ (2 : ℕ) < 1 by decide)).trans ?_
    refine ((concatenateAt_cons _ _ _ _ _ _ _ _).trans ((dif_neg (show ¬ (2 - 1 : ℕ) < 1 by decide)).trans (concatenateAt_singleton _ _ _ _ _ _))).trans ?_
    refine (congrArg (val_main_v8 (F := Ideal) x2) (funext fun a => ?_)).trans (piece_c x2 b s k)
    match a with
    | ⟨0, _⟩ => rfl
    | ⟨1, _⟩ => rfl
    | ⟨2, _⟩ => rfl
    | ⟨3, _⟩ => rfl

theorem branch_apply : val_main_v14 (F := Ideal) x0 x1 x2 x5 (ix4 b s j q) = branchAt (pick x0 x1 x2 j) x5 j (tokOf b s) q := by
  rw [val_main_v14_apply, val_main_v13_apply]
  refine Finset.sum_congr rfl fun k _ => ?_
  have el : lidx_main_v13 (idx_main_v14 (ix4 b s j q)) k = ix3 j k q := funext fun a => match a with
    | ⟨0, _⟩ => rfl
    | ⟨1, _⟩ => rfl
    | ⟨2, _⟩ => rfl
  have er : ridx_main_v13 (idx_main_v14 (ix4 b s j q)) k = ix4 b s j k := funext fun a => match a with
    | ⟨0, _⟩ => rfl
    | ⟨1, _⟩ => rfl
    | ⟨2, _⟩ => rfl
    | ⟨3, _⟩ => rfl
  rw [mul_comm, el, er, stack_apply]
  rfl

theorem idx_gate : idx_main_v10 (idx_main_v15 (ix4 b s j q)) = ix2 (tokOf b s) (gateCol j q) := funext fun a => Fin.ext (match a with
    | ⟨0, _⟩ => show (((b.val * 4096 + s.val) * 3 + j.val) * 1024 + q.val) / 3072 = 4096 * b.val + s.val by omega
    | ⟨1, _⟩ => show 9216 + (((b.val * 4096 + s.val) * 3 + j.val) * 1024 + q.val) % 3072 = 9216 + 1024 * j.val + q.val by omega)

theorem one_apply (i : S2x4096x3x1024.Idx) : val_main_v21 (F := Ideal) i = 1 := by
  rw [val_main_v21_apply]
  exact Ideal.ofBits_one_f32

theorem gate_apply : val_main_v24 (F := Ideal) x3 x4 (ix4 b s j q) = gateAt x3 x4 j (tokOf b s) q := by
  have h : val_main_v18 (F := Ideal) x3 x4 (ix4 b s j q) = x3 (ix2 (tokOf b s) (gateCol j q)) + x4 (ix2 j q) := by
    rw [val_main_v18_apply, val_main_v15_apply, val_main_v11_apply, val_main_v10_apply, val_main_v17_apply, val_main_v16_apply, idx_gate]
    refine congrArg (fun z => x3 (ix2 (tokOf b s) (gateCol j q)) + x4 z) (funext fun a => ?_)
    match a with
    | ⟨0, _⟩ => rfl
    | ⟨1, _⟩ => rfl
  rw [val_main_v24_apply, val_main_v22_apply, val_main_v20_apply, val_main_v19_apply, h, one_apply]
  unfold gateAt Ideal.logistic
  refine congrArg (fun z => Ideal.div z _) ?_
  exact one_apply (ix4 b s j q)

theorem merged_apply : val_main_v26 (F := Ideal) x0 x1 x2 x3 x4 x5 (ix3 b s q) = mergedAt x0 x1 x2 x3 x4 x5 (tokOf b s) q := by
  rw [val_main_v26_apply]
  refine (congrArg₂ (· + ·) (show _ = (0 : EReal) from Ideal.ofBits_zero_f32) (Finset.sum_congr rfl fun j _ => ?_)).trans (zero_add _)
  have e : idx_main_v26 (ix3 b s q) j = ix4 b s j q := funext fun a => match a with
    | ⟨0, _⟩ => rfl
    | ⟨1, _⟩ => rfl
    | ⟨2, _⟩ => rfl
    | ⟨3, _⟩ => rfl
  rw [e, val_main_v25_apply, gate_apply, branch_apply]
  rfl

theorem output_apply (t : Fin 8192) : val_main_v31 (F := Ideal) x0 x1 x2 x3 x4 x5 x6 x7 (ix2 t q) = output x0 x1 x2 x3 x4 x5 x6 x7 (ix2 t q) := by
  obtain ⟨b, s, rfl⟩ := tokOf_exists t
  have e : idx_main_v31 (ix2 (tokOf b s) q) = ix3 b s q := funext fun a => Fin.ext (match a with
    | ⟨0, _⟩ => show ((4096 * b.val + s.val) * 1024 + q.val) / 4194304 = b.val by omega
    | ⟨1, _⟩ => show ((4096 * b.val + s.val) * 1024 + q.val) / 1024 % 4096 = s.val by omega
    | ⟨2, _⟩ => show ((4096 * b.val + s.val) * 1024 + q.val) % 1024 = q.val by omega)
  rw [val_main_v31_apply, e, val_main_v30_apply, val_main_v27_apply, val_main_v29_apply]
  refine congrArg₂ (· + ·) (congrArg x7 (idx_seq b s q)) (Finset.sum_congr rfl fun k _ => ?_)
  have el : lidx_main_v29 (ix3 b s q) k = ix3 b s k := funext fun a => match a with
    | ⟨0, _⟩ => rfl
    | ⟨1, _⟩ => rfl
    | ⟨2, _⟩ => rfl
  have er : ridx_main_v29 (ix3 b s q) k = ix2 k q := funext fun a => match a with
    | ⟨0, _⟩ => rfl
    | ⟨1, _⟩ => rfl
  rw [el, er, merged_apply]
  rfl

theorem idx_back : idx_main_v32 (ix3 (tokOf b s) j q) = ix4 b s j q := funext fun a => Fin.ext (match a with
    | ⟨0, _⟩ => show (((4096 * b.val + s.val) * 3 + j.val) * 1024 + q.val) / 12582912 = b.val by omega
    | ⟨1, _⟩ => show (((4096 * b.val + s.val) * 3 + j.val) * 1024 + q.val) / 3072 % 4096 = s.val by omega
    | ⟨2, _⟩ => show (((4096 * b.val + s.val) * 3 + j.val) * 1024 + q.val) / 1024 % 3 = j.val by omega
    | ⟨3, _⟩ => show (((4096 * b.val + s.val) * 3 + j.val) * 1024 + q.val) % 1024 = q.val by omega)

theorem branches_apply (t : Fin 8192) : val_main_v34 (F := Ideal) x0 x1 x2 x5 (ix3 j t q) = branches x0 x1 x2 x5 (ix3 j t q) := by
  obtain ⟨b, s, rfl⟩ := tokOf_exists t
  have e : idx_main_v33 (ix3 j (tokOf b s) q) = ix3 (tokOf b s) j q := funext fun a => match a with
    | ⟨0, _⟩ => rfl
    | ⟨1, _⟩ => rfl
    | ⟨2, _⟩ => rfl
  rw [val_main_v34_apply, val_main_v33_apply, e, val_main_v32_apply, idx_back, branch_apply]
  rfl

theorem turned_apply (t : Fin 8192) : val_main_v37 (F := Ideal) x0 x1 x2 (ix3 j k t) = turned x0 x1 x2 (ix3 j k t) := by
  obtain ⟨b, s, rfl⟩ := tokOf_exists t
  have e : idx_main_v36 (ix3 j k (tokOf b s)) = ix3 (tokOf b s) j k := funext fun a => match a with
    | ⟨0, _⟩ => rfl
    | ⟨1, _⟩ => rfl
    | ⟨2, _⟩ => rfl
  rw [val_main_v37_apply, val_main_v36_apply, e, val_main_v35_apply]
  exact (congrArg (val_main_v9 (F := Ideal) x0 x1 x2) (idx_back b s j k)).trans (stack_apply x0 x1 x2 b s j k)

end

/-- The kernel and the reference end with the same three results, whatever the arguments. -/
theorem equal_merge : Cert.algebraic_Kernel9Ideal_Reference9Ideal (hKernel9Ideal := Cert.Kernel9Ideal.Gen.facts)
    (hReference9Ideal := Cert.Reference9Ideal.Gen.facts) := fun m g m' g' _ heq =>
  ⟨fun c => Cert.Kernel9Ideal.Merge.res0 m c, fun c => Cert.Kernel9Ideal.Merge.res1 m c, fun c => Cert.Kernel9Ideal.Merge.res2 m c,
    Cert.Kernel9Ideal.Merge.run m g, (θ_run Cert.Reference9Ideal.defs _ _).mono (fun r h c => by
    obtain ⟨r0, r1, r2, ra⟩ := h c
    obtain ⟨e0, e1, e2, e3, e4, e5, e6, e7⟩ := heq c
    refine ⟨(r0.trans (val_main_v31_eq _ _ _ _ _ _ _ _)).trans (funext fun i => (congrArg _ (eq_ix2 i)).trans ((output_apply _ _ _ _ _ _ _ _ (i 1) (i 0)).trans ?_)),
      (r1.trans (val_main_v34_eq _ _ _ _)).trans (funext fun i => (congrArg _ (eq_ix3 i)).trans ((branches_apply _ _ _ _ (i 0) (i 2) (i 1)).trans ?_)),
      (r2.trans (val_main_v37_eq _ _ _)).trans (funext fun i => (congrArg _ (eq_ix3 i)).trans ((turned_apply _ _ _ (i 0) (i 1) (i 2)).trans ?_)), ra⟩
    · rw [e0, e1, e2, e3, e4, e5, e6, e7]
      rfl
    · rw [e0, e1, e2, e5]
      rfl
    · rw [e0, e1, e2]
      rfl) (Cert.Reference9Ideal.Value.run (F := Ideal) m' g')⟩

end Cert.Reference9Ideal

end
-- ==== Proof.WeightGates.lean ====
/-
  The weight gradient of the gates' 3072 columns: three blocks of columns, each a sum over four blocks of tokens.
-/
module

public import proofs.«01_k».proof.Defs
public import proofs.«01_k».proof.Proof.Tokens
public import proofs.«01_k».proof.Proof.Gen.Kernel6Ideal.Frame
public import proofs.«01_k».proof.Proof.Gen.Reference6Ideal.Run
public import proofs.«01_k».proof.Proof.Gen.Reference6Ideal.Read
public import Idealize.ShloMosaic.Lib.Pointwise
public import Idealize.ShloMosaic.Adequacy
public import Idealize.ShloMosaic.Init

@[expose] public section

noncomputable section

open Idealize.ShloMosaic Idealize.ShloMosaic.TcCoe Idealize.SL.Sem
open scoped BigOperators

namespace Cert.Kernel6Ideal.Weight

open Cert.Kernel6Ideal Cert.Kernel6Ideal.Gen

section Body

variable {F : FTy → Type} [FloatOps F]

theorem hz : (![0, 0] : Fin 2 → Nat) = fun _ => 0 := funext fun a => by fin_cases a <;> rfl

variable (c : Dev nD) (i : grid0.Coords) (a3 : Memref sig .tc .vmem S1024x2048 .bf16) (h3 : a3.IsWhole) (a4 : Memref sig .tc .vmem S2048x1024 .bf16) (h4 : a4.IsWhole)
  (a5 : Memref sig .tc .vmem S1024x1024 .bf16) (h5 : a5.IsWhole) (a6 : Memref sig .tc .vmem S1024x1024 .f32) (h6 : a6.IsWhole)
  (x : Vec F S1024x2048 .bf16) (y : Vec F S2048x1024 .bf16) (s : Vec F S1024x1024 .f32)

theorem sout_A (hc0 : cond0_0 i) (hc1 : ¬cond0_1 i) : sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x2048) hz, View.ld_unit_zero (S := S2048x1024) hz]

theorem sout_B (hc0 : ¬cond0_0 i) (hc1 : ¬cond0_1 i) : sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero hz]
  simp only [View.readAt_eq_ld, h3.read_unread, h4.read_unread, h6.read_unread, View.ld_unit_zero (S := S1024x2048) hz, View.ld_unit_zero (S := S2048x1024) hz, View.ld_unit_zero (S := S1024x1024) hz]

theorem out_C (hc0 : ¬cond0_0 i) (hc1 : cond0_1 i) : out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x2048) hz, View.ld_unit_zero (S := S2048x1024) hz, View.ld_unit_zero (S := S1024x1024) hz]

end Body

theorem pay1_apply (r c : Fin 1024) : (k0_pay1 (F := Ideal)) (ix2 r c) = 0 := by
  unfold k0_pay1
  simp only [pointwise]

theorem pay2_apply (s : Vec Ideal S1024x1024 .f32) (x : Vec Ideal S1024x2048 .bf16) (y : Vec Ideal S2048x1024 .bf16) (r c : Fin 1024) :
    k0_pay2 (F := Ideal) s x y (ix2 r c) = s (ix2 r c) + ∑ k : Fin 2048, x (ix2 r k) * y (ix2 k c) := by
  unfold k0_pay2
  simp only [pointwise, zero_add]

theorem pay3_apply (s : Vec Ideal S1024x1024 .f32) (r c : Fin 1024) : k0_pay3 (F := Ideal) s (ix2 r c) = s (ix2 r c) := rfl

variable (m : (ℓ : Loc nD τ sig) → Buf (Elt Ideal) ℓ) (ρ : Dev nD → PrngReg)

/-- The stream and the projection's gradient, as the call finds them. -/
abbrev hs (c : Dev nD) : FVec Ideal S8192x1024 .bf16 := m ((c : Thread nD τ).loc main_arg0)
abbrev gs (c : Dev nD) : FVec Ideal S8192x3072 .bf16 := m ((c : Thread nD τ).loc main_arg1)

theorem V_main_v0 (c : Dev nD) (i : Fin 1024) (j : Fin 8192) : V m c main_v0 (ix2 i j) = hs m c (ix2 j i) := by
  show transpose S1024x8192 [1, 0] _ _ (ix2 i j) = _
  exact transpose_apply [1, 0] _ _ (ix2 i j) (ix2 j i) (fun b => match b with
    | ⟨0, _⟩ => rfl
    | ⟨1, _⟩ => rfl)

theorem index_h : ∀ t : Fin cfg0.N, win0_0.index t 0 = 0 ∧ win0_0.index t 1 = t.val % 4 := by decide +kernel
theorem index_g : ∀ t : Fin cfg0.N, win0_1.index t 0 = t.val % 4 ∧ win0_1.index t 1 = t.val / 4 := by decide +kernel
theorem index_o : ∀ t : Fin cfg0.N, win0_2.index t 0 = 0 ∧ win0_2.index t 1 = t.val / 4 := by decide +kernel

/-- The blocks of a point. -/
abbrev hb (c : Dev nD) (t : Fin cfg0.N) : Vec Ideal S1024x2048 .bf16 := iblk m c 0 t
abbrev gb (c : Dev nD) (t : Fin cfg0.N) : Vec Ideal S2048x1024 .bf16 := iblk m c 1 t

theorem iblk_h (c : Dev nD) (t : Fin cfg0.N) (n : ℕ) (hn : t.val % 4 = n) (r : Fin 1024) (k : Fin 2048) (h : 2048 * n + k.val < 8192) :
    hb m c t (ix2 r k) = hs m c (ix2 ⟨2048 * n + k.val, h⟩ r) := by
  have hi := index_h t
  rw [← V_main_v0 m c r ⟨2048 * n + k.val, h⟩]
  unfold hb iblk
  rw [View.read_apply]
  show V m c main_v0 _ = V m c main_v0 _
  congr 1
  funext a
  apply Fin.ext
  match a with
  | ⟨0, _⟩ => show win0_0.index t 0 * 1024 + 1 * r.val = r.val; rw [hi.1]; omega
  | ⟨1, _⟩ => show win0_0.index t 1 * 2048 + 1 * k.val = 2048 * n + k.val; rw [hi.2]; omega

theorem iblk_g (c : Dev nD) (t : Fin cfg0.N) (n j : ℕ) (hn : t.val % 4 = n) (ht : t.val / 4 = j) (hj : 1024 * j + 1024 ≤ 3072) (k : Fin 2048) (q : Fin 1024)
    (h : 2048 * n + k.val < 8192) : gb m c t (ix2 k q) = gs m c (ix2 ⟨2048 * n + k.val, h⟩ (colAt 3072 j hj q)) := by
  have hi := index_g t
  unfold gb iblk
  rw [View.read_apply]
  show V m c main_arg1 _ = m ((c : Thread nD τ).loc main_arg1) _
  rw [V_main_arg1]
  congr 1
  funext a
  apply Fin.ext
  match a with
  | ⟨0, _⟩ => show win0_1.index t 0 * 2048 + 1 * k.val = 2048 * n + k.val; rw [hi.1]; omega
  | ⟨1, _⟩ => show win0_1.index t 1 * 1024 + 1 * q.val = 1024 * j + q.val; rw [hi.2]; omega

/-- A point's product is the sum of its tokens' terms. -/
theorem block_sum (c : Dev nD) (t : Fin cfg0.N) (n j : ℕ) (hn : n < 4) (ht : t.val = 4 * j + n) (hj : 1024 * j + 1024 ≤ 3072) (r q : Fin 1024) :
    ∑ k : Fin 2048, hb m c t (ix2 r k) * gb m c t (ix2 k q)
      = ∑ k : Fin 2048, tokenTerm (hs m c) (gs m c) r (colAt 3072 j hj q) (2048 * n + k.val) := by
  refine Finset.sum_congr rfl fun k _ => ?_
  have h : 2048 * n + k.val < 8192 := by omega
  rw [iblk_h m c t n (by omega) r k h, iblk_g m c t n j (by omega) (by omega) hj k q h, tokenTerm, dif_pos h]

theorem acc_first (c : Dev nD) (t : Fin cfg0.N) (h0 : t.val % 4 = 0) (h1 : ¬t.val % 4 = 3) :
    (outsAt0 m c t.val t.isLt).2 = k0_pay2 k0_pay1 (hb m c t) (gb m c t) := by
  rw [outsAt0_A m c t h0 h1]
  dsimp only
  exact sout_A ..

theorem acc_later (c : Dev nD) (t : Fin cfg0.N) (h0 : ¬t.val % 4 = 0) (h1 : ¬t.val % 4 = 3) :
    (outsAt0 m c t.val t.isLt).2 = k0_pay2 (outsAt0 m c (t.val - 1) (Nat.lt_of_le_of_lt (Nat.sub_le _ _) t.isLt)).2 (hb m c t) (gb m c t) := by
  rw [outsAt0_B m c t h0 h1]
  dsimp only
  exact sout_B ..

theorem out_last (c : Dev nD) (t : Fin cfg0.N) (h0 : ¬t.val % 4 = 0) (h1 : t.val % 4 = 3) :
    (outsAt0 m c t.val t.isLt).1 = k0_pay3 (k0_pay2 (outsAt0 m c (t.val - 1) (Nat.lt_of_le_of_lt (Nat.sub_le _ _) t.isLt)).2 (hb m c t) (gb m c t)) := by
  rw [outsAt0_C m c t h0 h1]
  dsimp only
  exact out_C ..

/-- After a block's points 0 to 2 the accumulator holds the sum over the tokens so far. -/
theorem acc_eq (c : Dev nD) (r q : Fin 1024) (j : ℕ) (hj : 1024 * j + 1024 ≤ 3072) (n : ℕ) : ∀ t : Fin cfg0.N, t.val = 4 * j + n → n < 3 →
    (outsAt0 m c t.val t.isLt).2 (ix2 r q) = ∑ u ∈ Finset.range (2048 * n + 2048), tokenTerm (hs m c) (gs m c) r (colAt 3072 j hj q) u := by
  induction n with
  | zero =>
    intro t ht _
    rw [acc_first m c t (by omega) (by omega), pay2_apply, pay1_apply, block_sum m c t 0 j (by omega) ht hj, ← sum_block _ (2048 * 0) 2048,
      Nat.mul_zero, Finset.sum_range_zero]
  | succ n ih =>
    intro t ht hn
    rw [acc_later m c t (by omega) (by omega), pay2_apply, block_sum m c t (n + 1) j (by omega) ht hj, ← sum_block _ (2048 * (n + 1)) 2048]
    refine congrArg (· + _) ((ih ⟨t.val - 1, Nat.lt_of_le_of_lt (Nat.sub_le _ _) t.isLt⟩ (by dsimp only; omega) (by omega)).trans ?_)
    rw [show 2048 * n + 2048 = 2048 * (n + 1) by omega]

/-- The weight's gradient. -/
def grad (c : Dev nD) : FVec Ideal S1024x3072 .bf16 := fun i =>
  ∑ t ∈ Finset.range 8192, tokenTerm (hs m c) (gs m c) (i 0) (i 1) t

/-- After a block's last point the result's block holds the sum over all the tokens. -/
theorem out_eq (c : Dev nD) (t : Fin cfg0.N) (j : ℕ) (hj : 1024 * j + 1024 ≤ 3072) (ht : t.val = 4 * j + 3) (r q : Fin 1024) :
    (outsAt0 m c t.val t.isLt).1 (ix2 r q) = grad m c (ix2 r (colAt 3072 j hj q)) := by
  rw [out_last m c t (by omega) (by omega), pay3_apply, pay2_apply, block_sum m c t 3 j (by omega) ht hj,
    acc_eq m c r q j hj 2 ⟨t.val - 1, Nat.lt_of_le_of_lt (Nat.sub_le _ _) t.isLt⟩ (by dsimp only; omega) (by omega)]
  exact sum_block _ 6144 2048

theorem emb2 (t : Fin cfg0.N) (j : ℕ) (hj : 1024 * j + 1024 ≤ 3072) (ht : t.val / 4 = j) (r q : Fin 1024) :
    (win0_2.blk t).view.emb (ix2 r q : S1024x1024.Idx) = (ix2 r (colAt 3072 j hj q) : S1024x3072.Idx) := by
  have hi := index_o t
  funext a
  apply Fin.ext
  match a with
  | ⟨0, _⟩ => show win0_2.index t 0 * 1024 + 1 * r.val = r.val; rw [hi.1]; omega
  | ⟨1, _⟩ => show win0_2.index t 1 * 1024 + 1 * q.val = 1024 * j + q.val; rw [hi.2]; omega

/-- Every column is written at its block's last point. -/
theorem cover (i : S1024x3072.Idx) : ∃ (t : Fin cfg0.N) (r q : Fin 1024), t.val % 4 = 3 ∧ (win0_2.blk t).view.emb (ix2 r q : S1024x1024.Idx) = i := by
  have h1 : (i 1).val < 3072 := (i 1).isLt
  have hN : 4 * ((i 1).val / 1024) + 3 < cfg0.N := by rw [show cfg0.N = 12 from N_0]; omega
  exact ⟨⟨4 * ((i 1).val / 1024) + 3, hN⟩, i 0, ⟨(i 1).val % 1024, by omega⟩, by dsimp only; omega,
    (emb2 _ ((i 1).val / 1024) (by omega) (by dsimp only; omega) _ _).trans
      ((congrArg (fun x : Fin 3072 => (ix2 (i 0) x : S1024x3072.Idx)) (colAt_split 3072 (i 1) _ _)).trans (eq_ix2 i).symm)⟩

/-- The result is the array whose blocks the last points leave. -/
theorem final_of (c : Dev nD) (g : FVec Ideal S1024x3072 .bf16) (hg : ∀ (t : Fin cfg0.N) (j : ℕ) (hj : 1024 * j + 1024 ≤ 3072), t.val = 4 * j + 3 →
    ∀ r q : Fin 1024, (outsAt0 m c t.val t.isLt).1 (ix2 r q) = g (ix2 r (colAt 3072 j hj q))) : (dats m 0 c).arrAt 2 cfg0.N = g :=
  (dats m 0 c).arrAt_eq_of_cover 2 g (fun t hf => by
    have hN : t.val < 12 := lt_of_lt_of_eq t.isLt (show cfg0.N = 12 from N_0)
    have h3 : t.val % 4 = 3 := (flush0_2 t).mp hf
    show (cfg0.win 2).cut (grid0.coords t) ((dats m 0 c).after 2 t) = _
    rw [after0_2]
    funext y
    have e : (y : S1024x1024.Idx) = ix2 (y 0) (y 1) := eq_ix2 _
    show (outsAt0 m c t.val t.isLt).1 (y : S1024x1024.Idx) = g ((win0_2.blk t).view.emb y)
    rw [e]
    exact (hg t (t.val / 4) (by omega) (by omega) _ _).trans (congrArg g (emb2 t (t.val / 4) (by omega) rfl _ _).symm)) fun i => by
      obtain ⟨t, r, q, h3, rfl⟩ := cover i
      exact ⟨t, (flush0_2 t).mpr h3, (win0_2.blk t).view.emb_mem_set _⟩

theorem final (c : Dev nD) : (dats m 0 c).arrAt 2 cfg0.N = grad m c := final_of m c (grad m c) (out_eq m c)

/-- The kernel's run: its result is the sum over the tokens. -/
theorem run : θ_run defs (onTc (τ := τ) (main (F := Ideal))) ⟨m, fun _ => 0, ρ⟩ (fun r => ∀ c : Dev nD,
      r.2.mem ((c.tc : Thread nD τ).loc main_v1) = grad m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (final m c), h.2 c⟩) (θ_run_and (run_main m ρ) (unchanged m ρ))

end Cert.Kernel6Ideal.Weight

namespace Cert.Reference6Ideal

open Cert.Reference6Ideal.Read

/-- The reference's result is the sum over the two sequences' tokens. -/
theorem value (x0 : FVec Ideal S8192x1024 .bf16) (x1 : FVec Ideal S8192x3072 .bf16) (r : Fin 1024) (q : Fin 3072) :
    val_main_v8 (F := Ideal) x0 x1 (ix2 r q) = ∑ t ∈ Finset.range 8192, tokenTerm x0 x1 r q t := by
  have e0 : ∀ (b : Fin 2) (s : Fin 4096) (p : 4096 * b.val + s.val < 8192), idx_main_v2 (ix3 b s r) = ix2 ⟨4096 * b.val + s.val, p⟩ r :=
    fun b s p => funext fun a => Fin.ext (match a with
    | ⟨0, _⟩ => show ((b.val * 4096 + s.val) * 1024 + r.val) / 1024 = 4096 * b.val + s.val by omega
    | ⟨1, _⟩ => show ((b.val * 4096 + s.val) * 1024 + r.val) % 1024 = r.val by omega)
  have e1 : ∀ (b : Fin 2) (s : Fin 4096) (p : 4096 * b.val + s.val < 8192), idx_main_v5 (ix3 b s q) = ix2 ⟨4096 * b.val + s.val, p⟩ q :=
    fun b s p => funext fun a => Fin.ext (match a with
    | ⟨0, _⟩ => show ((b.val * 4096 + s.val) * 3072 + q.val) / 3072 = 4096 * b.val + s.val by omega
    | ⟨1, _⟩ => show ((b.val * 4096 + s.val) * 3072 + q.val) % 3072 = q.val by omega)
  have h : val_main_v8 (F := Ideal) x0 x1 (ix2 r q) = ∑ b : Fin 2, ∑ s : Fin 4096, val_main_v5 (F := Ideal) x1 (ix3 b s q) * val_main_v2 (F := Ideal) x0 (ix3 b s r) := by
    rw [val_main_v8_apply]
    show val_main_v7 (F := Ideal) x0 x1 (ix2 r q) = _
    rw [val_main_v7_apply]
    unfold val_main_v6
    simp only [pointwise, zero_add]
    rfl
  refine (h.trans (Finset.sum_congr rfl fun b _ => Finset.sum_congr rfl fun s _ => ?_)).trans (sequences_sum (tokenTerm x0 x1 r q))
  have p : 4096 * b.val + s.val < 8192 := by omega
  rw [val_main_v5_apply, val_main_v2_apply, tokenTerm, dif_pos p, mul_comm, e0 b s p, e1 b s p]
  rfl

/-- The kernel and the reference end with the same gradient, whatever the arguments. -/
theorem equal_weights : Cert.algebraic_Kernel6Ideal_Reference6Ideal (hKernel6Ideal := Cert.Kernel6Ideal.Gen.facts)
    (hReference6Ideal := Cert.Reference6Ideal.Gen.facts) := fun m g m' g' _ heq =>
  ⟨fun c => Cert.Kernel6Ideal.Weight.grad m c, Cert.Kernel6Ideal.Weight.run m g, (θ_run Cert.Reference6Ideal.defs _ _).mono (fun r h c => by
    obtain ⟨r0, ra⟩ := h c
    refine ⟨(r0.trans (val_main_v8_eq _ _)).trans (funext fun i => (congrArg _ (eq_ix2 i)).trans ((value _ _ (i 0) (i 1)).trans ?_)), ra⟩
    rw [(heq c).1, (heq c).2]
    rfl) (Cert.Reference6Ideal.Value.run (F := Ideal) m' g')⟩

end Cert.Reference6Ideal

end
-- ==== Proof.WeightBranch.lean ====
/-
  The weight gradient of the three branches' output projections: for each branch, a sum over eight blocks of tokens.
-/
module

public import proofs.«01_k».proof.Defs
public import proofs.«01_k».proof.Proof.Tokens
public import proofs.«01_k».proof.Proof.Gen.Kernel7Ideal.Frame
public import proofs.«01_k».proof.Proof.Gen.Reference7Ideal.Run
public import proofs.«01_k».proof.Proof.Gen.Reference7Ideal.Read
public import Idealize.ShloMosaic.Lib.Pointwise
public import Idealize.ShloMosaic.Lib.TwoAxisContraction
public import Idealize.ShloMosaic.Adequacy
public import Idealize.ShloMosaic.Init

@[expose] public section

noncomputable section

open Idealize.ShloMosaic Idealize.ShloMosaic.TcCoe Idealize.SL.Sem
open scoped BigOperators

/-- One branch of an array of the three branches' tokens. -/
def Cert.branchOf (x : (⟨3, ![3, 8192, 1024]⟩ : Shape).Idx → EReal) (g : Fin 3) : (⟨2, ![8192, 1024]⟩ : Shape).Idx → EReal := fun i => x (ix3 g (i 0) (i 1))

namespace Cert.Kernel7Ideal.Weight

open Cert.Kernel7Ideal Cert.Kernel7Ideal.Gen

section Body

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (a4 : Memref sig .tc .vmem S1x1024x1024 .bf16) (h4 : a4.IsWhole) (a5 : Memref sig .tc .vmem S1x1024x1024 .bf16) (h5 : a5.IsWhole)
  (a6 : Memref sig .tc .vmem S1x1024x1024 .bf16) (h6 : a6.IsWhole) (a7 : Memref sig .tc .vmem S1024x1024 .f32) (h7 : a7.IsWhole)
  (x y : Vec F S1x1024x1024 .bf16) (s : Vec F S1024x1024 .f32)

theorem sout_A (hc0 : cond0_0 i) (hc1 : ¬cond0_1 i) : sout0_A_0 c i a4 h4 a5 h5 a6 h6 a7 h7 hc0 hc1 x y = k0_pay2 k0_pay1 x y := by
  unfold sout0_A_0
  rw [View.read_writes_eq_canon _ _ _ (scover0_A_0 c i a4 h4 a5 h5 a6 h6 a7 h7 hc0 hc1 x y)]
  unfold kernelRun0_A
  dsimp only
  sl_unfold_words
  rw [View.canon_cons_unit_zero (S := S1024x1024) hz, View.readCov_unit_zero (S := S1024x1024) _ hz]
  simp only [View.readAt_eq_ld, h4.read_unread, h5.read_unread, View.ld_unit_zero (S := S1x1024x1024) hz3]

theorem sout_B (hc0 : ¬cond0_0 i) (hc1 : ¬cond0_1 i) : sout0_B_0 c i a4 h4 a5 h5 a6 h6 a7 h7 hc0 hc1 x y s = k0_pay2 s x y := by
  unfold sout0_B_0
  rw [View.read_writes_eq_canon _ _ _ (scover0_B_0 c i a4 h4 a5 h5 a6 h6 a7 h7 hc0 hc1 x y s)]
  unfold kernelRun0_B
  dsimp only
  rw [View.canon_unit_zero hz]
  simp only [View.readAt_eq_ld, h4.read_unread, h5.read_unread, h7.read_unread, View.ld_unit_zero (S := S1x1024x1024) hz3, View.ld_unit_zero (S := S1024x1024) hz]

theorem out_C (hc0 : ¬cond0_0 i) (hc1 : cond0_1 i) : out0_C_2 c i a4 h4 a5 h5 a6 h6 a7 h7 hc0 hc1 x y s = k0_pay3 (k0_pay2 s x y) := by
  unfold out0_C_2
  rw [View.read_writes_eq_canon _ _ _ (cover0_C_2 c i a4 h4 a5 h5 a6 h6 a7 h7 hc0 hc1 x y s)]
  unfold kernelRun0_C
  dsimp only
  sl_unfold_words
  rw [View.canon_unit_zero hz3, View.readCov_unit_zero (S := S1024x1024) _ hz]
  simp only [View.readAt_eq_ld, h4.read_unread, h5.read_unread, h7.read_unread, View.ld_unit_zero (S := S1x1024x1024) hz3, View.ld_unit_zero (S := S1024x1024) hz]

end Body

theorem pay1_apply (r c : Fin 1024) : (k0_pay1 (F := Ideal)) (ix2 r c) = 0 := by
  unfold k0_pay1
  simp only [pointwise]

/-- A block without its axis of extent one. -/
theorem dropped (x : FVec Ideal S1x1024x1024 .bf16) (h : S1x1024x1024.ShapeCasts S1024x1024) (a b : Fin 1024) :
    (shapeCast S1024x1024 x h : FVec Ideal S1024x1024 .bf16) (ix2 a b) = x (ix3 0 a b) :=
  (shapeCast_dropUnit_apply ![1024, 1024] x h (ix2 a b)).trans (congrArg x (funext fun d => match d with
    | ⟨0, _⟩ => rfl
    | ⟨1, _⟩ => rfl
    | ⟨2, _⟩ => rfl))

theorem pay2_apply (s : Vec Ideal S1024x1024 .f32) (x y : Vec Ideal S1x1024x1024 .bf16) (r c : Fin 1024) :
    k0_pay2 (F := Ideal) s x y (ix2 r c) = s (ix2 r c) + ∑ k : Fin 1024, x (ix3 0 r k) * y (ix3 0 k c) := by
  unfold k0_pay2
  generalize hx : (shapeCast S1024x1024 x _ : FVec Ideal S1024x1024 .bf16) = x'
  generalize hy : (shapeCast S1024x1024 y _ : FVec Ideal S1024x1024 .bf16) = y'
  simp only [pointwise, zero_add]
  refine congrArg (_ + ·) (Finset.sum_congr rfl fun k _ => ?_)
  rw [← hx, ← hy, ← dropped x, ← dropped y]

theorem pay3_apply (s : Vec Ideal S1024x1024 .f32) (z : Fin 1) (r c : Fin 1024) : k0_pay3 (F := Ideal) s (ix3 z r c) = s (ix2 r c) :=
  (shapeCast_addUnit_apply ![1024, 1024] _ _ (ix3 z r c)).trans (congrArg s (funext fun d => match d with
    | ⟨0, _⟩ => rfl
    | ⟨1, _⟩ => rfl))

variable (m : (ℓ : Loc nD τ sig) → Buf (Elt Ideal) ℓ) (ρ : Dev nD → PrngReg)

/-- The branches and the gradients of their projections, as the call finds them. -/
abbrev ys (c : Dev nD) : FVec Ideal S3x8192x1024 .bf16 := m ((c : Thread nD τ).loc main_arg0)
abbrev gs (c : Dev nD) : FVec Ideal S3x8192x1024 .bf16 := m ((c : Thread nD τ).loc main_arg1)

theorem V_main_v0 (c : Dev nD) (g : Fin 3) (i : Fin 1024) (j : Fin 8192) : V m c main_v0 (ix3 g i j) = ys m c (ix3 g j i) := by
  show transpose S3x1024x8192 [0, 2, 1] _ _ (ix3 g i j) = _
  exact transpose_apply [0, 2, 1] _ _ (ix3 g i j) (ix3 g j i) (fun b => match b with
    | ⟨0, _⟩ => rfl
    | ⟨1, _⟩ => rfl
    | ⟨2, _⟩ => rfl)

theorem index_y : ∀ t : Fin cfg0.N, win0_0.index t 0 = t.val / 8 ∧ win0_0.index t 1 = 0 ∧ win0_0.index t 2 = t.val % 8 := by decide +kernel
theorem index_g : ∀ t : Fin cfg0.N, win0_1.index t 0 = t.val / 8 ∧ win0_1.index t 1 = t.val % 8 ∧ win0_1.index t 2 = 0 := by decide +kernel
theorem index_o : ∀ t : Fin cfg0.N, win0_2.index t 0 = t.val / 8 ∧ win0_2.index t 1 = 0 ∧ win0_2.index t 2 = 0 := by decide +kernel

/-- The blocks of a point. -/
abbrev yb (c : Dev nD) (t : Fin cfg0.N) : Vec Ideal S1x1024x1024 .bf16 := iblk m c 0 t
abbrev gb (c : Dev nD) (t : Fin cfg0.N) : Vec Ideal S1x1024x1024 .bf16 := iblk m c 1 t

theorem iblk_y (c : Dev nD) (t : Fin cfg0.N) (n : ℕ) (g : Fin 3) (hn : t.val % 8 = n) (ht : t.val / 8 = g.val) (r k : Fin 1024) (h : 1024 * n + k.val < 8192) :
    yb m c t (ix3 0 r k) = ys m c (ix3 g ⟨1024 * n + k.val, h⟩ r) := by
  have hi := index_y t
  rw [← V_main_v0 m c g r ⟨1024 * n + k.val, h⟩]
  unfold yb iblk
  rw [View.read_apply]
  show V m c main_v0 _ = V m c main_v0 _
  congr 1
  funext a
  apply Fin.ext
  match a with
  | ⟨0, _⟩ => show win0_0.index t 0 * 1 + 1 * 0 = g.val; rw [hi.1]; omega
  | ⟨1, _⟩ => show win0_0.index t 1 * 1024 + 1 * r.val = r.val; rw [hi.2.1]; omega
  | ⟨2, _⟩ => show win0_0.index t 2 * 1024 + 1 * k.val = 1024 * n + k.val; rw [hi.2.2]; omega

theorem iblk_g (c : Dev nD) (t : Fin cfg0.N) (n : ℕ) (g : Fin 3) (hn : t.val % 8 = n) (ht : t.val / 8 = g.val) (k q : Fin 1024) (h : 1024 * n + k.val < 8192) :
    gb m c t (ix3 0 k q) = gs m c (ix3 g ⟨1024 * n + k.val, h⟩ q) := by
  have hi := index_g t
  unfold gb iblk
  rw [View.read_apply]
  show V m c main_arg1 _ = m ((c : Thread nD τ).loc main_arg1) _
  rw [V_main_arg1]
  congr 1
  funext a
  apply Fin.ext
  match a with
  | ⟨0, _⟩ => show win0_1.index t 0 * 1 + 1 * 0 = g.val; rw [hi.1]; omega
  | ⟨1, _⟩ => show win0_1.index t 1 * 1024 + 1 * k.val = 1024 * n + k.val; rw [hi.2.1]; omega
  | ⟨2, _⟩ => show win0_1.index t 2 * 1024 + 1 * q.val = q.val; rw [hi.2.2]; omega

/-- A point's product is the sum of its tokens' terms. -/
theorem block_sum (c : Dev nD) (t : Fin cfg0.N) (n : ℕ) (g : Fin 3) (hn : n < 8) (ht : t.val = 8 * g.val + n) (r q : Fin 1024) :
    ∑ k : Fin 1024, yb m c t (ix3 0 r k) * gb m c t (ix3 0 k q)
      = ∑ k : Fin 1024, tokenTerm (branchOf (ys m c) g) (branchOf (gs m c) g) r q (1024 * n + k.val) := by
  refine Finset.sum_congr rfl fun k _ => ?_
  have h : 1024 * n + k.val < 8192 := by omega
  rw [iblk_y m c t n g (by omega) (by omega) r k h, iblk_g m c t n g (by omega) (by omega) k q h, tokenTerm, dif_pos h]
  rfl

theorem acc_first (c : Dev nD) (t : Fin cfg0.N) (h0 : t.val % 8 = 0) (h1 : ¬t.val % 8 = 7) :
    (outsAt0 m c t.val t.isLt).2 = k0_pay2 k0_pay1 (yb m c t) (gb m c t) := by
  rw [outsAt0_A m c t h0 h1]
  dsimp only
  exact sout_A ..

theorem acc_later (c : Dev nD) (t : Fin cfg0.N) (h0 : ¬t.val % 8 = 0) (h1 : ¬t.val % 8 = 7) :
    (outsAt0 m c t.val t.isLt).2 = k0_pay2 (outsAt0 m c (t.val - 1) (Nat.lt_of_le_of_lt (Nat.sub_le _ _) t.isLt)).2 (yb m c t) (gb m c t) := by
  rw [outsAt0_B m c t h0 h1]
  dsimp only
  exact sout_B ..

theorem out_last (c : Dev nD) (t : Fin cfg0.N) (h0 : ¬t.val % 8 = 0) (h1 : t.val % 8 = 7) :
    (outsAt0 m c t.val t.isLt).1 = k0_pay3 (k0_pay2 (outsAt0 m c (t.val - 1) (Nat.lt_of_le_of_lt (Nat.sub_le _ _) t.isLt)).2 (yb m c t) (gb m c t)) := by
  rw [outsAt0_C m c t h0 h1]
  dsimp only
  exact out_C ..

/-- After a branch's points 0 to 6 the accumulator holds the sum over the tokens so far. -/
theorem acc_eq (c : Dev nD) (g : Fin 3) (r q : Fin 1024) (n : ℕ) : ∀ t : Fin cfg0.N, t.val = 8 * g.val + n → n < 7 →
    (outsAt0 m c t.val t.isLt).2 (ix2 r q) = ∑ u ∈ Finset.range (1024 * n + 1024), tokenTerm (branchOf (ys m c) g) (branchOf (gs m c) g) r q u := by
  induction n with
  | zero =>
    intro t ht _
    rw [acc_first m c t (by omega) (by omega), pay2_apply, pay1_apply, block_sum m c t 0 g (by omega) ht, ← sum_block _ (1024 * 0) 1024,
      Nat.mul_zero, Finset.sum_range_zero]
  | succ n ih =>
    intro t ht hn
    rw [acc_later m c t (by omega) (by omega), pay2_apply, block_sum m c t (n + 1) g (by omega) ht, ← sum_block _ (1024 * (n + 1)) 1024]
    refine congrArg (· + _) ((ih ⟨t.val - 1, Nat.lt_of_le_of_lt (Nat.sub_le _ _) t.isLt⟩ (by dsimp only; omega) (by omega)).trans ?_)
    rw [show 1024 * n + 1024 = 1024 * (n + 1) by omega]

/-- The three weights' gradients. -/
def grad (c : Dev nD) : FVec Ideal S3x1024x1024 .bf16 := fun i =>
  ∑ t ∈ Finset.range 8192, tokenTerm (branchOf (ys m c) (i 0)) (branchOf (gs m c) (i 0)) (i 1) (i 2) t

/-- After a branch's last point the result's block holds the sum over all the tokens. -/
theorem out_eq (c : Dev nD) (t : Fin cfg0.N) (g : Fin 3) (ht : t.val = 8 * g.val + 7) (z : Fin 1) (r q : Fin 1024) :
    (outsAt0 m c t.val t.isLt).1 (ix3 z r q) = grad m c (ix3 g r q) := by
  rw [out_last m c t (by omega) (by omega), pay3_apply, pay2_apply, block_sum m c t 7 g (by omega) ht,
    acc_eq m c g r q 6 ⟨t.val - 1, Nat.lt_of_le_of_lt (Nat.sub_le _ _) t.isLt⟩ (by dsimp only; omega) (by omega)]
  exact sum_block _ 7168 1024

theorem emb2 (t : Fin cfg0.N) (g : Fin 3) (ht : t.val / 8 = g.val) (z : Fin 1) (r q : Fin 1024) :
    (win0_2.blk t).view.emb (ix3 z r q : S1x1024x1024.Idx) = (ix3 g r q : S3x1024x1024.Idx) := by
  have hi := index_o t
  funext a
  apply Fin.ext
  match a with
  | ⟨0, _⟩ => show win0_2.index t 0 * 1 + 1 * z.val = g.val; rw [hi.1]; omega
  | ⟨1, _⟩ => show win0_2.index t 1 * 1024 + 1 * r.val = r.val; rw [hi.2.1]; omega
  | ⟨2, _⟩ => show win0_2.index t 2 * 1024 + 1 * q.val = q.val; rw [hi.2.2]; omega

/-- Every branch's block is written at its last point. -/
theorem cover (i : S3x1024x1024.Idx) : ∃ (t : Fin cfg0.N) (r q : Fin 1024), t.val % 8 = 7 ∧ (win0_2.blk t).view.emb (ix3 0 r q : S1x1024x1024.Idx) = i := by
  have h0 : (i 0).val < 3 := (i 0).isLt
  have hN : 8 * (i 0).val + 7 < cfg0.N := by rw [show cfg0.N = 24 from N_0]; omega
  exact ⟨⟨8 * (i 0).val + 7, hN⟩, i 1, i 2, by dsimp only; omega, (emb2 _ (i 0) (by dsimp only; omega) _ _ _).trans (eq_ix3 i).symm⟩

/-- The result is the array whose blocks the last points leave. -/
theorem final_of (c : Dev nD) (w : FVec Ideal S3x1024x1024 .bf16) (hw : ∀ (t : Fin cfg0.N) (g : Fin 3), t.val = 8 * g.val + 7 →
    ∀ (z : Fin 1) (r q : Fin 1024), (outsAt0 m c t.val t.isLt).1 (ix3 z r q) = w (ix3 g r q)) : (dats m 0 c).arrAt 2 cfg0.N = w :=
  (dats m 0 c).arrAt_eq_of_cover 2 w (fun t hf => by
    have hN : t.val < 24 := lt_of_lt_of_eq t.isLt (show cfg0.N = 24 from N_0)
    have h3 : t.val % 8 = 7 := (flush0_2 t).mp hf
    show (cfg0.win 2).cut (grid0.coords t) ((dats m 0 c).after 2 t) = _
    rw [after0_2]
    funext y
    have e : (y : S1x1024x1024.Idx) = ix3 (y 0) (y 1) (y 2) := eq_ix3 _
    show (outsAt0 m c t.val t.isLt).1 (y : S1x1024x1024.Idx) = w ((win0_2.blk t).view.emb y)
    rw [e]
    exact (hw t ⟨t.val / 8, by omega⟩ (by dsimp only; omega) _ _ _).trans (congrArg w (emb2 t ⟨t.val / 8, by omega⟩ rfl _ _ _).symm)) fun i => by
      obtain ⟨t, r, q, h3, rfl⟩ := cover i
      exact ⟨t, (flush0_2 t).mpr h3, (win0_2.blk t).view.emb_mem_set _⟩

theorem final (c : Dev nD) : (dats m 0 c).arrAt 2 cfg0.N = grad m c := final_of m c (grad m c) (out_eq m c)

/-- The kernel's run: its result is the sums over the tokens. -/
theorem run : θ_run defs (onTc (τ := τ) (main (F := Ideal))) ⟨m, fun _ => 0, ρ⟩ (fun r => ∀ c : Dev nD,
      r.2.mem ((c.tc : Thread nD τ).loc main_v1) = grad m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (final m c), h.2 c⟩) (θ_run_and (run_main m ρ) (unchanged m ρ))

end Cert.Kernel7Ideal.Weight

namespace Cert.Reference7Ideal

open Cert.Reference7Ideal.Read

/-- The product that contracts the sequences and their tokens. -/
abbrev dotTokens := dot_S3x1024x2x4096_S2x4096x3x1024_S3x1024x1024_23_01_1_3_0_2

theorem dot_value (x : FVec Ideal S3x1024x2x4096 .f32) (y : FVec Ideal S2x4096x3x1024 .f32) (g : Fin 3) (q r : Fin 1024) :
    (Host.dotGeneral dotTokens none x y : FVec Ideal S3x1024x1024 .f32) (ix3 g q r)
      = ∑ b : Fin 2, ∑ s : Fin 4096, x (ix4 g q b s) * y (ix4 b s g r) := by
  simp only [Host.dotGeneral]
  rw [Ideal.dotGeneral_apply, ValueIdx.sum_contr2 dotTokens 2 4096 rfl rfl rfl]
  refine Finset.sum_congr rfl fun b _ => Finset.sum_congr rfl fun s _ => ?_
  have k0 := ValueIdx.contrEquiv2_symm_val0 dotTokens 2 4096 rfl rfl rfl (b, s)
  have k1 := ValueIdx.contrEquiv2_symm_val1 dotTokens 2 4096 rfl rfl rfl (b, s)
  generalize (ValueIdx.contrEquiv2 dotTokens 2 4096 rfl rfl rfl).symm (b, s) = k at k0 k1 ⊢
  refine congrArg₂ (· * ·) (congrArg x (funext fun a => Fin.ext ?_)) (congrArg y (funext fun a => Fin.ext ?_))
  · unfold DotDims.lhsIdx
    match a with
    | ⟨0, _⟩ => rfl
    | ⟨1, _⟩ => rfl
    | ⟨2, _⟩ => exact k0
    | ⟨3, _⟩ => exact k1
  · unfold DotDims.rhsIdx
    match a with
    | ⟨0, _⟩ => exact k0
    | ⟨1, _⟩ => exact k1
    | ⟨2, _⟩ => rfl
    | ⟨3, _⟩ => rfl

/-- The reference's result is, for each branch, the sum over the two sequences' tokens. -/
theorem value (x0 x1 : FVec Ideal S3x8192x1024 .bf16) (g : Fin 3) (r q : Fin 1024) :
    val_main_v12 (F := Ideal) x0 x1 (ix3 g r q) = ∑ t ∈ Finset.range 8192, tokenTerm (branchOf x0 g) (branchOf x1 g) r q t := by
  have e : ∀ (b : Fin 2) (s : Fin 4096) (l : Fin 1024) (p : 4096 * b.val + s.val < 8192), idx_main_v2 (idx_main_v3 (ix4 b s g l)) = ix3 g ⟨4096 * b.val + s.val, p⟩ l :=
    fun b s l p => funext fun a => Fin.ext (match a with
    | ⟨0, _⟩ => show (((b.val * 4096 + s.val) * 3 + g.val) * 1024 + l.val) / 1024 % 3 = g.val by omega
    | ⟨1, _⟩ => show (((b.val * 4096 + s.val) * 3 + g.val) * 1024 + l.val) / 3072 = 4096 * b.val + s.val by omega
    | ⟨2, _⟩ => show (((b.val * 4096 + s.val) * 3 + g.val) * 1024 + l.val) % 1024 = l.val by omega)
  have h : val_main_v12 (F := Ideal) x0 x1 (ix3 g r q)
      = ∑ b : Fin 2, ∑ s : Fin 4096, val_main_v9 (F := Ideal) x1 (ix4 g q b s) * val_main_v3 (F := Ideal) x0 (ix4 b s g r) := by
    rw [val_main_v12_apply]
    show val_main_v11 (F := Ideal) x0 x1 (ix3 g r q) = _
    rw [val_main_v11_apply]
    unfold val_main_v10
    generalize val_main_v9 (F := Ideal) x1 = y9
    generalize val_main_v3 (F := Ideal) x0 = y3
    have hi : idx_main_v11 (ix3 g r q) = ix3 g q r := funext fun a => match a with
      | ⟨0, _⟩ => rfl
      | ⟨1, _⟩ => rfl
      | ⟨2, _⟩ => rfl
    rw [hi]
    exact dot_value y9 y3 g q r
  refine (h.trans (Finset.sum_congr rfl fun b _ => Finset.sum_congr rfl fun s _ => ?_)).trans (sequences_sum (tokenTerm (branchOf x0 g) (branchOf x1 g) r q))
  have p : 4096 * b.val + s.val < 8192 := by omega
  rw [val_main_v9_apply, val_main_v6_apply, val_main_v5_apply, val_main_v3_apply, val_main_v2_apply, tokenTerm, dif_pos p, mul_comm]
  exact congrArg₂ (· * ·) (congrArg x0 (e b s r p)) (congrArg x1 (e b s q p))

/-- The kernel and the reference end with the same gradients, whatever the arguments. -/
theorem equal_weights : Cert.algebraic_Kernel7Ideal_Reference7Ideal (hKernel7Ideal := Cert.Kernel7Ideal.Gen.facts)
    (hReference7Ideal := Cert.Reference7Ideal.Gen.facts) := fun m g m' g' _ heq =>
  ⟨fun c => Cert.Kernel7Ideal.Weight.grad m c, Cert.Kernel7Ideal.Weight.run m g, (θ_run Cert.Reference7Ideal.defs _ _).mono (fun r h c => by
    obtain ⟨r0, ra⟩ := h c
    refine ⟨(r0.trans (val_main_v12_eq _ _)).trans (funext fun i => (congrArg _ (eq_ix3 i)).trans ((value _ _ (i 0) (i 1) (i 2)).trans ?_)), ra⟩
    rw [(heq c).1, (heq c).2]
    rfl) (Cert.Reference7Ideal.Value.run (F := Ideal) m' g')⟩

end Cert.Reference7Ideal

end
-- ==== Proof.WeightOut.lean ====
/-
  The output projection's weight gradient: a sum over eight blocks of tokens.
-/
module

public import proofs.«01_k».proof.Defs
public import proofs.«01_k».proof.Proof.Tokens
public import proofs.«01_k».proof.Proof.Gen.Kernel8Ideal.Frame
public import proofs.«01_k».proof.Proof.Gen.Reference8Ideal.Run
public import proofs.«01_k».proof.Proof.Gen.Reference8Ideal.Read
public import Idealize.ShloMosaic.Lib.Pointwise
public import Idealize.ShloMosaic.Adequacy
public import Idealize.ShloMosaic.Init

@[expose] public section

noncomputable section

open Idealize.ShloMosaic Idealize.ShloMosaic.TcCoe Idealize.SL.Sem
open scoped BigOperators

namespace Cert.Kernel8Ideal.Weight

open Cert.Kernel8Ideal Cert.Kernel8Ideal.Gen

section Body

variable {F : FTy → Type} [FloatOps F]

theorem hz : (![0, 0] : Fin 2 → Nat) = fun _ => 0 := funext fun a => by fin_cases a <;> rfl

variable (c : Dev nD) (i : grid0.Coords) (a3 : Memref sig .tc .vmem S1024x1024 .bf16) (h3 : a3.IsWhole) (a4 : Memref sig .tc .vmem S1024x1024 .bf16) (h4 : a4.IsWhole)
  (a5 : Memref sig .tc .vmem S1024x1024 .bf16) (h5 : a5.IsWhole) (a6 : Memref sig .tc .vmem S1024x1024 .f32) (h6 : a6.IsWhole)
  (x : Vec F S1024x1024 .bf16) (y : Vec F S1024x1024 .bf16) (s : Vec F S1024x1024 .f32)

theorem sout_A (hc0 : cond0_0 i) (hc1 : ¬cond0_1 i) : sout0_A_0 c i a3 h3 a4 h4 a5 h5 a6 h6 hc0 hc1 x y = k0_pay2 k0_pay1 x y := by
  unfold sout0_A_0
  rw [View.read_writes_eq_canon _ _ _ (scover0_A_0 c i a3 h3 a4 h4 a5 h5 a6 h6 hc0 hc1 x y)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

theorem sout_B (hc0 : ¬cond0_0 i) (hc1 : ¬cond0_1 i) : sout0_B_0 c i a3 h3 a4 h4 a5 h5 a6 h6 hc0 hc1 x y s = k0_pay2 s x y := by
  unfold sout0_B_0
  rw [View.read_writes_eq_canon _ _ _ (scover0_B_0 c i a3 h3 a4 h4 a5 h5 a6 h6 hc0 hc1 x y s)]
  unfold kernelRun0_B
  dsimp only
  rw [View.canon_unit_zero hz]
  simp only [View.readAt_eq_ld, h3.read_unread, h4.read_unread, h6.read_unread, View.ld_unit_zero (S := S1024x1024) hz]

theorem out_C (hc0 : ¬cond0_0 i) (hc1 : cond0_1 i) : out0_C_2 c i a3 h3 a4 h4 a5 h5 a6 h6 hc0 hc1 x y s = k0_pay3 (k0_pay2 s x y) := by
  unfold out0_C_2
  rw [View.read_writes_eq_canon _ _ _ (cover0_C_2 c i a3 h3 a4 h4 a5 h5 a6 h6 hc0 hc1 x y s)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]

end Body

theorem pay1_apply (r c : Fin 1024) : (k0_pay1 (F := Ideal)) (ix2 r c) = 0 := by
  unfold k0_pay1
  simp only [pointwise]

theorem pay2_apply (s : Vec Ideal S1024x1024 .f32) (x : Vec Ideal S1024x1024 .bf16) (y : Vec Ideal S1024x1024 .bf16) (r c : Fin 1024) :
    k0_pay2 (F := Ideal) s x y (ix2 r c) = s (ix2 r c) + ∑ k : Fin 1024, x (ix2 r k) * y (ix2 k c) := by
  unfold k0_pay2
  simp only [pointwise, zero_add]

theorem pay3_apply (s : Vec Ideal S1024x1024 .f32) (r c : Fin 1024) : k0_pay3 (F := Ideal) s (ix2 r c) = s (ix2 r c) := rfl

variable (m : (ℓ : Loc nD τ sig) → Buf (Elt Ideal) ℓ) (ρ : Dev nD → PrngReg)

/-- The merged branches and the output's gradient, as the call finds them. -/
abbrev hs (c : Dev nD) : FVec Ideal S8192x1024 .bf16 := m ((c : Thread nD τ).loc main_arg0)
abbrev gs (c : Dev nD) : FVec Ideal S8192x1024 .bf16 := m ((c : Thread nD τ).loc main_arg1)

theorem V_main_v0 (c : Dev nD) (i : Fin 1024) (j : Fin 8192) : V m c main_v0 (ix2 i j) = hs m c (ix2 j i) := by
  show transpose S1024x8192 [1, 0] _ _ (ix2 i j) = _
  exact transpose_apply [1, 0] _ _ (ix2 i j) (ix2 j i) (fun b => match b with
    | ⟨0, _⟩ => rfl
    | ⟨1, _⟩ => rfl)

theorem index_h : ∀ t : Fin cfg0.N, win0_0.index t 0 = 0 ∧ win0_0.index t 1 = t.val % 8 := by decide +kernel
theorem index_g : ∀ t : Fin cfg0.N, win0_1.index t 0 = t.val % 8 ∧ win0_1.index t 1 = t.val / 8 := by decide +kernel
theorem index_o : ∀ t : Fin cfg0.N, win0_2.index t 0 = 0 ∧ win0_2.index t 1 = t.val / 8 := by decide +kernel

/-- The blocks of a point. -/
abbrev hb (c : Dev nD) (t : Fin cfg0.N) : Vec Ideal S1024x1024 .bf16 := iblk m c 0 t
abbrev gb (c : Dev nD) (t : Fin cfg0.N) : Vec Ideal S1024x1024 .bf16 := iblk m c 1 t

theorem iblk_h (c : Dev nD) (t : Fin cfg0.N) (n : ℕ) (hn : t.val % 8 = n) (r : Fin 1024) (k : Fin 1024) (h : 1024 * n + k.val < 8192) :
    hb m c t (ix2 r k) = hs m c (ix2 ⟨1024 * n + k.val, h⟩ r) := by
  have hi := index_h t
  rw [← V_main_v0 m c r ⟨1024 * n + k.val, h⟩]
  unfold hb iblk
  rw [View.read_apply]
  show V m c main_v0 _ = V m c main_v0 _
  congr 1
  funext a
  apply Fin.ext
  match a with
  | ⟨0, _⟩ => show win0_0.index t 0 * 1024 + 1 * r.val = r.val; rw [hi.1]; omega
  | ⟨1, _⟩ => show win0_0.index t 1 * 1024 + 1 * k.val = 1024 * n + k.val; rw [hi.2]; omega

theorem iblk_g (c : Dev nD) (t : Fin cfg0.N) (n j : ℕ) (hn : t.val % 8 = n) (ht : t.val / 8 = j) (hj : 1024 * j + 1024 ≤ 1024) (k : Fin 1024) (q : Fin 1024)
    (h : 1024 * n + k.val < 8192) : gb m c t (ix2 k q) = gs m c (ix2 ⟨1024 * n + k.val, h⟩ (colAt 1024 j hj q)) := by
  have hi := index_g t
  unfold gb iblk
  rw [View.read_apply]
  show V m c main_arg1 _ = m ((c : Thread nD τ).loc main_arg1) _
  rw [V_main_arg1]
  congr 1
  funext a
  apply Fin.ext
  match a with
  | ⟨0, _⟩ => show win0_1.index t 0 * 1024 + 1 * k.val = 1024 * n + k.val; rw [hi.1]; omega
  | ⟨1, _⟩ => show win0_1.index t 1 * 1024 + 1 * q.val = 1024 * j + q.val; rw [hi.2]; omega

/-- A point's product is the sum of its tokens' terms. -/
theorem block_sum (c : Dev nD) (t : Fin cfg0.N) (n j : ℕ) (hn : n < 8) (ht : t.val = 8 * j + n) (hj : 1024 * j + 1024 ≤ 1024) (r q : Fin 1024) :
    ∑ k : Fin 1024, hb m c t (ix2 r k) * gb m c t (ix2 k q)
      = ∑ k : Fin 1024, tokenTerm (hs m c) (gs m c) r (colAt 1024 j hj q) (1024 * n + k.val) := by
  refine Finset.sum_congr rfl fun k _ => ?_
  have h : 1024 * n + k.val < 8192 := by omega
  rw [iblk_h m c t n (by omega) r k h, iblk_g m c t n j (by omega) (by omega) hj k q h, tokenTerm, dif_pos h]

theorem acc_first (c : Dev nD) (t : Fin cfg0.N) (h0 : t.val % 8 = 0) (h1 : ¬t.val % 8 = 7) :
    (outsAt0 m c t.val t.isLt).2 = k0_pay2 k0_pay1 (hb m c t) (gb m c t) := by
  rw [outsAt0_A m c t h0 h1]
  dsimp only
  exact sout_A ..

theorem acc_later (c : Dev nD) (t : Fin cfg0.N) (h0 : ¬t.val % 8 = 0) (h1 : ¬t.val % 8 = 7) :
    (outsAt0 m c t.val t.isLt).2 = k0_pay2 (outsAt0 m c (t.val - 1) (Nat.lt_of_le_of_lt (Nat.sub_le _ _) t.isLt)).2 (hb m c t) (gb m c t) := by
  rw [outsAt0_B m c t h0 h1]
  dsimp only
  exact sout_B ..

theorem out_last (c : Dev nD) (t : Fin cfg0.N) (h0 : ¬t.val % 8 = 0) (h1 : t.val % 8 = 7) :
    (outsAt0 m c t.val t.isLt).1 = k0_pay3 (k0_pay2 (outsAt0 m c (t.val - 1) (Nat.lt_of_le_of_lt (Nat.sub_le _ _) t.isLt)).2 (hb m c t) (gb m c t)) := by
  rw [outsAt0_C m c t h0 h1]
  dsimp only
  exact out_C ..

/-- After a block's points 0 to 6 the accumulator holds the sum over the tokens so far. -/
theorem acc_eq (c : Dev nD) (r q : Fin 1024) (j : ℕ) (hj : 1024 * j + 1024 ≤ 1024) (n : ℕ) : ∀ t : Fin cfg0.N, t.val = 8 * j + n → n < 7 →
    (outsAt0 m c t.val t.isLt).2 (ix2 r q) = ∑ u ∈ Finset.range (1024 * n + 1024), tokenTerm (hs m c) (gs m c) r (colAt 1024 j hj q) u := by
  induction n with
  | zero =>
    intro t ht _
    rw [acc_first m c t (by omega) (by omega), pay2_apply, pay1_apply, block_sum m c t 0 j (by omega) ht hj, ← sum_block _ (1024 * 0) 1024,
      Nat.mul_zero, Finset.sum_range_zero]
  | succ n ih =>
    intro t ht hn
    rw [acc_later m c t (by omega) (by omega), pay2_apply, block_sum m c t (n + 1) j (by omega) ht hj, ← sum_block _ (1024 * (n + 1)) 1024]
    refine congrArg (· + _) ((ih ⟨t.val - 1, Nat.lt_of_le_of_lt (Nat.sub_le _ _) t.isLt⟩ (by dsimp only; omega) (by omega)).trans ?_)
    rw [show 1024 * n + 1024 = 1024 * (n + 1) by omega]

/-- The weight's gradient. -/
def grad (c : Dev nD) : FVec Ideal S1024x1024 .bf16 := fun i =>
  ∑ t ∈ Finset.range 8192, tokenTerm (hs m c) (gs m c) (i 0) (i 1) t

/-- After a block's last point the result's block holds the sum over all the tokens. -/
theorem out_eq (c : Dev nD) (t : Fin cfg0.N) (j : ℕ) (hj : 1024 * j + 1024 ≤ 1024) (ht : t.val = 8 * j + 7) (r q : Fin 1024) :
    (outsAt0 m c t.val t.isLt).1 (ix2 r q) = grad m c (ix2 r (colAt 1024 j hj q)) := by
  rw [out_last m c t (by omega) (by omega), pay3_apply, pay2_apply, block_sum m c t 7 j (by omega) ht hj,
    acc_eq m c r q j hj 6 ⟨t.val - 1, Nat.lt_of_le_of_lt (Nat.sub_le _ _) t.isLt⟩ (by dsimp only; omega) (by omega)]
  exact sum_block _ 7168 1024

theorem emb2 (t : Fin cfg0.N) (j : ℕ) (hj : 1024 * j + 1024 ≤ 1024) (ht : t.val / 8 = j) (r q : Fin 1024) :
    (win0_2.blk t).view.emb (ix2 r q : S1024x1024.Idx) = (ix2 r (colAt 1024 j hj q) : S1024x1024.Idx) := by
  have hi := index_o t
  funext a
  apply Fin.ext
  match a with
  | ⟨0, _⟩ => show win0_2.index t 0 * 1024 + 1 * r.val = r.val; rw [hi.1]; omega
  | ⟨1, _⟩ => show win0_2.index t 1 * 1024 + 1 * q.val = 1024 * j + q.val; rw [hi.2]; omega

/-- Every column is written at its block's last point. -/
theorem cover (i : S1024x1024.Idx) : ∃ (t : Fin cfg0.N) (r q : Fin 1024), t.val % 8 = 7 ∧ (win0_2.blk t).view.emb (ix2 r q : S1024x1024.Idx) = i := by
  have h1 : (i 1).val < 1024 := (i 1).isLt
  have hN : 8 * ((i 1).val / 1024) + 7 < cfg0.N := by rw [show cfg0.N = 8 from N_0]; omega
  exact ⟨⟨8 * ((i 1).val / 1024) + 7, hN⟩, i 0, ⟨(i 1).val % 1024, by omega⟩, by dsimp only; omega,
    (emb2 _ ((i 1).val / 1024) (by omega) (by dsimp only; omega) _ _).trans
      ((congrArg (fun x : Fin 1024 => (ix2 (i 0) x : S1024x1024.Idx)) (colAt_split 1024 (i 1) _ _)).trans (eq_ix2 i).symm)⟩

/-- The result is the array whose blocks the last points leave. -/
theorem final_of (c : Dev nD) (g : FVec Ideal S1024x1024 .bf16) (hg : ∀ (t : Fin cfg0.N) (j : ℕ) (hj : 1024 * j + 1024 ≤ 1024), t.val = 8 * j + 7 →
    ∀ r q : Fin 1024, (outsAt0 m c t.val t.isLt).1 (ix2 r q) = g (ix2 r (colAt 1024 j hj q))) : (dats m 0 c).arrAt 2 cfg0.N = g :=
  (dats m 0 c).arrAt_eq_of_cover 2 g (fun t hf => by
    have hN : t.val < 8 := lt_of_lt_of_eq t.isLt (show cfg0.N = 8 from N_0)
    have h3 : t.val % 8 = 7 := (flush0_2 t).mp hf
    show (cfg0.win 2).cut (grid0.coords t) ((dats m 0 c).after 2 t) = _
    rw [after0_2]
    funext y
    have e : (y : S1024x1024.Idx) = ix2 (y 0) (y 1) := eq_ix2 _
    show (outsAt0 m c t.val t.isLt).1 (y : S1024x1024.Idx) = g ((win0_2.blk t).view.emb y)
    rw [e]
    exact (hg t (t.val / 8) (by omega) (by omega) _ _).trans (congrArg g (emb2 t (t.val / 8) (by omega) rfl _ _).symm)) fun i => by
      obtain ⟨t, r, q, h3, rfl⟩ := cover i
      exact ⟨t, (flush0_2 t).mpr h3, (win0_2.blk t).view.emb_mem_set _⟩

theorem final (c : Dev nD) : (dats m 0 c).arrAt 2 cfg0.N = grad m c := final_of m c (grad m c) (out_eq m c)

/-- The kernel's run: its result is the sum over the tokens. -/
theorem run : θ_run defs (onTc (τ := τ) (main (F := Ideal))) ⟨m, fun _ => 0, ρ⟩ (fun r => ∀ c : Dev nD,
      r.2.mem ((c.tc : Thread nD τ).loc main_v1) = grad m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨((h.1 c).1 2).trans (final m c), h.2 c⟩) (θ_run_and (run_main m ρ) (unchanged m ρ))

end Cert.Kernel8Ideal.Weight

namespace Cert.Reference8Ideal

open Cert.Reference8Ideal.Read

/-- The reference's result is the sum over the two sequences' tokens. -/
theorem value (x0 : FVec Ideal S8192x1024 .bf16) (x1 : FVec Ideal S8192x1024 .bf16) (r : Fin 1024) (q : Fin 1024) :
    val_main_v8 (F := Ideal) x0 x1 (ix2 r q) = ∑ t ∈ Finset.range 8192, tokenTerm x0 x1 r q t := by
  have e0 : ∀ (b : Fin 2) (s : Fin 4096) (p : 4096 * b.val + s.val < 8192), idx_main_v2 (ix3 b s r) = ix2 ⟨4096 * b.val + s.val, p⟩ r :=
    fun b s p => funext fun a => Fin.ext (match a with
    | ⟨0, _⟩ => show ((b.val * 4096 + s.val) * 1024 + r.val) / 1024 = 4096 * b.val + s.val by omega
    | ⟨1, _⟩ => show ((b.val * 4096 + s.val) * 1024 + r.val) % 1024 = r.val by omega)
  have e1 : ∀ (b : Fin 2) (s : Fin 4096) (p : 4096 * b.val + s.val < 8192), idx_main_v5 (ix3 b s q) = ix2 ⟨4096 * b.val + s.val, p⟩ q :=
    fun b s p => funext fun a => Fin.ext (match a with
    | ⟨0, _⟩ => show ((b.val * 4096 + s.val) * 1024 + q.val) / 1024 = 4096 * b.val + s.val by omega
    | ⟨1, _⟩ => show ((b.val * 4096 + s.val) * 1024 + q.val) % 1024 = q.val by omega)
  have h : val_main_v8 (F := Ideal) x0 x1 (ix2 r q) = ∑ b : Fin 2, ∑ s : Fin 4096, val_main_v5 (F := Ideal) x1 (ix3 b s q) * val_main_v2 (F := Ideal) x0 (ix3 b s r) := by
    rw [val_main_v8_apply]
    show val_main_v7 (F := Ideal) x0 x1 (ix2 r q) = _
    rw [val_main_v7_apply]
    unfold val_main_v6
    simp only [pointwise, zero_add]
    rfl
  refine (h.trans (Finset.sum_congr rfl fun b _ => Finset.sum_congr rfl fun s _ => ?_)).trans (sequences_sum (tokenTerm x0 x1 r q))
  have p : 4096 * b.val + s.val < 8192 := by omega
  rw [val_main_v5_apply, val_main_v2_apply, tokenTerm, dif_pos p, mul_comm, e0 b s p, e1 b s p]
  rfl

/-- The kernel and the reference end with the same gradient, whatever the arguments. -/
theorem equal_weights : Cert.algebraic_Kernel8Ideal_Reference8Ideal (hKernel8Ideal := Cert.Kernel8Ideal.Gen.facts)
    (hReference8Ideal := Cert.Reference8Ideal.Gen.facts) := fun m g m' g' _ heq =>
  ⟨fun c => Cert.Kernel8Ideal.Weight.grad m c, Cert.Kernel8Ideal.Weight.run m g, (θ_run Cert.Reference8Ideal.defs _ _).mono (fun r h c => by
    obtain ⟨r0, ra⟩ := h c
    refine ⟨(r0.trans (val_main_v8_eq _ _)).trans (funext fun i => (congrArg _ (eq_ix2 i)).trans ((value _ _ (i 0) (i 1)).trans ?_)), ra⟩
    rw [(heq c).1, (heq c).2]
    rfl) (Cert.Reference8Ideal.Value.run (F := Ideal) m' g')⟩

end Cert.Reference8Ideal

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.FoxFrame
public import proofs.«01_k».proof.Proof.FrameKernel
public import proofs.«01_k».proof.Proof.Finite
public import proofs.«01_k».proof.Proof.Equation
public import proofs.«01_k».proof.Proof.Weight
public import proofs.«01_k».proof.Proof.Stream1
public import proofs.«01_k».proof.Proof.Stream2
public import proofs.«01_k».proof.Proof.WeightMamba
public import proofs.«01_k».proof.Proof.Merge
public import proofs.«01_k».proof.Proof.WeightGates
public import proofs.«01_k».proof.Proof.WeightBranch
public import proofs.«01_k».proof.Proof.WeightOut
public import Idealize.ShloMosaic.Adequacy
public import Idealize.ShloMosaic.Init

@[expose] public section

noncomputable section

namespace Cert.Proof

open Idealize.ShloMosaic Idealize.SL.Sem

/-- The reference is a straight line of host operations and declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

theorem frame_reference_finite : Cert.quiescent_ReferenceIdeal_pre_finite (hReferenceIdeal := Cert.ReferenceIdeal.Gen.facts) (hPre_finite := Cert.FoxPre.facts) := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

/-- The kernel and the reference, from the same finite arguments, end with the same five arrays. -/
theorem equal_results : Cert.algebraic_KernelIdeal_ReferenceIdeal_pre_finite (hKernelIdeal := Cert.KernelIdeal.Gen.facts)
    (hReferenceIdeal := Cert.ReferenceIdeal.Gen.facts) (hPre_finite := Cert.FoxPre.facts) := fun m g m' g' hpre heq =>
  ⟨_, _, _, _, _, Cert.KernelIdeal.Fox.run_value m g fun c =>
      ⟨_, _, _, Cert.KernelIdeal.Fox.args_real _ _ _ (Cert.FoxPre.real0 _ _ _ (hpre c).1) (Cert.FoxPre.real1 _ _ _ (hpre c).2.1) (Cert.FoxPre.real2 _ _ _ (hpre c).2.2)⟩,
    Cert.KernelIdeal.Fox.run_reference m' g' _ _ _ (fun c => (heq c).1) (fun c => (heq c).2.1) (fun c => (heq c).2.2)⟩

theorem frame_weight_reference : Cert.quiescent_Reference2Ideal (hReference2Ideal := Cert.Reference2Ideal.Gen.facts) := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem frame_stream1_reference : Cert.quiescent_Reference3Ideal (hReference3Ideal := Cert.Reference3Ideal.Gen.facts) := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem frame_stream2_reference : Cert.quiescent_Reference4Ideal (hReference4Ideal := Cert.Reference4Ideal.Gen.facts) := fun m ρ _ =>
  (θ_run Cert.Reference4Ideal.defs _ _).mono (fun r h => ⟨fun c => (h c).2,
      Idealize.ShloMosaic.sem_eq_zero_of_no_sems (by decide) r.2⟩)
    (Cert.Reference4Ideal.Value.run (F := Ideal) m ρ)

theorem frame_mamba_reference : Cert.quiescent_Reference5Ideal (hReference5Ideal := Cert.Reference5Ideal.Gen.facts) := fun m ρ _ =>
  (θ_run Cert.Reference5Ideal.defs _ _).mono (fun r h => ⟨fun c => (h c).2,
      Idealize.ShloMosaic.sem_eq_zero_of_no_sems (by decide) r.2⟩)
    (Cert.Reference5Ideal.Value.run (F := Ideal) m ρ)

theorem frame_gates_reference : Cert.quiescent_Reference6Ideal (hReference6Ideal := Cert.Reference6Ideal.Gen.facts) := fun m ρ _ =>
  (θ_run Cert.Reference6Ideal.defs _ _).mono (fun r h => ⟨fun c => (h c).2,
      Idealize.ShloMosaic.sem_eq_zero_of_no_sems (by decide) r.2⟩)
    (Cert.Reference6Ideal.Value.run (F := Ideal) m ρ)

theorem frame_branch_reference : Cert.quiescent_Reference7Ideal (hReference7Ideal := Cert.Reference7Ideal.Gen.facts) := fun m ρ _ =>
  (θ_run Cert.Reference7Ideal.defs _ _).mono (fun r h => ⟨fun c => (h c).2,
      Idealize.ShloMosaic.sem_eq_zero_of_no_sems (by decide) r.2⟩)
    (Cert.Reference7Ideal.Value.run (F := Ideal) m ρ)

theorem frame_out_reference : Cert.quiescent_Reference8Ideal (hReference8Ideal := Cert.Reference8Ideal.Gen.facts) := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

theorem frame_merge_reference : Cert.quiescent_Reference9Ideal (hReference9Ideal := Cert.Reference9Ideal.Gen.facts) := fun m ρ _ =>
  (θ_run Cert.Reference9Ideal.defs _ _).mono (fun r h => ⟨fun c => (h c).2.2.2,
      Idealize.ShloMosaic.sem_eq_zero_of_no_sems (by decide) r.2⟩)
    (Cert.Reference9Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.FoxPre.facts,
  frame_kernel, fun m ρ _ => Cert.KernelIdeal.Fox.frame m ρ, fun m ρ _ => Cert.KernelIdeal.Fox.frame m ρ, frame_reference, frame_reference_finite,
  fun m ρ _ => Cert.Kernel2.Gen.frame m ρ, fun m ρ _ => Cert.Kernel2Ideal.Gen.frame m ρ, frame_weight_reference,
  fun m ρ _ => Cert.Kernel3.Gen.frame m ρ, fun m ρ _ => Cert.Kernel3Ideal.Gen.frame m ρ, frame_stream1_reference,
  fun m ρ _ => Cert.Kernel4.Gen.frame m ρ, fun m ρ _ => Cert.Kernel4Ideal.Gen.frame m ρ, frame_stream2_reference,
  fun m ρ _ => Cert.Kernel5.Gen.frame m ρ, fun m ρ _ => Cert.Kernel5Ideal.Gen.frame m ρ, frame_mamba_reference,
  fun m ρ _ => Cert.Kernel6.Gen.frame m ρ, fun m ρ _ => Cert.Kernel6Ideal.Gen.frame m ρ, frame_gates_reference,
  fun m ρ _ => Cert.Kernel7.Gen.frame m ρ, fun m ρ _ => Cert.Kernel7Ideal.Gen.frame m ρ, frame_branch_reference,
  fun m ρ _ => Cert.Kernel8.Gen.frame m ρ, fun m ρ _ => Cert.Kernel8Ideal.Gen.frame m ρ, frame_out_reference,
  fun m ρ _ => Cert.Kernel9.Gen.frame m ρ, fun m ρ _ => Cert.Kernel9Ideal.Gen.frame m ρ, frame_merge_reference,
  IdealRules.named_const.statement Cert.KernelIdeal.κ "mask" .f32 0xF149F2CA#32 ⊥ rfl, equal_results, trivial, Cert.Reference2Ideal.equal_weights,
  trivial, Cert.Reference3Ideal.equal_streams, trivial, Cert.Reference4Ideal.equal_streams,
  trivial, Cert.Reference5Ideal.equal_weights, trivial, Cert.Reference6Ideal.equal_weights,
  trivial, Cert.Reference7Ideal.equal_weights, trivial, Cert.Reference8Ideal.equal_weights,
  trivial, Cert.Reference9Ideal.equal_merge⟩

end Cert.Proof

end
